-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S1x128x64 : Shape := ⟨3, ![1, 128, 64]⟩
abbrev S1x128 : Shape := ⟨2, ![1, 128]⟩
abbrev S1x128x64x16 : Shape := ⟨4, ![1, 128, 64, 16]⟩
abbrev S4096x8192 : Shape := ⟨2, ![4096, 8192]⟩
abbrev S_ : Shape := ⟨0, ![]⟩

class Facts : Prop where
  bcast_S_S1x128x64 : S_.BroadcastsInDim S1x128x64 (![] : Fin 0 → Fin S1x128x64.rank)
  reducesTo_S1x128x64_S_d0_1_2 : S1x128x64.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg6 : FVec F S4096x8192 .f32) (main_arg7 : FVec F S4096x8192 .f32) (main_arg8 : FVec F S4096x8192 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x8192 .f32 := Host.absf main_arg6
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096x8192 .f32 := Host.absf main_arg7
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x8192 .f32 := Host.absf main_arg8
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  main_v33

def fn {F : FTy → Type} [FloatOps F] (main_arg0 : FVec F S1x128x64 .f32) (main_arg1 : FVec F S1x128x64 .f32) (main_arg2 : FVec F S1x128 .f32) (main_arg3 : FVec F S1x128x64x16 .f32) (main_arg4 : FVec F S1x128x64x16 .f32) (main_arg5 : FVec F S4096x8192 .f32) (main_arg6 : FVec F S4096x8192 .f32) (main_arg7 : FVec F S4096x8192 .f32) (main_arg8 : FVec F S4096x8192 .f32) : IVec S_ 1 :=
  let main_v0 : FVec F S1x128x64 .f32 := Host.absf main_arg0
  let main_cst : FVec F S_ .f32 := constant S_ .f32 0x7F800000#32
  let main_v1 : FVec F S1x128x64 .f32 := broadcastInDim S1x128x64 ![] bcast_S_S1x128x64 main_cst
  let main_v2 : IVec S1x128x64 1 := cmpf .olt main_v0 main_v1
  let main_c : IVec S_ 1 := constantI S_ 1 1#1
  let main_v3 : IVec S_ 1 := (fun x v => Host.reduce IntOp.andi x v reducesTo_S1x128x64_S_d0_1_2 h_S_) main_v2 main_c
  let main_v4 : FVec F S1x128x64 .f32 := Host.absf main_arg1
  let main_cst_0 : FVec F S_ .f32 := constant S_ .f32 0x7F800000#32
  let main_v5 : FVec F S1x128x64 .f32 := broadcastInDim S1x128x64 ![] bcast_S_S1x128x64 main_cst_0
  let main_v6 : IVec S1x128x64 1 := cmpf .olt main_v4 main_v5
  let main_c_1 : IVec S_ 1 := constantI S_ 1 1#1
  let main_v7 : IVec S_ 1 := (fun x v => Host.reduce IntOp.andi x v reducesTo_S1x128x64_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S4096x8192 .f32 := Host.absf main_arg5
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg6 main_arg7 main_arg8 main_v13 main_v16
-- ==== Kernel.lean ====
abbrev S1x128x64 : Shape := ⟨3, ![1, 128, 64]⟩
abbrev S1x128 : Shape := ⟨2, ![1, 128]⟩
abbrev S1x128x64x16 : Shape := ⟨4, ![1, 128, 64, 16]⟩
abbrev S4096x8192 : Shape := ⟨2, ![4096, 8192]⟩
abbrev S128x64 : Shape := ⟨2, ![128, 64]⟩
abbrev S128x1 : Shape := ⟨2, ![128, 1]⟩
abbrev S128x64x16 : Shape := ⟨3, ![128, 64, 16]⟩
abbrev S16x128x64 : Shape := ⟨3, ![16, 128, 64]⟩
abbrev S8x128x64 : Shape := ⟨3, ![8, 128, 64]⟩
abbrev S8x8192 : Shape := ⟨2, ![8, 8192]⟩
abbrev S2048x256 : Shape := ⟨2, ![2048, 256]⟩
abbrev S8x256 : Shape := ⟨2, ![8, 256]⟩
abbrev S1x256 : Shape := ⟨2, ![1, 256]⟩
abbrev S256 : Shape := ⟨1, ![256]⟩
abbrev S2x8x8192 : Shape := ⟨3, ![2, 8, 8192]⟩
abbrev S1x8x256 : Shape := ⟨3, ![1, 8, 256]⟩
abbrev S_ : Shape := ⟨0, ![]⟩

abbrev nBuf : Space → Nat
  | .hbm => 38
  | .vmem => 47
  | .smem => 0
  | _ => 0

abbrev bufTy : (tb : Table) → Fin (tcTables nBuf tb) → BufTy
  | .hbm, ⟨0, _⟩ => ⟨S1x128x64, .f32⟩
  | .hbm, ⟨1, _⟩ => ⟨S1x128x64, .f32⟩
  | .hbm, ⟨2, _⟩ => ⟨S1x128, .f32⟩
  | .hbm, ⟨3, _⟩ => ⟨S1x128x64x16, .f32⟩
  | .hbm, ⟨4, _⟩ => ⟨S1x128x64x16, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S128x64, .f32⟩
  | .hbm, ⟨10, _⟩ => ⟨S128x64, .f32⟩
  | .hbm, ⟨11, _⟩ => ⟨S128x1, .f32⟩
  | .hbm, ⟨12, _⟩ => ⟨S128x64x16, .f32⟩
  | .hbm, ⟨13, _⟩ => ⟨S16x128x64, .f32⟩
  | .hbm, ⟨14, _⟩ => ⟨S128x64x16, .f32⟩
  | .hbm, ⟨15, _⟩ => ⟨S16x128x64, .f32⟩
  | .hbm, ⟨16, _⟩ => ⟨S8x128x64, .f32⟩
  | .hbm, ⟨17, _⟩ => ⟨S8x128x64, .f32⟩
  | .hbm, ⟨18, _⟩ => ⟨S8x128x64, .f32⟩
  | .hbm, ⟨19, _⟩ => ⟨S8x128x64, .f32⟩
  | .hbm, ⟨20, _⟩ => ⟨S16x128x64, .f32⟩
  | .hbm, ⟨21, _⟩ => ⟨S16x128x64, .f32⟩
  | .hbm, ⟨22, _⟩ => ⟨S8x8192, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S2x8x8192, .f32⟩
  | .hbm, ⟨31, _⟩ => ⟨S2x8x8192, .f32⟩
  | .hbm, ⟨32, _⟩ => ⟨S16x128x64, .f32⟩
  | .hbm, ⟨33, _⟩ => ⟨S_, .f32⟩
  | .hbm, ⟨34, _⟩ => ⟨S128x64, .f32⟩
  | .hbm, ⟨35, _⟩ => ⟨S16x128x64, .f32⟩
  | .hbm, ⟨36, _⟩ => ⟨S_, .f32⟩
  | .hbm, ⟨37, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x1, .f32⟩
  | .local _ .vmem, ⟨3, _⟩ => ⟨S16x128x64, .f32⟩
  | .local _ .vmem, ⟨4, _⟩ => ⟨S16x128x64, .f32⟩
  | .local _ .vmem, ⟨5, _⟩ => ⟨S8x128x64, .f32⟩
  | .local _ .vmem, ⟨6, _⟩ => ⟨S8x128x64, .f32⟩
  | .local _ .vmem, ⟨7, _⟩ => ⟨S8x128x64, .f32⟩
  | .local _ .vmem, ⟨8, _⟩ => ⟨S8x128x64, .f32⟩
  | .local _ .vmem, ⟨9, _⟩ => ⟨S16x128x64, .f32⟩
  | .local _ .vmem, ⟨10, _⟩ => ⟨S16x128x64, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S8x256, .f32⟩
  | .local _ .vmem, ⟨32, _⟩ => ⟨S8x256, .f32⟩
  | .local _ .vmem, ⟨33, _⟩ => ⟨S8x256, .f32⟩
  | .local _ .vmem, ⟨34, _⟩ => ⟨S8x256, .f32⟩
  | .local _ .vmem, ⟨35, _⟩ => ⟨S8x256, .f32⟩
  | .local _ .vmem, ⟨36, _⟩ => ⟨S8x256, .f32⟩
  | .local _ .vmem, ⟨37, _⟩ => ⟨S8x256, .f32⟩
  | .local _ .vmem, ⟨38, _⟩ => ⟨S8x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S1x8x256, .f32⟩
  | .local _ .vmem, ⟨44, _⟩ => ⟨S1x8x256, .f32⟩
  | .local _ .vmem, ⟨45, _⟩ => ⟨S1x8x256, .f32⟩
  | .local _ .vmem, ⟨46, _⟩ => ⟨S1x8x256, .f32⟩
  | _, _ => ⟨S1x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg10_1 : Ref sig .tc := ⟨.vmem, 44, rfl⟩
abbrev cc2_stg11_0 : Ref sig .tc := ⟨.vmem, 45, rfl⟩
abbrev cc2_stg11_1 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc2_sem10_0 : DmaSem sig := 43
abbrev cc2_sem10_1 : DmaSem sig := 44
abbrev cc2_sem11_0 : DmaSem sig := 45
abbrev cc2_sem11_1 : DmaSem sig := 46

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![2, 32], ![false, false]⟩

@[reducible] def k1_t1_loop : Scf.Loop 32 :=
  let c0_i32 : BitVec 32 := 0#32
  let c32_i32 : BitVec 32 := 32#32
  let v30 : BitVec 32 := Scalar.addi c0_i32 c32_i32
  let c1_i32 : BitVec 32 := 1#32
  ⟨c0_i32, v30, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32 : BitVec 32 := 8#32
  let v32 : BitVec 32 := Scalar.muli arg8 c8_i32
  let c0_i32_14 : BitVec 32 := 0#32
  let v33 : BitVec 32 := Scalar.addi v32 c0_i32_14
  let c8_i32_15 : BitVec 32 := 8#32
  let v34 : BitVec 32 := Scalar.muli v33 c8_i32_15
  v34
def k1_off1 (k1_t1 : Fin k1_t1_loop.trips) (c0_i32_14 : BitVec 32) : Fin 2 → Nat :=
  let c0_i32 : BitVec 32 := 0#32
  let c1_i32 : BitVec 32 := 1#32
  let arg8 : BitVec 32 := Scf.iv c0_i32 c1_i32 k1_t1
  let c8_i32 : BitVec 32 := 8#32
  let v32 : BitVec 32 := Scalar.muli arg8 c8_i32
  let v33 : BitVec 32 := Scalar.addi v32 c0_i32_14
  let c8_i32_15 : BitVec 32 := 8#32
  let v34 : BitVec 32 := Scalar.muli v33 c8_i32_15
  let v35 : BitVec 32 := v34
  let v36 : Index := Scalar.indexCast v35
  let c0_16 : Index := 0#32
  ![v36.toNat, 0]
def k1_mult2 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_38 : BitVec 32 := 8#32
  let v116 : BitVec 32 := Scalar.muli arg8 c8_i32_38
  let c1_i32_39 : BitVec 32 := 1#32
  let v117 : BitVec 32 := Scalar.addi v116 c1_i32_39
  let c8_i32_40 : BitVec 32 := 8#32
  let v118 : BitVec 32 := Scalar.muli v117 c8_i32_40
  v118
def k1_mult3 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_66 : BitVec 32 := 8#32
  let v200 : BitVec 32 := Scalar.muli arg8 c8_i32_66
  let c2_i32_67 : BitVec 32 := 2#32
  let v201 : BitVec 32 := Scalar.addi v200 c2_i32_67
  let c8_i32_68 : BitVec 32 := 8#32
  let v202 : BitVec 32 := Scalar.muli v201 c8_i32_68
  v202
def k1_mult4 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_94 : BitVec 32 := 8#32
  let v284 : BitVec 32 := Scalar.muli arg8 c8_i32_94
  let c3_i32 : BitVec 32 := 3#32
  let v285 : BitVec 32 := Scalar.addi v284 c3_i32
  let c8_i32_95 : BitVec 32 := 8#32
  let v286 : BitVec 32 := Scalar.muli v285 c8_i32_95
  v286
def k1_mult5 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_121 : BitVec 32 := 8#32
  let v368 : BitVec 32 := Scalar.muli arg8 c8_i32_121
  let c4_i32_122 : BitVec 32 := 4#32
  let v369 : BitVec 32 := Scalar.addi v368 c4_i32_122
  let c8_i32_123 : BitVec 32 := 8#32
  let v370 : BitVec 32 := Scalar.muli v369 c8_i32_123
  v370
def k1_mult6 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_149 : BitVec 32 := 8#32
  let v452 : BitVec 32 := Scalar.muli arg8 c8_i32_149
  let c5_i32 : BitVec 32 := 5#32
  let v453 : BitVec 32 := Scalar.addi v452 c5_i32
  let c8_i32_150 : BitVec 32 := 8#32
  let v454 : BitVec 32 := Scalar.muli v453 c8_i32_150
  v454
def k1_mult7 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_176 : BitVec 32 := 8#32
  let v536 : BitVec 32 := Scalar.muli arg8 c8_i32_176
  let c6_i32 : BitVec 32 := 6#32
  let v537 : BitVec 32 := Scalar.addi v536 c6_i32
  let c8_i32_177 : BitVec 32 := 8#32
  let v538 : BitVec 32 := Scalar.muli v537 c8_i32_177
  v538
def k1_mult8 (k1_t1 : Fin k1_t1_loop.trips) : BitVec 32 :=
  let c0_i32 : BitVec 32 := 0#32
  let c1_i32 : BitVec 32 := 1#32
  let arg8 : BitVec 32 := Scf.iv c0_i32 c1_i32 k1_t1
  let c8_i32_203 : BitVec 32 := 8#32
  let v620 : BitVec 32 := Scalar.muli arg8 c8_i32_203
  let c7_i32_204 : BitVec 32 := 7#32
  let v621 : BitVec 32 := Scalar.addi v620 c7_i32_204
  let c8_i32_205 : BitVec 32 := 8#32
  let v622 : BitVec 32 := Scalar.muli v621 c8_i32_205
  v622
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 32], ![false, false]⟩

@[reducible] def k2_t1_loop : Scf.Loop 32 :=
  let c0_i32 : BitVec 32 := 0#32
  let c32_i32 : BitVec 32 := 32#32
  let v38 : BitVec 32 := Scalar.addi c0_i32 c32_i32
  let c1_i32 : BitVec 32 := 1#32
  ⟨c0_i32, v38, c1_i32⟩
def k2_mult1 (k2_t1 : Fin k2_t1_loop.trips) : BitVec 32 :=
  let c255_i32 : BitVec 32 := 255#32
  let c0_i32 : BitVec 32 := 0#32
  let c1_i32 : BitVec 32 := 1#32
  let arg14 : BitVec 32 := Scf.iv c0_i32 c1_i32 k2_t1
  let c8_i32 : BitVec 32 := 8#32
  let v46 : BitVec 32 := Scalar.muli arg14 c8_i32
  let c0_i32_24 : BitVec 32 := 0#32
  let v47 : BitVec 32 := Scalar.addi v46 c0_i32_24
  let v48 : BitVec 32 := Scalar.subi c255_i32 v47
  let c8_i32_25 : BitVec 32 := 8#32
  let v49 : BitVec 32 := Scalar.muli v48 c8_i32_25
  v49
def k2_off1 (k2_t1 : Fin k2_t1_loop.trips) (c0_i32_24 : BitVec 32) : Fin 2 → Nat :=
  let c255_i32 : BitVec 32 := 255#32
  let c0_i32 : BitVec 32 := 0#32
  let c1_i32 : BitVec 32 := 1#32
  let arg14 : BitVec 32 := Scf.iv c0_i32 c1_i32 k2_t1
  let c8_i32 : BitVec 32 := 8#32
  let v46 : BitVec 32 := Scalar.muli arg14 c8_i32
  let v47 : BitVec 32 := Scalar.addi v46 c0_i32_24
  let v48 : BitVec 32 := Scalar.subi c255_i32 v47
  let c8_i32_25 : BitVec 32 := 8#32
  let v49 : BitVec 32 := Scalar.muli v48 c8_i32_25
  let v50 : BitVec 32 := v49
  let v51 : Index := Scalar.indexCast v50
  let c0_26 : Index := 0#32
  ![v51.toNat, 0]
def k2_mult2 (k2_t1 : Fin k2_t1_loop.trips) : BitVec 32 :=
  let c255_i32 : BitVec 32 := 255#32
  let c0_i32 : BitVec 32 := 0#32
  let c1_i32 : BitVec 32 := 1#32
  let arg14 : BitVec 32 := Scf.iv c0_i32 c1_i32 k2_t1
  let c8_i32 : BitVec 32 := 8#32
  let v46 : BitVec 32 := Scalar.muli arg14 c8_i32
  let c0_i32_24 : BitVec 32 := 0#32
  let v47 : BitVec 32 := Scalar.addi v46 c0_i32_24
  let v48 : BitVec 32 := Scalar.subi c255_i32 v47
  let c1_i32_42 : BitVec 32 := 1#32
  let v115 : BitVec 32 := Scalar.subi v48 c1_i32_42
  let c0_i32_43 : BitVec 32 := 0#32
  let v116 : BitVec 32 := Scalar.maxsi v115 c0_i32_43
  let c8_i32_44 : BitVec 32 := 8#32
  let v117 : BitVec 32 := Scalar.muli v116 c8_i32_44
  v117
def k2_off2 (k2_t1 : Fin k2_t1_loop.trips) (c0_i32_24 : BitVec 32) : Fin 2 → Nat :=
  let c255_i32 : BitVec 32 := 255#32
  let c0_i32 : BitVec 32 := 0#32
  let c1_i32 : BitVec 32 := 1#32
  let arg14 : BitVec 32 := Scf.iv c0_i32 c1_i32 k2_t1
  let c8_i32 : BitVec 32 := 8#32
  let v46 : BitVec 32 := Scalar.muli arg14 c8_i32
  let v47 : BitVec 32 := Scalar.addi v46 c0_i32_24
  let v48 : BitVec 32 := Scalar.subi c255_i32 v47
  let c1_i32_42 : BitVec 32 := 1#32
  let v115 : BitVec 32 := Scalar.subi v48 c1_i32_42
  let c0_i32_43 : BitVec 32 := 0#32
  let v116 : BitVec 32 := Scalar.maxsi v115 c0_i32_43
  let c8_i32_44 : BitVec 32 := 8#32
  let v117 : BitVec 32 := Scalar.muli v116 c8_i32_44
  let v118 : BitVec 32 := v117
  let v122 : Index := Scalar.indexCast v118
  let c0_47 : Index := 0#32
  ![v122.toNat, 0]
def k2_mult3 (k2_t1 : Fin k2_t1_loop.trips) : BitVec 32 :=
  let c255_i32_66 : BitVec 32 := 255#32
  let c0_i32 : BitVec 32 := 0#32
  let c1_i32 : BitVec 32 := 1#32
  let arg14 : BitVec 32 := Scf.iv c0_i32 c1_i32 k2_t1
  let c8_i32_64 : BitVec 32 := 8#32
  let v170 : BitVec 32 := Scalar.muli arg14 c8_i32_64
  let c1_i32_65 : BitVec 32 := 1#32
  let v171 : BitVec 32 := Scalar.addi v170 c1_i32_65
  let v172 : BitVec 32 := Scalar.subi c255_i32_66 v171
  let c8_i32_67 : BitVec 32 := 8#32
  let v173 : BitVec 32 := Scalar.muli v172 c8_i32_67
  v173
def k2_mult4 (k2_t1 : Fin k2_t1_loop.trips) : BitVec 32 :=
  let c255_i32_66 : BitVec 32 := 255#32
  let c0_i32 : BitVec 32 := 0#32
  let c1_i32 : BitVec 32 := 1#32
  let arg14 : BitVec 32 := Scf.iv c0_i32 c1_i32 k2_t1
  let c8_i32_64 : BitVec 32 := 8#32
  let v170 : BitVec 32 := Scalar.muli arg14 c8_i32_64
  let c1_i32_65 : BitVec 32 := 1#32
  let v171 : BitVec 32 := Scalar.addi v170 c1_i32_65
  let v172 : BitVec 32 := Scalar.subi c255_i32_66 v171
  let c1_i32_87 : BitVec 32 := 1#32
  let v239 : BitVec 32 := Scalar.subi v172 c1_i32_87
  let c0_i32_88 : BitVec 32 := 0#32
  let v240 : BitVec 32 := Scalar.maxsi v239 c0_i32_88
  let c8_i32_89 : BitVec 32 := 8#32
  let v241 : BitVec 32 := Scalar.muli v240 c8_i32_89
  v241
def k2_mult5 (k2_t1 : Fin k2_t1_loop.trips) : BitVec 32 :=
  let c255_i32_110 : BitVec 32 := 255#32
  let c0_i32 : BitVec 32 := 0#32
  let c1_i32 : BitVec 32 := 1#32
  let arg14 : BitVec 32 := Scf.iv c0_i32 c1_i32 k2_t1
  let c8_i32_109 : BitVec 32 := 8#32
  let v294 : BitVec 32 := Scalar.muli arg14 c8_i32_109
  let c2_i32 : BitVec 32 := 2#32
  let v295 : BitVec 32 := Scalar.addi v294 c2_i32
  let v296 : BitVec 32 := Scalar.subi c255_i32_110 v295
  let c8_i32_111 : BitVec 32 := 8#32
  let v297 : BitVec 32 := Scalar.muli v296 c8_i32_111
  v297
def k2_mult6 (k2_t1 : Fin k2_t1_loop.trips) : BitVec 32 :=
  let c255_i32_110 : BitVec 32 := 255#32
  let c0_i32 : BitVec 32 := 0#32
  let c1_i32 : BitVec 32 := 1#32
  let arg14 : BitVec 32 := Scf.iv c0_i32 c1_i32 k2_t1
  let c8_i32_109 : BitVec 32 := 8#32
  let v294 : BitVec 32 := Scalar.muli arg14 c8_i32_109
  let c2_i32 : BitVec 32 := 2#32
  let v295 : BitVec 32 := Scalar.addi v294 c2_i32
  let v296 : BitVec 32 := Scalar.subi c255_i32_110 v295
  let c1_i32_131 : BitVec 32 := 1#32
  let v363 : BitVec 32 := Scalar.subi v296 c1_i32_131
  let c0_i32_132 : BitVec 32 := 0#32
  let v364 : BitVec 32 := Scalar.maxsi v363 c0_i32_132
  let c8_i32_133 : BitVec 32 := 8#32
  let v365 : BitVec 32 := Scalar.muli v364 c8_i32_133
  v365
def k2_mult7 (k2_t1 : Fin k2_t1_loop.trips) : BitVec 32 :=
  let c255_i32_154 : BitVec 32 := 255#32
  let c0_i32 : BitVec 32 := 0#32
  let c1_i32 : BitVec 32 := 1#32
  let arg14 : BitVec 32 := Scf.iv c0_i32 c1_i32 k2_t1
  let c8_i32_153 : BitVec 32 := 8#32
  let v418 : BitVec 32 := Scalar.muli arg14 c8_i32_153
  let c3_i32 : BitVec 32 := 3#32
  let v419 : BitVec 32 := Scalar.addi v418 c3_i32
  let v420 : BitVec 32 := Scalar.subi c255_i32_154 v419
  let c8_i32_155 : BitVec 32 := 8#32
  let v421 : BitVec 32 := Scalar.muli v420 c8_i32_155
  v421
def k2_mult8 (k2_t1 : Fin k2_t1_loop.trips) : BitVec 32 :=
  let c255_i32_154 : BitVec 32 := 255#32
  let c0_i32 : BitVec 32 := 0#32
  let c1_i32 : BitVec 32 := 1#32
  let arg14 : BitVec 32 := Scf.iv c0_i32 c1_i32 k2_t1
  let c8_i32_153 : BitVec 32 := 8#32
  let v418 : BitVec 32 := Scalar.muli arg14 c8_i32_153
  let c3_i32 : BitVec 32 := 3#32
  let v419 : BitVec 32 := Scalar.addi v418 c3_i32
  let v420 : BitVec 32 := Scalar.subi c255_i32_154 v419
  let c1_i32_175 : BitVec 32 := 1#32
  let v487 : BitVec 32 := Scalar.subi v420 c1_i32_175
  let c0_i32_176 : BitVec 32 := 0#32
  let v488 : BitVec 32 := Scalar.maxsi v487 c0_i32_176
  let c8_i32_177 : BitVec 32 := 8#32
  let v489 : BitVec 32 := Scalar.muli v488 c8_i32_177
  v489
def k2_mult9 (k2_t1 : Fin k2_t1_loop.trips) : BitVec 32 :=
  let c255_i32_199 : BitVec 32 := 255#32
  let c0_i32 : BitVec 32 := 0#32
  let c1_i32 : BitVec 32 := 1#32
  let arg14 : BitVec 32 := Scf.iv c0_i32 c1_i32 k2_t1
  let c8_i32_197 : BitVec 32 := 8#32
  let v542 : BitVec 32 := Scalar.muli arg14 c8_i32_197
  let c4_i32_198 : BitVec 32 := 4#32
  let v543 : BitVec 32 := Scalar.addi v542 c4_i32_198
  let v544 : BitVec 32 := Scalar.subi c255_i32_199 v543
  let c8_i32_200 : BitVec 32 := 8#32
  let v545 : BitVec 32 := Scalar.muli v544 c8_i32_200
  v545
def k2_mult10 (k2_t1 : Fin k2_t1_loop.trips) : BitVec 32 :=
  let c255_i32_199 : BitVec 32 := 255#32
  let c0_i32 : BitVec 32 := 0#32
  let c1_i32 : BitVec 32 := 1#32
  let arg14 : BitVec 32 := Scf.iv c0_i32 c1_i32 k2_t1
  let c8_i32_197 : BitVec 32 := 8#32
  let v542 : BitVec 32 := Scalar.muli arg14 c8_i32_197
  let c4_i32_198 : BitVec 32 := 4#32
  let v543 : BitVec 32 := Scalar.addi v542 c4_i32_198
  let v544 : BitVec 32 := Scalar.subi c255_i32_199 v543
  let c1_i32_220 : BitVec 32 := 1#32
  let v611 : BitVec 32 := Scalar.subi v544 c1_i32_220
  let c0_i32_221 : BitVec 32 := 0#32
  let v612 : BitVec 32 := Scalar.maxsi v611 c0_i32_221
  let c8_i32_222 : BitVec 32 := 8#32
  let v613 : BitVec 32 := Scalar.muli v612 c8_i32_222
  v613
def k2_mult11 (k2_t1 : Fin k2_t1_loop.trips) : BitVec 32 :=
  let c255_i32_243 : BitVec 32 := 255#32
  let c0_i32 : BitVec 32 := 0#32
  let c1_i32 : BitVec 32 := 1#32
  let arg14 : BitVec 32 := Scf.iv c0_i32 c1_i32 k2_t1
  let c8_i32_242 : BitVec 32 := 8#32
  let v666 : BitVec 32 := Scalar.muli arg14 c8_i32_242
  let c5_i32 : BitVec 32 := 5#32
  let v667 : BitVec 32 := Scalar.addi v666 c5_i32
  let v668 : BitVec 32 := Scalar.subi c255_i32_243 v667
  let c8_i32_244 : BitVec 32 := 8#32
  let v669 : BitVec 32 := Scalar.muli v668 c8_i32_244
  v669
def k2_mult12 (k2_t1 : Fin k2_t1_loop.trips) : BitVec 32 :=
  let c255_i32_243 : BitVec 32 := 255#32
  let c0_i32 : BitVec 32 := 0#32
  let c1_i32 : BitVec 32 := 1#32
  let arg14 : BitVec 32 := Scf.iv c0_i32 c1_i32 k2_t1
  let c8_i32_242 : BitVec 32 := 8#32
  let v666 : BitVec 32 := Scalar.muli arg14 c8_i32_242
  let c5_i32 : BitVec 32 := 5#32
  let v667 : BitVec 32 := Scalar.addi v666 c5_i32
  let v668 : BitVec 32 := Scalar.subi c255_i32_243 v667
  let c1_i32_264 : BitVec 32 := 1#32
  let v735 : BitVec 32 := Scalar.subi v668 c1_i32_264
  let c0_i32_265 : BitVec 32 := 0#32
  let v736 : BitVec 32 := Scalar.maxsi v735 c0_i32_265
  let c8_i32_266 : BitVec 32 := 8#32
  let v737 : BitVec 32 := Scalar.muli v736 c8_i32_266
  v737
def k2_mult13 (k2_t1 : Fin k2_t1_loop.trips) : BitVec 32 :=
  let c255_i32_288 : BitVec 32 := 255#32
  let c0_i32 : BitVec 32 := 0#32
  let c1_i32 : BitVec 32 := 1#32
  let arg14 : BitVec 32 := Scf.iv c0_i32 c1_i32 k2_t1
  let c8_i32_286 : BitVec 32 := 8#32
  let v790 : BitVec 32 := Scalar.muli arg14 c8_i32_286
  let c6_i32_287 : BitVec 32 := 6#32
  let v791 : BitVec 32 := Scalar.addi v790 c6_i32_287
  let v792 : BitVec 32 := Scalar.subi c255_i32_288 v791
  let c8_i32_289 : BitVec 32 := 8#32
  let v793 : BitVec 32 := Scalar.muli v792 c8_i32_289
  v793
def k2_mult14 (k2_t1 : Fin k2_t1_loop.trips) : BitVec 32 :=
  let c255_i32_288 : BitVec 32 := 255#32
  let c0_i32 : BitVec 32 := 0#32
  let c1_i32 : BitVec 32 := 1#32
  let arg14 : BitVec 32 := Scf.iv c0_i32 c1_i32 k2_t1
  let c8_i32_286 : BitVec 32 := 8#32
  let v790 : BitVec 32 := Scalar.muli arg14 c8_i32_286
  let c6_i32_287 : BitVec 32 := 6#32
  let v791 : BitVec 32 := Scalar.addi v790 c6_i32_287
  let v792 : BitVec 32 := Scalar.subi c255_i32_288 v791
  let c1_i32_309 : BitVec 32 := 1#32
  let v859 : BitVec 32 := Scalar.subi v792 c1_i32_309
  let c0_i32_310 : BitVec 32 := 0#32
  let v860 : BitVec 32 := Scalar.maxsi v859 c0_i32_310
  let c8_i32_311 : BitVec 32 := 8#32
  let v861 : BitVec 32 := Scalar.muli v860 c8_i32_311
  v861
def k2_mult15 (k2_t1 : Fin k2_t1_loop.trips) : BitVec 32 :=
  let c255_i32_333 : BitVec 32 := 255#32
  let c0_i32 : BitVec 32 := 0#32
  let c1_i32 : BitVec 32 := 1#32
  let arg14 : BitVec 32 := Scf.iv c0_i32 c1_i32 k2_t1
  let c8_i32_331 : BitVec 32 := 8#32
  let v914 : BitVec 32 := Scalar.muli arg14 c8_i32_331
  let c7_i32_332 : BitVec 32 := 7#32
  let v915 : BitVec 32 := Scalar.addi v914 c7_i32_332
  let v916 : BitVec 32 := Scalar.subi c255_i32_333 v915
  let c8_i32_334 : BitVec 32 := 8#32
  let v917 : BitVec 32 := Scalar.muli v916 c8_i32_334
  v917
def k2_mult16 (k2_t1 : Fin k2_t1_loop.trips) : BitVec 32 :=
  let c255_i32_333 : BitVec 32 := 255#32
  let c0_i32 : BitVec 32 := 0#32
  let c1_i32 : BitVec 32 := 1#32
  let arg14 : BitVec 32 := Scf.iv c0_i32 c1_i32 k2_t1
  let c8_i32_331 : BitVec 32 := 8#32
  let v914 : BitVec 32 := Scalar.muli arg14 c8_i32_331
  let c7_i32_332 : BitVec 32 := 7#32
  let v915 : BitVec 32 := Scalar.addi v914 c7_i32_332
  let v916 : BitVec 32 := Scalar.subi c255_i32_333 v915
  let c1_i32_354 : BitVec 32 := 1#32
  let v983 : BitVec 32 := Scalar.subi v916 c1_i32_354
  let c0_i32_355 : BitVec 32 := 0#32
  let v984 : BitVec 32 := Scalar.maxsi v983 c0_i32_355
  let c8_i32_356 : BitVec 32 := 8#32
  let v985 : BitVec 32 := Scalar.muli v984 c8_i32_356
  v985
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S8x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S2048x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S2048x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x8x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x8x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]
-- ==== ReferenceIdeal.lean ====
abbrev S1x128x64 : Shape := ⟨3, ![1, 128, 64]⟩
abbrev S1x128 : Shape := ⟨2, ![1, 128]⟩
abbrev S1x128x64x16 : Shape := ⟨4, ![1, 128, 64, 16]⟩
abbrev S4096x8192 : Shape := ⟨2, ![4096, 8192]⟩
abbrev S128x64 : Shape := ⟨2, ![128, 64]⟩
abbrev S_ : Shape := ⟨0, ![]⟩
abbrev S128 : Shape := ⟨1, ![128]⟩
abbrev S128x1 : Shape := ⟨2, ![128, 1]⟩
abbrev S8192 : Shape := ⟨1, ![8192]⟩
abbrev S2x8192 : Shape := ⟨2, ![2, 8192]⟩
abbrev S2x2048x8192 : Shape := ⟨3, ![2, 2048, 8192]⟩
abbrev S2048x2x8192 : Shape := ⟨3, ![2048, 2, 8192]⟩
abbrev S1x8192 : Shape := ⟨2, ![1, 8192]⟩
abbrev S1x2x8192 : Shape := ⟨3, ![1, 2, 8192]⟩

abbrev nBuf : Space → Nat
  | .hbm => 219
  | .vmem => 0
  | .smem => 0
  | _ => 0

abbrev hbmTy0_0 (i : Nat) : BufTy := match i % 128 with
  | 0 => ⟨S1x128x64, .f32⟩
  | 1 => ⟨S1x128x64, .f32⟩
  | 2 => ⟨S1x128, .f32⟩
  | 3 => ⟨S1x128x64x16, .f32⟩
  | 4 => ⟨S1x128x64x16, .f32⟩
  | 5 => ⟨S4096x8192, .f32⟩
  | 6 => ⟨S4096x8192, .f32⟩
  | 7 => ⟨S4096x8192, .f32⟩
  | 8 => ⟨S4096x8192, .f32⟩
  | 9 => ⟨S128x64, .f32⟩
  | 10 => ⟨S_, .f32⟩
  | 11 => ⟨S128x64, .f32⟩
  | 12 => ⟨S128x64, .f32⟩
  | 13 => ⟨S128x64, .f32⟩
  | 14 => ⟨S128, .f32⟩
  | 15 => ⟨S128, .f32⟩
  | 16 => ⟨S128x1, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S8192, .f32⟩
  | 25 => ⟨S128x64, .f32⟩
  | 26 => ⟨S128x64, .f32⟩
  | 27 => ⟨S8192, .f32⟩
  | 28 => ⟨S_, .f32⟩
  | 29 => ⟨S2x8192, .f32⟩
  | 30 => ⟨S2x2048x8192, .f32⟩
  | 31 => ⟨S2048x2x8192, .f32⟩
  | 32 => ⟨S2x2048x8192, .f32⟩
  | 33 => ⟨S2048x2x8192, .f32⟩
  | 34 => ⟨S1x8192, .f32⟩
  | 35 => ⟨S1x8192, .f32⟩
  | 36 => ⟨S1x8192, .f32⟩
  | 37 => ⟨S1x8192, .f32⟩
  | 38 => ⟨S_, .f32⟩
  | 39 => ⟨S2048x2x8192, .f32⟩
  | 40 => ⟨S_, .f32⟩
  | 41 => ⟨S2048x2x8192, .f32⟩
  | 42 => ⟨S_, .f32⟩
  | 43 => ⟨S2048x2x8192, .f32⟩
  | 44 => ⟨S_, .f32⟩
  | 45 => ⟨S2048x2x8192, .f32⟩
  | 46 => ⟨S_, .i32⟩
  | 47 => ⟨S2048x2x8192, .f32⟩
  | 48 => ⟨S2048x2x8192, .f32⟩
  | 49 => ⟨S1x8192, .f32⟩
  | 50 => ⟨S1x8192, .f32⟩
  | 51 => ⟨S1x8192, .f32⟩
  | 52 => ⟨S1x8192, .f32⟩
  | 53 => ⟨S_, .i32⟩
  | 54 => ⟨S2x8192, .f32⟩
  | 55 => ⟨S2x8192, .f32⟩
  | 56 => ⟨S2048x2x8192, .f32⟩
  | 57 => ⟨S2048x2x8192, .f32⟩
  | 58 => ⟨S2048x2x8192, .f32⟩
  | 59 => ⟨S2048x2x8192, .f32⟩
  | 60 => ⟨S_, .i32⟩
  | 61 => ⟨S_, .i1⟩
  | 62 => ⟨S_, .i32⟩
  | 63 => ⟨S_, .i32⟩
  | 64 => ⟨S1x2x8192, .f32⟩
  | 65 => ⟨S2x8192, .f32⟩
  | 66 => ⟨S_, .i32⟩
  | 67 => ⟨S_, .i32⟩
  | 68 => ⟨S1x2x8192, .f32⟩
  | 69 => ⟨S2x8192, .f32⟩
  | 70 => ⟨S2x8192, .f32⟩
  | 71 => ⟨S2x8192, .f32⟩
  | 72 => ⟨S2x8192, .f32⟩
  | 73 => ⟨S2x8192, .f32⟩
  | 74 => ⟨S2x8192, .f32⟩
  | 75 => ⟨S2x8192, .f32⟩
  | 76 => ⟨S2x8192, .f32⟩
  | 77 => ⟨S2x8192, .f32⟩
  | 78 => ⟨S2x8192, .f32⟩
  | 79 => ⟨S2x8192, .f32⟩
  | 80 => ⟨S2x8192, .f32⟩
  | 81 => ⟨S2x8192, .f32⟩
  | 82 => ⟨S1x2x8192, .f32⟩
  | 83 => ⟨S_, .i32⟩
  | 84 => ⟨S_, .i32⟩
  | 85 => ⟨S2048x2x8192, .f32⟩
  | 86 => ⟨S1x2x8192, .f32⟩
  | 87 => ⟨S_, .i32⟩
  | 88 => ⟨S_, .i32⟩
  | 89 => ⟨S2048x2x8192, .f32⟩
  | 90 => ⟨S1x2x8192, .f32⟩
  | 91 => ⟨S_, .i32⟩
  | 92 => ⟨S_, .i32⟩
  | 93 => ⟨S2048x2x8192, .f32⟩
  | 94 => ⟨S1x2x8192, .f32⟩
  | 95 => ⟨S_, .i32⟩
  | 96 => ⟨S_, .i32⟩
  | 97 => ⟨S2048x2x8192, .f32⟩
  | 98 => ⟨S_, .i32⟩
  | 99 => ⟨S_, .i32⟩
  | 100 => ⟨S2x2048x8192, .f32⟩
  | 101 => ⟨S4096x8192, .f32⟩
  | 102 => ⟨S2x2048x8192, .f32⟩
  | 103 => ⟨S4096x8192, .f32⟩
  | 104 => ⟨S_, .f32⟩
  | 105 => ⟨S2x8192, .f32⟩
  | 106 => ⟨S_, .f32⟩
  | 107 => ⟨S2x8192, .f32⟩
  | 108 => ⟨S2x2048x8192, .f32⟩
  | 109 => ⟨S2048x2x8192, .f32⟩
  | 110 => ⟨S2x2048x8192, .f32⟩
  | 111 => ⟨S2048x2x8192, .f32⟩
  | 112 => ⟨S_, .f32⟩
  | 113 => ⟨S2x8192, .f32⟩
  | 114 => ⟨S_, .f32⟩
  | 115 => ⟨S2x8192, .f32⟩
  | 116 => ⟨S_, .f32⟩
  | 117 => ⟨S8192, .f32⟩
  | 118 => ⟨S_, .f32⟩
  | 119 => ⟨S8192, .f32⟩
  | 120 => ⟨S_, .f32⟩
  | 121 => ⟨S2048x2x8192, .f32⟩
  | 122 => ⟨S_, .f32⟩
  | 123 => ⟨S2048x2x8192, .f32⟩
  | 124 => ⟨S_, .i32⟩
  | 125 => ⟨S2048x2x8192, .f32⟩
  | 126 => ⟨S2048x2x8192, .f32⟩
  | 127 => ⟨S2048x2x8192, .f32⟩
  | _ => ⟨S1x128x64, .f32⟩

abbrev hbmTy0_1 (i : Nat) : BufTy := match i % 128 with
  | 0 => ⟨S2048x2x8192, .f32⟩
  | 1 => ⟨S1x8192, .f32⟩
  | 2 => ⟨S1x8192, .f32⟩
  | 3 => ⟨S1x8192, .f32⟩
  | 4 => ⟨S1x8192, .f32⟩
  | 5 => ⟨S_, .i32⟩
  | 6 => ⟨S8192, .f32⟩
  | 7 => ⟨S8192, .f32⟩
  | 8 => ⟨S2x8192, .f32⟩
  | 9 => ⟨S2x8192, .f32⟩
  | 10 => ⟨S2048x2x8192, .f32⟩
  | 11 => ⟨S2048x2x8192, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S1x2x8192, .f32⟩
  | 21 => ⟨S2x8192, .f32⟩
  | 22 => ⟨S_, .i32⟩
  | 23 => ⟨S_, .i32⟩
  | 24 => ⟨S1x2x8192, .f32⟩
  | 25 => ⟨S2x8192, .f32⟩
  | 26 => ⟨S_, .i32⟩
  | 27 => ⟨S_, .i32⟩
  | 28 => ⟨S1x2x8192, .f32⟩
  | 29 => ⟨S2x8192, .f32⟩
  | 30 => ⟨S_, .i32⟩
  | 31 => ⟨S_, .i32⟩
  | 32 => ⟨S1x2x8192, .f32⟩
  | 33 => ⟨S2x8192, .f32⟩
  | 34 => ⟨S2x8192, .f32⟩
  | 35 => ⟨S2x8192, .f32⟩
  | 36 => ⟨S2x8192, .f32⟩
  | 37 => ⟨S2x8192, .f32⟩
  | 38 => ⟨S2x8192, .f32⟩
  | 39 => ⟨S_, .f32⟩
  | 40 => ⟨S8192, .f32⟩
  | 41 => ⟨S1x8192, .f32⟩
  | 42 => ⟨S_, .f32⟩
  | 43 => ⟨S8192, .f32⟩
  | 44 => ⟨S8192, .f32⟩
  | 45 => ⟨S2x8192, .f32⟩
  | 46 => ⟨S2x8192, .f32⟩
  | 47 => ⟨S2x8192, .f32⟩
  | 48 => ⟨S_, .f32⟩
  | 49 => ⟨S8192, .f32⟩
  | 50 => ⟨S1x8192, .f32⟩
  | 51 => ⟨S_, .f32⟩
  | 52 => ⟨S8192, .f32⟩
  | 53 => ⟨S8192, .f32⟩
  | 54 => ⟨S2x8192, .f32⟩
  | 55 => ⟨S2x8192, .f32⟩
  | 56 => ⟨S2x8192, .f32⟩
  | 57 => ⟨S2x8192, .f32⟩
  | 58 => ⟨S2x8192, .f32⟩
  | 59 => ⟨S_, .f32⟩
  | 60 => ⟨S8192, .f32⟩
  | 61 => ⟨S1x8192, .f32⟩
  | 62 => ⟨S_, .f32⟩
  | 63 => ⟨S8192, .f32⟩
  | 64 => ⟨S8192, .f32⟩
  | 65 => ⟨S2x8192, .f32⟩
  | 66 => ⟨S2x8192, .f32⟩
  | 67 => ⟨S2x8192, .f32⟩
  | 68 => ⟨S2x8192, .f32⟩
  | 69 => ⟨S_, .f32⟩
  | 70 => ⟨S8192, .f32⟩
  | 71 => ⟨S1x8192, .f32⟩
  | 72 => ⟨S_, .f32⟩
  | 73 => ⟨S8192, .f32⟩
  | 74 => ⟨S8192, .f32⟩
  | 75 => ⟨S1x2x8192, .f32⟩
  | 76 => ⟨S_, .i32⟩
  | 77 => ⟨S_, .i32⟩
  | 78 => ⟨S2048x2x8192, .f32⟩
  | 79 => ⟨S1x2x8192, .f32⟩
  | 80 => ⟨S_, .i32⟩
  | 81 => ⟨S_, .i32⟩
  | 82 => ⟨S2048x2x8192, .f32⟩
  | 83 => ⟨S_, .i32⟩
  | 84 => ⟨S_, .i32⟩
  | 85 => ⟨S2x2048x8192, .f32⟩
  | 86 => ⟨S4096x8192, .f32⟩
  | 87 => ⟨S2x2048x8192, .f32⟩
  | 88 => ⟨S4096x8192, .f32⟩
  | 89 => ⟨S128x64, .f32⟩
  | 90 => ⟨S128x64, .f32⟩
  | _ => ⟨S1x128x64, .f32⟩

abbrev hbmTy (i : Nat) : BufTy := match i / 128 with
  | 0 => hbmTy0_0 i
  | 1 => hbmTy0_1 i
  | _ => ⟨S1x128x64, .f32⟩

abbrev bufTy : (tb : Table) → Fin (tcTables nBuf tb) → BufTy
  | .hbm, ⟨i, _⟩ => hbmTy i
  | _, _ => ⟨S1x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_c : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev main_v31_4 : Ref sig .tc := ⟨.hbm, 51, rfl⟩
abbrev main_v31_5 : Ref sig .tc := ⟨.hbm, 52, rfl⟩
abbrev main_v31_6 : Ref sig .tc := ⟨.hbm, 53, rfl⟩
abbrev main_v31_7 : Ref sig .tc := ⟨.hbm, 54, rfl⟩
abbrev main_v31_8 : Ref sig .tc := ⟨.hbm, 55, rfl⟩
abbrev main_v31_9 : Ref sig .tc := ⟨.hbm, 56, rfl⟩
abbrev main_v31_10 : Ref sig .tc := ⟨.hbm, 57, rfl⟩
abbrev main_v31_11 : Ref sig .tc := ⟨.hbm, 58, rfl⟩
abbrev main_v31_12 : Ref sig .tc := ⟨.hbm, 59, rfl⟩
abbrev main_while0c_c_26 : Ref sig .tc := ⟨.hbm, 60, rfl⟩
abbrev main_while0c_v55 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v55 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v56 : Ref sig .tc := ⟨.hbm, 69, rfl⟩
abbrev main_while0b_v57 : Ref sig .tc := ⟨.hbm, 70, rfl⟩
abbrev main_while0b_v58 : Ref sig .tc := ⟨.hbm, 71, rfl⟩
abbrev main_while0b_v59 : Ref sig .tc := ⟨.hbm, 72, rfl⟩
abbrev main_while0b_v60 : Ref sig .tc := ⟨.hbm, 73, rfl⟩
abbrev main_while0b_v61 : Ref sig .tc := ⟨.hbm, 74, rfl⟩
abbrev main_while0b_v62 : Ref sig .tc := ⟨.hbm, 75, rfl⟩
abbrev main_while0b_v63 : Ref sig .tc := ⟨.hbm, 76, rfl⟩
abbrev main_while0b_v64 : Ref sig .tc := ⟨.hbm, 77, rfl⟩
abbrev main_while0b_v65 : Ref sig .tc := ⟨.hbm, 78, rfl⟩
abbrev main_while0b_v66 : Ref sig .tc := ⟨.hbm, 79, rfl⟩
abbrev main_while0b_v67 : Ref sig .tc := ⟨.hbm, 80, rfl⟩
abbrev main_while0b_v68 : Ref sig .tc := ⟨.hbm, 81, rfl⟩
abbrev main_while0b_call2_v0 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_v69 : Ref sig .tc := ⟨.hbm, 85, rfl⟩
abbrev main_while0b_call3_v0 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_v70 : Ref sig .tc := ⟨.hbm, 89, rfl⟩
abbrev main_while0b_call4_v0 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_v71 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_v72 : Ref sig .tc := ⟨.hbm, 97, rfl⟩
abbrev main_while0b_c_26 : Ref sig .tc := ⟨.hbm, 98, rfl⟩
abbrev main_while0b_v73 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_5 : Ref sig .tc := ⟨.hbm, 104, rfl⟩
abbrev main_v36 : Ref sig .tc := ⟨.hbm, 105, rfl⟩
abbrev main_cst_6 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_cst_7 : Ref sig .tc := ⟨.hbm, 112, rfl⟩
abbrev main_v42 : Ref sig .tc := ⟨.hbm, 113, rfl⟩
abbrev main_cst_8 : Ref sig .tc := ⟨.hbm, 114, rfl⟩
abbrev main_v43 : Ref sig .tc := ⟨.hbm, 115, rfl⟩
abbrev main_cst_9 : Ref sig .tc := ⟨.hbm, 116, rfl⟩
abbrev main_v44 : Ref sig .tc := ⟨.hbm, 117, rfl⟩
abbrev main_cst_10 : Ref sig .tc := ⟨.hbm, 118, rfl⟩
abbrev main_v45 : Ref sig .tc := ⟨.hbm, 119, rfl⟩
abbrev main_cst_11 : Ref sig .tc := ⟨.hbm, 120, rfl⟩
abbrev main_v46 : Ref sig .tc := ⟨.hbm, 121, rfl⟩
abbrev main_cst_12 : Ref sig .tc := ⟨.hbm, 122, rfl⟩
abbrev main_v47 : Ref sig .tc := ⟨.hbm, 123, rfl⟩
abbrev main_c_13 : Ref sig .tc := ⟨.hbm, 124, rfl⟩
abbrev main_v48_0 : Ref sig .tc := ⟨.hbm, 125, rfl⟩
abbrev main_v48_1 : Ref sig .tc := ⟨.hbm, 126, rfl⟩
abbrev main_v48_2 : Ref sig .tc := ⟨.hbm, 127, rfl⟩
abbrev main_v48_3 : Ref sig .tc := ⟨.hbm, 128, rfl⟩
abbrev main_v48_4 : Ref sig .tc := ⟨.hbm, 129, rfl⟩
abbrev main_v48_5 : Ref sig .tc := ⟨.hbm, 130, rfl⟩
abbrev main_v48_6 : Ref sig .tc := ⟨.hbm, 131, rfl⟩
abbrev main_v48_7 : Ref sig .tc := ⟨.hbm, 132, rfl⟩
abbrev main_v48_8 : Ref sig .tc := ⟨.hbm, 133, rfl⟩
abbrev main_v48_9 : Ref sig .tc := ⟨.hbm, 134, rfl⟩
abbrev main_v48_10 : Ref sig .tc := ⟨.hbm, 135, rfl⟩
abbrev main_v48_11 : Ref sig .tc := ⟨.hbm, 136, rfl⟩
abbrev main_v48_12 : Ref sig .tc := ⟨.hbm, 137, rfl⟩
abbrev main_v48_13 : Ref sig .tc := ⟨.hbm, 138, rfl⟩
abbrev main_v48_14 : Ref sig .tc := ⟨.hbm, 139, rfl⟩
abbrev main_while1c_c_28 : Ref sig .tc := ⟨.hbm, 140, rfl⟩
abbrev main_while1c_v55 : Ref sig .tc := ⟨.hbm, 141, rfl⟩
abbrev main_while1b_c_28 : Ref sig .tc := ⟨.hbm, 142, rfl⟩
abbrev main_while1b_v55 : Ref sig .tc := ⟨.hbm, 143, rfl⟩
abbrev main_while1b_c_29 : Ref sig .tc := ⟨.hbm, 144, rfl⟩
abbrev main_while1b_v56 : Ref sig .tc := ⟨.hbm, 145, rfl⟩
abbrev main_while1b_call6_c : Ref sig .tc := ⟨.hbm, 146, rfl⟩
abbrev main_while1b_call6_c_0 : Ref sig .tc := ⟨.hbm, 147, rfl⟩
abbrev main_while1b_call6_v0 : Ref sig .tc := ⟨.hbm, 148, rfl⟩
abbrev main_while1b_v57 : Ref sig .tc := ⟨.hbm, 149, rfl⟩
abbrev main_while1b_call7_c : Ref sig .tc := ⟨.hbm, 150, rfl⟩
abbrev main_while1b_call7_c_0 : Ref sig .tc := ⟨.hbm, 151, rfl⟩
abbrev main_while1b_call7_v0 : Ref sig .tc := ⟨.hbm, 152, rfl⟩
abbrev main_while1b_v58 : Ref sig .tc := ⟨.hbm, 153, rfl⟩
abbrev main_while1b_call8_c : Ref sig .tc := ⟨.hbm, 154, rfl⟩
abbrev main_while1b_call8_c_0 : Ref sig .tc := ⟨.hbm, 155, rfl⟩
abbrev main_while1b_call8_v0 : Ref sig .tc := ⟨.hbm, 156, rfl⟩
abbrev main_while1b_v59 : Ref sig .tc := ⟨.hbm, 157, rfl⟩
abbrev main_while1b_call9_c : Ref sig .tc := ⟨.hbm, 158, rfl⟩
abbrev main_while1b_call9_c_0 : Ref sig .tc := ⟨.hbm, 159, rfl⟩
abbrev main_while1b_call9_v0 : Ref sig .tc := ⟨.hbm, 160, rfl⟩
abbrev main_while1b_v60 : Ref sig .tc := ⟨.hbm, 161, rfl⟩
abbrev main_while1b_v61 : Ref sig .tc := ⟨.hbm, 162, rfl⟩
abbrev main_while1b_v62 : Ref sig .tc := ⟨.hbm, 163, rfl⟩
abbrev main_while1b_v63 : Ref sig .tc := ⟨.hbm, 164, rfl⟩
abbrev main_while1b_v64 : Ref sig .tc := ⟨.hbm, 165, rfl⟩
abbrev main_while1b_v65 : Ref sig .tc := ⟨.hbm, 166, rfl⟩
abbrev main_while1b_cst_30 : Ref sig .tc := ⟨.hbm, 167, rfl⟩
abbrev main_while1b_v66 : Ref sig .tc := ⟨.hbm, 168, rfl⟩
abbrev main_while1b_v67 : Ref sig .tc := ⟨.hbm, 169, rfl⟩
abbrev main_while1b_cst_31 : Ref sig .tc := ⟨.hbm, 170, rfl⟩
abbrev main_while1b_v68 : Ref sig .tc := ⟨.hbm, 171, rfl⟩
abbrev main_while1b_v69 : Ref sig .tc := ⟨.hbm, 172, rfl⟩
abbrev main_while1b_v70 : Ref sig .tc := ⟨.hbm, 173, rfl⟩
abbrev main_while1b_v71 : Ref sig .tc := ⟨.hbm, 174, rfl⟩
abbrev main_while1b_v72 : Ref sig .tc := ⟨.hbm, 175, rfl⟩
abbrev main_while1b_cst_32 : Ref sig .tc := ⟨.hbm, 176, rfl⟩
abbrev main_while1b_v73 : Ref sig .tc := ⟨.hbm, 177, rfl⟩
abbrev main_while1b_v74 : Ref sig .tc := ⟨.hbm, 178, rfl⟩
abbrev main_while1b_cst_33 : Ref sig .tc := ⟨.hbm, 179, rfl⟩
abbrev main_while1b_v75 : Ref sig .tc := ⟨.hbm, 180, rfl⟩
abbrev main_while1b_v76 : Ref sig .tc := ⟨.hbm, 181, rfl⟩
abbrev main_while1b_v77 : Ref sig .tc := ⟨.hbm, 182, rfl⟩
abbrev main_while1b_v78 : Ref sig .tc := ⟨.hbm, 183, rfl⟩
abbrev main_while1b_v79 : Ref sig .tc := ⟨.hbm, 184, rfl⟩
abbrev main_while1b_v80 : Ref sig .tc := ⟨.hbm, 185, rfl⟩
abbrev main_while1b_v81 : Ref sig .tc := ⟨.hbm, 186, rfl⟩
abbrev main_while1b_cst_34 : Ref sig .tc := ⟨.hbm, 187, rfl⟩
abbrev main_while1b_v82 : Ref sig .tc := ⟨.hbm, 188, rfl⟩
abbrev main_while1b_v83 : Ref sig .tc := ⟨.hbm, 189, rfl⟩
abbrev main_while1b_cst_35 : Ref sig .tc := ⟨.hbm, 190, rfl⟩
abbrev main_while1b_v84 : Ref sig .tc := ⟨.hbm, 191, rfl⟩
abbrev main_while1b_v85 : Ref sig .tc := ⟨.hbm, 192, rfl⟩
abbrev main_while1b_v86 : Ref sig .tc := ⟨.hbm, 193, rfl⟩
abbrev main_while1b_v87 : Ref sig .tc := ⟨.hbm, 194, rfl⟩
abbrev main_while1b_v88 : Ref sig .tc := ⟨.hbm, 195, rfl⟩
abbrev main_while1b_v89 : Ref sig .tc := ⟨.hbm, 196, rfl⟩
abbrev main_while1b_cst_36 : Ref sig .tc := ⟨.hbm, 197, rfl⟩
abbrev main_while1b_v90 : Ref sig .tc := ⟨.hbm, 198, rfl⟩
abbrev main_while1b_v91 : Ref sig .tc := ⟨.hbm, 199, rfl⟩
abbrev main_while1b_cst_37 : Ref sig .tc := ⟨.hbm, 200, rfl⟩
abbrev main_while1b_v92 : Ref sig .tc := ⟨.hbm, 201, rfl⟩
abbrev main_while1b_v93 : Ref sig .tc := ⟨.hbm, 202, rfl⟩
abbrev main_while1b_call10_v0 : Ref sig .tc := ⟨.hbm, 203, rfl⟩
abbrev main_while1b_call10_c : Ref sig .tc := ⟨.hbm, 204, rfl⟩
abbrev main_while1b_call10_c_0 : Ref sig .tc := ⟨.hbm, 205, rfl⟩
abbrev main_while1b_v94 : Ref sig .tc := ⟨.hbm, 206, rfl⟩
abbrev main_while1b_call11_v0 : Ref sig .tc := ⟨.hbm, 207, rfl⟩
abbrev main_while1b_call11_c : Ref sig .tc := ⟨.hbm, 208, rfl⟩
abbrev main_while1b_call11_c_0 : Ref sig .tc := ⟨.hbm, 209, rfl⟩
abbrev main_while1b_v95 : Ref sig .tc := ⟨.hbm, 210, rfl⟩
abbrev main_while1b_c_38 : Ref sig .tc := ⟨.hbm, 211, rfl⟩
abbrev main_while1b_v96 : Ref sig .tc := ⟨.hbm, 212, rfl⟩
abbrev main_v49 : Ref sig .tc := ⟨.hbm, 213, rfl⟩
abbrev main_v50 : Ref sig .tc := ⟨.hbm, 214, rfl⟩
abbrev main_v51 : Ref sig .tc := ⟨.hbm, 215, rfl⟩
abbrev main_v52 : Ref sig .tc := ⟨.hbm, 216, rfl⟩
abbrev main_v53 : Ref sig .tc := ⟨.hbm, 217, rfl⟩
abbrev main_v54 : Ref sig .tc := ⟨.hbm, 218, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S1x4096x22016 : Shape := ⟨3, ![1, 4096, 22016]⟩
abbrev S4096x22016 : Shape := ⟨2, ![4096, 22016]⟩
abbrev S22016x4096 : Shape := ⟨2, ![22016, 4096]⟩
abbrev S8x2752x4096 : Shape := ⟨3, ![8, 2752, 4096]⟩
abbrev S4096x8x2752 : Shape := ⟨3, ![4096, 8, 2752]⟩
abbrev S8x4096x2752 : Shape := ⟨3, ![8, 4096, 2752]⟩
abbrev S4096x4096 : Shape := ⟨2, ![4096, 4096]⟩
abbrev S1x512x2752 : Shape := ⟨3, ![1, 512, 2752]⟩
abbrev S1x2752x1024 : Shape := ⟨3, ![1, 2752, 1024]⟩
abbrev S512x1024 : Shape := ⟨2, ![512, 1024]⟩
abbrev S512x2752 : Shape := ⟨2, ![512, 2752]⟩
abbrev S2752x1024 : Shape := ⟨2, ![2752, 1024]⟩

abbrev nBuf : Space → Nat
  | .hbm => 10
  | .vmem => 11
  | .smem => 0
  | _ => 0

abbrev bufTy : (tb : Table) → Fin (tcTables nBuf tb) → BufTy
  | .hbm, ⟨0, _⟩ => ⟨S1x4096x22016, .f32⟩
  | .hbm, ⟨1, _⟩ => ⟨S4096x22016, .f32⟩
  | .hbm, ⟨2, _⟩ => ⟨S4096x22016, .f32⟩
  | .hbm, ⟨3, _⟩ => ⟨S22016x4096, .f32⟩
  | .hbm, ⟨4, _⟩ => ⟨S22016x4096, .bf16⟩
  | .hbm, ⟨5, _⟩ => ⟨S8x2752x4096, .bf16⟩
  | .hbm, ⟨6, _⟩ => ⟨S4096x22016, .bf16⟩
  | .hbm, ⟨7, _⟩ => ⟨S4096x8x2752, .bf16⟩
  | .hbm, ⟨8, _⟩ => ⟨S8x4096x2752, .bf16⟩
  | .hbm, ⟨9, _⟩ => ⟨S4096x4096, .f32⟩
  | .local _ .vmem, ⟨0, _⟩ => ⟨S1x512x2752, .bf16⟩
  | .local _ .vmem, ⟨1, _⟩ => ⟨S1x512x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x512x2752, .bf16⟩
  | .local _ .vmem, ⟨5, _⟩ => ⟨S1x512x2752, .bf16⟩
  | .local _ .vmem, ⟨6, _⟩ => ⟨S1x2752x1024, .bf16⟩
  | .local _ .vmem, ⟨7, _⟩ => ⟨S1x2752x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S1x4096x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2752x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S1x4096x22016 : Shape := ⟨3, ![1, 4096, 22016]⟩
abbrev S4096x22016 : Shape := ⟨2, ![4096, 22016]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x22016, .f32⟩
  | .hbm, ⟨1, _⟩ => ⟨S4096x22016, .f32⟩
  | .hbm, ⟨2, _⟩ => ⟨S_, .f32⟩
  | .hbm, ⟨3, _⟩ => ⟨S4096x4096, .f32⟩
  | .hbm, ⟨4, _⟩ => ⟨S4096x22016, .f32⟩
  | .hbm, ⟨5, _⟩ => ⟨S4096x22016, .f32⟩
  | .hbm, ⟨6, _⟩ => ⟨S4096x4096, .f32⟩
  | _, _ => ⟨S1x4096x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x4096 : Shape := ⟨2, ![4096, 4096]⟩
abbrev S4096x22016 : Shape := ⟨2, ![4096, 22016]⟩
abbrev S4096x8x2752 : Shape := ⟨3, ![4096, 8, 2752]⟩
abbrev S8x4096x2752 : Shape := ⟨3, ![8, 4096, 2752]⟩
abbrev S8x2752x4096 : Shape := ⟨3, ![8, 2752, 4096]⟩
abbrev S1x2048x2752 : Shape := ⟨3, ![1, 2048, 2752]⟩
abbrev S2048x512 : Shape := ⟨2, ![2048, 512]⟩
abbrev S1x2752x512 : Shape := ⟨3, ![1, 2752, 512]⟩
abbrev S2752x512 : Shape := ⟨2, ![2752, 512]⟩
abbrev S2048x2752 : Shape := ⟨2, ![2048, 2752]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x22016, .f32⟩
  | .hbm, ⟨2, _⟩ => ⟨S4096x4096, .bf16⟩
  | .hbm, ⟨3, _⟩ => ⟨S4096x22016, .bf16⟩
  | .hbm, ⟨4, _⟩ => ⟨S4096x8x2752, .bf16⟩
  | .hbm, ⟨5, _⟩ => ⟨S8x4096x2752, .bf16⟩
  | .hbm, ⟨6, _⟩ => ⟨S8x2752x4096, .bf16⟩
  | .local _ .vmem, ⟨0, _⟩ => ⟨S1x2048x2752, .bf16⟩
  | .local _ .vmem, ⟨1, _⟩ => ⟨S1x2048x2752, .bf16⟩
  | .local _ .vmem, ⟨2, _⟩ => ⟨S2048x512, .bf16⟩
  | .local _ .vmem, ⟨3, _⟩ => ⟨S2048x512, .bf16⟩
  | .local _ .vmem, ⟨4, _⟩ => ⟨S1x2752x512, .bf16⟩
  | .local _ .vmem, ⟨5, _⟩ => ⟨S1x2752x512, .bf16⟩
  | .local _ .vmem, ⟨6, _⟩ => ⟨S2752x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x22016 : Shape := ⟨2, ![4096, 22016]⟩
abbrev S_ : Shape := ⟨0, ![]⟩
abbrev S8x2752x4096 : Shape := ⟨3, ![8, 2752, 4096]⟩
abbrev S22016x4096 : Shape := ⟨2, ![22016, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x22016, .f32⟩
  | .hbm, ⟨2, _⟩ => ⟨S_, .bf16⟩
  | .hbm, ⟨3, _⟩ => ⟨S8x2752x4096, .bf16⟩
  | .hbm, ⟨4, _⟩ => ⟨S8x2752x4096, .f32⟩
  | .hbm, ⟨5, _⟩ => ⟨S22016x4096, .f32⟩
  | .hbm, ⟨6, _⟩ => ⟨S4096x22016, .f32⟩
  | .hbm, ⟨7, _⟩ => ⟨S4096x22016, .f32⟩
  | .hbm, ⟨8, _⟩ => ⟨S22016x4096, .f32⟩
  | .hbm, ⟨9, _⟩ => ⟨S4096x22016, .f32⟩
  | .hbm, ⟨10, _⟩ => ⟨S22016x4096, .f32⟩
  | .hbm, ⟨11, _⟩ => ⟨S8x2752x4096, .f32⟩
  | .hbm, ⟨12, _⟩ => ⟨S8x2752x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S1x11008x4096 : Shape := ⟨3, ![1, 11008, 4096]⟩
abbrev S4096x4096 : Shape := ⟨2, ![4096, 4096]⟩
abbrev S11008x4096 : Shape := ⟨2, ![11008, 4096]⟩
abbrev S4x2752x4096 : Shape := ⟨3, ![4, 2752, 4096]⟩
abbrev S4x4096x2752 : Shape := ⟨3, ![4, 4096, 2752]⟩
abbrev S512x2048 : Shape := ⟨2, ![512, 2048]⟩
abbrev S1x2752x2048 : Shape := ⟨3, ![1, 2752, 2048]⟩
abbrev S1x512x2752 : Shape := ⟨3, ![1, 512, 2752]⟩
abbrev S512x2752 : Shape := ⟨2, ![512, 2752]⟩
abbrev S2752x2048 : Shape := ⟨2, ![2752, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x11008x4096, .f32⟩
  | .hbm, ⟨1, _⟩ => ⟨S4096x4096, .f32⟩
  | .hbm, ⟨2, _⟩ => ⟨S11008x4096, .f32⟩
  | .hbm, ⟨3, _⟩ => ⟨S11008x4096, .bf16⟩
  | .hbm, ⟨4, _⟩ => ⟨S4x2752x4096, .bf16⟩
  | .hbm, ⟨5, _⟩ => ⟨S4096x4096, .bf16⟩
  | .hbm, ⟨6, _⟩ => ⟨S4x4096x2752, .bf16⟩
  | .local _ .vmem, ⟨0, _⟩ => ⟨S512x2048, .bf16⟩
  | .local _ .vmem, ⟨1, _⟩ => ⟨S512x2048, .bf16⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .bf16⟩
  | .local _ .vmem, ⟨5, _⟩ => ⟨S1x512x2752, .bf16⟩
  | .local _ .vmem, ⟨6, _⟩ => ⟨S512x2752, .f32⟩
  | _, _ => ⟨S1x11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1x11008x4096 : Shape := ⟨3, ![1, 11008, 4096]⟩
abbrev S4096x4096 : Shape := ⟨2, ![4096, 4096]⟩
abbrev S_ : Shape := ⟨0, ![]⟩
abbrev S4x4096x2752 : Shape := ⟨3, ![4, 4096, 2752]⟩
abbrev S4096x4x2752 : Shape := ⟨3, ![4096, 4, 2752]⟩
abbrev S4096x11008 : Shape := ⟨2, ![4096, 11008]⟩
abbrev S11008x4096 : Shape := ⟨2, ![11008, 4096]⟩

abbrev nBuf : Space → Nat
  | .hbm => 13
  | .vmem => 0
  | .smem => 0
  | _ => 0

abbrev bufTy : (tb : Table) → Fin (tcTables nBuf tb) → BufTy
  | .hbm, ⟨0, _⟩ => ⟨S1x11008x4096, .f32⟩
  | .hbm, ⟨1, _⟩ => ⟨S4096x4096, .f32⟩
  | .hbm, ⟨2, _⟩ => ⟨S_, .bf16⟩
  | .hbm, ⟨3, _⟩ => ⟨S4x4096x2752, .bf16⟩
  | .hbm, ⟨4, _⟩ => ⟨S4x4096x2752, .f32⟩
  | .hbm, ⟨5, _⟩ => ⟨S4096x4x2752, .f32⟩
  | .hbm, ⟨6, _⟩ => ⟨S4096x11008, .f32⟩
  | .hbm, ⟨7, _⟩ => ⟨S11008x4096, .f32⟩
  | .hbm, ⟨8, _⟩ => ⟨S4096x4096, .f32⟩
  | .hbm, ⟨9, _⟩ => ⟨S4096x11008, .f32⟩
  | .hbm, ⟨10, _⟩ => ⟨S4096x4x2752, .f32⟩
  | .hbm, ⟨11, _⟩ => ⟨S4x4096x2752, .f32⟩
  | .hbm, ⟨12, _⟩ => ⟨S4x4096x2752, .bf16⟩
  | _, _ => ⟨S1x11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x11008 : Shape := ⟨2, ![4096, 11008]⟩
abbrev S4096x4096 : Shape := ⟨2, ![4096, 4096]⟩
abbrev S4096x4x2752 : Shape := ⟨3, ![4096, 4, 2752]⟩
abbrev S4x4096x2752 : Shape := ⟨3, ![4, 4096, 2752]⟩
abbrev S4x2752x4096 : Shape := ⟨3, ![4, 2752, 4096]⟩
abbrev S1x2048x2752 : Shape := ⟨3, ![1, 2048, 2752]⟩
abbrev S2048x512 : Shape := ⟨2, ![2048, 512]⟩
abbrev S1x2752x512 : Shape := ⟨3, ![1, 2752, 512]⟩
abbrev S2752x512 : Shape := ⟨2, ![2752, 512]⟩
abbrev S2048x2752 : Shape := ⟨2, ![2048, 2752]⟩

abbrev nBuf : Space → Nat
  | .hbm => 7
  | .vmem => 7
  | .smem => 0
  | _ => 0

abbrev bufTy : (tb : Table) → Fin (tcTables nBuf tb) → BufTy
  | .hbm, ⟨0, _⟩ => ⟨S4096x11008, .f32⟩
  | .hbm, ⟨1, _⟩ => ⟨S4096x4096, .f32⟩
  | .hbm, ⟨2, _⟩ => ⟨S4096x11008, .bf16⟩
  | .hbm, ⟨3, _⟩ => ⟨S4096x4x2752, .bf16⟩
  | .hbm, ⟨4, _⟩ => ⟨S4x4096x2752, .bf16⟩
  | .hbm, ⟨5, _⟩ => ⟨S4096x4096, .bf16⟩
  | .hbm, ⟨6, _⟩ => ⟨S4x2752x4096, .bf16⟩
  | .local _ .vmem, ⟨0, _⟩ => ⟨S1x2048x2752, .bf16⟩
  | .local _ .vmem, ⟨1, _⟩ => ⟨S1x2048x2752, .bf16⟩
  | .local _ .vmem, ⟨2, _⟩ => ⟨S2048x512, .bf16⟩
  | .local _ .vmem, ⟨3, _⟩ => ⟨S2048x512, .bf16⟩
  | .local _ .vmem, ⟨4, _⟩ => ⟨S1x2752x512, .bf16⟩
  | .local _ .vmem, ⟨5, _⟩ => ⟨S1x2752x512, .bf16⟩
  | .local _ .vmem, ⟨6, _⟩ => ⟨S2752x512, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x11008 : Shape := ⟨2, ![4096, 11008]⟩
abbrev S4096x4096 : Shape := ⟨2, ![4096, 4096]⟩
abbrev S_ : Shape := ⟨0, ![]⟩
abbrev S4x2752x4096 : Shape := ⟨3, ![4, 2752, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096x4096, .f32⟩
  | .hbm, ⟨2, _⟩ => ⟨S_, .bf16⟩
  | .hbm, ⟨3, _⟩ => ⟨S4x2752x4096, .bf16⟩
  | .hbm, ⟨4, _⟩ => ⟨S4x2752x4096, .f32⟩
  | .hbm, ⟨5, _⟩ => ⟨S11008x4096, .f32⟩
  | .hbm, ⟨6, _⟩ => ⟨S4096x4096, .f32⟩
  | .hbm, ⟨7, _⟩ => ⟨S4096x11008, .f32⟩
  | .hbm, ⟨8, _⟩ => ⟨S11008x4096, .f32⟩
  | .hbm, ⟨9, _⟩ => ⟨S4x2752x4096, .f32⟩
  | .hbm, ⟨10, _⟩ => ⟨S4x2752x4096, .bf16⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S1x4096x12288 : Shape := ⟨3, ![1, 4096, 12288]⟩
abbrev S4096x12288 : Shape := ⟨2, ![4096, 12288]⟩
abbrev S4096x8x1536 : Shape := ⟨3, ![4096, 8, 1536]⟩
abbrev S8x4096x1536 : Shape := ⟨3, ![8, 4096, 1536]⟩
abbrev S4096x4096 : Shape := ⟨2, ![4096, 4096]⟩
abbrev S1024x3072 : Shape := ⟨2, ![1024, 3072]⟩
abbrev S2x1024x1536 : Shape := ⟨3, ![2, 1024, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x12288, .f32⟩
  | .hbm, ⟨1, _⟩ => ⟨S4096x12288, .f32⟩
  | .hbm, ⟨2, _⟩ => ⟨S4096x12288, .f32⟩
  | .hbm, ⟨3, _⟩ => ⟨S4096x12288, .bf16⟩
  | .hbm, ⟨4, _⟩ => ⟨S4096x8x1536, .bf16⟩
  | .hbm, ⟨5, _⟩ => ⟨S8x4096x1536, .bf16⟩
  | .hbm, ⟨6, _⟩ => ⟨S4096x12288, .bf16⟩
  | .hbm, ⟨7, _⟩ => ⟨S4096x4096, .f32⟩
  | .local _ .vmem, ⟨0, _⟩ => ⟨S1024x3072, .bf16⟩
  | .local _ .vmem, ⟨1, _⟩ => ⟨S1024x3072, .bf16⟩
  | .local _ .vmem, ⟨2, _⟩ => ⟨S2x1024x1536, .bf16⟩
  | .local _ .vmem, ⟨3, _⟩ => ⟨S2x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1x4096x12288 : Shape := ⟨3, ![1, 4096, 12288]⟩
abbrev S4096x12288 : Shape := ⟨2, ![4096, 12288]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x12288, .f32⟩
  | .hbm, ⟨1, _⟩ => ⟨S4096x12288, .f32⟩
  | .hbm, ⟨2, _⟩ => ⟨S_, .f32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x4096, .f32⟩
  | _, _ => ⟨S1x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x4096 : Shape := ⟨2, ![4096, 4096]⟩
abbrev S4096x12288 : Shape := ⟨2, ![4096, 12288]⟩
abbrev S8x4096x1536 : Shape := ⟨3, ![8, 4096, 1536]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S4096x4096, .bf16⟩
  | .hbm, ⟨3, _⟩ => ⟨S4096x12288, .bf16⟩
  | .hbm, ⟨4, _⟩ => ⟨S8x4096x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x12288 : Shape := ⟨2, ![4096, 12288]⟩
abbrev S_ : Shape := ⟨0, ![]⟩
abbrev S8x4096x1536 : Shape := ⟨3, ![8, 4096, 1536]⟩
abbrev S4096x8x1536 : Shape := ⟨3, ![4096, 8, 1536]⟩
abbrev S12288x4096 : Shape := ⟨2, ![12288, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S_, .bf16⟩
  | .hbm, ⟨3, _⟩ => ⟨S8x4096x1536, .bf16⟩
  | .hbm, ⟨4, _⟩ => ⟨S8x4096x1536, .f32⟩
  | .hbm, ⟨5, _⟩ => ⟨S4096x8x1536, .f32⟩
  | .hbm, ⟨6, _⟩ => ⟨S4096x12288, .f32⟩
  | .hbm, ⟨7, _⟩ => ⟨S4096x12288, .f32⟩
  | .hbm, ⟨8, _⟩ => ⟨S12288x4096, .f32⟩
  | .hbm, ⟨9, _⟩ => ⟨S4096x12288, .f32⟩
  | .hbm, ⟨10, _⟩ => ⟨S4096x8x1536, .f32⟩
  | .hbm, ⟨11, _⟩ => ⟨S8x4096x1536, .f32⟩
  | .hbm, ⟨12, _⟩ => ⟨S8x4096x1536, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S4096x4096 : Shape := ⟨2, ![4096, 4096]⟩
abbrev S1x4096x22016 : Shape := ⟨3, ![1, 4096, 22016]⟩
abbrev S4096x22016 : Shape := ⟨2, ![4096, 22016]⟩
abbrev S22016x4096 : Shape := ⟨2, ![22016, 4096]⟩
abbrev S8x2752x4096 : Shape := ⟨3, ![8, 2752, 4096]⟩
abbrev S8x4096x2752 : Shape := ⟨3, ![8, 4096, 2752]⟩
abbrev S512x2048 : Shape := ⟨2, ![512, 2048]⟩
abbrev S1x2752x2048 : Shape := ⟨3, ![1, 2752, 2048]⟩
abbrev S1x512x2752 : Shape := ⟨3, ![1, 512, 2752]⟩
abbrev S512x2752 : Shape := ⟨2, ![512, 2752]⟩
abbrev S2752x2048 : Shape := ⟨2, ![2752, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1x4096x22016, .f32⟩
  | .hbm, ⟨2, _⟩ => ⟨S4096x4096, .bf16⟩
  | .hbm, ⟨3, _⟩ => ⟨S4096x22016, .f32⟩
  | .hbm, ⟨4, _⟩ => ⟨S22016x4096, .f32⟩
  | .hbm, ⟨5, _⟩ => ⟨S22016x4096, .bf16⟩
  | .hbm, ⟨6, _⟩ => ⟨S8x2752x4096, .bf16⟩
  | .hbm, ⟨7, _⟩ => ⟨S8x4096x2752, .f32⟩
  | .local _ .vmem, ⟨0, _⟩ => ⟨S512x2048, .bf16⟩
  | .local _ .vmem, ⟨1, _⟩ => ⟨S512x2048, .bf16⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .f32⟩
  | .local _ .vmem, ⟨5, _⟩ => ⟨S1x512x2752, .f32⟩
  | .local _ .vmem, ⟨6, _⟩ => ⟨S512x2752, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4096 : Shape := ⟨2, ![4096, 4096]⟩
abbrev S1x4096x22016 : Shape := ⟨3, ![1, 4096, 22016]⟩
abbrev S4096x22016 : Shape := ⟨2, ![4096, 22016]⟩
abbrev S4096x8x2752 : Shape := ⟨3, ![4096, 8, 2752]⟩
abbrev S8x4096x2752 : Shape := ⟨3, ![8, 4096, 2752]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x22016, .f32⟩
  | .hbm, ⟨2, _⟩ => ⟨S4096x22016, .f32⟩
  | .hbm, ⟨3, _⟩ => ⟨S4096x22016, .f32⟩
  | .hbm, ⟨4, _⟩ => ⟨S4096x8x2752, .f32⟩
  | .hbm, ⟨5, _⟩ => ⟨S8x4096x2752, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x11008 : Shape := ⟨2, ![4096, 11008]⟩
abbrev S1x11008x4096 : Shape := ⟨3, ![1, 11008, 4096]⟩
abbrev S4096x4x2752 : Shape := ⟨3, ![4096, 4, 2752]⟩
abbrev S4x4096x2752 : Shape := ⟨3, ![4, 4096, 2752]⟩
abbrev S11008x4096 : Shape := ⟨2, ![11008, 4096]⟩
abbrev S4x2752x4096 : Shape := ⟨3, ![4, 2752, 4096]⟩
abbrev S4096x4096 : Shape := ⟨2, ![4096, 4096]⟩
abbrev S1x512x2752 : Shape := ⟨3, ![1, 512, 2752]⟩
abbrev S1x2752x512 : Shape := ⟨3, ![1, 2752, 512]⟩
abbrev S512x512 : Shape := ⟨2, ![512, 512]⟩
abbrev S512x2752 : Shape := ⟨2, ![512, 2752]⟩
abbrev S2752x512 : Shape := ⟨2, ![2752, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x11008, .f32⟩
  | .hbm, ⟨1, _⟩ => ⟨S1x11008x4096, .f32⟩
  | .hbm, ⟨2, _⟩ => ⟨S4096x11008, .bf16⟩
  | .hbm, ⟨3, _⟩ => ⟨S4096x4x2752, .bf16⟩
  | .hbm, ⟨4, _⟩ => ⟨S4x4096x2752, .bf16⟩
  | .hbm, ⟨5, _⟩ => ⟨S11008x4096, .f32⟩
  | .hbm, ⟨6, _⟩ => ⟨S11008x4096, .bf16⟩
  | .hbm, ⟨7, _⟩ => ⟨S4x2752x4096, .bf16⟩
  | .hbm, ⟨8, _⟩ => ⟨S4096x4096, .f32⟩
  | .local _ .vmem, ⟨0, _⟩ => ⟨S1x512x2752, .bf16⟩
  | .local _ .vmem, ⟨1, _⟩ => ⟨S1x512x2752, .bf16⟩
  | .local _ .vmem, ⟨2, _⟩ => ⟨S1x2752x512, .bf16⟩
  | .local _ .vmem, ⟨3, _⟩ => ⟨S1x2752x512, .bf16⟩
  | .local _ .vmem, ⟨4, _⟩ => ⟨S1x512x2752, .bf16⟩
  | .local _ .vmem, ⟨5, _⟩ => ⟨S1x512x2752, .bf16⟩
  | .local _ .vmem, ⟨6, _⟩ => ⟨S1x2752x512, .bf16⟩
  | .local _ .vmem, ⟨7, _⟩ => ⟨S1x2752x512, .bf16⟩
  | .local _ .vmem, ⟨8, _⟩ => ⟨S1x512x2752, .bf16⟩
  | .local _ .vmem, ⟨9, _⟩ => ⟨S1x512x2752, .bf16⟩
  | .local _ .vmem, ⟨10, _⟩ => ⟨S1x2752x512, .bf16⟩
  | .local _ .vmem, ⟨11, _⟩ => ⟨S1x2752x512, .bf16⟩
  | .local _ .vmem, ⟨12, _⟩ => ⟨S1x512x2752, .bf16⟩
  | .local _ .vmem, ⟨13, _⟩ => ⟨S1x512x2752, .bf16⟩
  | .local _ .vmem, ⟨14, _⟩ => ⟨S1x2752x512, .bf16⟩
  | .local _ .vmem, ⟨15, _⟩ => ⟨S1x2752x512, .bf16⟩
  | .local _ .vmem, ⟨16, _⟩ => ⟨S512x512, .f32⟩
  | .local _ .vmem, ⟨17, _⟩ => ⟨S512x512, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2752x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2752x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x2752 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2752x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x2752 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2752x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference9Ideal.lean ====
abbrev S4096x11008 : Shape := ⟨2, ![4096, 11008]⟩
abbrev S1x11008x4096 : Shape := ⟨3, ![1, 11008, 4096]⟩
abbrev S11008x4096 : Shape := ⟨2, ![11008, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S1x11008x4096, .f32⟩
  | .hbm, ⟨2, _⟩ => ⟨S11008x4096, .f32⟩
  | .hbm, ⟨3, _⟩ => ⟨S4096x4096, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4096x4096 : Shape := ⟨2, ![4096, 4096]⟩
abbrev S1x4096x12288 : Shape := ⟨3, ![1, 4096, 12288]⟩
abbrev S4096x12288 : Shape := ⟨2, ![4096, 12288]⟩
abbrev S4096x8x1536 : Shape := ⟨3, ![4096, 8, 1536]⟩
abbrev S8x4096x1536 : Shape := ⟨3, ![8, 4096, 1536]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1x4096x12288, .f32⟩
  | .hbm, ⟨2, _⟩ => ⟨S4096x4096, .bf16⟩
  | .hbm, ⟨3, _⟩ => ⟨S4096x12288, .f32⟩
  | .hbm, ⟨4, _⟩ => ⟨S4096x12288, .bf16⟩
  | .hbm, ⟨5, _⟩ => ⟨S4096x8x1536, .bf16⟩
  | .hbm, ⟨6, _⟩ => ⟨S8x4096x1536, .bf16⟩
  | .hbm, ⟨7, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S1x4096x12288 : Shape := ⟨3, ![1, 4096, 12288]⟩
abbrev S4096x12288 : Shape := ⟨2, ![4096, 12288]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x12288, .f32⟩
  | .hbm, ⟨2, _⟩ => ⟨S4096x12288, .f32⟩
  | .hbm, ⟨3, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S1x3x22016 : Shape := ⟨3, ![1, 3, 22016]⟩
abbrev S4096x22016 : Shape := ⟨2, ![4096, 22016]⟩
abbrev S3x22016 : Shape := ⟨2, ![3, 22016]⟩
abbrev S3x8x2752 : Shape := ⟨3, ![3, 8, 2752]⟩
abbrev S8x3x2752 : Shape := ⟨3, ![8, 3, 2752]⟩
abbrev S4096x8x2752 : Shape := ⟨3, ![4096, 8, 2752]⟩
abbrev S8x4096x2752 : Shape := ⟨3, ![8, 4096, 2752]⟩
abbrev S1x128x2752 : Shape := ⟨3, ![1, 128, 2752]⟩
abbrev S1x16x2752 : Shape := ⟨3, ![1, 16, 2752]⟩
abbrev S1x3x2752 : Shape := ⟨3, ![1, 3, 2752]⟩
abbrev S128x2752 : Shape := ⟨2, ![128, 2752]⟩
abbrev S16x2752 : Shape := ⟨2, ![16, 2752]⟩
abbrev S144x2752 : Shape := ⟨2, ![144, 2752]⟩
abbrev S1x1x2752 : Shape := ⟨3, ![1, 1, 2752]⟩
abbrev S1x2752 : Shape := ⟨2, ![1, 2752]⟩

abbrev nBuf : Space → Nat
  | .hbm => 9
  | .vmem => 8
  | .smem => 0
  | _ => 0

abbrev bufTy : (tb : Table) → Fin (tcTables nBuf tb) → BufTy
  | .hbm, ⟨0, _⟩ => ⟨S1x3x22016, .f32⟩
  | .hbm, ⟨1, _⟩ => ⟨S4096x22016, .f32⟩
  | .hbm, ⟨2, _⟩ => ⟨S3x22016, .f32⟩
  | .hbm, ⟨3, _⟩ => ⟨S3x8x2752, .f32⟩
  | .hbm, ⟨4, _⟩ => ⟨S8x3x2752, .f32⟩
  | .hbm, ⟨5, _⟩ => ⟨S4096x22016, .bf16⟩
  | .hbm, ⟨6, _⟩ => ⟨S4096x8x2752, .bf16⟩
  | .hbm, ⟨7, _⟩ => ⟨S8x4096x2752, .bf16⟩
  | .hbm, ⟨8, _⟩ => ⟨S8x4096x2752, .bf16⟩
  | .local _ .vmem, ⟨0, _⟩ => ⟨S1x128x2752, .bf16⟩
  | .local _ .vmem, ⟨1, _⟩ => ⟨S1x128x2752, .bf16⟩
  | .local _ .vmem, ⟨2, _⟩ => ⟨S1x16x2752, .bf16⟩
  | .local _ .vmem, ⟨3, _⟩ => ⟨S1x16x2752, .bf16⟩
  | .local _ .vmem, ⟨4, _⟩ => ⟨S1x3x2752, .f32⟩
  | .local _ .vmem, ⟨5, _⟩ => ⟨S1x3x2752, .f32⟩
  | .local _ .vmem, ⟨6, _⟩ => ⟨S1x128x2752, .bf16⟩
  | .local _ .vmem, ⟨7, _⟩ => ⟨S1x128x2752, .bf16⟩
  | _, _ => ⟨S1x3x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S1x3x22016 : Shape := ⟨3, ![1, 3, 22016]⟩
abbrev S4096x22016 : Shape := ⟨2, ![4096, 22016]⟩
abbrev S_ : Shape := ⟨0, ![]⟩
abbrev S8x4096x2752 : Shape := ⟨3, ![8, 4096, 2752]⟩
abbrev S4096x8x2752 : Shape := ⟨3, ![4096, 8, 2752]⟩
abbrev S2x2048x22016 : Shape := ⟨3, ![2, 2048, 22016]⟩
abbrev S3x22016 : Shape := ⟨2, ![3, 22016]⟩
abbrev S2x2x22016 : Shape := ⟨3, ![2, 2, 22016]⟩
abbrev S2x2050x22016 : Shape := ⟨3, ![2, 2050, 22016]⟩
abbrev S1x22016 : Shape := ⟨2, ![1, 22016]⟩
abbrev S22016 : Shape := ⟨1, ![22016]⟩
abbrev S1x1x22016 : Shape := ⟨3, ![1, 1, 22016]⟩

abbrev nBuf : Space → Nat
  | .hbm => 56
  | .vmem => 0
  | .smem => 0
  | _ => 0

abbrev bufTy : (tb : Table) → Fin (tcTables nBuf tb) → BufTy
  | .hbm, ⟨0, _⟩ => ⟨S1x3x22016, .f32⟩
  | .hbm, ⟨1, _⟩ => ⟨S4096x22016, .f32⟩
  | .hbm, ⟨2, _⟩ => ⟨S_, .bf16⟩
  | .hbm, ⟨3, _⟩ => ⟨S8x4096x2752, .bf16⟩
  | .hbm, ⟨4, _⟩ => ⟨S8x4096x2752, .f32⟩
  | .hbm, ⟨5, _⟩ => ⟨S4096x8x2752, .f32⟩
  | .hbm, ⟨6, _⟩ => ⟨S2x2048x22016, .f32⟩
  | .hbm, ⟨7, _⟩ => ⟨S3x22016, .f32⟩
  | .hbm, ⟨8, _⟩ => ⟨S_, .f32⟩
  | .hbm, ⟨9, _⟩ => ⟨S2x2x22016, .f32⟩
  | .hbm, ⟨10, _⟩ => ⟨S2x2050x22016, .f32⟩
  | .hbm, ⟨11, _⟩ => ⟨S_, .f32⟩
  | .hbm, ⟨12, _⟩ => ⟨S2x2x22016, .f32⟩
  | .hbm, ⟨13, _⟩ => ⟨S2x2048x22016, .f32⟩
  | .hbm, ⟨14, _⟩ => ⟨S1x22016, .f32⟩
  | .hbm, ⟨15, _⟩ => ⟨S22016, .f32⟩
  | .hbm, ⟨16, _⟩ => ⟨S1x1x22016, .f32⟩
  | .hbm, ⟨17, _⟩ => ⟨S2x2048x22016, .f32⟩
  | .hbm, ⟨18, _⟩ => ⟨S2x2048x22016, .f32⟩
  | .hbm, ⟨19, _⟩ => ⟨S_, .f32⟩
  | .hbm, ⟨20, _⟩ => ⟨S2x2048x22016, .f32⟩
  | .hbm, ⟨21, _⟩ => ⟨S2x2048x22016, .f32⟩
  | .hbm, ⟨22, _⟩ => ⟨S2x2048x22016, .f32⟩
  | .hbm, ⟨23, _⟩ => ⟨S1x22016, .f32⟩
  | .hbm, ⟨24, _⟩ => ⟨S22016, .f32⟩
  | .hbm, ⟨25, _⟩ => ⟨S1x1x22016, .f32⟩
  | .hbm, ⟨26, _⟩ => ⟨S2x2048x22016, .f32⟩
  | .hbm, ⟨27, _⟩ => ⟨S2x2048x22016, .f32⟩
  | .hbm, ⟨28, _⟩ => ⟨S2x2048x22016, .f32⟩
  | .hbm, ⟨29, _⟩ => ⟨S2x2048x22016, .f32⟩
  | .hbm, ⟨30, _⟩ => ⟨S1x22016, .f32⟩
  | .hbm, ⟨31, _⟩ => ⟨S22016, .f32⟩
  | .hbm, ⟨32, _⟩ => ⟨S1x1x22016, .f32⟩
  | .hbm, ⟨33, _⟩ => ⟨S2x2048x22016, .f32⟩
  | .hbm, ⟨34, _⟩ => ⟨S2x2048x22016, .f32⟩
  | .hbm, ⟨35, _⟩ => ⟨S2x2048x22016, .f32⟩
  | .hbm, ⟨36, _⟩ => ⟨S2x2048x22016, .f32⟩
  | .hbm, ⟨37, _⟩ => ⟨S2x2048x22016, .f32⟩
  | .hbm, ⟨38, _⟩ => ⟨S2x2048x22016, .f32⟩
  | .hbm, ⟨39, _⟩ => ⟨S_, .f32⟩
  | .hbm, ⟨40, _⟩ => ⟨S2x2050x22016, .f32⟩
  | .hbm, ⟨41, _⟩ => ⟨S2x2048x22016, .f32⟩
  | .hbm, ⟨42, _⟩ => ⟨S2x2048x22016, .f32⟩
  | .hbm, ⟨43, _⟩ => ⟨S_, .f32⟩
  | .hbm, ⟨44, _⟩ => ⟨S2x2050x22016, .f32⟩
  | .hbm, ⟨45, _⟩ => ⟨S2x2050x22016, .f32⟩
  | .hbm, ⟨46, _⟩ => ⟨S2x2048x22016, .f32⟩
  | .hbm, ⟨47, _⟩ => ⟨S2x2048x22016, .f32⟩
  | .hbm, ⟨48, _⟩ => ⟨S_, .f32⟩
  | .hbm, ⟨49, _⟩ => ⟨S2x2050x22016, .f32⟩
  | .hbm, ⟨50, _⟩ => ⟨S2x2050x22016, .f32⟩
  | .hbm, ⟨51, _⟩ => ⟨S2x2x22016, .f32⟩
  | .hbm, ⟨52, _⟩ => ⟨S2x2048x22016, .f32⟩
  | .hbm, ⟨53, _⟩ => ⟨S4096x8x2752, .f32⟩
  | .hbm, ⟨54, _⟩ => ⟨S8x4096x2752, .f32⟩
  | .hbm, ⟨55, _⟩ => ⟨S8x4096x2752, .bf16⟩
  | _, _ => ⟨S1x3x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Kernel12.lean ====
abbrev S4096x4096 : Shape := ⟨2, ![4096, 4096]⟩
abbrev S1x4096x4096 : Shape := ⟨3, ![1, 4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096x4096, .bf16⟩
  | .hbm, ⟨3, _⟩ => ⟨S4096x4096, .f32⟩
  | .hbm, ⟨4, _⟩ => ⟨S4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S1x4096x4096 : Shape := ⟨3, ![1, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096x4096, .f32⟩
  | .hbm, ⟨3, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x4096 : Shape := ⟨2, ![4096, 4096]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .bf16⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S4096x4096 : Shape := ⟨2, ![4096, 4096]⟩
abbrev S8x2048x512 : Shape := ⟨3, ![8, 2048, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S4096x2048, .bf16⟩
  | .hbm, ⟨5, _⟩ => ⟨S4096x2048, .bf16⟩
  | .hbm, ⟨6, _⟩ => ⟨S4096x4096, .bf16⟩
  | .hbm, ⟨7, _⟩ => ⟨S4096x4096, .bf16⟩
  | .hbm, ⟨8, _⟩ => ⟨S8x2048x512, .bf16⟩
  | .hbm, ⟨9, _⟩ => ⟨S8x2048x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x2048 : Shape := ⟨2, ![4096, 2048]⟩
abbrev S4096x4096 : Shape := ⟨2, ![4096, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S_, .bf16⟩
  | .hbm, ⟨5, _⟩ => ⟨S8x2048x512, .bf16⟩
  | .hbm, ⟨6, _⟩ => ⟨S8x2048x512, .f32⟩
  | .hbm, ⟨7, _⟩ => ⟨S2048x8x512, .f32⟩
  | .hbm, ⟨8, _⟩ => ⟨S2048x4096, .f32⟩
  | .hbm, ⟨9, _⟩ => ⟨S4096x4096, .f32⟩
  | .hbm, ⟨10, _⟩ => ⟨S8x2048x512, .f32⟩
  | .hbm, ⟨11, _⟩ => ⟨S2048x8x512, .f32⟩
  | .hbm, ⟨12, _⟩ => ⟨S2048x4096, .f32⟩
  | .hbm, ⟨13, _⟩ => ⟨S4096x4096, .f32⟩
  | .hbm, ⟨14, _⟩ => ⟨S4096x2048, .f32⟩
  | .hbm, ⟨15, _⟩ => ⟨S2048x4096, .f32⟩
  | .hbm, ⟨16, _⟩ => ⟨S2048x8x512, .f32⟩
  | .hbm, ⟨17, _⟩ => ⟨S8x2048x512, .f32⟩
  | .hbm, ⟨18, _⟩ => ⟨S8x2048x512, .bf16⟩
  | .hbm, ⟨19, _⟩ => ⟨S4096x2048, .f32⟩
  | .hbm, ⟨20, _⟩ => ⟨S2048x4096, .f32⟩
  | .hbm, ⟨21, _⟩ => ⟨S2048x8x512, .f32⟩
  | .hbm, ⟨22, _⟩ => ⟨S8x2048x512, .f32⟩
  | .hbm, ⟨23, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .bf16⟩
  | .hbm, ⟨3, _⟩ => ⟨S2048x2048, .bf16⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The operations of the reference program: the stretches of @main around its two loops, the stretches of
    the two loop bodies, and that the program is the sequence of them. -/

@[expose] public section

set_option maxRecDepth 4096

noncomputable section

namespace Cert.ReferenceIdeal.Ops

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- @main's operations before the forward loop. -/
abbrev opsA : List (HloOp τ sig (Elt F)) :=
  ( StableHlo.reshape main_arg0 main_v0 (rfl : (.f32 : EltTy) = .f32) shapeCasts_S1x128x64_S128x64
  :: StableHlo.nullary main_cst (constant S_ .f32 0xB8D1B717#32)
  :: StableHlo.unary main_cst main_v1 (broadcastInDim S128x64 ![] bcast_S_S128x64 : (⟨S_, .f32⟩ : BufTy).Contents (Elt F) → (⟨S128x64, .f32⟩ : BufTy).Contents (Elt F))
  :: StableHlo.binary main_v0 main_v1 main_v2 (minimumf : (⟨S128x64, .f32⟩ : BufTy).Contents (Elt F) → (⟨S128x64, .f32⟩ : BufTy).Contents (Elt F) → (⟨S128x64, .f32⟩ : BufTy).Contents (Elt F))
  :: StableHlo.reshape main_arg1 main_v3 (rfl : (.f32 : EltTy) = .f32) shapeCasts_S1x128x64_S128x64
  :: StableHlo.reshape main_arg2 main_v4 (rfl : (.f32 : EltTy) = .f32) shapeCasts_S1x128_S128
  :: StableHlo.unary main_v4 main_v5 (Host.exp : (⟨S128, .f32⟩ : BufTy).Contents (Elt F) → (⟨S128, .f32⟩ : BufTy).Contents (Elt F))
  :: StableHlo.unary main_v5 main_v6 (broadcastInDim S128x1 ![0] bcast_S128_S128x1_0 : (⟨S128, .f32⟩ : BufTy).Contents (Elt F) → (⟨S128x1, .f32⟩ : BufTy).Contents (Elt F))
  :: StableHlo.unary main_v6 main_v7 (broadcastInDim S128x64 ![0, 1] bcast_S128x1_S128x64_0_1 : (⟨S128x1, .f32⟩ : BufTy).Contents (Elt F) → (⟨S128x64, .f32⟩ : BufTy).Contents (Elt F))
  :: StableHlo.binary main_v2 main_v7 main_v8 (mulf : (⟨S128x64, .f32⟩ : BufTy).Contents (Elt F) → (⟨S128x64, .f32⟩ : BufTy).Contents (Elt F) → (⟨S128x64, .f32⟩ : BufTy).Contents (Elt F))
  :: StableHlo.unary main_v8 main_v9 (Host.exp : (⟨S128x64, .f32⟩ : BufTy).Contents (Elt F) → (⟨S128x64, .f32⟩ : BufTy).Contents (Elt F))
  :: StableHlo.unary main_v6 main_v10 (broadcastInDim S128x64 ![0, 1] bcast_S128x1_S128x64_0_1 : (⟨S128x1, .f32⟩ : BufTy).Contents (Elt F) → (⟨S128x64, .f32⟩ : BufTy).Contents (Elt F))
  :: StableHlo.binary main_v3 main_v10 main_v11 (mulf : (⟨S128x64, .f32⟩ : BufTy).Contents (Elt F) → (⟨S128x64, .f32⟩ : BufTy).Contents (Elt F) → (⟨S128x64, .f32⟩ : BufTy).Contents (Elt F))
  :: StableHlo.unary main_v11 main_v12 (Host.cos : (⟨S128x64, .f32⟩ : BufTy).Contents (Elt F) → (⟨S128x64, .f32⟩ : BufTy).Contents (Elt F))
  :: StableHlo.binary main_v9 main_v12 main_v13 (mulf : (⟨S128x64, .f32⟩ : BufTy).Contents (Elt F) → (⟨S128x64, .f32⟩ : BufTy).Contents (Elt F) → (⟨S128x64, .f32⟩ : BufTy).Contents (Elt F))
  :: StableHlo.reshape main_v13 main_v14 (rfl : (.f32 : EltTy) = .f32) shapeCasts_S128x64_S8192
  :: StableHlo.unary main_v11 main_v15 (Host.sin : (⟨S128x64, .f32⟩ : BufTy).Contents (Elt F) → (⟨S128x64, .f32⟩ : BufTy).Contents (Elt F))
  :: StableHlo.binary main_v9 main_v15 main_v16 (mulf : (⟨S128x64, .f32⟩ : BufTy).Contents (Elt F) → (⟨S128x64, .f32⟩ : BufTy).Contents (Elt F) → (⟨S128x64, .f32⟩ : BufTy).Contents (Elt F))
  :: StableHlo.reshape main_v16 main_v17 (rfl : (.f32 : EltTy) = .f32) shapeCasts_S128x64_S8192
  :: StableHlo.nullary main_cst_0 (constant S_ .f32 0x00000000#32)
  :: StableHlo.unary main_cst_0 main_v18 (broadcastInDim S2x8192 ![] bcast_S_S2x8192 : (⟨S_, .f32⟩ : BufTy).Contents (Elt F) → (⟨S2x8192, .f32⟩ : BufTy).Contents (Elt F))
  :: StableHlo.reshape main_arg5 main_v19 (rfl : (.f32 : EltTy) = .f32) shapeCasts_S4096x8192_S2x2048x8192
  :: StableHlo.unary main_v19 main_v20 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.reshape main_arg6 main_v21 (rfl : (.f32 : EltTy) = .f32) shapeCasts_S4096x8192_S2x2048x8192
  :: StableHlo.unary main_v21 main_v22 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.unary main_v14 main_v23 (broadcastInDim S1x8192 ![1] bcast_S8192_S1x8192_1 : (⟨S8192, .f32⟩ : BufTy).Contents (Elt F) → (⟨S1x8192, .f32⟩ : BufTy).Contents (Elt F))
  :: StableHlo.unary main_v17 main_v24 (broadcastInDim S1x8192 ![1] bcast_S8192_S1x8192_1 : (⟨S8192, .f32⟩ : BufTy).Contents (Elt F) → (⟨S1x8192, .f32⟩ : BufTy).Contents (Elt F))
  :: StableHlo.unary main_v14 main_v25 (broadcastInDim S1x8192 ![1] bcast_S8192_S1x8192_1 : (⟨S8192, .f32⟩ : BufTy).Contents (Elt F) → (⟨S1x8192, .f32⟩ : BufTy).Contents (Elt F))
  :: StableHlo.unary main_v17 main_v26 (broadcastInDim S1x8192 ![1] bcast_S8192_S1x8192_1 : (⟨S8192, .f32⟩ : BufTy).Contents (Elt F) → (⟨S1x8192, .f32⟩ : BufTy).Contents (Elt F))
  :: StableHlo.nullary main_cst_1 (constant S_ .f32 0x00000000#32)
  :: StableHlo.unary main_cst_1 main_v27 (broadcastInDim S2048x2x8192 ![] bcast_S_S2048x2x8192 : (⟨S_, .f32⟩ : BufTy).Contents (Elt F) → (⟨S2048x2x8192, .f32⟩ : BufTy).Contents (Elt F))
  :: StableHlo.nullary main_cst_2 (constant S_ .f32 0x00000000#32)
  :: StableHlo.unary main_cst_2 main_v28 (broadcastInDim S2048x2x8192 ![] bcast_S_S2048x2x8192 : (⟨S_, .f32⟩ : BufTy).Contents (Elt F) → (⟨S2048x2x8192, .f32⟩ : BufTy).Contents (Elt F))
  :: StableHlo.nullary main_cst_3 (constant S_ .f32 0x00000000#32)
  :: StableHlo.unary main_cst_3 main_v29 (broadcastInDim S2048x2x8192 ![] bcast_S_S2048x2x8192 : (⟨S_, .f32⟩ : BufTy).Contents (Elt F) → (⟨S2048x2x8192, .f32⟩ : BufTy).Contents (Elt F))
  :: StableHlo.nullary main_cst_4 (constant S_ .f32 0x00000000#32)
  :: StableHlo.unary main_cst_4 main_v30 (broadcastInDim S2048x2x8192 ![] bcast_S_S2048x2x8192 : (⟨S_, .f32⟩ : BufTy).Contents (Elt F) → (⟨S2048x2x8192, .f32⟩ : BufTy).Contents (Elt F))
  :: StableHlo.nullary main_c (constantI S_ 32 0#32)
  :: StableHlo.unary main_v20 main_v31_0 id
  :: StableHlo.unary main_v22 main_v31_1 id
  :: StableHlo.unary main_v23 main_v31_2 id
  :: StableHlo.unary main_v24 main_v31_3 id
  :: StableHlo.unary main_v25 main_v31_4 id
  :: StableHlo.unary main_v26 main_v31_5 id
  :: StableHlo.unary main_c main_v31_6 id
  :: StableHlo.unary main_v18 main_v31_7 id
  :: StableHlo.unary main_v18 main_v31_8 id
  :: StableHlo.unary main_v27 main_v31_9 id
  :: StableHlo.unary main_v28 main_v31_10 id
  :: StableHlo.unary main_v29 main_v31_11 id
  :: StableHlo.unary main_v30 main_v31_12 id
  :: [] )

theorem opsA_sub : (opsA : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.reshape_bufs_sub .., StableHlo.unary_bufs_sub .., StableHlo.binary_bufs_sub .., StableHlo.reshape_bufs_sub .., StableHlo.nullary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- @main's operations between the two loops. -/
abbrev opsB : List (HloOp τ sig (Elt F)) :=
  ( StableHlo.unary main_v31_9 main_v32 ((transpose S2x2048x8192 [1, 0, 2] · transposes_S2048x2x8192_S2x2048x8192_1_0_2) : (⟨S2048x2x8192, .f32⟩ : BufTy).Contents (Elt F) → (⟨S2x2048x8192, .f32⟩ : BufTy).Contents (Elt F))
  :: StableHlo.reshape main_v32 main_v33 (rfl : (.f32 : EltTy) = .f32) shapeCasts_S2x2048x8192_S4096x8192
  :: StableHlo.unary main_v31_10 main_v34 ((transpose S2x2048x8192 [1, 0, 2] · transposes_S2048x2x8192_S2x2048x8192_1_0_2) : (⟨S2048x2x8192, .f32⟩ : BufTy).Contents (Elt F) → (⟨S2x2048x8192, .f32⟩ : BufTy).Contents (Elt F))
  :: StableHlo.reshape main_v34 main_v35 (rfl : (.f32 : EltTy) = .f32) shapeCasts_S2x2048x8192_S4096x8192
  :: StableHlo.nullary main_cst_5 (constant S_ .f32 0x00000000#32)
  :: StableHlo.unary main_cst_5 main_v36 (broadcastInDim S2x8192 ![] bcast_S_S2x8192 : (⟨S_, .f32⟩ : BufTy).Contents (Elt F) → (⟨S2x8192, .f32⟩ : BufTy).Contents (Elt F))
  :: StableHlo.nullary main_cst_6 (constant S_ .f32 0x00000000#32)
  :: StableHlo.unary main_cst_6 main_v37 (broadcastInDim S2x8192 ![] bcast_S_S2x8192 : (⟨S_, .f32⟩ : BufTy).Contents (Elt F) → (⟨S2x8192, .f32⟩ : BufTy).Contents (Elt F))
  :: StableHlo.reshape main_arg8 main_v38 (rfl : (.f32 : EltTy) = .f32) shapeCasts_S4096x8192_S2x2048x8192
  :: StableHlo.unary main_v38 main_v39 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.reshape main_arg7 main_v40 (rfl : (.f32 : EltTy) = .f32) shapeCasts_S4096x8192_S2x2048x8192
  :: StableHlo.unary main_v40 main_v41 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.nullary main_cst_7 (constant S_ .f32 0x00000000#32)
  :: StableHlo.unary main_cst_7 main_v42 (broadcastInDim S2x8192 ![] bcast_S_S2x8192 : (⟨S_, .f32⟩ : BufTy).Contents (Elt F) → (⟨S2x8192, .f32⟩ : BufTy).Contents (Elt F))
  :: StableHlo.nullary main_cst_8 (constant S_ .f32 0x00000000#32)
  :: StableHlo.unary main_cst_8 main_v43 (broadcastInDim S2x8192 ![] bcast_S_S2x8192 : (⟨S_, .f32⟩ : BufTy).Contents (Elt F) → (⟨S2x8192, .f32⟩ : BufTy).Contents (Elt F))
  :: StableHlo.nullary main_cst_9 (constant S_ .f32 0x00000000#32)
  :: StableHlo.unary main_cst_9 main_v44 (broadcastInDim S8192 ![] bcast_S_S8192 : (⟨S_, .f32⟩ : BufTy).Contents (Elt F) → (⟨S8192, .f32⟩ : BufTy).Contents (Elt F))
  :: StableHlo.nullary main_cst_10 (constant S_ .f32 0x00000000#32)
  :: StableHlo.unary main_cst_10 main_v45 (broadcastInDim S8192 ![] bcast_S_S8192 : (⟨S_, .f32⟩ : BufTy).Contents (Elt F) → (⟨S8192, .f32⟩ : BufTy).Contents (Elt F))
  :: StableHlo.nullary main_cst_11 (constant S_ .f32 0x00000000#32)
  :: StableHlo.unary main_cst_11 main_v46 (broadcastInDim S2048x2x8192 ![] bcast_S_S2048x2x8192 : (⟨S_, .f32⟩ : BufTy).Contents (Elt F) → (⟨S2048x2x8192, .f32⟩ : BufTy).Contents (Elt F))
  :: StableHlo.nullary main_cst_12 (constant S_ .f32 0x00000000#32)
  :: StableHlo.unary main_cst_12 main_v47 (broadcastInDim S2048x2x8192 ![] bcast_S_S2048x2x8192 : (⟨S_, .f32⟩ : BufTy).Contents (Elt F) → (⟨S2048x2x8192, .f32⟩ : BufTy).Contents (Elt F))
  :: StableHlo.nullary main_c_13 (constantI S_ 32 0#32)
  :: StableHlo.unary main_v41 main_v48_0 id
  :: StableHlo.unary main_v39 main_v48_1 id
  :: StableHlo.unary main_v31_11 main_v48_2 id
  :: StableHlo.unary main_v31_12 main_v48_3 id
  :: StableHlo.unary main_v23 main_v48_4 id
  :: StableHlo.unary main_v24 main_v48_5 id
  :: StableHlo.unary main_v25 main_v48_6 id
  :: StableHlo.unary main_v26 main_v48_7 id
  :: StableHlo.unary main_c_13 main_v48_8 id
  :: StableHlo.unary main_v44 main_v48_9 id
  :: StableHlo.unary main_v45 main_v48_10 id
  :: StableHlo.unary main_v42 main_v48_11 id
  :: StableHlo.unary main_v43 main_v48_12 id
  :: StableHlo.unary main_v46 main_v48_13 id
  :: StableHlo.unary main_v47 main_v48_14 id
  :: [] )

theorem opsB_sub : (opsB : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- @main's operations after the backward loop. -/
abbrev opsC : List (HloOp τ sig (Elt F)) :=
  [ StableHlo.unary main_v48_14 main_v49 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v49 main_v50 (rfl : (.f32 : EltTy) = .f32) shapeCasts_S2x2048x8192_S4096x8192,
    StableHlo.unary main_v48_13 main_v51 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v51 main_v52 (rfl : (.f32 : EltTy) = .f32) shapeCasts_S2x2048x8192_S4096x8192,
    StableHlo.reshape main_v48_9 main_v53 (rfl : (.f32 : EltTy) = .f32) shapeCasts_S8192_S128x64,
    StableHlo.reshape main_v48_10 main_v54 (rfl : (.f32 : EltTy) = .f32) shapeCasts_S8192_S128x64 ]

theorem opsC_sub : (opsC : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.reshape_bufs_sub ..⟩

/-- One window of @main. -/
abbrev main_part0_ops0 : List (HloOp τ sig (Elt F)) :=
  ( StableHlo.reshape main_arg0 main_v0 (rfl : (.f32 : EltTy) = .f32) shapeCasts_S1x128x64_S128x64
  :: StableHlo.nullary main_cst (constant S_ .f32 0xB8D1B717#32)
  :: StableHlo.unary main_cst main_v1 (broadcastInDim S128x64 ![] bcast_S_S128x64 : (⟨S_, .f32⟩ : BufTy).Contents (Elt F) → (⟨S128x64, .f32⟩ : BufTy).Contents (Elt F))
  :: StableHlo.binary main_v0 main_v1 main_v2 (minimumf : (⟨S128x64, .f32⟩ : BufTy).Contents (Elt F) → (⟨S128x64, .f32⟩ : BufTy).Contents (Elt F) → (⟨S128x64, .f32⟩ : BufTy).Contents (Elt F))
  :: StableHlo.reshape main_arg1 main_v3 (rfl : (.f32 : EltTy) = .f32) shapeCasts_S1x128x64_S128x64
  :: StableHlo.reshape main_arg2 main_v4 (rfl : (.f32 : EltTy) = .f32) shapeCasts_S1x128_S128
  :: StableHlo.unary main_v4 main_v5 (Host.exp : (⟨S128, .f32⟩ : BufTy).Contents (Elt F) → (⟨S128, .f32⟩ : BufTy).Contents (Elt F))
  :: StableHlo.unary main_v5 main_v6 (broadcastInDim S128x1 ![0] bcast_S128_S128x1_0 : (⟨S128, .f32⟩ : BufTy).Contents (Elt F) → (⟨S128x1, .f32⟩ : BufTy).Contents (Elt F))
  :: StableHlo.unary main_v6 main_v7 (broadcastInDim S128x64 ![0, 1] bcast_S128x1_S128x64_0_1 : (⟨S128x1, .f32⟩ : BufTy).Contents (Elt F) → (⟨S128x64, .f32⟩ : BufTy).Contents (Elt F))
  :: StableHlo.binary main_v2 main_v7 main_v8 (mulf : (⟨S128x64, .f32⟩ : BufTy).Contents (Elt F) → (⟨S128x64, .f32⟩ : BufTy).Contents (Elt F) → (⟨S128x64, .f32⟩ : BufTy).Contents (Elt F))
  :: StableHlo.unary main_v8 main_v9 (Host.exp : (⟨S128x64, .f32⟩ : BufTy).Contents (Elt F) → (⟨S128x64, .f32⟩ : BufTy).Contents (Elt F))
  :: StableHlo.unary main_v6 main_v10 (broadcastInDim S128x64 ![0, 1] bcast_S128x1_S128x64_0_1 : (⟨S128x1, .f32⟩ : BufTy).Contents (Elt F) → (⟨S128x64, .f32⟩ : BufTy).Contents (Elt F))
  :: StableHlo.binary main_v3 main_v10 main_v11 (mulf : (⟨S128x64, .f32⟩ : BufTy).Contents (Elt F) → (⟨S128x64, .f32⟩ : BufTy).Contents (Elt F) → (⟨S128x64, .f32⟩ : BufTy).Contents (Elt F))
  :: StableHlo.unary main_v11 main_v12 (Host.cos : (⟨S128x64, .f32⟩ : BufTy).Contents (Elt F) → (⟨S128x64, .f32⟩ : BufTy).Contents (Elt F))
  :: StableHlo.binary main_v9 main_v12 main_v13 (mulf : (⟨S128x64, .f32⟩ : BufTy).Contents (Elt F) → (⟨S128x64, .f32⟩ : BufTy).Contents (Elt F) → (⟨S128x64, .f32⟩ : BufTy).Contents (Elt F))
  :: StableHlo.reshape main_v13 main_v14 (rfl : (.f32 : EltTy) = .f32) shapeCasts_S128x64_S8192
  :: StableHlo.unary main_v11 main_v15 (Host.sin : (⟨S128x64, .f32⟩ : BufTy).Contents (Elt F) → (⟨S128x64, .f32⟩ : BufTy).Contents (Elt F))
  :: StableHlo.binary main_v9 main_v15 main_v16 (mulf : (⟨S128x64, .f32⟩ : BufTy).Contents (Elt F) → (⟨S128x64, .f32⟩ : BufTy).Contents (Elt F) → (⟨S128x64, .f32⟩ : BufTy).Contents (Elt F))
  :: StableHlo.reshape main_v16 main_v17 (rfl : (.f32 : EltTy) = .f32) shapeCasts_S128x64_S8192
  :: StableHlo.nullary main_cst_0 (constant S_ .f32 0x00000000#32)
  :: StableHlo.unary main_cst_0 main_v18 (broadcastInDim S2x8192 ![] bcast_S_S2x8192 : (⟨S_, .f32⟩ : BufTy).Contents (Elt F) → (⟨S2x8192, .f32⟩ : BufTy).Contents (Elt F))
  :: StableHlo.reshape main_arg5 main_v19 (rfl : (.f32 : EltTy) = .f32) shapeCasts_S4096x8192_S2x2048x8192
  :: StableHlo.unary main_v19 main_v20 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.reshape main_arg6 main_v21 (rfl : (.f32 : EltTy) = .f32) shapeCasts_S4096x8192_S2x2048x8192
  :: StableHlo.unary main_v21 main_v22 ((transpose S2048x2x8192 [1, 0, 2] · transposes_S2x2048x8192_S2048x2x8192_1_0_2) : (⟨S2x2048x8192, .f32⟩ : BufTy).Contents (Elt F) → (⟨S2048x2x8192, .f32⟩ : BufTy).Contents (Elt F))
  :: StableHlo.unary main_v14 main_v23 (broadcastInDim S1x8192 ![1] bcast_S8192_S1x8192_1 : (⟨S8192, .f32⟩ : BufTy).Contents (Elt F) → (⟨S1x8192, .f32⟩ : BufTy).Contents (Elt F))
  :: StableHlo.unary main_v17 main_v24 (broadcastInDim S1x8192 ![1] bcast_S8192_S1x8192_1 : (⟨S8192, .f32⟩ : BufTy).Contents (Elt F) → (⟨S1x8192, .f32⟩ : BufTy).Contents (Elt F))
  :: StableHlo.unary main_v14 main_v25 (broadcastInDim S1x8192 ![1] bcast_S8192_S1x8192_1 : (⟨S8192, .f32⟩ : BufTy).Contents (Elt F) → (⟨S1x8192, .f32⟩ : BufTy).Contents (Elt F))
  :: StableHlo.unary main_v17 main_v26 (broadcastInDim S1x8192 ![1] bcast_S8192_S1x8192_1 : (⟨S8192, .f32⟩ : BufTy).Contents (Elt F) → (⟨S1x8192, .f32⟩ : BufTy).Contents (Elt F))
  :: StableHlo.nullary main_cst_1 (constant S_ .f32 0x00000000#32)
  :: StableHlo.unary main_cst_1 main_v27 (broadcastInDim S2048x2x8192 ![] bcast_S_S2048x2x8192 : (⟨S_, .f32⟩ : BufTy).Contents (Elt F) → (⟨S2048x2x8192, .f32⟩ : BufTy).Contents (Elt F))
  :: StableHlo.nullary main_cst_2 (constant S_ .f32 0x00000000#32)
  :: StableHlo.unary main_cst_2 main_v28 (broadcastInDim S2048x2x8192 ![] bcast_S_S2048x2x8192 : (⟨S_, .f32⟩ : BufTy).Contents (Elt F) → (⟨S2048x2x8192, .f32⟩ : BufTy).Contents (Elt F))
  :: StableHlo.nullary main_cst_3 (constant S_ .f32 0x00000000#32)
  :: StableHlo.unary main_cst_3 main_v29 (broadcastInDim S2048x2x8192 ![] bcast_S_S2048x2x8192 : (⟨S_, .f32⟩ : BufTy).Contents (Elt F) → (⟨S2048x2x8192, .f32⟩ : BufTy).Contents (Elt F))
  :: StableHlo.nullary main_cst_4 (constant S_ .f32 0x00000000#32)
  :: StableHlo.unary main_cst_4 main_v30 (broadcastInDim S2048x2x8192 ![] bcast_S_S2048x2x8192 : (⟨S_, .f32⟩ : BufTy).Contents (Elt F) → (⟨S2048x2x8192, .f32⟩ : BufTy).Contents (Elt F))
  :: StableHlo.nullary main_c (constantI S_ 32 0#32)
  :: StableHlo.unary main_v20 main_v31_0 id
  :: StableHlo.unary main_v22 main_v31_1 id
  :: StableHlo.unary main_v23 main_v31_2 id
  :: StableHlo.unary main_v24 main_v31_3 id
  :: StableHlo.unary main_v25 main_v31_4 id
  :: StableHlo.unary main_v26 main_v31_5 id
  :: StableHlo.unary main_c main_v31_6 id
  :: StableHlo.unary main_v18 main_v31_7 id
  :: StableHlo.unary main_v18 main_v31_8 id
  :: StableHlo.unary main_v27 main_v31_9 id
  :: StableHlo.unary main_v28 main_v31_10 id
  :: StableHlo.unary main_v29 main_v31_11 id
  :: StableHlo.unary main_v30 main_v31_12 id
  :: [] )

theorem main_part0_ops0_sub : (main_part0_ops0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.reshape_bufs_sub .., StableHlo.unary_bufs_sub .., StableHlo.binary_bufs_sub .., StableHlo.reshape_bufs_sub .., StableHlo.nullary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- One window of @main. -/
abbrev main_part0_ops1 : List (HloOp τ sig (Elt F)) :=
  [ StableHlo.unary main_v31_9 main_v32 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v32 main_v33 (rfl : (.f32 : EltTy) = .f32) shapeCasts_S2x2048x8192_S4096x8192,
    StableHlo.unary main_v31_10 main_v34 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v34 main_v35 (rfl : (.f32 : EltTy) = .f32) shapeCasts_S2x2048x8192_S4096x8192,
    StableHlo.nullary main_cst_5 (constant S_ .f32 0x00000000#32),
    StableHlo.unary main_cst_5 main_v36 (broadcastInDim S2x8192 ![] bcast_S_S2x8192 : (⟨S_, .f32⟩ : BufTy).Contents (Elt F) → (⟨S2x8192, .f32⟩ : BufTy).Contents (Elt F)),
    StableHlo.nullary main_cst_6 (constant S_ .f32 0x00000000#32),
    StableHlo.unary main_cst_6 main_v37 (broadcastInDim S2x8192 ![] bcast_S_S2x8192 : (⟨S_, .f32⟩ : BufTy).Contents (Elt F) → (⟨S2x8192, .f32⟩ : BufTy).Contents (Elt F)) ]

theorem main_part0_ops1_sub : (main_part0_ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub ..⟩

/-- Items of the program, aligned with its text. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- One window of @main. -/
abbrev main_part1_ops0 : List (HloOp τ sig (Elt F)) :=
  [ StableHlo.reshape main_arg8 main_v38 (rfl : (.f32 : EltTy) = .f32) shapeCasts_S4096x8192_S2x2048x8192,
    StableHlo.unary main_v38 main_v39 ((transpose S2048x2x8192 [1, 0, 2] · transposes_S2x2048x8192_S2048x2x8192_1_0_2) : (⟨S2x2048x8192, .f32⟩ : BufTy).Contents (Elt F) → (⟨S2048x2x8192, .f32⟩ : BufTy).Contents (Elt F)),
    StableHlo.reshape main_arg7 main_v40 (rfl : (.f32 : EltTy) = .f32) shapeCasts_S4096x8192_S2x2048x8192,
    StableHlo.unary main_v40 main_v41 ((transpose S2048x2x8192 [1, 0, 2] · transposes_S2x2048x8192_S2048x2x8192_1_0_2) : (⟨S2x2048x8192, .f32⟩ : BufTy).Contents (Elt F) → (⟨S2048x2x8192, .f32⟩ : BufTy).Contents (Elt F)),
    StableHlo.nullary main_cst_7 (constant S_ .f32 0x00000000#32),
    StableHlo.unary main_cst_7 main_v42 (broadcastInDim S2x8192 ![] bcast_S_S2x8192 : (⟨S_, .f32⟩ : BufTy).Contents (Elt F) → (⟨S2x8192, .f32⟩ : BufTy).Contents (Elt F)),
    StableHlo.nullary main_cst_8 (constant S_ .f32 0x00000000#32),
    StableHlo.unary main_cst_8 main_v43 (broadcastInDim S2x8192 ![] bcast_S_S2x8192 : (⟨S_, .f32⟩ : BufTy).Contents (Elt F) → (⟨S2x8192, .f32⟩ : BufTy).Contents (Elt F)),
    StableHlo.nullary main_cst_9 (constant S_ .f32 0x00000000#32),
    StableHlo.unary main_cst_9 main_v44 (broadcastInDim S8192 ![] bcast_S_S8192 : (⟨S_, .f32⟩ : BufTy).Contents (Elt F) → (⟨S8192, .f32⟩ : BufTy).Contents (Elt F)),
    StableHlo.nullary main_cst_10 (constant S_ .f32 0x00000000#32),
    StableHlo.unary main_cst_10 main_v45 (broadcastInDim S8192 ![] bcast_S_S8192 : (⟨S_, .f32⟩ : BufTy).Contents (Elt F) → (⟨S8192, .f32⟩ : BufTy).Contents (Elt F)),
    StableHlo.nullary main_cst_11 (constant S_ .f32 0x00000000#32),
    StableHlo.unary main_cst_11 main_v46 (broadcastInDim S2048x2x8192 ![] bcast_S_S2048x2x8192 : (⟨S_, .f32⟩ : BufTy).Contents (Elt F) → (⟨S2048x2x8192, .f32⟩ : BufTy).Contents (Elt F)),
    StableHlo.nullary main_cst_12 (constant S_ .f32 0x00000000#32),
    StableHlo.unary main_cst_12 main_v47 (broadcastInDim S2048x2x8192 ![] bcast_S_S2048x2x8192 : (⟨S_, .f32⟩ : BufTy).Contents (Elt F) → (⟨S2048x2x8192, .f32⟩ : BufTy).Contents (Elt F)),
    StableHlo.nullary main_c_13 (constantI S_ 32 0#32),
    StableHlo.unary main_v41 main_v48_0 id,
    StableHlo.unary main_v39 main_v48_1 id,
    StableHlo.unary main_v31_11 main_v48_2 id,
    StableHlo.unary main_v31_12 main_v48_3 id,
    StableHlo.unary main_v23 main_v48_4 id,
    StableHlo.unary main_v24 main_v48_5 id,
    StableHlo.unary main_v25 main_v48_6 id,
    StableHlo.unary main_v26 main_v48_7 id,
    StableHlo.unary main_c_13 main_v48_8 id,
    StableHlo.unary main_v44 main_v48_9 id,
    StableHlo.unary main_v45 main_v48_10 id,
    StableHlo.unary main_v42 main_v48_11 id,
    StableHlo.unary main_v43 main_v48_12 id,
    StableHlo.unary main_v46 main_v48_13 id,
    StableHlo.unary main_v47 main_v48_14 id ]

theorem main_part1_ops0_sub : (main_part1_ops0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- One window of @main. -/
abbrev main_part1_ops1 : List (HloOp τ sig (Elt F)) :=
  [ StableHlo.unary main_v48_14 main_v49 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v49 main_v50 (rfl : (.f32 : EltTy) = .f32) shapeCasts_S2x2048x8192_S4096x8192,
    StableHlo.unary main_v48_13 main_v51 ((transpose S2x2048x8192 [1, 0, 2] · transposes_S2048x2x8192_S2x2048x8192_1_0_2) : (⟨S2048x2x8192, .f32⟩ : BufTy).Contents (Elt F) → (⟨S2x2048x8192, .f32⟩ : BufTy).Contents (Elt F)),
    StableHlo.reshape main_v51 main_v52 (rfl : (.f32 : EltTy) = .f32) shapeCasts_S2x2048x8192_S4096x8192,
    StableHlo.reshape main_v48_9 main_v53 (rfl : (.f32 : EltTy) = .f32) shapeCasts_S8192_S128x64,
    StableHlo.reshape main_v48_10 main_v54 (rfl : (.f32 : EltTy) = .f32) shapeCasts_S8192_S128x64 ]

theorem main_part1_ops1_sub : (main_part1_ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.reshape_bufs_sub ..⟩

/-- Items of the program, aligned with its text. -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- The items of @main, each with the windows that make it up. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq opsA,
    HostLoop.enter 0,
    StableHlo.seq opsB,
    HostLoop.enter 1,
    StableHlo.seq opsC ] : Prog (TpuEff nD τ sig (Elt F) (HostLoop.Sig (Pipeline.Sig Λ₀ (Fin 0) fun p => (pcfgs (F := F) p).Adm) 2) .tc) PUnit) := by
  chain_rfl

/-- Items of the program, aligned with its text. -/
theorem main_chain (c : Dev nD) : main (F := F) c = (Pipeline.chain
  [ StableHlo.seq opsA,
    HostLoop.enter 0,
    StableHlo.seq opsB,
    HostLoop.enter 1,
    StableHlo.seq opsC ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- One stretch of the forward loop's body. -/
abbrev bodyA0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v31_0 : StableHlo.TRef sig ⟨S2048x2x8192, .f32⟩) ![(.of main_v31_6 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while0b_call0_v0 : StableHlo.TRef sig ⟨S1x2x8192, .f32⟩) (.of main_while0b_v55 : StableHlo.TRef sig ⟨S2x8192, .f32⟩) (rfl : (.f32 : EltTy) = .f32) shapeCasts_S1x2x8192_S2x8192 ]

theorem bodyA0_sub : (bodyA0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the forward loop's body. -/
abbrev bodyA1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v31_1 : StableHlo.TRef sig ⟨S2048x2x8192, .f32⟩) ![(.of main_v31_6 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while0b_call1_v0 : StableHlo.TRef sig ⟨S1x2x8192, .f32⟩) (.of main_while0b_v56 : StableHlo.TRef sig ⟨S2x8192, .f32⟩) (rfl : (.f32 : EltTy) = .f32) shapeCasts_S1x2x8192_S2x8192 ]

theorem bodyA1_sub : (bodyA1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the forward loop's body. -/
abbrev bodyA2 : List (HloOp τ sig (Elt F)) :=
  [ StableHlo.unary main_v31_2 main_while0b_v57 (broadcastInDim S2x8192 ![0, 1] bcast_S1x8192_S2x8192_0_1 : (⟨S1x8192, .f32⟩ : BufTy).Contents (Elt F) → (⟨S2x8192, .f32⟩ : BufTy).Contents (Elt F)),
    StableHlo.binary main_while0b_v57 main_v31_7 main_while0b_v58 (mulf : (⟨S2x8192, .f32⟩ : BufTy).Contents (Elt F) → (⟨S2x8192, .f32⟩ : BufTy).Contents (Elt F) → (⟨S2x8192, .f32⟩ : BufTy).Contents (Elt F)),
    StableHlo.unary main_v31_3 main_while0b_v59 (broadcastInDim S2x8192 ![0, 1] bcast_S1x8192_S2x8192_0_1 : (⟨S1x8192, .f32⟩ : BufTy).Contents (Elt F) → (⟨S2x8192, .f32⟩ : BufTy).Contents (Elt F)),
    StableHlo.binary main_while0b_v59 main_v31_8 main_while0b_v60 (mulf : (⟨S2x8192, .f32⟩ : BufTy).Contents (Elt F) → (⟨S2x8192, .f32⟩ : BufTy).Contents (Elt F) → (⟨S2x8192, .f32⟩ : BufTy).Contents (Elt F)),
    StableHlo.binary main_while0b_v58 main_while0b_v60 main_while0b_v61 (subf : (⟨S2x8192, .f32⟩ : BufTy).Contents (Elt F) → (⟨S2x8192, .f32⟩ : BufTy).Contents (Elt F) → (⟨S2x8192, .f32⟩ : BufTy).Contents (Elt F)),
    StableHlo.binary main_while0b_v61 main_while0b_v55 main_while0b_v62 (addf : (⟨S2x8192, .f32⟩ : BufTy).Contents (Elt F) → (⟨S2x8192, .f32⟩ : BufTy).Contents (Elt F) → (⟨S2x8192, .f32⟩ : BufTy).Contents (Elt F)),
    StableHlo.unary main_v31_4 main_while0b_v63 (broadcastInDim S2x8192 ![0, 1] bcast_S1x8192_S2x8192_0_1 : (⟨S1x8192, .f32⟩ : BufTy).Contents (Elt F) → (⟨S2x8192, .f32⟩ : BufTy).Contents (Elt F)),
    StableHlo.binary main_while0b_v63 main_v31_8 main_while0b_v64 (mulf : (⟨S2x8192, .f32⟩ : BufTy).Contents (Elt F) → (⟨S2x8192, .f32⟩ : BufTy).Contents (Elt F) → (⟨S2x8192, .f32⟩ : BufTy).Contents (Elt F)),
    StableHlo.unary main_v31_5 main_while0b_v65 (broadcastInDim S2x8192 ![0, 1] bcast_S1x8192_S2x8192_0_1 : (⟨S1x8192, .f32⟩ : BufTy).Contents (Elt F) → (⟨S2x8192, .f32⟩ : BufTy).Contents (Elt F)),
    StableHlo.binary main_while0b_v65 main_v31_7 main_while0b_v66 (mulf : (⟨S2x8192, .f32⟩ : BufTy).Contents (Elt F) → (⟨S2x8192, .f32⟩ : BufTy).Contents (Elt F) → (⟨S2x8192, .f32⟩ : BufTy).Contents (Elt F)),
    StableHlo.binary main_while0b_v64 main_while0b_v66 main_while0b_v67 (addf : (⟨S2x8192, .f32⟩ : BufTy).Contents (Elt F) → (⟨S2x8192, .f32⟩ : BufTy).Contents (Elt F) → (⟨S2x8192, .f32⟩ : BufTy).Contents (Elt F)),
    StableHlo.binary main_while0b_v67 main_while0b_v56 main_while0b_v68 (addf : (⟨S2x8192, .f32⟩ : BufTy).Contents (Elt F) → (⟨S2x8192, .f32⟩ : BufTy).Contents (Elt F) → (⟨S2x8192, .f32⟩ : BufTy).Contents (Elt F)) ]

theorem bodyA2_sub : (bodyA2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩

/-- One stretch of the forward loop's body. -/
abbrev bodyA3 : List (HloOp τ sig (Elt F)) :=
  [ StableHlo.TRef.unary (.of main_while0b_v62 : StableHlo.TRef sig ⟨S2x8192, .f32⟩) (.of main_while0b_call2_v0 : StableHlo.TRef sig ⟨S1x2x8192, .f32⟩) (broadcastInDim S1x2x8192 ![1, 2] bcast_S2x8192_S1x2x8192_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v31_9 : StableHlo.TRef sig ⟨S2048x2x8192, .f32⟩) (.of main_while0b_call2_v0 : StableHlo.TRef sig ⟨S1x2x8192, .f32⟩) ![(.of main_v31_6 : StableHlo.TRef sig ⟨S_, .i32⟩), (.of main_while0b_call2_c : StableHlo.TRef sig ⟨S_, .i32⟩), (.of main_while0b_call2_c_0 : StableHlo.TRef sig ⟨S_, .i32⟩)] (.of main_while0b_v69 : StableHlo.TRef sig ⟨S2048x2x8192, .f32⟩) (fun x u i => Host.dynamicUpdateSlice x u (fun k => (i k (Shape.Idx.first h_S_)).toInt) updateFits_S2048x2x8192_S1x2x8192) ]

theorem bodyA3_sub : (bodyA3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the forward loop's body. -/
abbrev bodyA4 : List (HloOp τ sig (Elt F)) :=
  [ StableHlo.TRef.unary (.of main_while0b_v68 : StableHlo.TRef sig ⟨S2x8192, .f32⟩) (.of main_while0b_call3_v0 : StableHlo.TRef sig ⟨S1x2x8192, .f32⟩) (broadcastInDim S1x2x8192 ![1, 2] bcast_S2x8192_S1x2x8192_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v31_10 : StableHlo.TRef sig ⟨S2048x2x8192, .f32⟩) (.of main_while0b_call3_v0 : StableHlo.TRef sig ⟨S1x2x8192, .f32⟩) ![(.of main_v31_6 : StableHlo.TRef sig ⟨S_, .i32⟩), (.of main_while0b_call3_c : StableHlo.TRef sig ⟨S_, .i32⟩), (.of main_while0b_call3_c_0 : StableHlo.TRef sig ⟨S_, .i32⟩)] (.of main_while0b_v70 : StableHlo.TRef sig ⟨S2048x2x8192, .f32⟩) (fun x u i => Host.dynamicUpdateSlice x u (fun k => (i k (Shape.Idx.first h_S_)).toInt) updateFits_S2048x2x8192_S1x2x8192) ]

theorem bodyA4_sub : (bodyA4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the forward loop's body. -/
abbrev bodyA5 : List (HloOp τ sig (Elt F)) :=
  [ StableHlo.TRef.unary (.of main_v31_7 : StableHlo.TRef sig ⟨S2x8192, .f32⟩) (.of main_while0b_call4_v0 : StableHlo.TRef sig ⟨S1x2x8192, .f32⟩) (broadcastInDim S1x2x8192 ![1, 2] bcast_S2x8192_S1x2x8192_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v31_11 : StableHlo.TRef sig ⟨S2048x2x8192, .f32⟩) (.of main_while0b_call4_v0 : StableHlo.TRef sig ⟨S1x2x8192, .f32⟩) ![(.of main_v31_6 : StableHlo.TRef sig ⟨S_, .i32⟩), (.of main_while0b_call4_c : StableHlo.TRef sig ⟨S_, .i32⟩), (.of main_while0b_call4_c_0 : StableHlo.TRef sig ⟨S_, .i32⟩)] (.of main_while0b_v71 : StableHlo.TRef sig ⟨S2048x2x8192, .f32⟩) (fun x u i => Host.dynamicUpdateSlice x u (fun k => (i k (Shape.Idx.first h_S_)).toInt) updateFits_S2048x2x8192_S1x2x8192) ]

theorem bodyA5_sub : (bodyA5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the forward loop's body. -/
abbrev bodyA6 : List (HloOp τ sig (Elt F)) :=
  [ StableHlo.TRef.unary (.of main_v31_8 : StableHlo.TRef sig ⟨S2x8192, .f32⟩) (.of main_while0b_call5_v0 : StableHlo.TRef sig ⟨S1x2x8192, .f32⟩) (broadcastInDim S1x2x8192 ![1, 2] bcast_S2x8192_S1x2x8192_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v31_12 : StableHlo.TRef sig ⟨S2048x2x8192, .f32⟩) (.of main_while0b_call5_v0 : StableHlo.TRef sig ⟨S1x2x8192, .f32⟩) ![(.of main_v31_6 : StableHlo.TRef sig ⟨S_, .i32⟩), (.of main_while0b_call5_c : StableHlo.TRef sig ⟨S_, .i32⟩), (.of main_while0b_call5_c_0 : StableHlo.TRef sig ⟨S_, .i32⟩)] (.of main_while0b_v72 : StableHlo.TRef sig ⟨S2048x2x8192, .f32⟩) (fun x u i => Host.dynamicUpdateSlice x u (fun k => (i k (Shape.Idx.first h_S_)).toInt) updateFits_S2048x2x8192_S1x2x8192) ]

theorem bodyA6_sub : (bodyA6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the forward loop's body. -/
abbrev bodyA7 : List (HloOp τ sig (Elt F)) :=
  [ StableHlo.nullary main_while0b_c_26 (constantI S_ 32 1#32),
    StableHlo.binary main_v31_6 main_while0b_c_26 main_while0b_v73 (addi : (⟨S_, .i32⟩ : BufTy).Contents (Elt F) → (⟨S_, .i32⟩ : BufTy).Contents (Elt F) → (⟨S_, .i32⟩ : BufTy).Contents (Elt F)),
    StableHlo.unary main_while0b_v73 main_v31_6 id,
    StableHlo.unary main_while0b_v62 main_v31_7 id,
    StableHlo.unary main_while0b_v68 main_v31_8 id,
    StableHlo.unary main_while0b_v69 main_v31_9 id,
    StableHlo.unary main_while0b_v70 main_v31_10 id,
    StableHlo.unary main_while0b_v71 main_v31_11 id,
    StableHlo.unary main_while0b_v72 main_v31_12 id ]

theorem bodyA7_sub : (bodyA7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Items of the program, aligned with its text. -/
theorem while0_body_chain : main_while0_body (F := F) = (Pipeline.chain
  [ StableHlo.seq bodyA0,
    StableHlo.seq bodyA1,
    StableHlo.seq bodyA2,
    StableHlo.seq bodyA3,
    StableHlo.seq bodyA4,
    StableHlo.seq bodyA5,
    StableHlo.seq bodyA6,
    StableHlo.seq bodyA7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

/-- One stretch of the backward loop's body. -/
abbrev bodyB0 : List (HloOp τ sig (Elt F)) :=
  [ StableHlo.nullary main_while1b_c_28 (constantI S_ 32 2048#32),
    StableHlo.binary main_while1b_c_28 main_v48_8 main_while1b_v55 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v55 main_while1b_c_29 main_while1b_v56 (subi : (⟨S_, .i32⟩ : BufTy).Contents (Elt F) → (⟨S_, .i32⟩ : BufTy).Contents (Elt F) → (⟨S_, .i32⟩ : BufTy).Contents (Elt F)) ]

theorem bodyB0_sub : (bodyB0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- One stretch of the backward loop's body. -/
abbrev bodyB1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v48_0 : StableHlo.TRef sig ⟨S2048x2x8192, .f32⟩) ![(.of main_while1b_v56 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while1b_call6_v0 : StableHlo.TRef sig ⟨S1x2x8192, .f32⟩) (.of main_while1b_v57 : StableHlo.TRef sig ⟨S2x8192, .f32⟩) (rfl : (.f32 : EltTy) = .f32) shapeCasts_S1x2x8192_S2x8192 ]

theorem bodyB1_sub : (bodyB1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the backward loop's body. -/
abbrev bodyB2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v48_1 : StableHlo.TRef sig ⟨S2048x2x8192, .f32⟩) ![(.of main_while1b_v56 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while1b_call7_v0 : StableHlo.TRef sig ⟨S1x2x8192, .f32⟩) (.of main_while1b_v58 : StableHlo.TRef sig ⟨S2x8192, .f32⟩) (rfl : (.f32 : EltTy) = .f32) shapeCasts_S1x2x8192_S2x8192 ]

theorem bodyB2_sub : (bodyB2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the backward loop's body. -/
abbrev bodyB3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v48_2 : StableHlo.TRef sig ⟨S2048x2x8192, .f32⟩) ![(.of main_while1b_v56 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while1b_call8_v0 : StableHlo.TRef sig ⟨S1x2x8192, .f32⟩) (.of main_while1b_v59 : StableHlo.TRef sig ⟨S2x8192, .f32⟩) (rfl : (.f32 : EltTy) = .f32) shapeCasts_S1x2x8192_S2x8192 ]

theorem bodyB3_sub : (bodyB3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the backward loop's body. -/
abbrev bodyB4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v48_3 : StableHlo.TRef sig ⟨S2048x2x8192, .f32⟩) ![(.of main_while1b_v56 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x2x8192, .f32⟩) (fun x i => Host.dynamicSlice S1x2x8192 x (fun k => (i k (Shape.Idx.first h_S_)).toInt) sliceFits_S2048x2x8192_S1x2x8192),
    StableHlo.TRef.reshape (.of main_while1b_call9_v0 : StableHlo.TRef sig ⟨S1x2x8192, .f32⟩) (.of main_while1b_v60 : StableHlo.TRef sig ⟨S2x8192, .f32⟩) (rfl : (.f32 : EltTy) = .f32) shapeCasts_S1x2x8192_S2x8192 ]

theorem bodyB4_sub : (bodyB4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- One stretch of the backward loop's body. -/
abbrev bodyB5 : List (HloOp τ sig (Elt F)) :=
  ( StableHlo.binary main_v48_11 main_while1b_v57 main_while1b_v61 (addf : (⟨S2x8192, .f32⟩ : BufTy).Contents (Elt F) → (⟨S2x8192, .f32⟩ : BufTy).Contents (Elt F) → (⟨S2x8192, .f32⟩ : BufTy).Contents (Elt F))
  :: StableHlo.binary main_v48_12 main_while1b_v58 main_while1b_v62 (addf : (⟨S2x8192, .f32⟩ : BufTy).Contents (Elt F) → (⟨S2x8192, .f32⟩ : BufTy).Contents (Elt F) → (⟨S2x8192, .f32⟩ : BufTy).Contents (Elt F))
  :: StableHlo.unary main_v48_7 main_while1b_v63 (broadcastInDim S2x8192 ![0, 1] bcast_S1x8192_S2x8192_0_1 : (⟨S1x8192, .f32⟩ : BufTy).Contents (Elt F) → (⟨S2x8192, .f32⟩ : BufTy).Contents (Elt F))
  :: StableHlo.binary main_while1b_v63 main_while1b_v62 main_while1b_v64 (mulf : (⟨S2x8192, .f32⟩ : BufTy).Contents (Elt F) → (⟨S2x8192, .f32⟩ : BufTy).Contents (Elt F) → (⟨S2x8192, .f32⟩ : BufTy).Contents (Elt F))
  :: StableHlo.binary main_while1b_v62 main_while1b_v59 main_while1b_v65 (mulf : (⟨S2x8192, .f32⟩ : BufTy).Contents (Elt F) → (⟨S2x8192, .f32⟩ : BufTy).Contents (Elt F) → (⟨S2x8192, .f32⟩ : BufTy).Contents (Elt F))
  :: StableHlo.nullary main_while1b_cst_30 (constant S_ .f32 0x00000000#32)
  :: StableHlo.binary main_while1b_v65 main_while1b_cst_30 main_while1b_v66 ((fun x v => Host.reduceAdd x v reducesTo_S2x8192_S8192_d0 h_S_) : (⟨S2x8192, .f32⟩ : BufTy).Contents (Elt F) → (⟨S_, .f32⟩ : BufTy).Contents (Elt F) → (⟨S8192, .f32⟩ : BufTy).Contents (Elt F))
  :: StableHlo.reshape main_while1b_v66 main_while1b_v67 (rfl : (.f32 : EltTy) = .f32) shapeCasts_S8192_S1x8192
  :: StableHlo.nullary main_while1b_cst_31 (constant S_ .f32 0x00000000#32)
  :: StableHlo.binary main_while1b_v67 main_while1b_cst_31 main_while1b_v68 ((fun x v => Host.reduceAdd x v reducesTo_S1x8192_S8192_d0 h_S_) : (⟨S1x8192, .f32⟩ : BufTy).Contents (Elt F) → (⟨S_, .f32⟩ : BufTy).Contents (Elt F) → (⟨S8192, .f32⟩ : BufTy).Contents (Elt F))
  :: StableHlo.binary main_v48_10 main_while1b_v68 main_while1b_v69 (addf : (⟨S8192, .f32⟩ : BufTy).Contents (Elt F) → (⟨S8192, .f32⟩ : BufTy).Contents (Elt F) → (⟨S8192, .f32⟩ : BufTy).Contents (Elt F))
  :: StableHlo.unary main_v48_6 main_while1b_v70 (broadcastInDim S2x8192 ![0, 1] bcast_S1x8192_S2x8192_0_1 : (⟨S1x8192, .f32⟩ : BufTy).Contents (Elt F) → (⟨S2x8192, .f32⟩ : BufTy).Contents (Elt F))
  :: StableHlo.binary main_while1b_v70 main_while1b_v62 main_while1b_v71 (mulf : (⟨S2x8192, .f32⟩ : BufTy).Contents (Elt F) → (⟨S2x8192, .f32⟩ : BufTy).Contents (Elt F) → (⟨S2x8192, .f32⟩ : BufTy).Contents (Elt F))
  :: StableHlo.binary main_while1b_v62 main_while1b_v60 main_while1b_v72 (mulf : (⟨S2x8192, .f32⟩ : BufTy).Contents (Elt F) → (⟨S2x8192, .f32⟩ : BufTy).Contents (Elt F) → (⟨S2x8192, .f32⟩ : BufTy).Contents (Elt F))
  :: StableHlo.nullary main_while1b_cst_32 (constant S_ .f32 0x00000000#32)
  :: StableHlo.binary main_while1b_v72 main_while1b_cst_32 main_while1b_v73 ((fun x v => Host.reduceAdd x v reducesTo_S2x8192_S8192_d0 h_S_) : (⟨S2x8192, .f32⟩ : BufTy).Contents (Elt F) → (⟨S_, .f32⟩ : BufTy).Contents (Elt F) → (⟨S8192, .f32⟩ : BufTy).Contents (Elt F))
  :: StableHlo.reshape main_while1b_v73 main_while1b_v74 (rfl : (.f32 : EltTy) = .f32) shapeCasts_S8192_S1x8192
  :: StableHlo.nullary main_while1b_cst_33 (constant S_ .f32 0x00000000#32)
  :: StableHlo.binary main_while1b_v74 main_while1b_cst_33 main_while1b_v75 ((fun x v => Host.reduceAdd x v reducesTo_S1x8192_S8192_d0 h_S_) : (⟨S1x8192, .f32⟩ : BufTy).Contents (Elt F) → (⟨S_, .f32⟩ : BufTy).Contents (Elt F) → (⟨S8192, .f32⟩ : BufTy).Contents (Elt F))
  :: StableHlo.binary main_v48_9 main_while1b_v75 main_while1b_v76 (addf : (⟨S8192, .f32⟩ : BufTy).Contents (Elt F) → (⟨S8192, .f32⟩ : BufTy).Contents (Elt F) → (⟨S8192, .f32⟩ : BufTy).Contents (Elt F))
  :: StableHlo.unary main_while1b_v61 main_while1b_v77 (Host.negf : (⟨S2x8192, .f32⟩ : BufTy).Contents (Elt F) → (⟨S2x8192, .f32⟩ : BufTy).Contents (Elt F))
  :: StableHlo.unary main_v48_5 main_while1b_v78 (broadcastInDim S2x8192 ![0, 1] bcast_S1x8192_S2x8192_0_1 : (⟨S1x8192, .f32⟩ : BufTy).Contents (Elt F) → (⟨S2x8192, .f32⟩ : BufTy).Contents (Elt F))
  :: StableHlo.binary main_while1b_v78 main_while1b_v77 main_while1b_v79 (mulf : (⟨S2x8192, .f32⟩ : BufTy).Contents (Elt F) → (⟨S2x8192, .f32⟩ : BufTy).Contents (Elt F) → (⟨S2x8192, .f32⟩ : BufTy).Contents (Elt F))
  :: StableHlo.binary main_while1b_v71 main_while1b_v79 main_while1b_v80 (addf : (⟨S2x8192, .f32⟩ : BufTy).Contents (Elt F) → (⟨S2x8192, .f32⟩ : BufTy).Contents (Elt F) → (⟨S2x8192, .f32⟩ : BufTy).Contents (Elt F))
  :: StableHlo.binary main_while1b_v77 main_while1b_v60 main_while1b_v81 (mulf : (⟨S2x8192, .f32⟩ : BufTy).Contents (Elt F) → (⟨S2x8192, .f32⟩ : BufTy).Contents (Elt F) → (⟨S2x8192, .f32⟩ : BufTy).Contents (Elt F))
  :: StableHlo.nullary main_while1b_cst_34 (constant S_ .f32 0x00000000#32)
  :: StableHlo.binary main_while1b_v81 main_while1b_cst_34 main_while1b_v82 ((fun x v => Host.reduceAdd x v reducesTo_S2x8192_S8192_d0 h_S_) : (⟨S2x8192, .f32⟩ : BufTy).Contents (Elt F) → (⟨S_, .f32⟩ : BufTy).Contents (Elt F) → (⟨S8192, .f32⟩ : BufTy).Contents (Elt F))
  :: StableHlo.reshape main_while1b_v82 main_while1b_v83 (rfl : (.f32 : EltTy) = .f32) shapeCasts_S8192_S1x8192
  :: StableHlo.nullary main_while1b_cst_35 (constant S_ .f32 0x00000000#32)
  :: StableHlo.binary main_while1b_v83 main_while1b_cst_35 main_while1b_v84 ((fun x v => Host.reduceAdd x v reducesTo_S1x8192_S8192_d0 h_S_) : (⟨S1x8192, .f32⟩ : BufTy).Contents (Elt F) → (⟨S_, .f32⟩ : BufTy).Contents (Elt F) → (⟨S8192, .f32⟩ : BufTy).Contents (Elt F))
  :: StableHlo.binary main_while1b_v69 main_while1b_v84 main_while1b_v85 (addf : (⟨S8192, .f32⟩ : BufTy).Contents (Elt F) → (⟨S8192, .f32⟩ : BufTy).Contents (Elt F) → (⟨S8192, .f32⟩ : BufTy).Contents (Elt F))
  :: StableHlo.unary main_v48_4 main_while1b_v86 (broadcastInDim S2x8192 ![0, 1] bcast_S1x8192_S2x8192_0_1 : (⟨S1x8192, .f32⟩ : BufTy).Contents (Elt F) → (⟨S2x8192, .f32⟩ : BufTy).Contents (Elt F))
  :: StableHlo.binary main_while1b_v86 main_while1b_v61 main_while1b_v87 (mulf : (⟨S2x8192, .f32⟩ : BufTy).Contents (Elt F) → (⟨S2x8192, .f32⟩ : BufTy).Contents (Elt F) → (⟨S2x8192, .f32⟩ : BufTy).Contents (Elt F))
  :: StableHlo.binary main_while1b_v64 main_while1b_v87 main_while1b_v88 (addf : (⟨S2x8192, .f32⟩ : BufTy).Contents (Elt F) → (⟨S2x8192, .f32⟩ : BufTy).Contents (Elt F) → (⟨S2x8192, .f32⟩ : BufTy).Contents (Elt F))
  :: StableHlo.binary main_while1b_v61 main_while1b_v59 main_while1b_v89 (mulf : (⟨S2x8192, .f32⟩ : BufTy).Contents (Elt F) → (⟨S2x8192, .f32⟩ : BufTy).Contents (Elt F) → (⟨S2x8192, .f32⟩ : BufTy).Contents (Elt F))
  :: StableHlo.nullary main_while1b_cst_36 (constant S_ .f32 0x00000000#32)
  :: StableHlo.binary main_while1b_v89 main_while1b_cst_36 main_while1b_v90 ((fun x v => Host.reduceAdd x v reducesTo_S2x8192_S8192_d0 h_S_) : (⟨S2x8192, .f32⟩ : BufTy).Contents (Elt F) → (⟨S_, .f32⟩ : BufTy).Contents (Elt F) → (⟨S8192, .f32⟩ : BufTy).Contents (Elt F))
  :: StableHlo.reshape main_while1b_v90 main_while1b_v91 (rfl : (.f32 : EltTy) = .f32) shapeCasts_S8192_S1x8192
  :: StableHlo.nullary main_while1b_cst_37 (constant S_ .f32 0x00000000#32)
  :: StableHlo.binary main_while1b_v91 main_while1b_cst_37 main_while1b_v92 ((fun x v => Host.reduceAdd x v reducesTo_S1x8192_S8192_d0 h_S_) : (⟨S1x8192, .f32⟩ : BufTy).Contents (Elt F) → (⟨S_, .f32⟩ : BufTy).Contents (Elt F) → (⟨S8192, .f32⟩ : BufTy).Contents (Elt F))
  :: StableHlo.binary main_while1b_v76 main_while1b_v92 main_while1b_v93 (addf : (⟨S8192, .f32⟩ : BufTy).Contents (Elt F) → (⟨S8192, .f32⟩ : BufTy).Contents (Elt F) → (⟨S8192, .f32⟩ : BufTy).Contents (Elt F))
  :: [] )

theorem bodyB5_sub : (bodyB5 : List (HloOp τ sig (Elt F))).Forall fun op => op.bufs ⊆ StableHlo.tcRefs τ sig :=
  ⟨StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub ..⟩

/-- One stretch of the backward loop's body. -/
abbrev bodyB6 : List (HloOp τ sig (Elt F)) :=
  [ StableHlo.TRef.unary (.of main_while1b_v61 : StableHlo.TRef sig ⟨S2x8192, .f32⟩) (.of main_while1b_call10_v0 : StableHlo.TRef sig ⟨S1x2x8192, .f32⟩) (broadcastInDim S1x2x8192 ![1, 2] bcast_S2x8192_S1x2x8192_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v48_13 : StableHlo.TRef sig ⟨S2048x2x8192, .f32⟩) (.of main_while1b_call10_v0 : StableHlo.TRef sig ⟨S1x2x8192, .f32⟩) ![(.of main_while1b_v56 : StableHlo.TRef sig ⟨S_, .i32⟩), (.of main_while1b_call10_c : StableHlo.TRef sig ⟨S_, .i32⟩), (.of main_while1b_call10_c_0 : StableHlo.TRef sig ⟨S_, .i32⟩)] (.of main_while1b_v94 : StableHlo.TRef sig ⟨S2048x2x8192, .f32⟩) (fun x u i => Host.dynamicUpdateSlice x u (fun k => (i k (Shape.Idx.first h_S_)).toInt) updateFits_S2048x2x8192_S1x2x8192) ]

theorem bodyB6_sub : (bodyB6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the backward loop's body. -/
abbrev bodyB7 : List (HloOp τ sig (Elt F)) :=
  [ StableHlo.TRef.unary (.of main_while1b_v62 : StableHlo.TRef sig ⟨S2x8192, .f32⟩) (.of main_while1b_call11_v0 : StableHlo.TRef sig ⟨S1x2x8192, .f32⟩) (broadcastInDim S1x2x8192 ![1, 2] bcast_S2x8192_S1x2x8192_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v48_14 : StableHlo.TRef sig ⟨S2048x2x8192, .f32⟩) (.of main_while1b_call11_v0 : StableHlo.TRef sig ⟨S1x2x8192, .f32⟩) ![(.of main_while1b_v56 : StableHlo.TRef sig ⟨S_, .i32⟩), (.of main_while1b_call11_c : StableHlo.TRef sig ⟨S_, .i32⟩), (.of main_while1b_call11_c_0 : StableHlo.TRef sig ⟨S_, .i32⟩)] (.of main_while1b_v95 : StableHlo.TRef sig ⟨S2048x2x8192, .f32⟩) (fun x u i => Host.dynamicUpdateSlice x u (fun k => (i k (Shape.Idx.first h_S_)).toInt) updateFits_S2048x2x8192_S1x2x8192) ]

theorem bodyB7_sub : (bodyB7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- One stretch of the backward loop's body. -/
abbrev bodyB8 : List (HloOp τ sig (Elt F)) :=
  [ StableHlo.nullary main_while1b_c_38 (constantI S_ 32 1#32),
    StableHlo.binary main_v48_8 main_while1b_c_38 main_while1b_v96 (addi : (⟨S_, .i32⟩ : BufTy).Contents (Elt F) → (⟨S_, .i32⟩ : BufTy).Contents (Elt F) → (⟨S_, .i32⟩ : BufTy).Contents (Elt F)),
    StableHlo.unary main_while1b_v96 main_v48_8 id,
    StableHlo.unary main_while1b_v93 main_v48_9 id,
    StableHlo.unary main_while1b_v85 main_v48_10 id,
    StableHlo.unary main_while1b_v88 main_v48_11 id,
    StableHlo.unary main_while1b_v80 main_v48_12 id,
    StableHlo.unary main_while1b_v94 main_v48_13 id,
    StableHlo.unary main_while1b_v95 main_v48_14 id ]

theorem bodyB8_sub : (bodyB8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Items of the program, aligned with its text. -/
theorem while1_body_chain : main_while1_body (F := F) = (Pipeline.chain
  [ StableHlo.seq bodyB0,
    StableHlo.seq bodyB1,
    StableHlo.seq bodyB2,
    StableHlo.seq bodyB3,
    StableHlo.seq bodyB4,
    StableHlo.seq bodyB5,
    StableHlo.seq bodyB6,
    StableHlo.seq bodyB7,
    StableHlo.seq bodyB8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

/-! What each stretch writes. -/

/-- What `opsA` writes. -/
abbrev opsA_W : List (Ref sig .tc) := [main_v0, main_cst, main_v1, main_v2, main_v3, main_v4, main_v5, main_v6, main_v7, main_v8, main_v9, main_v10, main_v11, main_v12, main_v13, main_v14, main_v15, main_v16, main_v17, main_cst_0, main_v18, main_v19, main_v20, main_v21, main_v22, main_v23, main_v24, main_v25, main_v26, main_cst_1, main_v27, main_cst_2, main_v28, main_cst_3, main_v29, main_cst_4, main_v30, main_c, main_v31_0, main_v31_1, main_v31_2, main_v31_3, main_v31_4, main_v31_5, main_v31_6, main_v31_7, main_v31_8, main_v31_9, main_v31_10, main_v31_11, main_v31_12]
theorem opsA_fresh : (opsA : List (HloOp τ sig (Elt F))).Forall fun op => op.fresh = ∅ :=
  StableHlo.forall_fresh_of_map rfl
theorem opsA_writes : (opsA : List (HloOp τ sig (Elt F))).Forall fun op => op.writes ⊆ (opsA_W.map (Proc.devRef (τ := τ) .tc)).toFinset :=
  StableHlo.forall_writes_sub_of_map rfl
/-- What `opsB` writes. -/
abbrev opsB_W : List (Ref sig .tc) := [main_v32, main_v33, main_v34, main_v35, main_cst_5, main_v36, main_cst_6, main_v37, main_v38, main_v39, main_v40, main_v41, main_cst_7, main_v42, main_cst_8, main_v43, main_cst_9, main_v44, main_cst_10, main_v45, main_cst_11, main_v46, main_cst_12, main_v47, main_c_13, main_v48_0, main_v48_1, main_v48_2, main_v48_3, main_v48_4, main_v48_5, main_v48_6, main_v48_7, main_v48_8, main_v48_9, main_v48_10, main_v48_11, main_v48_12, main_v48_13, main_v48_14]
theorem opsB_fresh : (opsB : List (HloOp τ sig (Elt F))).Forall fun op => op.fresh = ∅ :=
  StableHlo.forall_fresh_of_map rfl
theorem opsB_writes : (opsB : List (HloOp τ sig (Elt F))).Forall fun op => op.writes ⊆ (opsB_W.map (Proc.devRef (τ := τ) .tc)).toFinset :=
  StableHlo.forall_writes_sub_of_map rfl
/-- What `opsC` writes. -/
abbrev opsC_W : List (Ref sig .tc) := [main_v49, main_v50, main_v51, main_v52, main_v53, main_v54]
theorem opsC_fresh : (opsC : List (HloOp τ sig (Elt F))).Forall fun op => op.fresh = ∅ :=
  StableHlo.forall_fresh_of_map rfl
theorem opsC_writes : (opsC : List (HloOp τ sig (Elt F))).Forall fun op => op.writes ⊆ (opsC_W.map (Proc.devRef (τ := τ) .tc)).toFinset :=
  StableHlo.forall_writes_sub_of_map rfl
/-- What `bodyA0` writes. -/
abbrev bodyA0_W : List (Ref sig .tc) := [main_while0b_call0_c, main_while0b_call0_c_0, main_while0b_call0_v0, main_while0b_v55]
theorem bodyA0_fresh : (bodyA0 : List (HloOp τ sig (Elt F))).Forall fun op => op.fresh = ∅ :=
  StableHlo.forall_fresh_of_map rfl
theorem bodyA0_writes : (bodyA0 : List (HloOp τ sig (Elt F))).Forall fun op => op.writes ⊆ (bodyA0_W.map (Proc.devRef (τ := τ) .tc)).toFinset :=
  StableHlo.forall_writes_sub_of_map rfl
/-- What `bodyA1` writes. -/
abbrev bodyA1_W : List (Ref sig .tc) := [main_while0b_call1_c, main_while0b_call1_c_0, main_while0b_call1_v0, main_while0b_v56]
theorem bodyA1_fresh : (bodyA1 : List (HloOp τ sig (Elt F))).Forall fun op => op.fresh = ∅ :=
  StableHlo.forall_fresh_of_map rfl
theorem bodyA1_writes : (bodyA1 : List (HloOp τ sig (Elt F))).Forall fun op => op.writes ⊆ (bodyA1_W.map (Proc.devRef (τ := τ) .tc)).toFinset :=
  StableHlo.forall_writes_sub_of_map rfl
/-- What `bodyA2` writes. -/
abbrev bodyA2_W : List (Ref sig .tc) := [main_while0b_v57, main_while0b_v58, main_while0b_v59, main_while0b_v60, main_while0b_v61, main_while0b_v62, main_while0b_v63, main_while0b_v64, main_while0b_v65, main_while0b_v66, main_while0b_v67, main_while0b_v68]
theorem bodyA2_fresh : (bodyA2 : List (HloOp τ sig (Elt F))).Forall fun op => op.fresh = ∅ :=
  StableHlo.forall_fresh_of_map rfl
theorem bodyA2_writes : (bodyA2 : List (HloOp τ sig (Elt F))).Forall fun op => op.writes ⊆ (bodyA2_W.map (Proc.devRef (τ := τ) .tc)).toFinset :=
  StableHlo.forall_writes_sub_of_map rfl
/-- What `bodyA3` writes. -/
abbrev bodyA3_W : List (Ref sig .tc) := [main_while0b_call2_v0, main_while0b_call2_c, main_while0b_call2_c_0, main_while0b_v69]
theorem bodyA3_fresh : (bodyA3 : List (HloOp τ sig (Elt F))).Forall fun op => op.fresh = ∅ :=
  StableHlo.forall_fresh_of_map rfl
theorem bodyA3_writes : (bodyA3 : List (HloOp τ sig (Elt F))).Forall fun op => op.writes ⊆ (bodyA3_W.map (Proc.devRef (τ := τ) .tc)).toFinset :=
  StableHlo.forall_writes_sub_of_map rfl
/-- What `bodyA4` writes. -/
abbrev bodyA4_W : List (Ref sig .tc) := [main_while0b_call3_v0, main_while0b_call3_c, main_while0b_call3_c_0, main_while0b_v70]
theorem bodyA4_fresh : (bodyA4 : List (HloOp τ sig (Elt F))).Forall fun op => op.fresh = ∅ :=
  StableHlo.forall_fresh_of_map rfl
theorem bodyA4_writes : (bodyA4 : List (HloOp τ sig (Elt F))).Forall fun op => op.writes ⊆ (bodyA4_W.map (Proc.devRef (τ := τ) .tc)).toFinset :=
  StableHlo.forall_writes_sub_of_map rfl
/-- What `bodyA5` writes. -/
abbrev bodyA5_W : List (Ref sig .tc) := [main_while0b_call4_v0, main_while0b_call4_c, main_while0b_call4_c_0, main_while0b_v71]
theorem bodyA5_fresh : (bodyA5 : List (HloOp τ sig (Elt F))).Forall fun op => op.fresh = ∅ :=
  StableHlo.forall_fresh_of_map rfl
theorem bodyA5_writes : (bodyA5 : List (HloOp τ sig (Elt F))).Forall fun op => op.writes ⊆ (bodyA5_W.map (Proc.devRef (τ := τ) .tc)).toFinset :=
  StableHlo.forall_writes_sub_of_map rfl
/-- What `bodyA6` writes. -/
abbrev bodyA6_W : List (Ref sig .tc) := [main_while0b_call5_v0, main_while0b_call5_c, main_while0b_call5_c_0, main_while0b_v72]
theorem bodyA6_fresh : (bodyA6 : List (HloOp τ sig (Elt F))).Forall fun op => op.fresh = ∅ :=
  StableHlo.forall_fresh_of_map rfl
theorem bodyA6_writes : (bodyA6 : List (HloOp τ sig (Elt F))).Forall fun op => op.writes ⊆ (bodyA6_W.map (Proc.devRef (τ := τ) .tc)).toFinset :=
  StableHlo.forall_writes_sub_of_map rfl
/-- What `bodyA7` writes. -/
abbrev bodyA7_W : List (Ref sig .tc) := [main_while0b_c_26, main_while0b_v73, main_v31_6, main_v31_7, main_v31_8, main_v31_9, main_v31_10, main_v31_11, main_v31_12]
theorem bodyA7_fresh : (bodyA7 : List (HloOp τ sig (Elt F))).Forall fun op => op.fresh = ∅ :=
  StableHlo.forall_fresh_of_map rfl
theorem bodyA7_writes : (bodyA7 : List (HloOp τ sig (Elt F))).Forall fun op => op.writes ⊆ (bodyA7_W.map (Proc.devRef (τ := τ) .tc)).toFinset :=
  StableHlo.forall_writes_sub_of_map rfl
/-- What `bodyB0` writes. -/
abbrev bodyB0_W : List (Ref sig .tc) := [main_while1b_c_28, main_while1b_v55, main_while1b_c_29, main_while1b_v56]
theorem bodyB0_fresh : (bodyB0 : List (HloOp τ sig (Elt F))).Forall fun op => op.fresh = ∅ :=
  StableHlo.forall_fresh_of_map rfl
theorem bodyB0_writes : (bodyB0 : List (HloOp τ sig (Elt F))).Forall fun op => op.writes ⊆ (bodyB0_W.map (Proc.devRef (τ := τ) .tc)).toFinset :=
  StableHlo.forall_writes_sub_of_map rfl
/-- What `bodyB1` writes. -/
abbrev bodyB1_W : List (Ref sig .tc) := [main_while1b_call6_c, main_while1b_call6_c_0, main_while1b_call6_v0, main_while1b_v57]
theorem bodyB1_fresh : (bodyB1 : List (HloOp τ sig (Elt F))).Forall fun op => op.fresh = ∅ :=
  StableHlo.forall_fresh_of_map rfl
theorem bodyB1_writes : (bodyB1 : List (HloOp τ sig (Elt F))).Forall fun op => op.writes ⊆ (bodyB1_W.map (Proc.devRef (τ := τ) .tc)).toFinset :=
  StableHlo.forall_writes_sub_of_map rfl
/-- What `bodyB2` writes. -/
abbrev bodyB2_W : List (Ref sig .tc) := [main_while1b_call7_c, main_while1b_call7_c_0, main_while1b_call7_v0, main_while1b_v58]
theorem bodyB2_fresh : (bodyB2 : List (HloOp τ sig (Elt F))).Forall fun op => op.fresh = ∅ :=
  StableHlo.forall_fresh_of_map rfl
theorem bodyB2_writes : (bodyB2 : List (HloOp τ sig (Elt F))).Forall fun op => op.writes ⊆ (bodyB2_W.map (Proc.devRef (τ := τ) .tc)).toFinset :=
  StableHlo.forall_writes_sub_of_map rfl
/-- What `bodyB3` writes. -/
abbrev bodyB3_W : List (Ref sig .tc) := [main_while1b_call8_c, main_while1b_call8_c_0, main_while1b_call8_v0, main_while1b_v59]
theorem bodyB3_fresh : (bodyB3 : List (HloOp τ sig (Elt F))).Forall fun op => op.fresh = ∅ :=
  StableHlo.forall_fresh_of_map rfl
theorem bodyB3_writes : (bodyB3 : List (HloOp τ sig (Elt F))).Forall fun op => op.writes ⊆ (bodyB3_W.map (Proc.devRef (τ := τ) .tc)).toFinset :=
  StableHlo.forall_writes_sub_of_map rfl
/-- What `bodyB4` writes. -/
abbrev bodyB4_W : List (Ref sig .tc) := [main_while1b_call9_c, main_while1b_call9_c_0, main_while1b_call9_v0, main_while1b_v60]
theorem bodyB4_fresh : (bodyB4 : List (HloOp τ sig (Elt F))).Forall fun op => op.fresh = ∅ :=
  StableHlo.forall_fresh_of_map rfl
theorem bodyB4_writes : (bodyB4 : List (HloOp τ sig (Elt F))).Forall fun op => op.writes ⊆ (bodyB4_W.map (Proc.devRef (τ := τ) .tc)).toFinset :=
  StableHlo.forall_writes_sub_of_map rfl
/-- What `bodyB5` writes. -/
abbrev bodyB5_W : List (Ref sig .tc) := [main_while1b_v61, main_while1b_v62, main_while1b_v63, main_while1b_v64, main_while1b_v65, main_while1b_cst_30, main_while1b_v66, main_while1b_v67, main_while1b_cst_31, main_while1b_v68, main_while1b_v69, main_while1b_v70, main_while1b_v71, main_while1b_v72, main_while1b_cst_32, main_while1b_v73, main_while1b_v74, main_while1b_cst_33, main_while1b_v75, main_while1b_v76, main_while1b_v77, main_while1b_v78, main_while1b_v79, main_while1b_v80, main_while1b_v81, main_while1b_cst_34, main_while1b_v82, main_while1b_v83, main_while1b_cst_35, main_while1b_v84, main_while1b_v85, main_while1b_v86, main_while1b_v87, main_while1b_v88, main_while1b_v89, main_while1b_cst_36, main_while1b_v90, main_while1b_v91, main_while1b_cst_37, main_while1b_v92, main_while1b_v93]
theorem bodyB5_fresh : (bodyB5 : List (HloOp τ sig (Elt F))).Forall fun op => op.fresh = ∅ :=
  StableHlo.forall_fresh_of_map rfl
theorem bodyB5_writes : (bodyB5 : List (HloOp τ sig (Elt F))).Forall fun op => op.writes ⊆ (bodyB5_W.map (Proc.devRef (τ := τ) .tc)).toFinset :=
  StableHlo.forall_writes_sub_of_map rfl
/-- What `bodyB6` writes. -/
abbrev bodyB6_W : List (Ref sig .tc) := [main_while1b_call10_v0, main_while1b_call10_c, main_while1b_call10_c_0, main_while1b_v94]
theorem bodyB6_fresh : (bodyB6 : List (HloOp τ sig (Elt F))).Forall fun op => op.fresh = ∅ :=
  StableHlo.forall_fresh_of_map rfl
theorem bodyB6_writes : (bodyB6 : List (HloOp τ sig (Elt F))).Forall fun op => op.writes ⊆ (bodyB6_W.map (Proc.devRef (τ := τ) .tc)).toFinset :=
  StableHlo.forall_writes_sub_of_map rfl
/-- What `bodyB7` writes. -/
abbrev bodyB7_W : List (Ref sig .tc) := [main_while1b_call11_v0, main_while1b_call11_c, main_while1b_call11_c_0, main_while1b_v95]
theorem bodyB7_fresh : (bodyB7 : List (HloOp τ sig (Elt F))).Forall fun op => op.fresh = ∅ :=
  StableHlo.forall_fresh_of_map rfl
theorem bodyB7_writes : (bodyB7 : List (HloOp τ sig (Elt F))).Forall fun op => op.writes ⊆ (bodyB7_W.map (Proc.devRef (τ := τ) .tc)).toFinset :=
  StableHlo.forall_writes_sub_of_map rfl
/-- What `bodyB8` writes. -/
abbrev bodyB8_W : List (Ref sig .tc) := [main_while1b_c_38, main_while1b_v96, main_v48_8, main_v48_9, main_v48_10, main_v48_11, main_v48_12, main_v48_13, main_v48_14]
theorem bodyB8_fresh : (bodyB8 : List (HloOp τ sig (Elt F))).Forall fun op => op.fresh = ∅ :=
  StableHlo.forall_fresh_of_map rfl
theorem bodyB8_writes : (bodyB8 : List (HloOp τ sig (Elt F))).Forall fun op => op.writes ⊆ (bodyB8_W.map (Proc.devRef (τ := τ) .tc)).toFinset :=
  StableHlo.forall_writes_sub_of_map rfl

end Cert.ReferenceIdeal.Ops

end
-- ==== Proof.TwoLoops.lean ====
module

public import Idealize.ShloMosaic.Lib.StableHlo.RunLoop

/-! The run of a program of host operations with two counted loops one after the other: stretches before the first
    loop, the first loop, stretches between, the second loop, stretches after. -/

@[expose] public section

noncomputable section

namespace Cert.TwoLoops

open Idealize.ShloMosaic Idealize.ShloMosaic.StableHlo
open Idealize.ShloMosaic.Pipeline (CSeg Ticket PCfg ucRefs sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline admits anything. -/
abbrev noAdm : (p : Fin 0) → (pcs p).Adm := fun p => p.elim0
/-- No ticket. -/
abbrev noTk : Fin 0 → Ticket (Ix := Unit) (Name := ℕ) (U := Option PUnit) (Lvl := ℕ) (nD := nD) (τ := τ) pcs (noAdm pcs) :=
  fun j => j.elim0
/-- No semaphore has an index. -/
abbrev noIx : GSem nD τ sig → Finset Unit := fun _ => ∅
/-- Every level is zero. -/
abbrev noLv : GSem nD τ sig → Unit → ℕ := fun _ _ => 0

/-- What rides along beside the buffers. -/
abbrev Beside (c : Dev nD) : sProp 𝕄 := iprop(∃ W, owes (c : Thread nD τ) (0 : CellTallies nD τ sig Unit) W)

variable {pcs defs₀ loops}

/-- A condition's specification over the buffers alone, with what rides along framed through it. -/
theorem loopCond_of {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops Beside cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Beside c)
        ⊢ iprop(⌜v = 1#1 ↔ k < n⌝ ∗ boundary (c : Thread nD τ) ∗ held (c : Thread nD τ) (ucRefs τ sig) (after condOps (atTrip condOps bodyI W₀ k c)) ∗ Beside c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

variable (l₁ l₂ : Fin nL)
  (cond₁ cond₂ : Prog (TpuEff nD τ sig (Elt F) (HostLoop.Sig (Pipeline.Sig Λ₀ (Fin 0) fun p => (pcs p).Adm) nL) .tc) (Elt F .i1))
  (body₁ body₂ : Prog (TpuEff nD τ sig (Elt F) (HostLoop.Sig (Pipeline.Sig Λ₀ (Fin 0) fun p => (pcs p).Adm) nL) .tc) PUnit)
  (hloops₁ : loops l₁ = HostLoop.step l₁ cond₁ body₁) (hloops₂ : loops l₂ = HostLoop.step l₂ cond₂ body₂)
  (condOps₁ condOps₂ : List (HloOp τ sig (Elt F))) (preI body₁I midI body₂I postI : List (List (HloOp τ sig (Elt F))))
  (hpre : Plain preI) (hbody₁I : Plain body₁I) (hmid : Plain midI) (hbody₂I : Plain body₂I) (hpost : Plain postI)
  (hbody₁ : body₁ = Pipeline.chain (body₁I.map fun ops => (seq ops : Prog _ PUnit)))
  (hbody₂ : body₂ = Pipeline.chain (body₂I.map fun ops => (seq ops : Prog _ PUnit)))
  (n₁ n₂ : ℕ) (m : (ℓ : Loc nD τ sig) → Buf (Elt F) ℓ)

/-- The buffers at the second loop's entry. -/
abbrev between (c : Dev nD) : Valuation τ sig (Elt F) :=
  afterL midI (after condOps₁ (atTrip condOps₁ body₁I (entryContents preI m) n₁ c))

/-- The buffers at the program's end. -/
abbrev atEnd (c : Dev nD) : Valuation τ sig (Elt F) :=
  afterL postI (after condOps₂ (atTrip condOps₂ body₂I (between condOps₁ preI body₁I midI n₁ m) n₂ c))

/-- The program's segments. -/
def segs2 (hcond₁ : CondSpec pcs defs₀ loops cond₁ condOps₁ body₁I (entryContents preI m) n₁)
    (hcond₂ : CondSpec pcs defs₀ loops cond₂ condOps₂ body₂I (between condOps₁ preI body₁I midI n₁ m) n₂) :
    List (CSeg pcs (noAdm pcs) defs₀ Variants.none noIx noLv loops (noTk pcs)) :=
  segsOf _ _ _ _ _ _ _ _ Beside preI hpre (launchContents m)
    ++ (loopSeg _ _ _ _ _ _ _ _ l₁ cond₁ body₁ hloops₁ condOps₁ body₁I hbody₁I hbody₁ n₁ (entryContents preI m) Beside (loopCond_of hcond₁)
      :: (segsOf _ _ _ _ _ _ _ _ Beside midI hmid (fun c => after condOps₁ (atTrip condOps₁ body₁I (entryContents preI m) n₁ c))
        ++ (loopSeg _ _ _ _ _ _ _ _ l₂ cond₂ body₂ hloops₂ condOps₂ body₂I hbody₂I hbody₂ n₂ (between condOps₁ preI body₁I midI n₁ m) Beside (loopCond_of hcond₂)
          :: segsOf _ _ _ _ _ _ _ _ Beside postI hpost
              (fun c => after condOps₂ (atTrip condOps₂ body₂I (between condOps₁ preI body₁I midI n₁ m) n₂ c)))))

variable {l₁ l₂ cond₁ cond₂ body₁ body₂ hloops₁ hloops₂ condOps₁ condOps₂ preI body₁I midI body₂I postI hpre hbody₁I hmid hbody₂I hpost hbody₁ hbody₂ n₁ n₂ m}

theorem segs2_prog (h₁) (h₂) :
    (segs2 (pcs := pcs) (defs₀ := defs₀) (loops := loops) l₁ l₂ cond₁ cond₂ body₁ body₂ hloops₁ hloops₂ condOps₁ condOps₂ preI body₁I midI body₂I postI
        hpre hbody₁I hmid hbody₂I hpost hbody₁ hbody₂ n₁ n₂ m h₁ h₂).map CSeg.prog
      = (preI.map fun ops => (seq ops : Prog _ PUnit)) ++ (HostLoop.enter l₁ :: ((midI.map fun ops => (seq ops : Prog _ PUnit))
          ++ (HostLoop.enter l₂ :: (postI.map fun ops => (seq ops : Prog _ PUnit))))) := by
  unfold segs2
  rw [List.map_append, List.map_cons, List.map_append, List.map_cons, segsOf_prog, segsOf_prog, segsOf_prog]
  rfl

theorem segs2_chains (h₁) (h₂) :
    CSeg.Chains (fun c => iprop(held (c : Thread nD τ) (ucRefs τ sig) (launchContents m c) ∗ Beside c))
      (segs2 (pcs := pcs) (defs₀ := defs₀) (loops := loops) l₁ l₂ cond₁ cond₂ body₁ body₂ hloops₁ hloops₂ condOps₁ condOps₂ preI body₁I midI body₂I postI
        hpre hbody₁I hmid hbody₂I hpost hbody₁ hbody₂ n₁ n₂ m h₁ h₂)
      (fun c => iprop(iprop(held (c : Thread nD τ) (ucRefs τ sig) (atEnd condOps₁ condOps₂ preI body₁I midI body₂I postI n₁ n₂ m c))
        ∗ ∃ W, owes (c : Thread nD τ) (0 : CellTallies nD τ sig Unit) W)) := by
  unfold segs2
  exact CSeg.Chains.append (segsOf_chains _ _ _ _ _ _ _ _ Beside preI hpre _)
    ⟨fun _ => .rfl, CSeg.Chains.append (segsOf_chains _ _ _ _ _ _ _ _ Beside midI hmid _)
      ⟨fun _ => .rfl, segsOf_chains _ _ _ _ _ _ _ _ Beside postI hpost _⟩⟩

/-- From any memory with zero counters the program terminates, and every tensor buffer ends at `atEnd`. -/
theorem run_two_loops [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (l₁ l₂ : Fin nL)
    (cond₁ cond₂ : Prog (TpuEff nD τ sig (Elt F) (HostLoop.Sig (Pipeline.Sig Λ₀ (Fin 0) fun p => (pcs p).Adm) nL) .tc) (Elt F .i1))
    (body₁ body₂ : Prog (TpuEff nD τ sig (Elt F) (HostLoop.Sig (Pipeline.Sig Λ₀ (Fin 0) fun p => (pcs p).Adm) nL) .tc) PUnit)
    (hloops₁ : loops l₁ = HostLoop.step l₁ cond₁ body₁) (hloops₂ : loops l₂ = HostLoop.step l₂ cond₂ body₂)
    (condOps₁ condOps₂ : List (HloOp τ sig (Elt F))) (preI body₁I midI body₂I postI : List (List (HloOp τ sig (Elt F))))
    (hpre : Plain preI) (hbody₁I : Plain body₁I) (hmid : Plain midI) (hbody₂I : Plain body₂I) (hpost : Plain postI)
    (hmain : ∀ c, main c = Pipeline.chain ((preI.map fun ops => (seq ops : Prog _ PUnit)) ++ (HostLoop.enter l₁ ::
      ((midI.map fun ops => (seq ops : Prog _ PUnit)) ++ (HostLoop.enter l₂ :: (postI.map fun ops => (seq ops : Prog _ PUnit)))))))
    (hbody₁ : body₁ = Pipeline.chain (body₁I.map fun ops => (seq ops : Prog _ PUnit)))
    (hbody₂ : body₂ = Pipeline.chain (body₂I.map fun ops => (seq ops : Prog _ PUnit)))
    (n₁ n₂ : ℕ) (m : (ℓ : Loc nD τ sig) → Buf (Elt F) ℓ) (ρ : Dev nD → PrngReg)
    (hcond₁ : CondSpec pcs defs₀ loops cond₁ condOps₁ body₁I (entryContents preI m) n₁)
    (hcond₂ : CondSpec pcs defs₀ loops cond₂ condOps₂ body₂I (between condOps₁ preI body₁I midI n₁ m) n₂) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b)
          = atEnd condOps₁ condOps₂ preI body₁I midI body₂I postI n₁ n₂ m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noIx noLv loops (noTk pcs) m ρ main
    (segs2 l₁ l₂ cond₁ cond₂ body₁ body₂ hloops₁ hloops₂ condOps₁ condOps₂ preI body₁I midI body₂I postI
        hpre hbody₁I hmid hbody₂I hpost hbody₁ hbody₂ n₁ n₂ m hcond₁ hcond₂)
    (fun c Q => by
      rw [hmain c]
      show wp _ _ _ (Pipeline.chain ((segs2 l₁ l₂ cond₁ cond₂ body₁ body₂ hloops₁ hloops₂ condOps₁ condOps₂ preI body₁I midI body₂I postI
        hpre hbody₁I hmid hbody₂I hpost hbody₁ hbody₂ n₁ n₂ m hcond₁ hcond₂).map CSeg.prog)) Q ⊢ _
      rw [segs2_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Beside c))
    (Tₙ := fun c => iprop(held (c : Thread nD τ) (ucRefs τ sig) (atEnd condOps₁ condOps₂ preI body₁I midI body₂I postI n₁ n₂ m c)))
    (hch := segs2_chains hcond₁ hcond₂)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd condOps₁ condOps₂ preI body₁I midI body₂I postI n₁ n₂ m c b)
    (hfin := fun c s' => by
      unfold held
      iintro ⟨Hh, HSI⟩
      ihave Hr := (pointsTo_read_all (ucRefs τ sig) (fun b => ((c : Dev nD), b)) (fun b => atEnd condOps₁ condOps₂ preI body₁I midI body₂I postI n₁ n₂ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
module

public import proofs.«01_k».proof.Proof.RefOps
public import proofs.«01_k».proof.Proof.TwoLoops

/-! The run of the reference program: it terminates, and every tensor buffer ends where the operations put it. -/

@[expose] public section

set_option maxRecDepth 4096

noncomputable section

namespace Cert.ReferenceIdeal.Ops

open Cert.ReferenceIdeal Cert.ReferenceIdeal.Gen Cert.TwoLoops
open Idealize.ShloMosaic Idealize.ShloMosaic.TcCoe Idealize.ShloMosaic.StableHlo
open Idealize.ShloMosaic.Pipeline (sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The forward loop's test. -/
abbrev condA : List (HloOp τ sig (Elt F)) :=
  [ StableHlo.nullary main_while0c_c_26 (constantI S_ 32 2048#32),
    StableHlo.binary main_v31_6 main_while0c_c_26 main_while0c_v55 (cmpi .slt) ]
/-- The backward loop's test. -/
abbrev condB : List (HloOp τ sig (Elt F)) :=
  [ StableHlo.nullary main_while1c_c_28 (constantI S_ 32 2048#32),
    StableHlo.binary main_v48_8 main_while1c_c_28 main_while1c_v55 (cmpi .slt) ]
abbrev condA_W : List (Ref sig .tc) := [main_while0c_c_26, main_while0c_v55]
abbrev condB_W : List (Ref sig .tc) := [main_while1c_c_28, main_while1c_v55]
theorem condA_writes : (condA : List (HloOp τ sig (Elt F))).Forall fun op => op.writes ⊆ (condA_W.map (Proc.devRef (τ := τ) .tc)).toFinset :=
  StableHlo.forall_writes_sub_of_map rfl
theorem condB_writes : (condB : List (HloOp τ sig (Elt F))).Forall fun op => op.writes ⊆ (condB_W.map (Proc.devRef (τ := τ) .tc)).toFinset :=
  StableHlo.forall_writes_sub_of_map rfl

/-- The stretches. -/
abbrev preI : List (List (HloOp τ sig (Elt F))) := [opsA]
abbrev bodyA : List (List (HloOp τ sig (Elt F))) := [bodyA0, bodyA1, bodyA2, bodyA3, bodyA4, bodyA5, bodyA6, bodyA7]
abbrev midI : List (List (HloOp τ sig (Elt F))) := [opsB]
abbrev bodyB : List (List (HloOp τ sig (Elt F))) := [bodyB0, bodyB1, bodyB2, bodyB3, bodyB4, bodyB5, bodyB6, bodyB7, bodyB8]
abbrev postI : List (List (HloOp τ sig (Elt F))) := [opsC]

theorem preI_plain : Plain (preI (F := F)) := .cons opsA_sub (hf := List.forall_iff_forall_mem.mp opsA_fresh) (.nil)
theorem bodyA_plain : Plain (bodyA (F := F)) := .cons bodyA0_sub (hf := List.forall_iff_forall_mem.mp bodyA0_fresh) (.cons bodyA1_sub (hf := List.forall_iff_forall_mem.mp bodyA1_fresh) (.cons bodyA2_sub (hf := List.forall_iff_forall_mem.mp bodyA2_fresh) (.cons bodyA3_sub (hf := List.forall_iff_forall_mem.mp bodyA3_fresh) (.cons bodyA4_sub (hf := List.forall_iff_forall_mem.mp bodyA4_fresh) (.cons bodyA5_sub (hf := List.forall_iff_forall_mem.mp bodyA5_fresh) (.cons bodyA6_sub (hf := List.forall_iff_forall_mem.mp bodyA6_fresh) (.cons bodyA7_sub (hf := List.forall_iff_forall_mem.mp bodyA7_fresh) (.nil))))))))
theorem midI_plain : Plain (midI (F := F)) := .cons opsB_sub (hf := List.forall_iff_forall_mem.mp opsB_fresh) (.nil)
theorem bodyB_plain : Plain (bodyB (F := F)) := .cons bodyB0_sub (hf := List.forall_iff_forall_mem.mp bodyB0_fresh) (.cons bodyB1_sub (hf := List.forall_iff_forall_mem.mp bodyB1_fresh) (.cons bodyB2_sub (hf := List.forall_iff_forall_mem.mp bodyB2_fresh) (.cons bodyB3_sub (hf := List.forall_iff_forall_mem.mp bodyB3_fresh) (.cons bodyB4_sub (hf := List.forall_iff_forall_mem.mp bodyB4_fresh) (.cons bodyB5_sub (hf := List.forall_iff_forall_mem.mp bodyB5_fresh) (.cons bodyB6_sub (hf := List.forall_iff_forall_mem.mp bodyB6_fresh) (.cons bodyB7_sub (hf := List.forall_iff_forall_mem.mp bodyB7_fresh) (.cons bodyB8_sub (hf := List.forall_iff_forall_mem.mp bodyB8_fresh) (.nil)))))))))
theorem postI_plain : Plain (postI (F := F)) := .cons opsC_sub (hf := List.forall_iff_forall_mem.mp opsC_fresh) (.nil)

variable (m : (ℓ : Loc nD τ sig) → Buf (Elt F) ℓ) (ρ : Dev nD → PrngReg)

/-- The buffers before the forward loop's `k`-th test. -/
abbrev atA (k : ℕ) (c : Dev nD) : Valuation τ sig (Elt F) := atTrip condA bodyA (entryContents preI m) k c
/-- The buffers at the backward loop's entry. -/
abbrev enterB (c : Dev nD) : Valuation τ sig (Elt F) := between condA preI bodyA midI 2048 m c
/-- The buffers before the backward loop's `k`-th test. -/
abbrev atB (k : ℕ) (c : Dev nD) : Valuation τ sig (Elt F) := atTrip condB bodyB (enterB m) k c

/-! A reference no stretch of a body writes is what it was; the counters count. -/

theorem ctrA_step (X : Valuation τ sig (Elt F)) :
    after bodyA7 X (Proc.devRef .tc main_v31_6) = addi (X (Proc.devRef .tc main_v31_6)) (constantI S_ 32 1#32) := by
  after_results
  rfl
theorem ctrB_step (X : Valuation τ sig (Elt F)) :
    after bodyB8 X (Proc.devRef .tc main_v48_8) = addi (X (Proc.devRef .tc main_v48_8)) (constantI S_ 32 1#32) := by
  after_results
  rfl

theorem ctrA_entry (c : Dev nD) : entryContents preI m c (Proc.devRef .tc main_v31_6) = fun _ => (0#32 : BitVec 32) := by
  simp only [entryContents, afterL_cons, afterL_nil]
  after_reads_simp
  rfl
theorem ctrB_entry (c : Dev nD) : enterB m c (Proc.devRef .tc main_v48_8) = fun _ => (0#32 : BitVec 32) := by
  simp only [enterB, between, afterL_cons, afterL_nil]
  generalize after condA _ = X
  after_reads_simp
  rfl

/-- Before the `k`-th test the counter is `k`. -/
theorem atA_ctr (c : Dev nD) : ∀ k, atA m k c (Proc.devRef .tc main_v31_6) = fun _ => Scf.iv 0#32 1#32 k
  | 0 => by rw [show atA m 0 c = entryContents preI m c from rfl, ctrA_entry, Scf.iv_zero]
  | k + 1 => by
    rw [show atA m (k + 1) c = afterL bodyA (after condA (atA m k c)) from rfl]
    simp only [afterL_cons, afterL_nil]
    rw [ctrA_step, after_of_writes_sub bodyA6 _ bodyA6_writes (by decide +kernel), after_of_writes_sub bodyA5 _ bodyA5_writes (by decide +kernel), after_of_writes_sub bodyA4 _ bodyA4_writes (by decide +kernel), after_of_writes_sub bodyA3 _ bodyA3_writes (by decide +kernel), after_of_writes_sub bodyA2 _ bodyA2_writes (by decide +kernel), after_of_writes_sub bodyA1 _ bodyA1_writes (by decide +kernel), after_of_writes_sub bodyA0 _ bodyA0_writes (by decide +kernel), after_of_writes_sub condA _ condA_writes (by decide +kernel), atA_ctr c k, Scf.iv_succ]
    rfl

/-- Before the `k`-th test the counter is `k`. -/
theorem atB_ctr (c : Dev nD) : ∀ k, atB m k c (Proc.devRef .tc main_v48_8) = fun _ => Scf.iv 0#32 1#32 k
  | 0 => by rw [show atB m 0 c = enterB m c from rfl, ctrB_entry, Scf.iv_zero]
  | k + 1 => by
    rw [show atB m (k + 1) c = afterL bodyB (after condB (atB m k c)) from rfl]
    simp only [afterL_cons, afterL_nil]
    rw [ctrB_step, after_of_writes_sub bodyB7 _ bodyB7_writes (by decide +kernel), after_of_writes_sub bodyB6 _ bodyB6_writes (by decide +kernel), after_of_writes_sub bodyB5 _ bodyB5_writes (by decide +kernel), after_of_writes_sub bodyB4 _ bodyB4_writes (by decide +kernel), after_of_writes_sub bodyB3 _ bodyB3_writes (by decide +kernel), after_of_writes_sub bodyB2 _ bodyB2_writes (by decide +kernel), after_of_writes_sub bodyB1 _ bodyB1_writes (by decide +kernel), after_of_writes_sub bodyB0 _ bodyB0_writes (by decide +kernel), after_of_writes_sub condB _ condB_writes (by decide +kernel), atB_ctr c k, Scf.iv_succ]
    rfl

set_option backward.isDefEq.respectTransparency.types false in
theorem condA_spec : CondSpec (pcfgs (F := F)) defs₀ loops (main_while0_cond (F := F)) condA bodyA (entryContents preI m) 2048 := by
  intro k hk c bd
  have hctr := atA_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atA m k c) main_v31_6 HostLoop.idx0)
        (HloOp.result _ (atA m k c) main_while0c_c_26 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option backward.isDefEq.respectTransparency.types false in
theorem condB_spec : CondSpec (pcfgs (F := F)) defs₀ loops (main_while1_cond (F := F)) condB bodyB (enterB m) 2048 := by
  intro k hk c bd
  have hctr := atB_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atB m k c) main_v48_8 HostLoop.idx0)
        (HloOp.result _ (atB m k c) main_while1c_c_28 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The buffers at the program's end. -/
abbrev finish (c : Dev nD) : Valuation τ sig (Elt F) := atEnd condA condB preI bodyA midI bodyB postI 2048 2048 m c

set_option maxRecDepth 100000 in
/-- From any memory with zero counters the reference terminates with every tensor buffer at `finish`. -/
theorem run_finish : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finish m c (Proc.devRef .tc b)) :=
  run_two_loops (pcfgs (F := F)) defs₀ loops main 0 1 main_while0_cond main_while1_cond main_while0_body main_while1_body rfl rfl
    condA condB preI bodyA midI bodyB postI preI_plain bodyA_plain midI_plain bodyB_plain postI_plain
    (fun c => by rw [main_chain]; rfl) (by rw [while0_body_chain]; rfl) (by rw [while1_body_chain]; rfl) 2048 2048 m ρ
    (condA_spec m) (condB_spec m)

/-! No operation writes an argument. -/

/-- The arguments of the program. -/
abbrev argRefs : List (Ref sig .tc) := [main_arg0, main_arg1, main_arg2, main_arg3, main_arg4, main_arg5, main_arg6, main_arg7, main_arg8]

theorem opsA_args (V : Valuation τ sig (Elt F)) (r : Ref sig .tc) (hr : r ∈ argRefs) : after opsA V (Proc.devRef .tc r) = V (Proc.devRef .tc r) :=
  after_of_writes_sub opsA V opsA_writes ((by decide +kernel : ∀ r ∈ argRefs, r ∉ opsA_W) r hr)
theorem opsB_args (V : Valuation τ sig (Elt F)) (r : Ref sig .tc) (hr : r ∈ argRefs) : after opsB V (Proc.devRef .tc r) = V (Proc.devRef .tc r) :=
  after_of_writes_sub opsB V opsB_writes ((by decide +kernel : ∀ r ∈ argRefs, r ∉ opsB_W) r hr)
theorem opsC_args (V : Valuation τ sig (Elt F)) (r : Ref sig .tc) (hr : r ∈ argRefs) : after opsC V (Proc.devRef .tc r) = V (Proc.devRef .tc r) :=
  after_of_writes_sub opsC V opsC_writes ((by decide +kernel : ∀ r ∈ argRefs, r ∉ opsC_W) r hr)
theorem condA_args (V : Valuation τ sig (Elt F)) (r : Ref sig .tc) (hr : r ∈ argRefs) : after condA V (Proc.devRef .tc r) = V (Proc.devRef .tc r) :=
  after_of_writes_sub condA V condA_writes ((by decide +kernel : ∀ r ∈ argRefs, r ∉ condA_W) r hr)
theorem condB_args (V : Valuation τ sig (Elt F)) (r : Ref sig .tc) (hr : r ∈ argRefs) : after condB V (Proc.devRef .tc r) = V (Proc.devRef .tc r) :=
  after_of_writes_sub condB V condB_writes ((by decide +kernel : ∀ r ∈ argRefs, r ∉ condB_W) r hr)
theorem bodyA0_args (V : Valuation τ sig (Elt F)) (r : Ref sig .tc) (hr : r ∈ argRefs) : after bodyA0 V (Proc.devRef .tc r) = V (Proc.devRef .tc r) :=
  after_of_writes_sub bodyA0 V bodyA0_writes ((by decide +kernel : ∀ r ∈ argRefs, r ∉ bodyA0_W) r hr)
theorem bodyA1_args (V : Valuation τ sig (Elt F)) (r : Ref sig .tc) (hr : r ∈ argRefs) : after bodyA1 V (Proc.devRef .tc r) = V (Proc.devRef .tc r) :=
  after_of_writes_sub bodyA1 V bodyA1_writes ((by decide +kernel : ∀ r ∈ argRefs, r ∉ bodyA1_W) r hr)
theorem bodyA2_args (V : Valuation τ sig (Elt F)) (r : Ref sig .tc) (hr : r ∈ argRefs) : after bodyA2 V (Proc.devRef .tc r) = V (Proc.devRef .tc r) :=
  after_of_writes_sub bodyA2 V bodyA2_writes ((by decide +kernel : ∀ r ∈ argRefs, r ∉ bodyA2_W) r hr)
theorem bodyA3_args (V : Valuation τ sig (Elt F)) (r : Ref sig .tc) (hr : r ∈ argRefs) : after bodyA3 V (Proc.devRef .tc r) = V (Proc.devRef .tc r) :=
  after_of_writes_sub bodyA3 V bodyA3_writes ((by decide +kernel : ∀ r ∈ argRefs, r ∉ bodyA3_W) r hr)
theorem bodyA4_args (V : Valuation τ sig (Elt F)) (r : Ref sig .tc) (hr : r ∈ argRefs) : after bodyA4 V (Proc.devRef .tc r) = V (Proc.devRef .tc r) :=
  after_of_writes_sub bodyA4 V bodyA4_writes ((by decide +kernel : ∀ r ∈ argRefs, r ∉ bodyA4_W) r hr)
theorem bodyA5_args (V : Valuation τ sig (Elt F)) (r : Ref sig .tc) (hr : r ∈ argRefs) : after bodyA5 V (Proc.devRef .tc r) = V (Proc.devRef .tc r) :=
  after_of_writes_sub bodyA5 V bodyA5_writes ((by decide +kernel : ∀ r ∈ argRefs, r ∉ bodyA5_W) r hr)
theorem bodyA6_args (V : Valuation τ sig (Elt F)) (r : Ref sig .tc) (hr : r ∈ argRefs) : after bodyA6 V (Proc.devRef .tc r) = V (Proc.devRef .tc r) :=
  after_of_writes_sub bodyA6 V bodyA6_writes ((by decide +kernel : ∀ r ∈ argRefs, r ∉ bodyA6_W) r hr)
theorem bodyA7_args (V : Valuation τ sig (Elt F)) (r : Ref sig .tc) (hr : r ∈ argRefs) : after bodyA7 V (Proc.devRef .tc r) = V (Proc.devRef .tc r) :=
  after_of_writes_sub bodyA7 V bodyA7_writes ((by decide +kernel : ∀ r ∈ argRefs, r ∉ bodyA7_W) r hr)
theorem bodyB0_args (V : Valuation τ sig (Elt F)) (r : Ref sig .tc) (hr : r ∈ argRefs) : after bodyB0 V (Proc.devRef .tc r) = V (Proc.devRef .tc r) :=
  after_of_writes_sub bodyB0 V bodyB0_writes ((by decide +kernel : ∀ r ∈ argRefs, r ∉ bodyB0_W) r hr)
theorem bodyB1_args (V : Valuation τ sig (Elt F)) (r : Ref sig .tc) (hr : r ∈ argRefs) : after bodyB1 V (Proc.devRef .tc r) = V (Proc.devRef .tc r) :=
  after_of_writes_sub bodyB1 V bodyB1_writes ((by decide +kernel : ∀ r ∈ argRefs, r ∉ bodyB1_W) r hr)
theorem bodyB2_args (V : Valuation τ sig (Elt F)) (r : Ref sig .tc) (hr : r ∈ argRefs) : after bodyB2 V (Proc.devRef .tc r) = V (Proc.devRef .tc r) :=
  after_of_writes_sub bodyB2 V bodyB2_writes ((by decide +kernel : ∀ r ∈ argRefs, r ∉ bodyB2_W) r hr)
theorem bodyB3_args (V : Valuation τ sig (Elt F)) (r : Ref sig .tc) (hr : r ∈ argRefs) : after bodyB3 V (Proc.devRef .tc r) = V (Proc.devRef .tc r) :=
  after_of_writes_sub bodyB3 V bodyB3_writes ((by decide +kernel : ∀ r ∈ argRefs, r ∉ bodyB3_W) r hr)
theorem bodyB4_args (V : Valuation τ sig (Elt F)) (r : Ref sig .tc) (hr : r ∈ argRefs) : after bodyB4 V (Proc.devRef .tc r) = V (Proc.devRef .tc r) :=
  after_of_writes_sub bodyB4 V bodyB4_writes ((by decide +kernel : ∀ r ∈ argRefs, r ∉ bodyB4_W) r hr)
theorem bodyB5_args (V : Valuation τ sig (Elt F)) (r : Ref sig .tc) (hr : r ∈ argRefs) : after bodyB5 V (Proc.devRef .tc r) = V (Proc.devRef .tc r) :=
  after_of_writes_sub bodyB5 V bodyB5_writes ((by decide +kernel : ∀ r ∈ argRefs, r ∉ bodyB5_W) r hr)
theorem bodyB6_args (V : Valuation τ sig (Elt F)) (r : Ref sig .tc) (hr : r ∈ argRefs) : after bodyB6 V (Proc.devRef .tc r) = V (Proc.devRef .tc r) :=
  after_of_writes_sub bodyB6 V bodyB6_writes ((by decide +kernel : ∀ r ∈ argRefs, r ∉ bodyB6_W) r hr)
theorem bodyB7_args (V : Valuation τ sig (Elt F)) (r : Ref sig .tc) (hr : r ∈ argRefs) : after bodyB7 V (Proc.devRef .tc r) = V (Proc.devRef .tc r) :=
  after_of_writes_sub bodyB7 V bodyB7_writes ((by decide +kernel : ∀ r ∈ argRefs, r ∉ bodyB7_W) r hr)
theorem bodyB8_args (V : Valuation τ sig (Elt F)) (r : Ref sig .tc) (hr : r ∈ argRefs) : after bodyB8 V (Proc.devRef .tc r) = V (Proc.devRef .tc r) :=
  after_of_writes_sub bodyB8 V bodyB8_writes ((by decide +kernel : ∀ r ∈ argRefs, r ∉ bodyB8_W) r hr)

theorem atA_args (c : Dev nD) (r : Ref sig .tc) (hr : r ∈ argRefs) : ∀ k, atA m k c (Proc.devRef .tc r) = entryContents preI m c (Proc.devRef .tc r)
  | 0 => rfl
  | k + 1 => by
    rw [show atA m (k + 1) c = afterL bodyA (after condA (atA m k c)) from rfl]
    simp only [afterL_cons, afterL_nil]
    rw [bodyA7_args _ r hr, bodyA6_args _ r hr, bodyA5_args _ r hr, bodyA4_args _ r hr, bodyA3_args _ r hr, bodyA2_args _ r hr, bodyA1_args _ r hr, bodyA0_args _ r hr, condA_args _ r hr, atA_args c r hr k]
    rfl

theorem atB_args (c : Dev nD) (r : Ref sig .tc) (hr : r ∈ argRefs) : ∀ k, atB m k c (Proc.devRef .tc r) = enterB m c (Proc.devRef .tc r)
  | 0 => rfl
  | k + 1 => by
    rw [show atB m (k + 1) c = afterL bodyB (after condB (atB m k c)) from rfl]
    simp only [afterL_cons, afterL_nil]
    rw [bodyB8_args _ r hr, bodyB7_args _ r hr, bodyB6_args _ r hr, bodyB5_args _ r hr, bodyB4_args _ r hr, bodyB3_args _ r hr, bodyB2_args _ r hr, bodyB1_args _ r hr, bodyB0_args _ r hr, condB_args _ r hr, atB_args c r hr k]
    rfl

theorem finish_args (c : Dev nD) (r : Ref sig .tc) (hr : r ∈ argRefs) : finish m c (Proc.devRef .tc r) = launchContents m c (Proc.devRef .tc r) := by
  show afterL postI (after condB (atB m 2048 c)) _ = _
  simp only [afterL_cons, afterL_nil]
  rw [opsC_args _ r hr, condB_args _ r hr, atB_args m c r hr]
  show afterL midI (after condA (atA m 2048 c)) _ = _
  simp only [afterL_cons, afterL_nil]
  rw [opsB_args _ r hr, condA_args _ r hr, atA_args m c r hr]
  show afterL preI (launchContents m c) _ = _
  simp only [afterL_cons, afterL_nil]
  rw [opsA_args _ r hr]

end Cert.ReferenceIdeal.Ops

end
-- ==== Proof.RefFrame.lean ====
module

public import proofs.«01_k».proof.Proof.RefRun

/-! The reference terminates, leaves its arguments as they were and every counter at zero. -/

@[expose] public section

set_option maxRecDepth 4096

noncomputable section

namespace Cert.ReferenceIdeal.Ops

open Cert.ReferenceIdeal Cert.ReferenceIdeal.Gen Cert.TwoLoops
open Idealize.ShloMosaic Idealize.ShloMosaic.TcCoe Idealize.ShloMosaic.StableHlo
open Idealize.SL Idealize.SL.RA Idealize.SL.BI
open Idealize.SL.Sem

variable {F : FTy → Type} [FloatOps F]
variable (m : (ℓ : Loc nD τ sig) → Buf (Elt F) ℓ) (ρ : Dev nD → PrngReg)

/-- The reference's run, with its arguments and counters. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h =>
    have ha : ∀ (c : Dev nD) (b : Ref sig .tc), b ∈ argRefs → (Proc.devRef .tc b : DevRef τ sig).isScoped = false →
        r.2.mem ((c.tc : Thread nD τ).loc b) = m ((c.tc : Thread nD τ).loc b) :=
      fun c b hb hs => (h c b hs).trans (finish_args m c b hb)
    ⟨fun c => ⟨ha c _ (by decide) rfl, ha c _ (by decide) rfl, ha c _ (by decide) rfl, ha c _ (by decide) rfl, ha c _ (by decide) rfl,
        ha c _ (by decide) rfl, ha c _ (by decide) rfl, ha c _ (by decide) rfl, ha c _ (by decide) rfl⟩,
      sem_eq_zero_of_no_sems (by decide) r.2⟩) (run_finish m ρ)

end Cert.ReferenceIdeal.Ops

end
-- ==== Proof.KStepF.lean ====
module

public import proofs.«01_k».proof.Proof.Gen.KernelIdeal.Loops

/-! One trip of the forward scan's loop: eight times the step of eight rows. -/

@[expose] public section

set_option maxRecDepth 16384

noncomputable section

namespace Cert.KernelIdeal.Scan

open Cert.KernelIdeal Cert.KernelIdeal.Gen Idealize.ShloMosaic Idealize.ShloMosaic.TcCoe

variable {F : FTy → Type} [FloatOps F]

/-- Eight rows of 256 columns, their real and imaginary parts. -/
abbrev V8 (F : FTy → Type) [FloatOps F] : Type := FVec F S8x256 .f32

/-- The zero block. -/
def zero8 : V8 F := broadcast S8x256 (Scalar.ofBits .f32 0x00000000#32 : F .f32)

/-- One doubling of the forward scan: each row at least `s` takes `a` times the row `s` above it. -/
def dblF (s : BitVec 32) (row : IVec S8x256 32) (ar ai : V8 F) (x : V8 F × V8 F) : V8 F × V8 F :=
  let sr : V8 F := dynamicRotate 0 s none x.1 rotates_S8x256_d0
  let si : V8 F := dynamicRotate 0 s none x.2 rotates_S8x256_d0
  let keep : IVec S8x256 1 := cmpi .sge row (broadcast S8x256 s)
  (addf x.1 (select keep (subf (mulf ar sr) (mulf ai si)) zero8), addf x.2 (select keep (addf (mulf ar si) (mulf ai sr)) zero8))

/-- The rows' share of what came before them. -/
def addCarry (pr pi : V8 F) (x c : V8 F × V8 F) : V8 F × V8 F :=
  (addf x.1 (subf (mulf pr c.1) (mulf pi c.2)), addf x.2 (addf (mulf pr c.2) (mulf pi c.1)))

/-- Row `r` of a block, in every row. -/
def pick (r : BitVec 32) (row : IVec S8x256 32) (x : V8 F) : V8 F :=
  broadcastTo S8x256 (shapeCast S1x256 (shapeCast S1x256 (multiReduction .add [0] S256
    (select (cmpi .eq row (broadcast S8x256 r)) x zero8) 0x00000000#32 reduces_S8x256_S256 (.inl rfl) rfl) shapeCasts_S256_S1x256)
    shapeCasts_S1x256_S1x256) broadcasts_S1x256_S8x256

/-- One row in every row. -/
def spread (v : Vec F S1x256 .f32) : V8 F :=
  broadcastTo S8x256 (shapeCast S1x256 (shapeCast S1x256 v shapeCasts_S1x256_S1x256) shapeCasts_S1x256_S1x256) broadcasts_S1x256_S8x256

/-- What the forward scan's step reads besides the rows: the row numbers, the powers 1, 2, 4 in every row, the powers 1 to 8. -/
structure Pows (F : FTy → Type) [FloatOps F] where
  row : IVec S8x256 32
  a1r : V8 F
  a1i : V8 F
  a2r : V8 F
  a2i : V8 F
  a4r : V8 F
  a4i : V8 F
  pr : V8 F
  pi : V8 F

/-- The step of eight rows: the eight new states. -/
def rowsF (p : Pows F) (x c : V8 F × V8 F) : V8 F × V8 F :=
  addCarry p.pr p.pi (dblF 4#32 p.row p.a4r p.a4i (dblF 2#32 p.row p.a2r p.a2i (dblF 1#32 p.row p.a1r p.a1i x))) c

/-- What the step hands the next: its last state, in every row. -/
def carryF (p : Pows F) (x c : V8 F × V8 F) : V8 F × V8 F :=
  (pick 7#32 p.row (rowsF p x c).1, pick 7#32 p.row (rowsF p x c).2)

/-- The carried state before the `j`-th step of a trip whose rows are `x`. -/
def carriesF (p : Pows F) (x : ℕ → V8 F × V8 F) (c : V8 F × V8 F) : ℕ → V8 F × V8 F
  | 0 => c
  | j + 1 => carryF p (x j) (carriesF p x c j)

section
variable (𝒱 : Variants) (c : Dev nD) (bd : Option 𝒱.V) (i : grid1.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S2048x256 .f32) (harg6 : arg6.IsWhole) (arg7 : Memref sig .tc .vmem S2048x256 .f32) (harg7 : arg7.IsWhole) (v0 : Vec F S8x256 .f32) (v2 : Vec F S8x256 .f32) (v4 : Vec F S1x256 .f32) (v8 : Vec F S1x256 .f32) (v12 : Vec F S1x256 .f32) (v16 : Vec F S1x256 .f32) (v20 : Vec F S1x256 .f32) (v24 : Vec F S1x256 .f32) (v28 : IVec S8x256 32) (X_arg2 : BufTy.Contents (Elt F) arg2.view.ty) (X_arg3 : BufTy.Contents (Elt F) arg3.view.ty) (k : Fin k1_t1_loop.trips) (acc : FVec F S8x256 .f32 × FVec F S8x256 .f32)

/-- The step's constants of the loop. -/
def powsF : Pows F :=
  { row := v28, a1r := spread v4, a1i := spread v8, a2r := spread v12, a2i := spread v16, a4r := spread v20, a4i := spread v24
    pr := shapeCast S8x256 v0 shapeCasts_S8x256_S8x256, pi := shapeCast S8x256 v2 shapeCasts_S8x256_S8x256 }

/-- The rows the trip's `j`-th step reads. -/
def loadF (j : Fin 8) : V8 F × V8 F :=
  (View.readAt (Elt F) arg2.view (Rect.unit (s := S2048x256) (k1_off1 k (BitVec.ofNat 32 j.val)) S8x256.size (k1_off1_inb k j)).toLoadRect X_arg2,
   View.readAt (Elt F) arg3.view (Rect.unit (s := S2048x256) (k1_off1 k (BitVec.ofNat 32 j.val)) S8x256.size (k1_off1_inb k j)).toLoadRect X_arg3)

/-- The same by the step's number. -/
def loadN (j : ℕ) : V8 F × V8 F := loadF arg2 arg3 X_arg2 X_arg3 k (Fin.ofNat 8 j)

theorem carry1_re : (trip_k1_t1.sl.r_4 arg2 arg3 v0 v2 v4 v8 v12 v16 v20 v24 v28 X_arg2 X_arg3 k acc) = (carryF (powsF v0 v2 v4 v8 v12 v16 v20 v24 v28) (loadF arg2 arg3 X_arg2 X_arg3 k 0) acc).1 := by
  dsimp only [trip_k1_t1.sl.r_4, trip_k1_t1.sl.r, trip_k1_t1.sl.r_2, trip_k1_t1.sl.r_3, k1_pay27, k1_pay25, k1_pay24, k1_pay1, k1_pay2, k1_pay7, k1_pay8, k1_pay20, k1_pay15, k1_pay12, k1_pay13, k1_pay14, k1_pay17, k1_pay18, k1_pay16, k1_pay19, k1_pay3, k1_pay4, k1_pay5, k1_pay6, k1_pay22, k1_pay23, k1_pay21, carryF, rowsF, addCarry, dblF, pick, spread, zero8, powsF, loadF]
  rfl

theorem carry1_im : (trip_k1_t1.sl.r_5 arg2 arg3 v0 v2 v4 v8 v12 v16 v20 v24 v28 X_arg2 X_arg3 k acc) = (carryF (powsF v0 v2 v4 v8 v12 v16 v20 v24 v28) (loadF arg2 arg3 X_arg2 X_arg3 k 0) acc).2 := by
  dsimp only [trip_k1_t1.sl.r_5, trip_k1_t1.sl.r_1, trip_k1_t1.sl.r_2, trip_k1_t1.sl.r_3, k1_pay28, k1_pay26, k1_pay24, k1_pay1, k1_pay2, k1_pay7, k1_pay8, k1_pay21, k1_pay16, k1_pay12, k1_pay13, k1_pay14, k1_pay17, k1_pay15, k1_pay18, k1_pay19, k1_pay3, k1_pay4, k1_pay5, k1_pay6, k1_pay22, k1_pay20, k1_pay23, carryF, rowsF, addCarry, dblF, pick, spread, zero8, powsF, loadF]
  rfl

theorem carry2_re : (trip_k1_t1.sl.r_11 arg2 arg3 v0 v2 v4 v8 v12 v16 v20 v24 v28 X_arg2 X_arg3 k acc) = (carryF (powsF v0 v2 v4 v8 v12 v16 v20 v24 v28) (loadF arg2 arg3 X_arg2 X_arg3 k 1) ((trip_k1_t1.sl.r_4 arg2 arg3 v0 v2 v4 v8 v12 v16 v20 v24 v28 X_arg2 X_arg3 k acc), (trip_k1_t1.sl.r_5 arg2 arg3 v0 v2 v4 v8 v12 v16 v20 v24 v28 X_arg2 X_arg3 k acc))).1 := by
  dsimp only [trip_k1_t1.sl.r_11, trip_k1_t1.sl.r_6, trip_k1_t1.sl.r_10, k1_pay45, k1_pay43, k1_pay1, k1_pay2, k1_pay41, k1_pay37, k1_pay32, k1_pay29, k1_pay30, k1_pay31, k1_pay34, k1_pay35, k1_pay33, k1_pay36, k1_pay3, k1_pay4, k1_pay5, k1_pay6, k1_pay42, k1_pay39, k1_pay40, k1_pay38, k1_pay7, k1_pay8, carryF, rowsF, addCarry, dblF, pick, spread, zero8, powsF, loadF]
  rfl

theorem carry2_im : (trip_k1_t1.sl.r_12 arg2 arg3 v0 v2 v4 v8 v12 v16 v20 v24 v28 X_arg2 X_arg3 k acc) = (carryF (powsF v0 v2 v4 v8 v12 v16 v20 v24 v28) (loadF arg2 arg3 X_arg2 X_arg3 k 1) ((trip_k1_t1.sl.r_4 arg2 arg3 v0 v2 v4 v8 v12 v16 v20 v24 v28 X_arg2 X_arg3 k acc), (trip_k1_t1.sl.r_5 arg2 arg3 v0 v2 v4 v8 v12 v16 v20 v24 v28 X_arg2 X_arg3 k acc))).2 := by
  dsimp only [trip_k1_t1.sl.r_12, trip_k1_t1.sl.r_7, trip_k1_t1.sl.r_8, trip_k1_t1.sl.r_9, k1_pay46, k1_pay44, k1_pay1, k1_pay2, k1_pay7, k1_pay8, k1_pay41, k1_pay38, k1_pay33, k1_pay29, k1_pay30, k1_pay31, k1_pay34, k1_pay32, k1_pay35, k1_pay36, k1_pay3, k1_pay4, k1_pay5, k1_pay6, k1_pay39, k1_pay37, k1_pay40, carryF, rowsF, addCarry, dblF, pick, spread, zero8, powsF, loadF]
  rfl

theorem carry3_re : (trip_k1_t1.sl.r_18 arg2 arg3 v0 v2 v4 v8 v12 v16 v20 v24 v28 X_arg2 X_arg3 k acc) = (carryF (powsF v0 v2 v4 v8 v12 v16 v20 v24 v28) (loadF arg2 arg3 X_arg2 X_arg3 k 2) ((trip_k1_t1.sl.r_11 arg2 arg3 v0 v2 v4 v8 v12 v16 v20 v24 v28 X_arg2 X_arg3 k acc), (trip_k1_t1.sl.r_12 arg2 arg3 v0 v2 v4 v8 v12 v16 v20 v24 v28 X_arg2 X_arg3 k acc))).1 := by
  dsimp only [trip_k1_t1.sl.r_18, trip_k1_t1.sl.r_15, trip_k1_t1.sl.r_13, k1_pay65, k1_pay63, k1_pay1, k1_pay2, k1_pay60, k1_pay55, k1_pay50, k1_pay47, k1_pay48, k1_pay49, k1_pay52, k1_pay53, k1_pay51, k1_pay54, k1_pay57, k1_pay58, k1_pay56, k1_pay59, k1_pay3, k1_pay4, k1_pay5, k1_pay6, k1_pay7, k1_pay8, carryF, rowsF, addCarry, dblF, pick, spread, zero8, powsF, loadF]
  rfl

theorem carry3_im : (trip_k1_t1.sl.r_19 arg2 arg3 v0 v2 v4 v8 v12 v16 v20 v24 v28 X_arg2 X_arg3 k acc) = (carryF (powsF v0 v2 v4 v8 v12 v16 v20 v24 v28) (loadF arg2 arg3 X_arg2 X_arg3 k 2) ((trip_k1_t1.sl.r_11 arg2 arg3 v0 v2 v4 v8 v12 v16 v20 v24 v28 X_arg2 X_arg3 k acc), (trip_k1_t1.sl.r_12 arg2 arg3 v0 v2 v4 v8 v12 v16 v20 v24 v28 X_arg2 X_arg3 k acc))).2 := by
  dsimp only [trip_k1_t1.sl.r_19, trip_k1_t1.sl.r_14, trip_k1_t1.sl.r_13, trip_k1_t1.sl.r_16, trip_k1_t1.sl.r_17, k1_pay66, k1_pay64, k1_pay1, k1_pay2, k1_pay59, k1_pay56, k1_pay51, k1_pay47, k1_pay48, k1_pay49, k1_pay52, k1_pay50, k1_pay53, k1_pay54, k1_pay3, k1_pay4, k1_pay5, k1_pay6, k1_pay61, k1_pay58, k1_pay7, k1_pay62, k1_pay57, k1_pay55, k1_pay8, carryF, rowsF, addCarry, dblF, pick, spread, zero8, powsF, loadF]
  rfl

theorem carry4_re : (trip_k1_t1.sl.r_27 arg2 arg3 v0 v2 v4 v8 v12 v16 v20 v24 v28 X_arg2 X_arg3 k acc) = (carryF (powsF v0 v2 v4 v8 v12 v16 v20 v24 v28) (loadF arg2 arg3 X_arg2 X_arg3 k 3) ((trip_k1_t1.sl.r_18 arg2 arg3 v0 v2 v4 v8 v12 v16 v20 v24 v28 X_arg2 X_arg3 k acc), (trip_k1_t1.sl.r_19 arg2 arg3 v0 v2 v4 v8 v12 v16 v20 v24 v28 X_arg2 X_arg3 k acc))).1 := by
  dsimp only [trip_k1_t1.sl.r_27, trip_k1_t1.sl.r_24, trip_k1_t1.sl.r_20, trip_k1_t1.sl.r_21, trip_k1_t1.sl.r_22, trip_k1_t1.sl.r_23, trip_k1_t1.sl.r_26, k1_pay85, k1_pay83, k1_pay2, k1_pay80, k1_pay75, k1_pay70, k1_pay69, k1_pay72, k1_pay73, k1_pay71, k1_pay74, k1_pay77, k1_pay78, k1_pay76, k1_pay79, k1_pay3, k1_pay4, k1_pay5, k1_pay6, k1_pay7, k1_pay8, k1_pay67, k1_pay68, k1_pay82, k1_pay1, carryF, rowsF, addCarry, dblF, pick, spread, zero8, powsF, loadF]
  rfl

theorem carry4_im : (trip_k1_t1.sl.r_28 arg2 arg3 v0 v2 v4 v8 v12 v16 v20 v24 v28 X_arg2 X_arg3 k acc) = (carryF (powsF v0 v2 v4 v8 v12 v16 v20 v24 v28) (loadF arg2 arg3 X_arg2 X_arg3 k 3) ((trip_k1_t1.sl.r_18 arg2 arg3 v0 v2 v4 v8 v12 v16 v20 v24 v28 X_arg2 X_arg3 k acc), (trip_k1_t1.sl.r_19 arg2 arg3 v0 v2 v4 v8 v12 v16 v20 v24 v28 X_arg2 X_arg3 k acc))).2 := by
  dsimp only [trip_k1_t1.sl.r_28, trip_k1_t1.sl.r_25, trip_k1_t1.sl.r_20, trip_k1_t1.sl.r_21, trip_k1_t1.sl.r_22, trip_k1_t1.sl.r_23, k1_pay86, k1_pay84, k1_pay1, k1_pay2, k1_pay81, k1_pay76, k1_pay71, k1_pay69, k1_pay72, k1_pay70, k1_pay73, k1_pay74, k1_pay77, k1_pay75, k1_pay78, k1_pay79, k1_pay3, k1_pay4, k1_pay5, k1_pay6, k1_pay7, k1_pay8, k1_pay67, k1_pay68, carryF, rowsF, addCarry, dblF, pick, spread, zero8, powsF, loadF]
  rfl

theorem carry5_re : (trip_k1_t1.sl.r_37 arg2 arg3 v0 v2 v4 v8 v12 v16 v20 v24 v28 X_arg2 X_arg3 k acc) = (carryF (powsF v0 v2 v4 v8 v12 v16 v20 v24 v28) (loadF arg2 arg3 X_arg2 X_arg3 k 4) ((trip_k1_t1.sl.r_27 arg2 arg3 v0 v2 v4 v8 v12 v16 v20 v24 v28 X_arg2 X_arg3 k acc), (trip_k1_t1.sl.r_28 arg2 arg3 v0 v2 v4 v8 v12 v16 v20 v24 v28 X_arg2 X_arg3 k acc))).1 := by
  dsimp only [trip_k1_t1.sl.r_37, trip_k1_t1.sl.r_35, trip_k1_t1.sl.r_29, trip_k1_t1.sl.r_30, trip_k1_t1.sl.r_31, trip_k1_t1.sl.r_32, trip_k1_t1.sl.r_33, k1_pay105, k1_pay102, k1_pay100, k1_pay96, k1_pay91, k1_pay93, k1_pay94, k1_pay92, k1_pay95, k1_pay98, k1_pay99, k1_pay97, k1_pay1, k1_pay2, k1_pay3, k1_pay4, k1_pay5, k1_pay6, k1_pay7, k1_pay8, k1_pay89, k1_pay87, k1_pay88, k1_pay90, carryF, rowsF, addCarry, dblF, pick, spread, zero8, powsF, loadF]
  rfl

theorem carry5_im : (trip_k1_t1.sl.r_38 arg2 arg3 v0 v2 v4 v8 v12 v16 v20 v24 v28 X_arg2 X_arg3 k acc) = (carryF (powsF v0 v2 v4 v8 v12 v16 v20 v24 v28) (loadF arg2 arg3 X_arg2 X_arg3 k 4) ((trip_k1_t1.sl.r_27 arg2 arg3 v0 v2 v4 v8 v12 v16 v20 v24 v28 X_arg2 X_arg3 k acc), (trip_k1_t1.sl.r_28 arg2 arg3 v0 v2 v4 v8 v12 v16 v20 v24 v28 X_arg2 X_arg3 k acc))).2 := by
  dsimp only [trip_k1_t1.sl.r_38, trip_k1_t1.sl.r_34, trip_k1_t1.sl.r_29, trip_k1_t1.sl.r_30, trip_k1_t1.sl.r_31, trip_k1_t1.sl.r_32, trip_k1_t1.sl.r_33, trip_k1_t1.sl.r_36, k1_pay106, k1_pay104, k1_pay101, k1_pay100, k1_pay97, k1_pay92, k1_pay93, k1_pay91, k1_pay94, k1_pay95, k1_pay98, k1_pay96, k1_pay99, k1_pay3, k1_pay4, k1_pay5, k1_pay6, k1_pay7, k1_pay8, k1_pay89, k1_pay87, k1_pay88, k1_pay90, k1_pay103, k1_pay1, k1_pay2, carryF, rowsF, addCarry, dblF, pick, spread, zero8, powsF, loadF]
  rfl

theorem carry6_re : (trip_k1_t1.sl.r_45 arg2 arg3 v0 v2 v4 v8 v12 v16 v20 v24 v28 X_arg2 X_arg3 k acc) = (carryF (powsF v0 v2 v4 v8 v12 v16 v20 v24 v28) (loadF arg2 arg3 X_arg2 X_arg3 k 5) ((trip_k1_t1.sl.r_37 arg2 arg3 v0 v2 v4 v8 v12 v16 v20 v24 v28 X_arg2 X_arg3 k acc), (trip_k1_t1.sl.r_38 arg2 arg3 v0 v2 v4 v8 v12 v16 v20 v24 v28 X_arg2 X_arg3 k acc))).1 := by
  dsimp only [trip_k1_t1.sl.r_45, trip_k1_t1.sl.r_43, trip_k1_t1.sl.r_39, trip_k1_t1.sl.r_40, trip_k1_t1.sl.r_41, trip_k1_t1.sl.r_42, k1_pay124, k1_pay122, k1_pay117, k1_pay114, k1_pay115, k1_pay113, k1_pay116, k1_pay119, k1_pay120, k1_pay118, k1_pay121, k1_pay1, k1_pay2, k1_pay5, k1_pay6, k1_pay7, k1_pay8, k1_pay109, k1_pay110, k1_pay107, k1_pay108, k1_pay3, k1_pay4, k1_pay111, k1_pay112, carryF, rowsF, addCarry, dblF, pick, spread, zero8, powsF, loadF]
  rfl

theorem carry6_im : (trip_k1_t1.sl.r_46 arg2 arg3 v0 v2 v4 v8 v12 v16 v20 v24 v28 X_arg2 X_arg3 k acc) = (carryF (powsF v0 v2 v4 v8 v12 v16 v20 v24 v28) (loadF arg2 arg3 X_arg2 X_arg3 k 5) ((trip_k1_t1.sl.r_37 arg2 arg3 v0 v2 v4 v8 v12 v16 v20 v24 v28 X_arg2 X_arg3 k acc), (trip_k1_t1.sl.r_38 arg2 arg3 v0 v2 v4 v8 v12 v16 v20 v24 v28 X_arg2 X_arg3 k acc))).2 := by
  dsimp only [trip_k1_t1.sl.r_46, trip_k1_t1.sl.r_44, trip_k1_t1.sl.r_39, trip_k1_t1.sl.r_40, trip_k1_t1.sl.r_41, trip_k1_t1.sl.r_42, k1_pay125, k1_pay123, k1_pay118, k1_pay113, k1_pay114, k1_pay115, k1_pay116, k1_pay119, k1_pay117, k1_pay120, k1_pay121, k1_pay1, k1_pay2, k1_pay5, k1_pay6, k1_pay7, k1_pay8, k1_pay109, k1_pay110, k1_pay107, k1_pay108, k1_pay3, k1_pay4, k1_pay111, k1_pay112, carryF, rowsF, addCarry, dblF, pick, spread, zero8, powsF, loadF]
  rfl

theorem carry7_re : (trip_k1_t1.sl.r_51 arg2 arg3 v0 v2 v4 v8 v12 v16 v20 v24 v28 X_arg2 X_arg3 k acc) = (carryF (powsF v0 v2 v4 v8 v12 v16 v20 v24 v28) (loadF arg2 arg3 X_arg2 X_arg3 k 6) ((trip_k1_t1.sl.r_45 arg2 arg3 v0 v2 v4 v8 v12 v16 v20 v24 v28 X_arg2 X_arg3 k acc), (trip_k1_t1.sl.r_46 arg2 arg3 v0 v2 v4 v8 v12 v16 v20 v24 v28 X_arg2 X_arg3 k acc))).1 := by
  dsimp only [trip_k1_t1.sl.r_51, trip_k1_t1.sl.r_49, trip_k1_t1.sl.r_47, trip_k1_t1.sl.r_48, k1_pay142, k1_pay141, k1_pay139, k1_pay134, k1_pay131, k1_pay132, k1_pay133, k1_pay136, k1_pay137, k1_pay135, k1_pay138, k1_pay1, k1_pay2, k1_pay5, k1_pay6, k1_pay7, k1_pay8, k1_pay129, k1_pay126, k1_pay127, k1_pay128, k1_pay3, k1_pay4, k1_pay130, carryF, rowsF, addCarry, dblF, pick, spread, zero8, powsF, loadF]
  rfl

theorem carry7_im : (trip_k1_t1.sl.r_52 arg2 arg3 v0 v2 v4 v8 v12 v16 v20 v24 v28 X_arg2 X_arg3 k acc) = (carryF (powsF v0 v2 v4 v8 v12 v16 v20 v24 v28) (loadF arg2 arg3 X_arg2 X_arg3 k 6) ((trip_k1_t1.sl.r_45 arg2 arg3 v0 v2 v4 v8 v12 v16 v20 v24 v28 X_arg2 X_arg3 k acc), (trip_k1_t1.sl.r_46 arg2 arg3 v0 v2 v4 v8 v12 v16 v20 v24 v28 X_arg2 X_arg3 k acc))).2 := by
  dsimp only [trip_k1_t1.sl.r_52, trip_k1_t1.sl.r_50, trip_k1_t1.sl.r_47, trip_k1_t1.sl.r_48, k1_pay143, k1_pay140, k1_pay135, k1_pay131, k1_pay132, k1_pay133, k1_pay136, k1_pay134, k1_pay137, k1_pay138, k1_pay1, k1_pay2, k1_pay5, k1_pay6, k1_pay7, k1_pay8, k1_pay129, k1_pay126, k1_pay127, k1_pay128, k1_pay3, k1_pay4, k1_pay130, carryF, rowsF, addCarry, dblF, pick, spread, zero8, powsF, loadF]
  rfl

theorem carries1 : carriesF (powsF v0 v2 v4 v8 v12 v16 v20 v24 v28) (loadN arg2 arg3 X_arg2 X_arg3 k) acc 1 = ((trip_k1_t1.sl.r_4 arg2 arg3 v0 v2 v4 v8 v12 v16 v20 v24 v28 X_arg2 X_arg3 k acc), (trip_k1_t1.sl.r_5 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 0)) rfl)
    (Prod.ext (carry1_re arg2 arg3 v0 v2 v4 v8 v12 v16 v20 v24 v28 X_arg2 X_arg3 k acc).symm (carry1_im arg2 arg3 v0 v2 v4 v8 v12 v16 v20 v24 v28 X_arg2 X_arg3 k acc).symm)

theorem carries2 : carriesF (powsF v0 v2 v4 v8 v12 v16 v20 v24 v28) (loadN arg2 arg3 X_arg2 X_arg3 k) acc 2 = ((trip_k1_t1.sl.r_11 arg2 arg3 v0 v2 v4 v8 v12 v16 v20 v24 v28 X_arg2 X_arg3 k acc), (trip_k1_t1.sl.r_12 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 1)) (carries1 arg2 arg3 v0 v2 v4 v8 v12 v16 v20 v24 v28 X_arg2 X_arg3 k acc))
    (Prod.ext (carry2_re arg2 arg3 v0 v2 v4 v8 v12 v16 v20 v24 v28 X_arg2 X_arg3 k acc).symm (carry2_im arg2 arg3 v0 v2 v4 v8 v12 v16 v20 v24 v28 X_arg2 X_arg3 k acc).symm)

theorem carries3 : carriesF (powsF v0 v2 v4 v8 v12 v16 v20 v24 v28) (loadN arg2 arg3 X_arg2 X_arg3 k) acc 3 = ((trip_k1_t1.sl.r_18 arg2 arg3 v0 v2 v4 v8 v12 v16 v20 v24 v28 X_arg2 X_arg3 k acc), (trip_k1_t1.sl.r_19 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 2)) (carries2 arg2 arg3 v0 v2 v4 v8 v12 v16 v20 v24 v28 X_arg2 X_arg3 k acc))
    (Prod.ext (carry3_re arg2 arg3 v0 v2 v4 v8 v12 v16 v20 v24 v28 X_arg2 X_arg3 k acc).symm (carry3_im arg2 arg3 v0 v2 v4 v8 v12 v16 v20 v24 v28 X_arg2 X_arg3 k acc).symm)

theorem carries4 : carriesF (powsF v0 v2 v4 v8 v12 v16 v20 v24 v28) (loadN arg2 arg3 X_arg2 X_arg3 k) acc 4 = ((trip_k1_t1.sl.r_27 arg2 arg3 v0 v2 v4 v8 v12 v16 v20 v24 v28 X_arg2 X_arg3 k acc), (trip_k1_t1.sl.r_28 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 3)) (carries3 arg2 arg3 v0 v2 v4 v8 v12 v16 v20 v24 v28 X_arg2 X_arg3 k acc))
    (Prod.ext (carry4_re arg2 arg3 v0 v2 v4 v8 v12 v16 v20 v24 v28 X_arg2 X_arg3 k acc).symm (carry4_im arg2 arg3 v0 v2 v4 v8 v12 v16 v20 v24 v28 X_arg2 X_arg3 k acc).symm)

theorem carries5 : carriesF (powsF v0 v2 v4 v8 v12 v16 v20 v24 v28) (loadN arg2 arg3 X_arg2 X_arg3 k) acc 5 = ((trip_k1_t1.sl.r_37 arg2 arg3 v0 v2 v4 v8 v12 v16 v20 v24 v28 X_arg2 X_arg3 k acc), (trip_k1_t1.sl.r_38 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 4)) (carries4 arg2 arg3 v0 v2 v4 v8 v12 v16 v20 v24 v28 X_arg2 X_arg3 k acc))
    (Prod.ext (carry5_re arg2 arg3 v0 v2 v4 v8 v12 v16 v20 v24 v28 X_arg2 X_arg3 k acc).symm (carry5_im arg2 arg3 v0 v2 v4 v8 v12 v16 v20 v24 v28 X_arg2 X_arg3 k acc).symm)

theorem carries6 : carriesF (powsF v0 v2 v4 v8 v12 v16 v20 v24 v28) (loadN arg2 arg3 X_arg2 X_arg3 k) acc 6 = ((trip_k1_t1.sl.r_45 arg2 arg3 v0 v2 v4 v8 v12 v16 v20 v24 v28 X_arg2 X_arg3 k acc), (trip_k1_t1.sl.r_46 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 5)) (carries5 arg2 arg3 v0 v2 v4 v8 v12 v16 v20 v24 v28 X_arg2 X_arg3 k acc))
    (Prod.ext (carry6_re arg2 arg3 v0 v2 v4 v8 v12 v16 v20 v24 v28 X_arg2 X_arg3 k acc).symm (carry6_im arg2 arg3 v0 v2 v4 v8 v12 v16 v20 v24 v28 X_arg2 X_arg3 k acc).symm)

theorem carries7 : carriesF (powsF v0 v2 v4 v8 v12 v16 v20 v24 v28) (loadN arg2 arg3 X_arg2 X_arg3 k) acc 7 = ((trip_k1_t1.sl.r_51 arg2 arg3 v0 v2 v4 v8 v12 v16 v20 v24 v28 X_arg2 X_arg3 k acc), (trip_k1_t1.sl.r_52 arg2 arg3 v0 v2 v4 v8 v12 v16 v20 v24 v28 X_arg2 X_arg3 k acc)) :=
  Eq.trans (congrArg (carryF (powsF v0 v2 v4 v8 v12 v16 v20 v24 v28) (loadF arg2 arg3 X_arg2 X_arg3 k 6)) (carries6 arg2 arg3 v0 v2 v4 v8 v12 v16 v20 v24 v28 X_arg2 X_arg3 k acc))
    (Prod.ext (carry7_re arg2 arg3 v0 v2 v4 v8 v12 v16 v20 v24 v28 X_arg2 X_arg3 k acc).symm (carry7_im arg2 arg3 v0 v2 v4 v8 v12 v16 v20 v24 v28 X_arg2 X_arg3 k acc).symm)

/-- A step's store: the eight rows' states, of the rows `j` of the trip and the state carried to it. -/
def stored (j : Fin 8) (acc : V8 F × V8 F) (f : V8 F × V8 F → V8 F) : View.Piece (Elt F) S2048x256 .f32 :=
  ⟨Rect.unit (s := S2048x256) (k1_off1 k (BitVec.ofNat 32 j.val)) S8x256.size (k1_off1_inb k j), f (rowsF (powsF v0 v2 v4 v8 v12 v16 v20 v24 v28) (loadF arg2 arg3 X_arg2 X_arg3 k j) acc)⟩

/-- The trip's stores, the last first. -/
def storedAll (f : V8 F × V8 F → V8 F) : List (View.Piece (Elt F) S2048x256 .f32) :=
  [7, 6, 5, 4, 3, 2, 1, 0].map fun j => stored arg2 arg3 v0 v2 v4 v8 v12 v16 v20 v24 v28 X_arg2 X_arg3 k j (carriesF (powsF v0 v2 v4 v8 v12 v16 v20 v24 v28) (loadN arg2 arg3 X_arg2 X_arg3 k) acc j.val) f

theorem storedAll_eq (f : V8 F × V8 F → V8 F) : storedAll arg2 arg3 v0 v2 v4 v8 v12 v16 v20 v24 v28 X_arg2 X_arg3 k acc f = [stored arg2 arg3 v0 v2 v4 v8 v12 v16 v20 v24 v28 X_arg2 X_arg3 k 7 ((trip_k1_t1.sl.r_51 arg2 arg3 v0 v2 v4 v8 v12 v16 v20 v24 v28 X_arg2 X_arg3 k acc), (trip_k1_t1.sl.r_52 arg2 arg3 v0 v2 v4 v8 v12 v16 v20 v24 v28 X_arg2 X_arg3 k acc)) f, stored arg2 arg3 v0 v2 v4 v8 v12 v16 v20 v24 v28 X_arg2 X_arg3 k 6 ((trip_k1_t1.sl.r_45 arg2 arg3 v0 v2 v4 v8 v12 v16 v20 v24 v28 X_arg2 X_arg3 k acc), (trip_k1_t1.sl.r_46 arg2 arg3 v0 v2 v4 v8 v12 v16 v20 v24 v28 X_arg2 X_arg3 k acc)) f, stored arg2 arg3 v0 v2 v4 v8 v12 v16 v20 v24 v28 X_arg2 X_arg3 k 5 ((trip_k1_t1.sl.r_37 arg2 arg3 v0 v2 v4 v8 v12 v16 v20 v24 v28 X_arg2 X_arg3 k acc), (trip_k1_t1.sl.r_38 arg2 arg3 v0 v2 v4 v8 v12 v16 v20 v24 v28 X_arg2 X_arg3 k acc)) f, stored arg2 arg3 v0 v2 v4 v8 v12 v16 v20 v24 v28 X_arg2 X_arg3 k 4 ((trip_k1_t1.sl.r_27 arg2 arg3 v0 v2 v4 v8 v12 v16 v20 v24 v28 X_arg2 X_arg3 k acc), (trip_k1_t1.sl.r_28 arg2 arg3 v0 v2 v4 v8 v12 v16 v20 v24 v28 X_arg2 X_arg3 k acc)) f, stored arg2 arg3 v0 v2 v4 v8 v12 v16 v20 v24 v28 X_arg2 X_arg3 k 3 ((trip_k1_t1.sl.r_18 arg2 arg3 v0 v2 v4 v8 v12 v16 v20 v24 v28 X_arg2 X_arg3 k acc), (trip_k1_t1.sl.r_19 arg2 arg3 v0 v2 v4 v8 v12 v16 v20 v24 v28 X_arg2 X_arg3 k acc)) f, stored arg2 arg3 v0 v2 v4 v8 v12 v16 v20 v24 v28 X_arg2 X_arg3 k 2 ((trip_k1_t1.sl.r_11 arg2 arg3 v0 v2 v4 v8 v12 v16 v20 v24 v28 X_arg2 X_arg3 k acc), (trip_k1_t1.sl.r_12 arg2 arg3 v0 v2 v4 v8 v12 v16 v20 v24 v28 X_arg2 X_arg3 k acc)) f, stored arg2 arg3 v0 v2 v4 v8 v12 v16 v20 v24 v28 X_arg2 X_arg3 k 1 ((trip_k1_t1.sl.r_4 arg2 arg3 v0 v2 v4 v8 v12 v16 v20 v24 v28 X_arg2 X_arg3 k acc), (trip_k1_t1.sl.r_5 arg2 arg3 v0 v2 v4 v8 v12 v16 v20 v24 v28 X_arg2 X_arg3 k acc)) f, stored arg2 arg3 v0 v2 v4 v8 v12 v16 v20 v24 v28 X_arg2 X_arg3 k 0 acc f] := by
  rw [← carries1 arg2 arg3 v0 v2 v4 v8 v12 v16 v20 v24 v28 X_arg2 X_arg3 k acc, ← carries2 arg2 arg3 v0 v2 v4 v8 v12 v16 v20 v24 v28 X_arg2 X_arg3 k acc, ← carries3 arg2 arg3 v0 v2 v4 v8 v12 v16 v20 v24 v28 X_arg2 X_arg3 k acc, ← carries4 arg2 arg3 v0 v2 v4 v8 v12 v16 v20 v24 v28 X_arg2 X_arg3 k acc, ← carries5 arg2 arg3 v0 v2 v4 v8 v12 v16 v20 v24 v28 X_arg2 X_arg3 k acc, ← carries6 arg2 arg3 v0 v2 v4 v8 v12 v16 v20 v24 v28 X_arg2 X_arg3 k acc, ← carries7 arg2 arg3 v0 v2 v4 v8 v12 v16 v20 v24 v28 X_arg2 X_arg3 k acc]
  rfl

theorem carry8_re (h28 : v28 = iota .tc S8x256 32 [0] iota_S8x256_d0_w32) : k1_pay10 (trip_k1_t1.sl.r_58 arg2 arg3 v0 v2 v4 v8 v12 v16 v20 v24 v28 X_arg2 X_arg3 k acc) = (carryF (powsF v0 v2 v4 v8 v12 v16 v20 v24 v28) (loadF arg2 arg3 X_arg2 X_arg3 k 7) ((trip_k1_t1.sl.r_51 arg2 arg3 v0 v2 v4 v8 v12 v16 v20 v24 v28 X_arg2 X_arg3 k acc), (trip_k1_t1.sl.r_52 arg2 arg3 v0 v2 v4 v8 v12 v16 v20 v24 v28 X_arg2 X_arg3 k acc))).1 := by
  subst h28
  dsimp only [trip_k1_t1.sl.r_58, trip_k1_t1.sl.r_53, trip_k1_t1.sl.r_54, trip_k1_t1.sl.r_55, trip_k1_t1.sl.r_56, k1_pay159, k1_pay157, k1_pay152, k1_pay154, k1_pay155, k1_pay153, k1_pay156, k1_pay1, k1_pay2, k1_pay5, k1_pay6, k1_pay7, k1_pay8, k1_pay151, k1_pay147, k1_pay144, k1_pay145, k1_pay146, k1_pay3, k1_pay4, k1_pay148, k1_pay149, k1_pay150, k1_pay10, carryF, rowsF, addCarry, dblF, pick, spread, zero8, powsF, loadF]
  rfl

theorem carry8_im (h28 : v28 = iota .tc S8x256 32 [0] iota_S8x256_d0_w32) : k1_pay11 (trip_k1_t1.sl.r_57 arg2 arg3 v0 v2 v4 v8 v12 v16 v20 v24 v28 X_arg2 X_arg3 k acc) = (carryF (powsF v0 v2 v4 v8 v12 v16 v20 v24 v28) (loadF arg2 arg3 X_arg2 X_arg3 k 7) ((trip_k1_t1.sl.r_51 arg2 arg3 v0 v2 v4 v8 v12 v16 v20 v24 v28 X_arg2 X_arg3 k acc), (trip_k1_t1.sl.r_52 arg2 arg3 v0 v2 v4 v8 v12 v16 v20 v24 v28 X_arg2 X_arg3 k acc))).2 := by
  subst h28
  dsimp only [trip_k1_t1.sl.r_57, trip_k1_t1.sl.r_53, trip_k1_t1.sl.r_54, trip_k1_t1.sl.r_55, trip_k1_t1.sl.r_56, k1_pay158, k1_pay153, k1_pay154, k1_pay152, k1_pay155, k1_pay156, k1_pay1, k1_pay2, k1_pay5, k1_pay6, k1_pay7, k1_pay8, k1_pay151, k1_pay147, k1_pay144, k1_pay145, k1_pay146, k1_pay3, k1_pay4, k1_pay148, k1_pay149, k1_pay150, k1_pay11, carryF, rowsF, addCarry, dblF, pick, spread, zero8, powsF, loadF]
  rfl

/-- What the trip hands the next. -/
theorem tripR_eq (h28 : v28 = iota .tc S8x256 32 [0] iota_S8x256_d0_w32) : tripR_k1_t1 𝒱 c bd i arg2 harg2 arg3 harg3 arg4 harg4 arg5 harg5 arg6 harg6 arg7 harg7 v0 v2 v4 v8 v12 v16 v20 v24 v28 X_arg2 X_arg3 k acc = carriesF (powsF v0 v2 v4 v8 v12 v16 v20 v24 v28) (loadN arg2 arg3 X_arg2 X_arg3 k) acc 8 := by
  refine Eq.trans (b := carryF (powsF v0 v2 v4 v8 v12 v16 v20 v24 v28) (loadF arg2 arg3 X_arg2 X_arg3 k 7) ((trip_k1_t1.sl.r_51 arg2 arg3 v0 v2 v4 v8 v12 v16 v20 v24 v28 X_arg2 X_arg3 k acc), (trip_k1_t1.sl.r_52 arg2 arg3 v0 v2 v4 v8 v12 v16 v20 v24 v28 X_arg2 X_arg3 k acc))) ?_ (congrArg (carryF (powsF v0 v2 v4 v8 v12 v16 v20 v24 v28) (loadF arg2 arg3 X_arg2 X_arg3 k 7)) (carries7 arg2 arg3 v0 v2 v4 v8 v12 v16 v20 v24 v28 X_arg2 X_arg3 k acc).symm)
  unfold tripR_k1_t1 trip_k1_t1
  dsimp only
  exact Prod.ext (carry8_re arg2 arg3 v0 v2 v4 v8 v12 v16 v20 v24 v28 X_arg2 X_arg3 k acc h28) (carry8_im arg2 arg3 v0 v2 v4 v8 v12 v16 v20 v24 v28 X_arg2 X_arg3 k acc h28)

theorem cons_piece {r : Rect S2048x256} {a b : r.shape.Idx → Elt F .f32} {l l' : List (View.Piece (Elt F) S2048x256 .f32)} (h : a = b) (h' : l = l') :
    ((⟨r, a⟩ : View.Piece (Elt F) S2048x256 .f32) :: l) = ⟨r, b⟩ :: l' := by rw [h, h']

theorem tripL_eq_fst : (tripL_k1_t1 𝒱 c bd i arg2 harg2 arg3 harg3 arg4 harg4 arg5 harg5 arg6 harg6 arg7 harg7 v0 v2 v4 v8 v12 v16 v20 v24 v28 X_arg2 X_arg3 k acc).1 = storedAll arg2 arg3 v0 v2 v4 v8 v12 v16 v20 v24 v28 X_arg2 X_arg3 k acc Prod.fst := by
  rw [storedAll_eq]
  unfold tripL_k1_t1 trip_k1_t1
  dsimp only
  refine cons_piece ?_ (cons_piece ?_ (cons_piece ?_ (cons_piece ?_ (cons_piece ?_ (cons_piece ?_ (cons_piece ?_ (cons_piece ?_ (rfl))))))))
  all_goals
    dsimp only [trip_k1_t1.sl.r, trip_k1_t1.sl.r_1, trip_k1_t1.sl.r_2, trip_k1_t1.sl.r_3, trip_k1_t1.sl.r_6, trip_k1_t1.sl.r_7, trip_k1_t1.sl.r_8, trip_k1_t1.sl.r_9, trip_k1_t1.sl.r_10, trip_k1_t1.sl.r_13, trip_k1_t1.sl.r_14, trip_k1_t1.sl.r_15, trip_k1_t1.sl.r_16, trip_k1_t1.sl.r_17, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_39, trip_k1_t1.sl.r_40, trip_k1_t1.sl.r_41, trip_k1_t1.sl.r_42, trip_k1_t1.sl.r_43, trip_k1_t1.sl.r_44, trip_k1_t1.sl.r_47, trip_k1_t1.sl.r_48, trip_k1_t1.sl.r_49, trip_k1_t1.sl.r_50, trip_k1_t1.sl.r_53, trip_k1_t1.sl.r_54, trip_k1_t1.sl.r_55, trip_k1_t1.sl.r_56, trip_k1_t1.sl.r_57, trip_k1_t1.sl.r_58, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay17, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, rowsF, addCarry, dblF, spread, zero8, powsF, loadF]
    rfl

theorem tripL_eq_snd : (tripL_k1_t1 𝒱 c bd i arg2 harg2 arg3 harg3 arg4 harg4 arg5 harg5 arg6 harg6 arg7 harg7 v0 v2 v4 v8 v12 v16 v20 v24 v28 X_arg2 X_arg3 k acc).2 = storedAll arg2 arg3 v0 v2 v4 v8 v12 v16 v20 v24 v28 X_arg2 X_arg3 k acc Prod.snd := by
  rw [storedAll_eq]
  unfold tripL_k1_t1 trip_k1_t1
  dsimp only
  refine cons_piece ?_ (cons_piece ?_ (cons_piece ?_ (cons_piece ?_ (cons_piece ?_ (cons_piece ?_ (cons_piece ?_ (cons_piece ?_ (rfl))))))))
  all_goals
    dsimp only [trip_k1_t1.sl.r, trip_k1_t1.sl.r_1, trip_k1_t1.sl.r_2, trip_k1_t1.sl.r_3, trip_k1_t1.sl.r_6, trip_k1_t1.sl.r_7, trip_k1_t1.sl.r_8, trip_k1_t1.sl.r_9, trip_k1_t1.sl.r_10, trip_k1_t1.sl.r_13, trip_k1_t1.sl.r_14, trip_k1_t1.sl.r_15, trip_k1_t1.sl.r_16, trip_k1_t1.sl.r_17, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_39, trip_k1_t1.sl.r_40, trip_k1_t1.sl.r_41, trip_k1_t1.sl.r_42, trip_k1_t1.sl.r_43, trip_k1_t1.sl.r_44, trip_k1_t1.sl.r_47, trip_k1_t1.sl.r_48, trip_k1_t1.sl.r_49, trip_k1_t1.sl.r_50, trip_k1_t1.sl.r_53, trip_k1_t1.sl.r_54, trip_k1_t1.sl.r_55, trip_k1_t1.sl.r_56, trip_k1_t1.sl.r_57, trip_k1_t1.sl.r_58, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay17, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, rowsF, addCarry, dblF, spread, zero8, powsF, loadF]
    rfl

end

end Cert.KernelIdeal.Scan

end
-- ==== Proof.KStepB.lean ====
module

public import proofs.«01_k».proof.Proof.KStepF

/-! One trip of the backward scan's loop: eight times the step of eight rows, from the last rows to the first. -/

@[expose] public section

set_option maxRecDepth 16384

noncomputable section

namespace Cert.KernelIdeal.Scan

open Cert.KernelIdeal Cert.KernelIdeal.Gen Idealize.ShloMosaic Idealize.ShloMosaic.TcCoe

variable {F : FTy → Type} [FloatOps F]

/-- One doubling of the backward scan: each row below row `t` takes `a` times the row `8 - t` below it (a rotation by `t`). -/
def dblB (t : BitVec 32) (row : IVec S8x256 32) (ar ai : V8 F) (x : V8 F × V8 F) : V8 F × V8 F :=
  let sr : V8 F := dynamicRotate 0 t none x.1 rotates_S8x256_d0
  let si : V8 F := dynamicRotate 0 t none x.2 rotates_S8x256_d0
  let keep : IVec S8x256 1 := cmpi .slt row (broadcast S8x256 t)
  (addf x.1 (select keep (subf (mulf ar sr) (mulf ai si)) zero8), addf x.2 (select keep (addf (mulf ar si) (mulf ai sr)) zero8))

/-- The states one row earlier: row 0's from the rows before, if there are any. -/
def shiftB (row : IVec S8x256 32) (n : BitVec 1) (before here : V8 F) : V8 F :=
  select (cmpi .eq row (broadcast S8x256 0#32))
    (Scalar.select n (dynamicRotate 0 1#32 none (shapeCast S8x256 before shapeCasts_S8x256_S8x256) rotates_S8x256_d0 : V8 F) zero8)
    (dynamicRotate 0 1#32 none (shapeCast S8x256 here shapeCasts_S8x256_S8x256) rotates_S8x256_d0)

/-- What a backward step reads of the arrays: whether there are rows before, the incoming gradients, the states of the eight rows before, their own. -/
structure RowsB (F : FTy → Type) [FloatOps F] where
  n : BitVec 1
  d : V8 F × V8 F
  before : V8 F × V8 F
  here : V8 F × V8 F

/-- The step of eight rows: the eight gradients of the states. -/
def rowsB (p : Pows F) (x : RowsB F) (c : V8 F × V8 F) : V8 F × V8 F :=
  addCarry p.pr p.pi (dblB 4#32 p.row p.a4r p.a4i (dblB 6#32 p.row p.a2r p.a2i (dblB 7#32 p.row p.a1r p.a1i x.d))) c

/-- What a backward step hands the next: its first row in every row, and the two sums so far. -/
def carryB (p : Pows F) (x : RowsB F) (c : V8 F × V8 F × V8 F × V8 F) : V8 F × V8 F × V8 F × V8 F :=
  let g := rowsB p x (c.1, c.2.1)
  let sr := shiftB p.row x.n x.before.1 x.here.1
  let si := shiftB p.row x.n x.before.2 x.here.2
  (pick 0#32 p.row g.1, pick 0#32 p.row g.2, addf c.2.2.1 (addf (mulf g.1 sr) (mulf g.2 si)), addf c.2.2.2 (subf (mulf g.2 sr) (mulf g.1 si)))

/-- What is carried to the `j`-th step of a trip whose rows are `x`. -/
def carriesB (p : Pows F) (x : ℕ → RowsB F) (c : V8 F × V8 F × V8 F × V8 F) : ℕ → V8 F × V8 F × V8 F × V8 F
  | 0 => c
  | j + 1 => carryB p (x j) (carriesB p x c j)

theorem four_ext {A : Type} {a b : A × A × A × A} (h1 : a.1 = b.1) (h2 : a.2.1 = b.2.1) (h3 : a.2.2.1 = b.2.2.1) (h4 : a.2.2.2 = b.2.2.2) : a = b :=
  Prod.ext h1 (Prod.ext h2 (Prod.ext h3 h4))

section
variable (𝒱 : Variants) (c : Dev nD) (bd : Option 𝒱.V) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S1x8x256 .f32) (harg12 : arg12.IsWhole) (arg13 : Memref sig .tc .vmem S1x8x256 .f32) (harg13 : arg13.IsWhole) (v1 : FVec F S8x256 .f32) (v5 : FVec F S8x256 .f32) (v9 : FVec F S8x256 .f32) (v15 : FVec F S8x256 .f32) (v19 : FVec F S8x256 .f32) (v25 : FVec F S8x256 .f32) (v29 : FVec F S8x256 .f32) (v35 : FVec F S8x256 .f32) (v36 : IVec S8x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k2_t1_loop.trips) (acc : FVec F S8x256 .f32 × FVec F S8x256 .f32 × FVec F S8x256 .f32 × FVec F S8x256 .f32)

/-- The step's constants of the loop. -/
def powsB : Pows F := { row := v36, a1r := v9, a1i := v15, a2r := v19, a2i := v25, a4r := v29, a4i := v35, pr := v1, pi := v5 }

/-- Whether there are rows before those of the trip's `j`-th step. -/
def hasPrev (k : Fin k2_t1_loop.trips) (j : Fin 8) : BitVec 1 :=
  Scalar.cmpi .sgt (Scalar.subi 255#32 (Scalar.addi (Scalar.muli (Scf.iv 0#32 1#32 k) 8#32) (BitVec.ofNat 32 j.val))) 0#32

omit [FloatOps F] in
theorem hasPrev_eq : ∀ (k : Fin k2_t1_loop.trips) (j : Fin 8), hasPrev k j = if k.val = 31 ∧ j.val = 7 then 0#1 else 1#1 := by
  decide +kernel

/-- What the trip's `j`-th step reads. -/
def loadB (j : Fin 8) : RowsB F :=
  let at1 (a : Memref sig .tc .vmem S2048x256 .f32) (X : BufTy.Contents (Elt F) a.view.ty) : V8 F :=
    View.readAt (Elt F) a.view (Rect.unit (s := S2048x256) (k2_off1 k (BitVec.ofNat 32 j.val)) S8x256.size (k2_off1_inb k j)).toLoadRect X
  let at2 (a : Memref sig .tc .vmem S2048x256 .f32) (X : BufTy.Contents (Elt F) a.view.ty) : V8 F :=
    View.readAt (Elt F) a.view (Rect.unit (s := S2048x256) (k2_off2 k (BitVec.ofNat 32 j.val)) S8x256.size (k2_off2_inb k j)).toLoadRect X
  { n := hasPrev k j
    d := (at1 arg2 X_arg2, at1 arg3 X_arg3), before := (at2 arg4 X_arg4, at2 arg5 X_arg5), here := (at1 arg4 X_arg4, at1 arg5 X_arg5) }

/-- The same by the step's number. -/
def loadBN (j : ℕ) : RowsB F := loadB arg2 arg3 arg4 arg5 X_arg2 X_arg3 X_arg4 X_arg5 k (Fin.ofNat 8 j)

theorem carryB1_re : (trip_k2_t1.sl.r_9 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 0) acc).1 := by
  dsimp only [trip_k2_t1.sl.r_9, trip_k2_t1.sl.r_3, trip_k2_t1.sl.r, trip_k2_t1.sl.r_1, trip_k2_t1.sl.r_2, k2_pay27, k2_pay18, k2_pay16, k2_pay17, k2_pay13, k2_pay10, k2_pay8, k2_pay5, k2_pay6, k2_pay7, k2_pay11, k2_pay9, k2_pay12, k2_pay14, k2_pay15, carryB, shiftB, rowsB, addCarry, dblB, pick, zero8, powsB, loadB]
  rfl

theorem carryB1_im : (trip_k2_t1.sl.r_10 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 0) acc).2.1 := by
  dsimp only [trip_k2_t1.sl.r_10, trip_k2_t1.sl.r_4, trip_k2_t1.sl.r_1, trip_k2_t1.sl.r_2, k2_pay28, k2_pay19, k2_pay16, k2_pay17, k2_pay14, k2_pay10, k2_pay8, k2_pay5, k2_pay6, k2_pay7, k2_pay11, k2_pay9, k2_pay12, k2_pay15, k2_pay13, carryB, shiftB, rowsB, addCarry, dblB, pick, zero8, powsB, loadB]
  rfl

theorem carryB1_sumRe : (trip_k2_t1.sl.r_7 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 0) acc).2.2.1 := by
  dsimp only [trip_k2_t1.sl.r_7, trip_k2_t1.sl.r_3, trip_k2_t1.sl.r, trip_k2_t1.sl.r_1, trip_k2_t1.sl.r_2, trip_k2_t1.sl.r_4, trip_k2_t1.sl.r_5, trip_k2_t1.sl.v48, trip_k2_t1.sl.v47, trip_k2_t1.sl.v46, trip_k2_t1.sl.arg14, trip_k2_t1.sl.r_6, k2_pay25, k2_pay23, k2_pay24, k2_pay20, k2_pay18, k2_pay16, k2_pay17, k2_pay13, k2_pay10, k2_pay8, k2_pay5, k2_pay6, k2_pay7, k2_pay11, k2_pay9, k2_pay12, k2_pay14, k2_pay15, k2_pay19, k2_pay21, k2_pay22, carryB, shiftB, rowsB, addCarry, dblB, pick, zero8, powsB, loadB]
  have e : hasPrev k 0 = 1#1 := (hasPrev_eq k 0).trans (if_neg (by simp))
  have e' : Scalar.cmpi .sgt (Scalar.subi 255#32 (Scalar.addi (Scalar.muli (Scf.iv 0#32 1#32 k) 8#32) 0#32)) 0#32 = 1#1 := e
  try simp only [e']
  simp only [e]
  rfl

theorem carryB1_sumIm : (trip_k2_t1.sl.r_8 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 0) acc).2.2.2 := by
  dsimp only [trip_k2_t1.sl.r_8, trip_k2_t1.sl.r_3, trip_k2_t1.sl.r, trip_k2_t1.sl.r_1, trip_k2_t1.sl.r_2, trip_k2_t1.sl.r_4, trip_k2_t1.sl.r_5, trip_k2_t1.sl.v48, trip_k2_t1.sl.v47, trip_k2_t1.sl.v46, trip_k2_t1.sl.arg14, trip_k2_t1.sl.r_6, k2_pay26, k2_pay23, k2_pay24, k2_pay20, k2_pay18, k2_pay16, k2_pay17, k2_pay13, k2_pay10, k2_pay8, k2_pay5, k2_pay6, k2_pay7, k2_pay11, k2_pay9, k2_pay12, k2_pay14, k2_pay15, k2_pay19, k2_pay21, k2_pay22, carryB, shiftB, rowsB, addCarry, dblB, pick, zero8, powsB, loadB]
  have e : hasPrev k 0 = 1#1 := (hasPrev_eq k 0).trans (if_neg (by simp))
  have e' : Scalar.cmpi .sgt (Scalar.subi 255#32 (Scalar.addi (Scalar.muli (Scf.iv 0#32 1#32 k) 8#32) 0#32)) 0#32 = 1#1 := e
  try simp only [e']
  simp only [e]
  rfl

theorem carryB2_re : (trip_k2_t1.sl.r_22 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 1) ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc))).1 := by
  dsimp only [trip_k2_t1.sl.r_22, trip_k2_t1.sl.r_16, trip_k2_t1.sl.r_11, trip_k2_t1.sl.r_15, trip_k2_t1.sl.cst_83, k2_pay50, k2_pay43, k2_pay41, k2_pay37, k2_pay32, k2_pay29, k2_pay30, k2_pay31, k2_pay34, k2_pay35, k2_pay33, k2_pay36, k2_pay42, k2_pay39, k2_pay40, k2_pay38, carryB, shiftB, rowsB, addCarry, dblB, pick, zero8, powsB, loadB]
  rfl

theorem carryB2_im : (trip_k2_t1.sl.r_23 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 1) ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc))).2.1 := by
  dsimp only [trip_k2_t1.sl.r_23, trip_k2_t1.sl.r_17, trip_k2_t1.sl.r_12, trip_k2_t1.sl.r_13, trip_k2_t1.sl.r_14, k2_pay51, k2_pay44, k2_pay41, k2_pay38, k2_pay33, k2_pay29, k2_pay30, k2_pay31, k2_pay34, k2_pay32, k2_pay35, k2_pay36, k2_pay39, k2_pay37, k2_pay40, carryB, shiftB, rowsB, addCarry, dblB, pick, zero8, powsB, loadB]
  rfl

theorem carryB2_sumRe : (trip_k2_t1.sl.r_20 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 1) ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc))).2.2.1 := by
  dsimp only [trip_k2_t1.sl.r_20, trip_k2_t1.sl.r_16, trip_k2_t1.sl.r_11, trip_k2_t1.sl.r_15, trip_k2_t1.sl.cst_83, trip_k2_t1.sl.r_17, trip_k2_t1.sl.r_12, trip_k2_t1.sl.r_13, trip_k2_t1.sl.r_14, trip_k2_t1.sl.r_18, trip_k2_t1.sl.v172, trip_k2_t1.sl.v171, trip_k2_t1.sl.v46, trip_k2_t1.sl.arg14, trip_k2_t1.sl.r_19, k2_pay48, k2_pay47, k2_pay46, k2_pay43, k2_pay41, k2_pay37, k2_pay32, k2_pay29, k2_pay30, k2_pay31, k2_pay34, k2_pay35, k2_pay33, k2_pay36, k2_pay42, k2_pay39, k2_pay40, k2_pay38, k2_pay44, k2_pay45, carryB, shiftB, rowsB, addCarry, dblB, pick, zero8, powsB, loadB]
  have e : hasPrev k 1 = 1#1 := (hasPrev_eq k 1).trans (if_neg (by simp))
  have e' : Scalar.cmpi .sgt (Scalar.subi 255#32 (Scalar.addi (Scalar.muli (Scf.iv 0#32 1#32 k) 8#32) 1#32)) 0#32 = 1#1 := e
  try simp only [e']
  simp only [e]
  rfl

theorem carryB2_sumIm : (trip_k2_t1.sl.r_21 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 1) ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc))).2.2.2 := by
  dsimp only [trip_k2_t1.sl.r_21, trip_k2_t1.sl.r_16, trip_k2_t1.sl.r_11, trip_k2_t1.sl.r_15, trip_k2_t1.sl.cst_83, trip_k2_t1.sl.r_17, trip_k2_t1.sl.r_12, trip_k2_t1.sl.r_13, trip_k2_t1.sl.r_14, trip_k2_t1.sl.r_18, trip_k2_t1.sl.v172, trip_k2_t1.sl.v171, trip_k2_t1.sl.v46, trip_k2_t1.sl.arg14, trip_k2_t1.sl.r_19, k2_pay49, k2_pay47, k2_pay46, k2_pay43, k2_pay41, k2_pay37, k2_pay32, k2_pay29, k2_pay30, k2_pay31, k2_pay34, k2_pay35, k2_pay33, k2_pay36, k2_pay42, k2_pay39, k2_pay40, k2_pay38, k2_pay44, k2_pay45, carryB, shiftB, rowsB, addCarry, dblB, pick, zero8, powsB, loadB]
  have e : hasPrev k 1 = 1#1 := (hasPrev_eq k 1).trans (if_neg (by simp))
  have e' : Scalar.cmpi .sgt (Scalar.subi 255#32 (Scalar.addi (Scalar.muli (Scf.iv 0#32 1#32 k) 8#32) 1#32)) 0#32 = 1#1 := e
  try simp only [e']
  simp only [e]
  rfl

theorem carryB3_re : (trip_k2_t1.sl.r_37 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 2) ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc))).1 := by
  dsimp only [trip_k2_t1.sl.r_37, trip_k2_t1.sl.r_30, trip_k2_t1.sl.r_28, trip_k2_t1.sl.r_24, trip_k2_t1.sl.r_25, trip_k2_t1.sl.r_26, k2_pay75, k2_pay67, k2_pay65, k2_pay60, k2_pay55, k2_pay53, k2_pay54, k2_pay57, k2_pay58, k2_pay56, k2_pay59, k2_pay62, k2_pay63, k2_pay61, k2_pay64, k2_pay52, carryB, shiftB, rowsB, addCarry, dblB, pick, zero8, powsB, loadB]
  rfl

theorem carryB3_im : (trip_k2_t1.sl.r_38 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 2) ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc))).2.1 := by
  dsimp only [trip_k2_t1.sl.r_38, trip_k2_t1.sl.r_31, trip_k2_t1.sl.r_27, trip_k2_t1.sl.r_24, trip_k2_t1.sl.r_25, trip_k2_t1.sl.r_26, trip_k2_t1.sl.r_29, k2_pay76, k2_pay68, k2_pay61, k2_pay56, k2_pay53, k2_pay54, k2_pay57, k2_pay55, k2_pay58, k2_pay59, k2_pay52, k2_pay66, k2_pay62, k2_pay60, k2_pay63, k2_pay64, carryB, shiftB, rowsB, addCarry, dblB, pick, zero8, powsB, loadB]
  rfl

theorem carryB3_sumRe : (trip_k2_t1.sl.r_35 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 2) ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc))).2.2.1 := by
  dsimp only [trip_k2_t1.sl.r_35, trip_k2_t1.sl.r_30, trip_k2_t1.sl.r_28, trip_k2_t1.sl.r_24, trip_k2_t1.sl.r_25, trip_k2_t1.sl.r_26, trip_k2_t1.sl.r_31, trip_k2_t1.sl.r_27, trip_k2_t1.sl.r_29, trip_k2_t1.sl.r_32, trip_k2_t1.sl.v296, trip_k2_t1.sl.v295, trip_k2_t1.sl.v46, trip_k2_t1.sl.arg14, trip_k2_t1.sl.r_33, trip_k2_t1.sl.r_34, k2_pay73, k2_pay72, k2_pay70, k2_pay67, k2_pay65, k2_pay60, k2_pay55, k2_pay53, k2_pay54, k2_pay57, k2_pay58, k2_pay56, k2_pay59, k2_pay62, k2_pay63, k2_pay61, k2_pay64, k2_pay52, k2_pay68, k2_pay66, k2_pay69, k2_pay71, carryB, shiftB, rowsB, addCarry, dblB, pick, zero8, powsB, loadB]
  have e : hasPrev k 2 = 1#1 := (hasPrev_eq k 2).trans (if_neg (by simp))
  have e' : Scalar.cmpi .sgt (Scalar.subi 255#32 (Scalar.addi (Scalar.muli (Scf.iv 0#32 1#32 k) 8#32) 2#32)) 0#32 = 1#1 := e
  try simp only [e']
  simp only [e]
  rfl

theorem carryB3_sumIm : (trip_k2_t1.sl.r_36 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 2) ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc))).2.2.2 := by
  dsimp only [trip_k2_t1.sl.r_36, trip_k2_t1.sl.r_30, trip_k2_t1.sl.r_28, trip_k2_t1.sl.r_24, trip_k2_t1.sl.r_25, trip_k2_t1.sl.r_26, trip_k2_t1.sl.r_31, trip_k2_t1.sl.r_27, trip_k2_t1.sl.r_29, trip_k2_t1.sl.r_32, trip_k2_t1.sl.v296, trip_k2_t1.sl.v295, trip_k2_t1.sl.v46, trip_k2_t1.sl.arg14, trip_k2_t1.sl.r_33, trip_k2_t1.sl.r_34, k2_pay74, k2_pay72, k2_pay70, k2_pay67, k2_pay65, k2_pay60, k2_pay55, k2_pay53, k2_pay54, k2_pay57, k2_pay58, k2_pay56, k2_pay59, k2_pay62, k2_pay63, k2_pay61, k2_pay64, k2_pay52, k2_pay68, k2_pay66, k2_pay69, k2_pay71, carryB, shiftB, rowsB, addCarry, dblB, pick, zero8, powsB, loadB]
  have e : hasPrev k 2 = 1#1 := (hasPrev_eq k 2).trans (if_neg (by simp))
  have e' : Scalar.cmpi .sgt (Scalar.subi 255#32 (Scalar.addi (Scalar.muli (Scf.iv 0#32 1#32 k) 8#32) 2#32)) 0#32 = 1#1 := e
  try simp only [e']
  simp only [e]
  rfl

theorem carryB4_re : (trip_k2_t1.sl.r_50 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 3) ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc))).1 := by
  dsimp only [trip_k2_t1.sl.r_50, trip_k2_t1.sl.r_44, trip_k2_t1.sl.r_39, trip_k2_t1.sl.r_40, trip_k2_t1.sl.r_41, trip_k2_t1.sl.r_42, trip_k2_t1.sl.r_43, trip_k2_t1.sl.cst_83, k2_pay98, k2_pay91, k2_pay86, k2_pay81, k2_pay83, k2_pay84, k2_pay82, k2_pay85, k2_pay88, k2_pay89, k2_pay87, k2_pay90, k2_pay79, k2_pay77, k2_pay78, k2_pay80, carryB, shiftB, rowsB, addCarry, dblB, pick, zero8, powsB, loadB]
  rfl

theorem carryB4_im : (trip_k2_t1.sl.r_51 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 3) ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc))).2.1 := by
  dsimp only [trip_k2_t1.sl.r_51, trip_k2_t1.sl.r_45, trip_k2_t1.sl.r_39, trip_k2_t1.sl.r_40, trip_k2_t1.sl.r_41, trip_k2_t1.sl.r_42, trip_k2_t1.sl.r_43, trip_k2_t1.sl.cst_83, k2_pay99, k2_pay92, k2_pay87, k2_pay82, k2_pay83, k2_pay81, k2_pay84, k2_pay85, k2_pay88, k2_pay86, k2_pay89, k2_pay90, k2_pay79, k2_pay77, k2_pay78, k2_pay80, carryB, shiftB, rowsB, addCarry, dblB, pick, zero8, powsB, loadB]
  rfl

theorem carryB4_sumRe : (trip_k2_t1.sl.r_47 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 3) ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc))).2.2.1 := by
  dsimp only [trip_k2_t1.sl.r_47, trip_k2_t1.sl.v420, trip_k2_t1.sl.v419, trip_k2_t1.sl.v46, trip_k2_t1.sl.arg14, trip_k2_t1.sl.r_44, trip_k2_t1.sl.r_39, trip_k2_t1.sl.r_40, trip_k2_t1.sl.r_41, trip_k2_t1.sl.r_42, trip_k2_t1.sl.r_43, trip_k2_t1.sl.cst_83, trip_k2_t1.sl.r_45, k2_pay95, k2_pay93, k2_pay94, k2_pay91, k2_pay86, k2_pay81, k2_pay83, k2_pay84, k2_pay82, k2_pay85, k2_pay88, k2_pay89, k2_pay87, k2_pay90, k2_pay79, k2_pay77, k2_pay78, k2_pay80, k2_pay92, carryB, shiftB, rowsB, addCarry, dblB, pick, zero8, powsB, loadB]
  have e : hasPrev k 3 = 1#1 := (hasPrev_eq k 3).trans (if_neg (by simp))
  have e' : Scalar.cmpi .sgt (Scalar.subi 255#32 (Scalar.addi (Scalar.muli (Scf.iv 0#32 1#32 k) 8#32) 3#32)) 0#32 = 1#1 := e
  try simp only [e']
  simp only [e]
  rfl

theorem carryB4_sumIm : (trip_k2_t1.sl.r_49 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 3) ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc))).2.2.2 := by
  dsimp only [trip_k2_t1.sl.r_49, trip_k2_t1.sl.r_44, trip_k2_t1.sl.r_39, trip_k2_t1.sl.r_40, trip_k2_t1.sl.r_41, trip_k2_t1.sl.r_42, trip_k2_t1.sl.r_43, trip_k2_t1.sl.cst_83, trip_k2_t1.sl.r_46, trip_k2_t1.sl.v420, trip_k2_t1.sl.v419, trip_k2_t1.sl.v46, trip_k2_t1.sl.arg14, trip_k2_t1.sl.r_48, trip_k2_t1.sl.r_45, k2_pay97, k2_pay91, k2_pay86, k2_pay81, k2_pay83, k2_pay84, k2_pay82, k2_pay85, k2_pay88, k2_pay89, k2_pay87, k2_pay90, k2_pay79, k2_pay77, k2_pay78, k2_pay80, k2_pay94, k2_pay96, k2_pay93, k2_pay92, carryB, shiftB, rowsB, addCarry, dblB, pick, zero8, powsB, loadB]
  have e : hasPrev k 3 = 1#1 := (hasPrev_eq k 3).trans (if_neg (by simp))
  have e' : Scalar.cmpi .sgt (Scalar.subi 255#32 (Scalar.addi (Scalar.muli (Scf.iv 0#32 1#32 k) 8#32) 3#32)) 0#32 = 1#1 := e
  try simp only [e']
  simp only [e]
  rfl

theorem carryB5_re : (trip_k2_t1.sl.r_60 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 4) ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc))).1 := by
  dsimp only [trip_k2_t1.sl.r_60, trip_k2_t1.sl.r_59, trip_k2_t1.sl.r_55, trip_k2_t1.sl.r_52, trip_k2_t1.sl.r_53, trip_k2_t1.sl.r_54, k2_pay121, k2_pay120, k2_pay114, k2_pay109, k2_pay106, k2_pay107, k2_pay105, k2_pay108, k2_pay111, k2_pay112, k2_pay110, k2_pay113, k2_pay103, k2_pay100, k2_pay101, k2_pay102, k2_pay104, carryB, shiftB, rowsB, addCarry, dblB, pick, zero8, powsB, loadB]
  rfl

theorem carryB5_im : (trip_k2_t1.sl.r_61 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 4) ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc))).2.1 := by
  dsimp only [trip_k2_t1.sl.r_61, trip_k2_t1.sl.r_56, trip_k2_t1.sl.r_52, trip_k2_t1.sl.r_53, trip_k2_t1.sl.r_54, k2_pay122, k2_pay115, k2_pay110, k2_pay105, k2_pay106, k2_pay107, k2_pay108, k2_pay111, k2_pay109, k2_pay112, k2_pay113, k2_pay103, k2_pay100, k2_pay101, k2_pay102, k2_pay104, carryB, shiftB, rowsB, addCarry, dblB, pick, zero8, powsB, loadB]
  rfl

theorem carryB5_sumRe : (trip_k2_t1.sl.r_57 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 4) ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc))).2.2.1 := by
  dsimp only [trip_k2_t1.sl.r_57, trip_k2_t1.sl.v544, trip_k2_t1.sl.v543, trip_k2_t1.sl.v46, trip_k2_t1.sl.arg14, trip_k2_t1.sl.r_55, trip_k2_t1.sl.r_52, trip_k2_t1.sl.r_53, trip_k2_t1.sl.r_54, trip_k2_t1.sl.r_56, k2_pay118, k2_pay116, k2_pay117, k2_pay114, k2_pay109, k2_pay106, k2_pay107, k2_pay105, k2_pay108, k2_pay111, k2_pay112, k2_pay110, k2_pay113, k2_pay103, k2_pay100, k2_pay101, k2_pay102, k2_pay104, k2_pay115, carryB, shiftB, rowsB, addCarry, dblB, pick, zero8, powsB, loadB]
  have e : hasPrev k 4 = 1#1 := (hasPrev_eq k 4).trans (if_neg (by simp))
  have e' : Scalar.cmpi .sgt (Scalar.subi 255#32 (Scalar.addi (Scalar.muli (Scf.iv 0#32 1#32 k) 8#32) 4#32)) 0#32 = 1#1 := e
  try simp only [e']
  simp only [e]
  rfl

theorem carryB5_sumIm : (trip_k2_t1.sl.r_58 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 4) ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc))).2.2.2 := by
  dsimp only [trip_k2_t1.sl.r_58, trip_k2_t1.sl.v544, trip_k2_t1.sl.v543, trip_k2_t1.sl.v46, trip_k2_t1.sl.arg14, trip_k2_t1.sl.r_55, trip_k2_t1.sl.r_52, trip_k2_t1.sl.r_53, trip_k2_t1.sl.r_54, trip_k2_t1.sl.r_56, k2_pay119, k2_pay116, k2_pay117, k2_pay114, k2_pay109, k2_pay106, k2_pay107, k2_pay105, k2_pay108, k2_pay111, k2_pay112, k2_pay110, k2_pay113, k2_pay103, k2_pay100, k2_pay101, k2_pay102, k2_pay104, k2_pay115, carryB, shiftB, rowsB, addCarry, dblB, pick, zero8, powsB, loadB]
  have e : hasPrev k 4 = 1#1 := (hasPrev_eq k 4).trans (if_neg (by simp))
  have e' : Scalar.cmpi .sgt (Scalar.subi 255#32 (Scalar.addi (Scalar.muli (Scf.iv 0#32 1#32 k) 8#32) 4#32)) 0#32 = 1#1 := e
  try simp only [e']
  simp only [e]
  rfl

theorem carryB6_re : (trip_k2_t1.sl.r_71 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 5) ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc))).1 := by
  dsimp only [trip_k2_t1.sl.r_71, trip_k2_t1.sl.r_67, trip_k2_t1.sl.r_62, trip_k2_t1.sl.r_63, trip_k2_t1.sl.r_64, trip_k2_t1.sl.r_65, trip_k2_t1.sl.r_66, k2_pay143, k2_pay137, k2_pay132, k2_pay134, k2_pay135, k2_pay133, k2_pay136, k2_pay130, k2_pay126, k2_pay123, k2_pay124, k2_pay125, k2_pay127, k2_pay128, k2_pay129, k2_pay131, carryB, shiftB, rowsB, addCarry, dblB, pick, zero8, powsB, loadB]
  rfl

theorem carryB6_im : (trip_k2_t1.sl.r_72 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 5) ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc))).2.1 := by
  dsimp only [trip_k2_t1.sl.r_72, trip_k2_t1.sl.r_68, trip_k2_t1.sl.r_62, trip_k2_t1.sl.r_63, trip_k2_t1.sl.r_64, trip_k2_t1.sl.r_65, trip_k2_t1.sl.r_66, trip_k2_t1.sl.cst_83, k2_pay145, k2_pay144, k2_pay138, k2_pay133, k2_pay134, k2_pay132, k2_pay135, k2_pay136, k2_pay130, k2_pay126, k2_pay123, k2_pay124, k2_pay125, k2_pay127, k2_pay128, k2_pay129, k2_pay131, carryB, shiftB, rowsB, addCarry, dblB, pick, zero8, powsB, loadB]
  rfl

theorem carryB6_sumRe : (trip_k2_t1.sl.r_69 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 5) ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc))).2.2.1 := by
  dsimp only [trip_k2_t1.sl.r_69, trip_k2_t1.sl.r_67, trip_k2_t1.sl.r_62, trip_k2_t1.sl.r_63, trip_k2_t1.sl.r_64, trip_k2_t1.sl.r_65, trip_k2_t1.sl.r_66, trip_k2_t1.sl.r_68, k2_pay141, k2_pay139, k2_pay140, k2_pay137, k2_pay132, k2_pay134, k2_pay135, k2_pay133, k2_pay136, k2_pay130, k2_pay126, k2_pay123, k2_pay124, k2_pay125, k2_pay127, k2_pay128, k2_pay129, k2_pay131, k2_pay138, carryB, shiftB, rowsB, addCarry, dblB, pick, zero8, powsB, loadB]
  have e : hasPrev k 5 = 1#1 := (hasPrev_eq k 5).trans (if_neg (by simp))
  have e' : Scalar.cmpi .sgt (Scalar.subi 255#32 (Scalar.addi (Scalar.muli (Scf.iv 0#32 1#32 k) 8#32) 5#32)) 0#32 = 1#1 := e
  try simp only [e']
  simp only [e]
  rfl

theorem carryB6_sumIm : (trip_k2_t1.sl.r_70 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 5) ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc))).2.2.2 := by
  dsimp only [trip_k2_t1.sl.r_70, trip_k2_t1.sl.r_67, trip_k2_t1.sl.r_62, trip_k2_t1.sl.r_63, trip_k2_t1.sl.r_64, trip_k2_t1.sl.r_65, trip_k2_t1.sl.r_66, trip_k2_t1.sl.r_68, k2_pay142, k2_pay139, k2_pay140, k2_pay137, k2_pay132, k2_pay134, k2_pay135, k2_pay133, k2_pay136, k2_pay130, k2_pay126, k2_pay123, k2_pay124, k2_pay125, k2_pay127, k2_pay128, k2_pay129, k2_pay131, k2_pay138, carryB, shiftB, rowsB, addCarry, dblB, pick, zero8, powsB, loadB]
  have e : hasPrev k 5 = 1#1 := (hasPrev_eq k 5).trans (if_neg (by simp))
  have e' : Scalar.cmpi .sgt (Scalar.subi 255#32 (Scalar.addi (Scalar.muli (Scf.iv 0#32 1#32 k) 8#32) 5#32)) 0#32 = 1#1 := e
  try simp only [e']
  simp only [e]
  rfl

theorem carryB7_re : (trip_k2_t1.sl.r_81 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 6) ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc))).1 := by
  dsimp only [trip_k2_t1.sl.r_81, trip_k2_t1.sl.r_76, trip_k2_t1.sl.r_73, trip_k2_t1.sl.r_74, trip_k2_t1.sl.r_75, k2_pay168, k2_pay160, k2_pay157, k2_pay158, k2_pay156, k2_pay159, k2_pay153, k2_pay150, k2_pay146, k2_pay147, k2_pay148, k2_pay154, k2_pay149, k2_pay151, k2_pay152, k2_pay155, carryB, shiftB, rowsB, addCarry, dblB, pick, zero8, powsB, loadB]
  rfl

theorem carryB7_im : (trip_k2_t1.sl.r_82 arg2 arg3 v1 v5 v9 v15 v19 v25 v29 v35 v36 X_arg2 X_arg3 k acc) = (carryB (powsB v1 v5 v9 v15 v19 v25 v29 v35 v36) (loadB arg2 arg3 arg4 arg5 X_arg2 X_arg3 X_arg4 X_arg5 k 6) ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc))).2.1 := by
  dsimp only [trip_k2_t1.sl.r_82, trip_k2_t1.sl.r_77, trip_k2_t1.sl.r_73, trip_k2_t1.sl.r_74, trip_k2_t1.sl.r_75, k2_pay169, k2_pay161, k2_pay156, k2_pay157, k2_pay158, k2_pay159, k2_pay153, k2_pay150, k2_pay146, k2_pay147, k2_pay148, k2_pay154, k2_pay149, k2_pay151, k2_pay152, k2_pay155, carryB, shiftB, rowsB, addCarry, dblB, pick, zero8, powsB, loadB]
  rfl

theorem carryB7_sumRe : (trip_k2_t1.sl.r_79 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 6) ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc))).2.2.1 := by
  dsimp only [trip_k2_t1.sl.r_79, trip_k2_t1.sl.r_76, trip_k2_t1.sl.r_73, trip_k2_t1.sl.r_74, trip_k2_t1.sl.r_75, trip_k2_t1.sl.r_77, trip_k2_t1.sl.r_78, trip_k2_t1.sl.cst_83, k2_pay166, k2_pay164, k2_pay165, k2_pay162, k2_pay160, k2_pay157, k2_pay158, k2_pay156, k2_pay159, k2_pay153, k2_pay150, k2_pay146, k2_pay147, k2_pay148, k2_pay154, k2_pay149, k2_pay151, k2_pay152, k2_pay155, k2_pay161, k2_pay163, carryB, shiftB, rowsB, addCarry, dblB, pick, zero8, powsB, loadB]
  have e : hasPrev k 6 = 1#1 := (hasPrev_eq k 6).trans (if_neg (by simp))
  have e' : Scalar.cmpi .sgt (Scalar.subi 255#32 (Scalar.addi (Scalar.muli (Scf.iv 0#32 1#32 k) 8#32) 6#32)) 0#32 = 1#1 := e
  try simp only [e']
  simp only [e]
  rfl

theorem carryB7_sumIm : (trip_k2_t1.sl.r_80 arg2 arg3 arg4 arg5 v1 v5 v9 v15 v19 v25 v29 v35 v36 X_arg2 X_arg3 X_arg4 X_arg5 k acc) = (carryB (powsB v1 v5 v9 v15 v19 v25 v29 v35 v36) (loadB arg2 arg3 arg4 arg5 X_arg2 X_arg3 X_arg4 X_arg5 k 6) ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc))).2.2.2 := by
  dsimp only [trip_k2_t1.sl.r_80, trip_k2_t1.sl.r_76, trip_k2_t1.sl.r_73, trip_k2_t1.sl.r_74, trip_k2_t1.sl.r_75, trip_k2_t1.sl.r_77, trip_k2_t1.sl.r_78, trip_k2_t1.sl.cst_83, k2_pay167, k2_pay164, k2_pay165, k2_pay162, k2_pay160, k2_pay157, k2_pay158, k2_pay156, k2_pay159, k2_pay153, k2_pay150, k2_pay146, k2_pay147, k2_pay148, k2_pay154, k2_pay149, k2_pay151, k2_pay152, k2_pay155, k2_pay161, k2_pay163, carryB, shiftB, rowsB, addCarry, dblB, pick, zero8, powsB, loadB]
  have e : hasPrev k 6 = 1#1 := (hasPrev_eq k 6).trans (if_neg (by simp))
  have e' : Scalar.cmpi .sgt (Scalar.subi 255#32 (Scalar.addi (Scalar.muli (Scf.iv 0#32 1#32 k) 8#32) 6#32)) 0#32 = 1#1 := e
  try simp only [e']
  simp only [e]
  rfl

theorem carriesB1 : carriesB (powsB v1 v5 v9 v15 v19 v25 v29 v35 v36) (loadBN arg2 arg3 arg4 arg5 X_arg2 X_arg3 X_arg4 X_arg5 k) acc 1 = ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 0)) rfl)
    (four_ext (carryB1_re arg2 arg3 arg4 arg5 v1 v5 v9 v15 v19 v25 v29 v35 v36 X_arg2 X_arg3 X_arg4 X_arg5 k acc).symm (carryB1_im arg2 arg3 arg4 arg5 v1 v5 v9 v15 v19 v25 v29 v35 v36 X_arg2 X_arg3 X_arg4 X_arg5 k acc).symm (carryB1_sumRe arg2 arg3 arg4 arg5 v1 v5 v9 v15 v19 v25 v29 v35 v36 X_arg2 X_arg3 X_arg4 X_arg5 k acc).symm (carryB1_sumIm arg2 arg3 arg4 arg5 v1 v5 v9 v15 v19 v25 v29 v35 v36 X_arg2 X_arg3 X_arg4 X_arg5 k acc).symm)

theorem carriesB2 : carriesB (powsB v1 v5 v9 v15 v19 v25 v29 v35 v36) (loadBN arg2 arg3 arg4 arg5 X_arg2 X_arg3 X_arg4 X_arg5 k) acc 2 = ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 1)) (carriesB1 arg2 arg3 arg4 arg5 v1 v5 v9 v15 v19 v25 v29 v35 v36 X_arg2 X_arg3 X_arg4 X_arg5 k acc))
    (four_ext (carryB2_re arg2 arg3 arg4 arg5 v1 v5 v9 v15 v19 v25 v29 v35 v36 X_arg2 X_arg3 X_arg4 X_arg5 k acc).symm (carryB2_im arg2 arg3 arg4 arg5 v1 v5 v9 v15 v19 v25 v29 v35 v36 X_arg2 X_arg3 X_arg4 X_arg5 k acc).symm (carryB2_sumRe arg2 arg3 arg4 arg5 v1 v5 v9 v15 v19 v25 v29 v35 v36 X_arg2 X_arg3 X_arg4 X_arg5 k acc).symm (carryB2_sumIm arg2 arg3 arg4 arg5 v1 v5 v9 v15 v19 v25 v29 v35 v36 X_arg2 X_arg3 X_arg4 X_arg5 k acc).symm)

theorem carriesB3 : carriesB (powsB v1 v5 v9 v15 v19 v25 v29 v35 v36) (loadBN arg2 arg3 arg4 arg5 X_arg2 X_arg3 X_arg4 X_arg5 k) acc 3 = ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 2)) (carriesB2 arg2 arg3 arg4 arg5 v1 v5 v9 v15 v19 v25 v29 v35 v36 X_arg2 X_arg3 X_arg4 X_arg5 k acc))
    (four_ext (carryB3_re arg2 arg3 arg4 arg5 v1 v5 v9 v15 v19 v25 v29 v35 v36 X_arg2 X_arg3 X_arg4 X_arg5 k acc).symm (carryB3_im arg2 arg3 arg4 arg5 v1 v5 v9 v15 v19 v25 v29 v35 v36 X_arg2 X_arg3 X_arg4 X_arg5 k acc).symm (carryB3_sumRe arg2 arg3 arg4 arg5 v1 v5 v9 v15 v19 v25 v29 v35 v36 X_arg2 X_arg3 X_arg4 X_arg5 k acc).symm (carryB3_sumIm arg2 arg3 arg4 arg5 v1 v5 v9 v15 v19 v25 v29 v35 v36 X_arg2 X_arg3 X_arg4 X_arg5 k acc).symm)

theorem carriesB4 : carriesB (powsB v1 v5 v9 v15 v19 v25 v29 v35 v36) (loadBN arg2 arg3 arg4 arg5 X_arg2 X_arg3 X_arg4 X_arg5 k) acc 4 = ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 3)) (carriesB3 arg2 arg3 arg4 arg5 v1 v5 v9 v15 v19 v25 v29 v35 v36 X_arg2 X_arg3 X_arg4 X_arg5 k acc))
    (four_ext (carryB4_re arg2 arg3 arg4 arg5 v1 v5 v9 v15 v19 v25 v29 v35 v36 X_arg2 X_arg3 X_arg4 X_arg5 k acc).symm (carryB4_im arg2 arg3 arg4 arg5 v1 v5 v9 v15 v19 v25 v29 v35 v36 X_arg2 X_arg3 X_arg4 X_arg5 k acc).symm (carryB4_sumRe arg2 arg3 arg4 arg5 v1 v5 v9 v15 v19 v25 v29 v35 v36 X_arg2 X_arg3 X_arg4 X_arg5 k acc).symm (carryB4_sumIm arg2 arg3 arg4 arg5 v1 v5 v9 v15 v19 v25 v29 v35 v36 X_arg2 X_arg3 X_arg4 X_arg5 k acc).symm)

theorem carriesB5 : carriesB (powsB v1 v5 v9 v15 v19 v25 v29 v35 v36) (loadBN arg2 arg3 arg4 arg5 X_arg2 X_arg3 X_arg4 X_arg5 k) acc 5 = ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 4)) (carriesB4 arg2 arg3 arg4 arg5 v1 v5 v9 v15 v19 v25 v29 v35 v36 X_arg2 X_arg3 X_arg4 X_arg5 k acc))
    (four_ext (carryB5_re arg2 arg3 arg4 arg5 v1 v5 v9 v15 v19 v25 v29 v35 v36 X_arg2 X_arg3 X_arg4 X_arg5 k acc).symm (carryB5_im arg2 arg3 arg4 arg5 v1 v5 v9 v15 v19 v25 v29 v35 v36 X_arg2 X_arg3 X_arg4 X_arg5 k acc).symm (carryB5_sumRe arg2 arg3 arg4 arg5 v1 v5 v9 v15 v19 v25 v29 v35 v36 X_arg2 X_arg3 X_arg4 X_arg5 k acc).symm (carryB5_sumIm arg2 arg3 arg4 arg5 v1 v5 v9 v15 v19 v25 v29 v35 v36 X_arg2 X_arg3 X_arg4 X_arg5 k acc).symm)

theorem carriesB6 : carriesB (powsB v1 v5 v9 v15 v19 v25 v29 v35 v36) (loadBN arg2 arg3 arg4 arg5 X_arg2 X_arg3 X_arg4 X_arg5 k) acc 6 = ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 5)) (carriesB5 arg2 arg3 arg4 arg5 v1 v5 v9 v15 v19 v25 v29 v35 v36 X_arg2 X_arg3 X_arg4 X_arg5 k acc))
    (four_ext (carryB6_re arg2 arg3 arg4 arg5 v1 v5 v9 v15 v19 v25 v29 v35 v36 X_arg2 X_arg3 X_arg4 X_arg5 k acc).symm (carryB6_im arg2 arg3 arg4 arg5 v1 v5 v9 v15 v19 v25 v29 v35 v36 X_arg2 X_arg3 X_arg4 X_arg5 k acc).symm (carryB6_sumRe arg2 arg3 arg4 arg5 v1 v5 v9 v15 v19 v25 v29 v35 v36 X_arg2 X_arg3 X_arg4 X_arg5 k acc).symm (carryB6_sumIm arg2 arg3 arg4 arg5 v1 v5 v9 v15 v19 v25 v29 v35 v36 X_arg2 X_arg3 X_arg4 X_arg5 k acc).symm)

theorem carriesB7 : carriesB (powsB v1 v5 v9 v15 v19 v25 v29 v35 v36) (loadBN arg2 arg3 arg4 arg5 X_arg2 X_arg3 X_arg4 X_arg5 k) acc 7 = ((trip_k2_t1.sl.r_81 arg2 arg3 v1 v5 v9 v15 v19 v25 v29 v35 v36 X_arg2 X_arg3 k acc), (trip_k2_t1.sl.r_82 arg2 arg3 v1 v5 v9 v15 v19 v25 v29 v35 v36 X_arg2 X_arg3 k acc), (trip_k2_t1.sl.r_79 arg2 arg3 arg4 arg5 v1 v5 v9 v15 v19 v25 v29 v35 v36 X_arg2 X_arg3 X_arg4 X_arg5 k acc), (trip_k2_t1.sl.r_80 arg2 arg3 arg4 arg5 v1 v5 v9 v15 v19 v25 v29 v35 v36 X_arg2 X_arg3 X_arg4 X_arg5 k acc)) :=
  Eq.trans (congrArg (carryB (powsB v1 v5 v9 v15 v19 v25 v29 v35 v36) (loadB arg2 arg3 arg4 arg5 X_arg2 X_arg3 X_arg4 X_arg5 k 6)) (carriesB6 arg2 arg3 arg4 arg5 v1 v5 v9 v15 v19 v25 v29 v35 v36 X_arg2 X_arg3 X_arg4 X_arg5 k acc))
    (four_ext (carryB7_re arg2 arg3 arg4 arg5 v1 v5 v9 v15 v19 v25 v29 v35 v36 X_arg2 X_arg3 X_arg4 X_arg5 k acc).symm (carryB7_im arg2 arg3 arg4 arg5 v1 v5 v9 v15 v19 v25 v29 v35 v36 X_arg2 X_arg3 X_arg4 X_arg5 k acc).symm (carryB7_sumRe arg2 arg3 arg4 arg5 v1 v5 v9 v15 v19 v25 v29 v35 v36 X_arg2 X_arg3 X_arg4 X_arg5 k acc).symm (carryB7_sumIm arg2 arg3 arg4 arg5 v1 v5 v9 v15 v19 v25 v29 v35 v36 X_arg2 X_arg3 X_arg4 X_arg5 k acc).symm)

/-- A backward step's store: the eight rows' gradients. -/
def storedB (j : Fin 8) (acc : V8 F × V8 F × V8 F × V8 F) (f : V8 F × V8 F → V8 F) : View.Piece (Elt F) S2048x256 .f32 :=
  ⟨Rect.unit (s := S2048x256) (k2_off1 k (BitVec.ofNat 32 j.val)) S8x256.size (k2_off1_inb k j), f (rowsB (powsB v1 v5 v9 v15 v19 v25 v29 v35 v36) (loadB arg2 arg3 arg4 arg5 X_arg2 X_arg3 X_arg4 X_arg5 k j) (acc.1, acc.2.1))⟩

/-- The trip's stores, the last first. -/
def storedAllB (f : V8 F × V8 F → V8 F) : List (View.Piece (Elt F) S2048x256 .f32) :=
  [7, 6, 5, 4, 3, 2, 1, 0].map fun j => storedB arg2 arg3 arg4 arg5 v1 v5 v9 v15 v19 v25 v29 v35 v36 X_arg2 X_arg3 X_arg4 X_arg5 k j (carriesB (powsB v1 v5 v9 v15 v19 v25 v29 v35 v36) (loadBN arg2 arg3 arg4 arg5 X_arg2 X_arg3 X_arg4 X_arg5 k) acc j.val) f

theorem storedAllB_eq (f : V8 F × V8 F → V8 F) : storedAllB arg2 arg3 arg4 arg5 v1 v5 v9 v15 v19 v25 v29 v35 v36 X_arg2 X_arg3 X_arg4 X_arg5 k acc f = [storedB arg2 arg3 arg4 arg5 v1 v5 v9 v15 v19 v25 v29 v35 v36 X_arg2 X_arg3 X_arg4 X_arg5 k 7 ((trip_k2_t1.sl.r_81 arg2 arg3 v1 v5 v9 v15 v19 v25 v29 v35 v36 X_arg2 X_arg3 k acc), (trip_k2_t1.sl.r_82 arg2 arg3 v1 v5 v9 v15 v19 v25 v29 v35 v36 X_arg2 X_arg3 k acc), (trip_k2_t1.sl.r_79 arg2 arg3 arg4 arg5 v1 v5 v9 v15 v19 v25 v29 v35 v36 X_arg2 X_arg3 X_arg4 X_arg5 k acc), (trip_k2_t1.sl.r_80 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 6 ((trip_k2_t1.sl.r_71 arg2 arg3 v1 v5 v9 v15 v19 v25 v29 v35 v36 X_arg2 X_arg3 k acc), (trip_k2_t1.sl.r_72 arg2 arg3 v1 v5 v9 v15 v19 v25 v29 v35 v36 X_arg2 X_arg3 k acc), (trip_k2_t1.sl.r_69 arg2 arg3 arg4 arg5 v1 v5 v9 v15 v19 v25 v29 v35 v36 X_arg2 X_arg3 X_arg4 X_arg5 k acc), (trip_k2_t1.sl.r_70 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 5 ((trip_k2_t1.sl.r_60 arg2 arg3 v1 v5 v9 v15 v19 v25 v29 v35 v36 X_arg2 X_arg3 k acc), (trip_k2_t1.sl.r_61 arg2 arg3 v1 v5 v9 v15 v19 v25 v29 v35 v36 X_arg2 X_arg3 k acc), (trip_k2_t1.sl.r_57 arg2 arg3 arg4 arg5 v1 v5 v9 v15 v19 v25 v29 v35 v36 X_arg2 X_arg3 X_arg4 X_arg5 k acc), (trip_k2_t1.sl.r_58 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 4 ((trip_k2_t1.sl.r_50 arg2 arg3 v1 v5 v9 v15 v19 v25 v29 v35 v36 X_arg2 X_arg3 k acc), (trip_k2_t1.sl.r_51 arg2 arg3 v1 v5 v9 v15 v19 v25 v29 v35 v36 X_arg2 X_arg3 k acc), (trip_k2_t1.sl.r_47 arg2 arg3 arg4 arg5 v1 v5 v9 v15 v19 v25 v29 v35 v36 X_arg2 X_arg3 X_arg4 X_arg5 k acc), (trip_k2_t1.sl.r_49 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 3 ((trip_k2_t1.sl.r_37 arg2 arg3 v1 v5 v9 v15 v19 v25 v29 v35 v36 X_arg2 X_arg3 k acc), (trip_k2_t1.sl.r_38 arg2 arg3 v1 v5 v9 v15 v19 v25 v29 v35 v36 X_arg2 X_arg3 k acc), (trip_k2_t1.sl.r_35 arg2 arg3 arg4 arg5 v1 v5 v9 v15 v19 v25 v29 v35 v36 X_arg2 X_arg3 X_arg4 X_arg5 k acc), (trip_k2_t1.sl.r_36 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 2 ((trip_k2_t1.sl.r_22 arg2 arg3 v1 v5 v9 v15 v19 v25 v29 v35 v36 X_arg2 X_arg3 k acc), (trip_k2_t1.sl.r_23 arg2 arg3 v1 v5 v9 v15 v19 v25 v29 v35 v36 X_arg2 X_arg3 k acc), (trip_k2_t1.sl.r_20 arg2 arg3 arg4 arg5 v1 v5 v9 v15 v19 v25 v29 v35 v36 X_arg2 X_arg3 X_arg4 X_arg5 k acc), (trip_k2_t1.sl.r_21 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 1 ((trip_k2_t1.sl.r_9 arg2 arg3 v1 v5 v9 v15 v19 v25 v29 v35 v36 X_arg2 X_arg3 k acc), (trip_k2_t1.sl.r_10 arg2 arg3 v1 v5 v9 v15 v19 v25 v29 v35 v36 X_arg2 X_arg3 k acc), (trip_k2_t1.sl.r_7 arg2 arg3 arg4 arg5 v1 v5 v9 v15 v19 v25 v29 v35 v36 X_arg2 X_arg3 X_arg4 X_arg5 k acc), (trip_k2_t1.sl.r_8 arg2 arg3 arg4 arg5 v1 v5 v9 v15 v19 v25 v29 v35 v36 X_arg2 X_arg3 X_arg4 X_arg5 k acc)) f, storedB arg2 arg3 arg4 arg5 v1 v5 v9 v15 v19 v25 v29 v35 v36 X_arg2 X_arg3 X_arg4 X_arg5 k 0 acc f] := by
  rw [← carriesB1 arg2 arg3 arg4 arg5 v1 v5 v9 v15 v19 v25 v29 v35 v36 X_arg2 X_arg3 X_arg4 X_arg5 k acc, ← carriesB2 arg2 arg3 arg4 arg5 v1 v5 v9 v15 v19 v25 v29 v35 v36 X_arg2 X_arg3 X_arg4 X_arg5 k acc, ← carriesB3 arg2 arg3 arg4 arg5 v1 v5 v9 v15 v19 v25 v29 v35 v36 X_arg2 X_arg3 X_arg4 X_arg5 k acc, ← carriesB4 arg2 arg3 arg4 arg5 v1 v5 v9 v15 v19 v25 v29 v35 v36 X_arg2 X_arg3 X_arg4 X_arg5 k acc, ← carriesB5 arg2 arg3 arg4 arg5 v1 v5 v9 v15 v19 v25 v29 v35 v36 X_arg2 X_arg3 X_arg4 X_arg5 k acc, ← carriesB6 arg2 arg3 arg4 arg5 v1 v5 v9 v15 v19 v25 v29 v35 v36 X_arg2 X_arg3 X_arg4 X_arg5 k acc, ← carriesB7 arg2 arg3 arg4 arg5 v1 v5 v9 v15 v19 v25 v29 v35 v36 X_arg2 X_arg3 X_arg4 X_arg5 k acc]
  rfl

/-- What the trip hands the next. -/
theorem tripRB_eq : tripR_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 X_arg2 X_arg3 X_arg4 X_arg5 k acc = carriesB (powsB v1 v5 v9 v15 v19 v25 v29 v35 v36) (loadBN arg2 arg3 arg4 arg5 X_arg2 X_arg3 X_arg4 X_arg5 k) acc 8 := by
  refine Eq.trans (b := carryB (powsB v1 v5 v9 v15 v19 v25 v29 v35 v36) (loadB arg2 arg3 arg4 arg5 X_arg2 X_arg3 X_arg4 X_arg5 k 7) ((trip_k2_t1.sl.r_81 arg2 arg3 v1 v5 v9 v15 v19 v25 v29 v35 v36 X_arg2 X_arg3 k acc), (trip_k2_t1.sl.r_82 arg2 arg3 v1 v5 v9 v15 v19 v25 v29 v35 v36 X_arg2 X_arg3 k acc), (trip_k2_t1.sl.r_79 arg2 arg3 arg4 arg5 v1 v5 v9 v15 v19 v25 v29 v35 v36 X_arg2 X_arg3 X_arg4 X_arg5 k acc), (trip_k2_t1.sl.r_80 arg2 arg3 arg4 arg5 v1 v5 v9 v15 v19 v25 v29 v35 v36 X_arg2 X_arg3 X_arg4 X_arg5 k acc))) ?_ (congrArg (carryB (powsB v1 v5 v9 v15 v19 v25 v29 v35 v36) (loadB arg2 arg3 arg4 arg5 X_arg2 X_arg3 X_arg4 X_arg5 k 7)) (carriesB7 arg2 arg3 arg4 arg5 v1 v5 v9 v15 v19 v25 v29 v35 v36 X_arg2 X_arg3 X_arg4 X_arg5 k acc).symm)
  unfold tripR_k2_t1 trip_k2_t1
  dsimp only
  have e' : Scalar.cmpi .sgt (Scalar.subi 255#32 (Scalar.addi (Scalar.muli (Scf.iv 0#32 1#32 k) 8#32) 7#32)) 0#32 = hasPrev k 7 := rfl
  refine four_ext ?_ ?_ ?_ ?_
  all_goals
    dsimp only [trip_k2_t1.sl.v545, trip_k2_t1.sl.v915, trip_k2_t1.sl.v667, trip_k2_t1.sl.v669, trip_k2_t1.sl.r, trip_k2_t1.sl.r_73, trip_k2_t1.sl.r_56, trip_k2_t1.sl.v668, trip_k2_t1.sl.r_43, trip_k2_t1.sl.v987, trip_k2_t1.sl.r_46, trip_k2_t1.sl.r_54, trip_k2_t1.sl.r_25, trip_k2_t1.sl.r_39, trip_k2_t1.sl.v543, trip_k2_t1.sl.v295, trip_k2_t1.sl.r_67, trip_k2_t1.sl.r_19, trip_k2_t1.sl.r_53, trip_k2_t1.sl.r_55, trip_k2_t1.sl.r_33, trip_k2_t1.sl.r_2, trip_k2_t1.sl.r_77, trip_k2_t1.sl.v737, trip_k2_t1.sl.r_45, trip_k2_t1.sl.r_44, trip_k2_t1.sl.v171, trip_k2_t1.sl.r_3, trip_k2_t1.sl.r_17, trip_k2_t1.sl.v115, trip_k2_t1.sl.v984, trip_k2_t1.sl.v172, trip_k2_t1.sl.r_78, trip_k2_t1.sl.v916, trip_k2_t1.sl.v735, trip_k2_t1.sl.v49, trip_k2_t1.sl.r_11, trip_k2_t1.sl.v791, trip_k2_t1.sl.r_52, trip_k2_t1.sl.r_30, trip_k2_t1.sl.v859, trip_k2_t1.sl.r_64, trip_k2_t1.sl.r_84, trip_k2_t1.sl.r_85, trip_k2_t1.sl.r_24, trip_k2_t1.sl.v419, trip_k2_t1.sl.r_41, trip_k2_t1.sl.r_74, trip_k2_t1.sl.v117, trip_k2_t1.sl.r_28, trip_k2_t1.sl.v46, trip_k2_t1.sl.r_14, trip_k2_t1.sl.r_87, trip_k2_t1.sl.r_92, trip_k2_t1.sl.r_40, trip_k2_t1.sl.r_91, trip_k2_t1.sl.r_75, trip_k2_t1.sl.v983, trip_k2_t1.sl.r_5, trip_k2_t1.sl.cst_83, trip_k2_t1.sl.v116, trip_k2_t1.sl.arg14, trip_k2_t1.sl.r_83, trip_k2_t1.sl.r_88, trip_k2_t1.sl.r_42, trip_k2_t1.sl.r_16, trip_k2_t1.sl.v793, trip_k2_t1.sl.r_26, trip_k2_t1.sl.v421, trip_k2_t1.sl.v297, trip_k2_t1.sl.v861, trip_k2_t1.sl.v917, trip_k2_t1.sl.v48, trip_k2_t1.sl.v420, trip_k2_t1.sl.r_76, trip_k2_t1.sl.r_89, trip_k2_t1.sl.r_62, trip_k2_t1.sl.r_48, trip_k2_t1.sl.r_68, trip_k2_t1.sl.r_31, trip_k2_t1.sl.r_4, trip_k2_t1.sl.r_18, trip_k2_t1.sl.r_63, trip_k2_t1.sl.v296, trip_k2_t1.sl.r_1, trip_k2_t1.sl.v736, trip_k2_t1.sl.r_27, trip_k2_t1.sl.r_34, trip_k2_t1.sl.r_90, trip_k2_t1.sl.r_59, trip_k2_t1.sl.v544, trip_k2_t1.sl.r_15, trip_k2_t1.sl.r_13, trip_k2_t1.sl.r_32, trip_k2_t1.sl.r_66, trip_k2_t1.sl.v47, trip_k2_t1.sl.r_29, trip_k2_t1.sl.r_86, trip_k2_t1.sl.r_6, trip_k2_t1.sl.v985, trip_k2_t1.sl.v792, trip_k2_t1.sl.v860, trip_k2_t1.sl.r_12, trip_k2_t1.sl.r_65, trip_k2_t1.sl.v173, k2_pay1, k2_pay10, k2_pay100, k2_pay101, k2_pay102, k2_pay103, k2_pay104, k2_pay105, k2_pay106, k2_pay107, k2_pay108, k2_pay109, k2_pay11, k2_pay110, k2_pay111, k2_pay112, k2_pay113, k2_pay114, k2_pay115, k2_pay116, k2_pay117, k2_pay118, k2_pay119, k2_pay12, k2_pay120, k2_pay121, k2_pay122, k2_pay123, k2_pay124, k2_pay125, k2_pay126, k2_pay127, k2_pay128, k2_pay129, k2_pay13, k2_pay130, k2_pay131, k2_pay132, k2_pay133, k2_pay134, k2_pay135, k2_pay136, k2_pay137, k2_pay138, k2_pay139, k2_pay14, k2_pay140, k2_pay141, k2_pay142, k2_pay143, k2_pay144, k2_pay145, k2_pay146, k2_pay147, k2_pay148, k2_pay149, k2_pay15, k2_pay150, k2_pay151, k2_pay152, k2_pay153, k2_pay154, k2_pay155, k2_pay156, k2_pay157, k2_pay158, k2_pay159, k2_pay16, k2_pay160, k2_pay161, k2_pay162, k2_pay163, k2_pay164, k2_pay165, k2_pay166, k2_pay167, k2_pay168, k2_pay169, k2_pay17, k2_pay170, k2_pay171, k2_pay172, k2_pay173, k2_pay174, k2_pay175, k2_pay176, k2_pay177, k2_pay178, k2_pay179, k2_pay18, k2_pay180, k2_pay181, k2_pay182, k2_pay183, k2_pay184, k2_pay185, k2_pay186, k2_pay187, k2_pay188, k2_pay189, k2_pay19, k2_pay190, k2_pay191, k2_pay192, k2_pay193, k2_pay194, k2_pay195, k2_pay196, k2_pay197, k2_pay2, k2_pay20, k2_pay21, k2_pay22, k2_pay23, k2_pay24, k2_pay25, k2_pay26, k2_pay27, k2_pay28, k2_pay29, k2_pay3, k2_pay30, k2_pay31, k2_pay32, k2_pay33, k2_pay34, k2_pay35, k2_pay36, k2_pay37, k2_pay38, k2_pay39, k2_pay4, k2_pay40, k2_pay41, k2_pay42, k2_pay43, k2_pay44, k2_pay45, k2_pay46, k2_pay47, k2_pay48, k2_pay49, k2_pay5, k2_pay50, k2_pay51, k2_pay52, k2_pay53, k2_pay54, k2_pay55, k2_pay56, k2_pay57, k2_pay58, k2_pay59, k2_pay6, k2_pay60, k2_pay61, k2_pay62, k2_pay63, k2_pay64, k2_pay65, k2_pay66, k2_pay67, k2_pay68, k2_pay69, k2_pay7, k2_pay70, k2_pay71, k2_pay72, k2_pay73, k2_pay74, k2_pay75, k2_pay76, k2_pay77, k2_pay78, k2_pay79, k2_pay8, k2_pay80, k2_pay81, k2_pay82, k2_pay83, k2_pay84, k2_pay85, k2_pay86, k2_pay87, k2_pay88, k2_pay89, k2_pay9, k2_pay90, k2_pay91, k2_pay92, k2_pay93, k2_pay94, k2_pay95, k2_pay96, k2_pay97, k2_pay98, k2_pay99, carryB, shiftB, rowsB, addCarry, dblB, pick, zero8, powsB, loadB]
    try simp only [e']
    rfl

theorem tripLB_eq_fst : (tripL_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 X_arg2 X_arg3 X_arg4 X_arg5 k acc).1 = storedAllB arg2 arg3 arg4 arg5 v1 v5 v9 v15 v19 v25 v29 v35 v36 X_arg2 X_arg3 X_arg4 X_arg5 k acc Prod.fst := by
  rw [storedAllB_eq]
  unfold tripL_k2_t1 trip_k2_t1
  dsimp only
  refine cons_piece ?_ (cons_piece ?_ (cons_piece ?_ (cons_piece ?_ (cons_piece ?_ (cons_piece ?_ (cons_piece ?_ (cons_piece ?_ (rfl))))))))
  all_goals
    dsimp only [trip_k2_t1.sl.v545, trip_k2_t1.sl.v915, trip_k2_t1.sl.v667, trip_k2_t1.sl.v669, trip_k2_t1.sl.r, trip_k2_t1.sl.r_73, trip_k2_t1.sl.r_56, trip_k2_t1.sl.v668, trip_k2_t1.sl.r_43, trip_k2_t1.sl.v987, trip_k2_t1.sl.r_46, trip_k2_t1.sl.r_54, trip_k2_t1.sl.r_25, trip_k2_t1.sl.r_39, trip_k2_t1.sl.v543, trip_k2_t1.sl.v295, trip_k2_t1.sl.r_67, trip_k2_t1.sl.r_19, trip_k2_t1.sl.r_53, trip_k2_t1.sl.r_55, trip_k2_t1.sl.r_33, trip_k2_t1.sl.r_2, trip_k2_t1.sl.r_77, trip_k2_t1.sl.v737, trip_k2_t1.sl.r_45, trip_k2_t1.sl.r_44, trip_k2_t1.sl.v171, trip_k2_t1.sl.r_3, trip_k2_t1.sl.r_17, trip_k2_t1.sl.v115, trip_k2_t1.sl.v984, trip_k2_t1.sl.v172, trip_k2_t1.sl.r_78, trip_k2_t1.sl.v916, trip_k2_t1.sl.v735, trip_k2_t1.sl.v49, trip_k2_t1.sl.r_11, trip_k2_t1.sl.v791, trip_k2_t1.sl.r_52, trip_k2_t1.sl.r_30, trip_k2_t1.sl.v859, trip_k2_t1.sl.r_64, trip_k2_t1.sl.r_84, trip_k2_t1.sl.r_85, trip_k2_t1.sl.r_24, trip_k2_t1.sl.v419, trip_k2_t1.sl.r_41, trip_k2_t1.sl.r_74, trip_k2_t1.sl.v117, trip_k2_t1.sl.r_28, trip_k2_t1.sl.v46, trip_k2_t1.sl.r_14, trip_k2_t1.sl.r_87, trip_k2_t1.sl.r_92, trip_k2_t1.sl.r_40, trip_k2_t1.sl.r_91, trip_k2_t1.sl.r_75, trip_k2_t1.sl.v983, trip_k2_t1.sl.r_5, trip_k2_t1.sl.cst_83, trip_k2_t1.sl.v116, trip_k2_t1.sl.arg14, trip_k2_t1.sl.r_83, trip_k2_t1.sl.r_88, trip_k2_t1.sl.r_42, trip_k2_t1.sl.r_16, trip_k2_t1.sl.v793, trip_k2_t1.sl.r_26, trip_k2_t1.sl.v421, trip_k2_t1.sl.v297, trip_k2_t1.sl.v861, trip_k2_t1.sl.v917, trip_k2_t1.sl.v48, trip_k2_t1.sl.v420, trip_k2_t1.sl.r_76, trip_k2_t1.sl.r_89, trip_k2_t1.sl.r_62, trip_k2_t1.sl.r_48, trip_k2_t1.sl.r_68, trip_k2_t1.sl.r_31, trip_k2_t1.sl.r_4, trip_k2_t1.sl.r_18, trip_k2_t1.sl.r_63, trip_k2_t1.sl.v296, trip_k2_t1.sl.r_1, trip_k2_t1.sl.v736, trip_k2_t1.sl.r_27, trip_k2_t1.sl.r_34, trip_k2_t1.sl.r_90, trip_k2_t1.sl.r_59, trip_k2_t1.sl.v544, trip_k2_t1.sl.r_15, trip_k2_t1.sl.r_13, trip_k2_t1.sl.r_32, trip_k2_t1.sl.r_66, trip_k2_t1.sl.v47, trip_k2_t1.sl.r_29, trip_k2_t1.sl.r_86, trip_k2_t1.sl.r_6, trip_k2_t1.sl.v985, trip_k2_t1.sl.v792, trip_k2_t1.sl.v860, trip_k2_t1.sl.r_12, trip_k2_t1.sl.r_65, trip_k2_t1.sl.v173, k2_pay1, k2_pay10, k2_pay100, k2_pay101, k2_pay102, k2_pay103, k2_pay104, k2_pay105, k2_pay106, k2_pay107, k2_pay108, k2_pay109, k2_pay11, k2_pay110, k2_pay111, k2_pay112, k2_pay113, k2_pay114, k2_pay115, k2_pay116, k2_pay117, k2_pay118, k2_pay119, k2_pay12, k2_pay120, k2_pay121, k2_pay122, k2_pay123, k2_pay124, k2_pay125, k2_pay126, k2_pay127, k2_pay128, k2_pay129, k2_pay13, k2_pay130, k2_pay131, k2_pay132, k2_pay133, k2_pay134, k2_pay135, k2_pay136, k2_pay137, k2_pay138, k2_pay139, k2_pay14, k2_pay140, k2_pay141, k2_pay142, k2_pay143, k2_pay144, k2_pay145, k2_pay146, k2_pay147, k2_pay148, k2_pay149, k2_pay15, k2_pay150, k2_pay151, k2_pay152, k2_pay153, k2_pay154, k2_pay155, k2_pay156, k2_pay157, k2_pay158, k2_pay159, k2_pay16, k2_pay160, k2_pay161, k2_pay162, k2_pay163, k2_pay164, k2_pay165, k2_pay166, k2_pay167, k2_pay168, k2_pay169, k2_pay17, k2_pay170, k2_pay171, k2_pay172, k2_pay173, k2_pay174, k2_pay175, k2_pay176, k2_pay177, k2_pay178, k2_pay179, k2_pay18, k2_pay180, k2_pay181, k2_pay182, k2_pay183, k2_pay184, k2_pay185, k2_pay186, k2_pay187, k2_pay188, k2_pay189, k2_pay19, k2_pay190, k2_pay191, k2_pay192, k2_pay193, k2_pay194, k2_pay195, k2_pay196, k2_pay197, k2_pay2, k2_pay20, k2_pay21, k2_pay22, k2_pay23, k2_pay24, k2_pay25, k2_pay26, k2_pay27, k2_pay28, k2_pay29, k2_pay3, k2_pay30, k2_pay31, k2_pay32, k2_pay33, k2_pay34, k2_pay35, k2_pay36, k2_pay37, k2_pay38, k2_pay39, k2_pay4, k2_pay40, k2_pay41, k2_pay42, k2_pay43, k2_pay44, k2_pay45, k2_pay46, k2_pay47, k2_pay48, k2_pay49, k2_pay5, k2_pay50, k2_pay51, k2_pay52, k2_pay53, k2_pay54, k2_pay55, k2_pay56, k2_pay57, k2_pay58, k2_pay59, k2_pay6, k2_pay60, k2_pay61, k2_pay62, k2_pay63, k2_pay64, k2_pay65, k2_pay66, k2_pay67, k2_pay68, k2_pay69, k2_pay7, k2_pay70, k2_pay71, k2_pay72, k2_pay73, k2_pay74, k2_pay75, k2_pay76, k2_pay77, k2_pay78, k2_pay79, k2_pay8, k2_pay80, k2_pay81, k2_pay82, k2_pay83, k2_pay84, k2_pay85, k2_pay86, k2_pay87, k2_pay88, k2_pay89, k2_pay9, k2_pay90, k2_pay91, k2_pay92, k2_pay93, k2_pay94, k2_pay95, k2_pay96, k2_pay97, k2_pay98, k2_pay99, carryB, shiftB, rowsB, addCarry, dblB, pick, zero8, powsB, loadB]
    rfl

theorem tripLB_eq_snd : (tripL_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 X_arg2 X_arg3 X_arg4 X_arg5 k acc).2 = storedAllB arg2 arg3 arg4 arg5 v1 v5 v9 v15 v19 v25 v29 v35 v36 X_arg2 X_arg3 X_arg4 X_arg5 k acc Prod.snd := by
  rw [storedAllB_eq]
  unfold tripL_k2_t1 trip_k2_t1
  dsimp only
  refine cons_piece ?_ (cons_piece ?_ (cons_piece ?_ (cons_piece ?_ (cons_piece ?_ (cons_piece ?_ (cons_piece ?_ (cons_piece ?_ (rfl))))))))
  all_goals
    dsimp only [trip_k2_t1.sl.v545, trip_k2_t1.sl.v915, trip_k2_t1.sl.v667, trip_k2_t1.sl.v669, trip_k2_t1.sl.r, trip_k2_t1.sl.r_73, trip_k2_t1.sl.r_56, trip_k2_t1.sl.v668, trip_k2_t1.sl.r_43, trip_k2_t1.sl.v987, trip_k2_t1.sl.r_46, trip_k2_t1.sl.r_54, trip_k2_t1.sl.r_25, trip_k2_t1.sl.r_39, trip_k2_t1.sl.v543, trip_k2_t1.sl.v295, trip_k2_t1.sl.r_67, trip_k2_t1.sl.r_19, trip_k2_t1.sl.r_53, trip_k2_t1.sl.r_55, trip_k2_t1.sl.r_33, trip_k2_t1.sl.r_2, trip_k2_t1.sl.r_77, trip_k2_t1.sl.v737, trip_k2_t1.sl.r_45, trip_k2_t1.sl.r_44, trip_k2_t1.sl.v171, trip_k2_t1.sl.r_3, trip_k2_t1.sl.r_17, trip_k2_t1.sl.v115, trip_k2_t1.sl.v984, trip_k2_t1.sl.v172, trip_k2_t1.sl.r_78, trip_k2_t1.sl.v916, trip_k2_t1.sl.v735, trip_k2_t1.sl.v49, trip_k2_t1.sl.r_11, trip_k2_t1.sl.v791, trip_k2_t1.sl.r_52, trip_k2_t1.sl.r_30, trip_k2_t1.sl.v859, trip_k2_t1.sl.r_64, trip_k2_t1.sl.r_84, trip_k2_t1.sl.r_85, trip_k2_t1.sl.r_24, trip_k2_t1.sl.v419, trip_k2_t1.sl.r_41, trip_k2_t1.sl.r_74, trip_k2_t1.sl.v117, trip_k2_t1.sl.r_28, trip_k2_t1.sl.v46, trip_k2_t1.sl.r_14, trip_k2_t1.sl.r_87, trip_k2_t1.sl.r_92, trip_k2_t1.sl.r_40, trip_k2_t1.sl.r_91, trip_k2_t1.sl.r_75, trip_k2_t1.sl.v983, trip_k2_t1.sl.r_5, trip_k2_t1.sl.cst_83, trip_k2_t1.sl.v116, trip_k2_t1.sl.arg14, trip_k2_t1.sl.r_83, trip_k2_t1.sl.r_88, trip_k2_t1.sl.r_42, trip_k2_t1.sl.r_16, trip_k2_t1.sl.v793, trip_k2_t1.sl.r_26, trip_k2_t1.sl.v421, trip_k2_t1.sl.v297, trip_k2_t1.sl.v861, trip_k2_t1.sl.v917, trip_k2_t1.sl.v48, trip_k2_t1.sl.v420, trip_k2_t1.sl.r_76, trip_k2_t1.sl.r_89, trip_k2_t1.sl.r_62, trip_k2_t1.sl.r_48, trip_k2_t1.sl.r_68, trip_k2_t1.sl.r_31, trip_k2_t1.sl.r_4, trip_k2_t1.sl.r_18, trip_k2_t1.sl.r_63, trip_k2_t1.sl.v296, trip_k2_t1.sl.r_1, trip_k2_t1.sl.v736, trip_k2_t1.sl.r_27, trip_k2_t1.sl.r_34, trip_k2_t1.sl.r_90, trip_k2_t1.sl.r_59, trip_k2_t1.sl.v544, trip_k2_t1.sl.r_15, trip_k2_t1.sl.r_13, trip_k2_t1.sl.r_32, trip_k2_t1.sl.r_66, trip_k2_t1.sl.v47, trip_k2_t1.sl.r_29, trip_k2_t1.sl.r_86, trip_k2_t1.sl.r_6, trip_k2_t1.sl.v985, trip_k2_t1.sl.v792, trip_k2_t1.sl.v860, trip_k2_t1.sl.r_12, trip_k2_t1.sl.r_65, trip_k2_t1.sl.v173, k2_pay1, k2_pay10, k2_pay100, k2_pay101, k2_pay102, k2_pay103, k2_pay104, k2_pay105, k2_pay106, k2_pay107, k2_pay108, k2_pay109, k2_pay11, k2_pay110, k2_pay111, k2_pay112, k2_pay113, k2_pay114, k2_pay115, k2_pay116, k2_pay117, k2_pay118, k2_pay119, k2_pay12, k2_pay120, k2_pay121, k2_pay122, k2_pay123, k2_pay124, k2_pay125, k2_pay126, k2_pay127, k2_pay128, k2_pay129, k2_pay13, k2_pay130, k2_pay131, k2_pay132, k2_pay133, k2_pay134, k2_pay135, k2_pay136, k2_pay137, k2_pay138, k2_pay139, k2_pay14, k2_pay140, k2_pay141, k2_pay142, k2_pay143, k2_pay144, k2_pay145, k2_pay146, k2_pay147, k2_pay148, k2_pay149, k2_pay15, k2_pay150, k2_pay151, k2_pay152, k2_pay153, k2_pay154, k2_pay155, k2_pay156, k2_pay157, k2_pay158, k2_pay159, k2_pay16, k2_pay160, k2_pay161, k2_pay162, k2_pay163, k2_pay164, k2_pay165, k2_pay166, k2_pay167, k2_pay168, k2_pay169, k2_pay17, k2_pay170, k2_pay171, k2_pay172, k2_pay173, k2_pay174, k2_pay175, k2_pay176, k2_pay177, k2_pay178, k2_pay179, k2_pay18, k2_pay180, k2_pay181, k2_pay182, k2_pay183, k2_pay184, k2_pay185, k2_pay186, k2_pay187, k2_pay188, k2_pay189, k2_pay19, k2_pay190, k2_pay191, k2_pay192, k2_pay193, k2_pay194, k2_pay195, k2_pay196, k2_pay197, k2_pay2, k2_pay20, k2_pay21, k2_pay22, k2_pay23, k2_pay24, k2_pay25, k2_pay26, k2_pay27, k2_pay28, k2_pay29, k2_pay3, k2_pay30, k2_pay31, k2_pay32, k2_pay33, k2_pay34, k2_pay35, k2_pay36, k2_pay37, k2_pay38, k2_pay39, k2_pay4, k2_pay40, k2_pay41, k2_pay42, k2_pay43, k2_pay44, k2_pay45, k2_pay46, k2_pay47, k2_pay48, k2_pay49, k2_pay5, k2_pay50, k2_pay51, k2_pay52, k2_pay53, k2_pay54, k2_pay55, k2_pay56, k2_pay57, k2_pay58, k2_pay59, k2_pay6, k2_pay60, k2_pay61, k2_pay62, k2_pay63, k2_pay64, k2_pay65, k2_pay66, k2_pay67, k2_pay68, k2_pay69, k2_pay7, k2_pay70, k2_pay71, k2_pay72, k2_pay73, k2_pay74, k2_pay75, k2_pay76, k2_pay77, k2_pay78, k2_pay79, k2_pay8, k2_pay80, k2_pay81, k2_pay82, k2_pay83, k2_pay84, k2_pay85, k2_pay86, k2_pay87, k2_pay88, k2_pay89, k2_pay9, k2_pay90, k2_pay91, k2_pay92, k2_pay93, k2_pay94, k2_pay95, k2_pay96, k2_pay97, k2_pay98, k2_pay99, carryB, shiftB, rowsB, addCarry, dblB, pick, zero8, powsB, loadB]
    rfl

end

end Cert.KernelIdeal.Scan

end
-- ==== Proof.KMath.lean ====
module

public import proofs.«01_k».proof.Proof.KStepB
public import Idealize.ShloMosaic.Lib.ValueIdxCoords
public import Idealize.ShloMosaic.Lib.ValueLayout
public import Idealize.ShloMosaic.Lib.KernelVsHost
public import Idealize.ShloMosaic.PureOps.Ideal.Laws
public import Mathlib.Data.Complex.Basic

/-! The steps of eight rows over exact arithmetic: one column's eight rows as eight complex numbers. -/

@[expose] public section

set_option maxRecDepth 16384

noncomputable section

namespace Cert.KernelIdeal.Scan

open Cert.KernelIdeal Cert.KernelIdeal.Gen Idealize.ShloMosaic Idealize.ShloMosaic.ValueIdx

/-- Two extended reals are the real and imaginary parts of `z`. -/
def IsPair (a b : EReal) (z : ℂ) : Prop := a = ((z.re : ℝ) : EReal) ∧ b = ((z.im : ℝ) : EReal)

theorem IsPair.add {a b a' b' : EReal} {z w : ℂ} (h : IsPair a b z) (h' : IsPair a' b' w) : IsPair (a + a') (b + b') (z + w) := by
  obtain ⟨rfl, rfl⟩ := h
  obtain ⟨rfl, rfl⟩ := h'
  exact ⟨(EReal.coe_add _ _).symm, (EReal.coe_add _ _).symm⟩

theorem IsPair.mul {a b a' b' : EReal} {z w : ℂ} (h : IsPair a b z) (h' : IsPair a' b' w) :
    IsPair (a * a' - b * b') (a * b' + b * a') (z * w) := by
  obtain ⟨rfl, rfl⟩ := h
  obtain ⟨rfl, rfl⟩ := h'
  constructor
  · rw [Complex.mul_re, EReal.coe_sub, EReal.coe_mul, EReal.coe_mul]
  · rw [Complex.mul_im, EReal.coe_add, EReal.coe_mul, EReal.coe_mul]

/-- `z * conj w`, as the backward step sums it. -/
theorem IsPair.mulConj {a b a' b' : EReal} {z w : ℂ} (h : IsPair a b z) (h' : IsPair a' b' w) :
    IsPair (a * a' + b * b') (b * a' - a * b') (z * (starRingEnd ℂ) w) := by
  obtain ⟨rfl, rfl⟩ := h
  obtain ⟨rfl, rfl⟩ := h'
  constructor
  · rw [Complex.mul_re, Complex.conj_re, Complex.conj_im, mul_neg, sub_neg_eq_add, EReal.coe_add, EReal.coe_mul, EReal.coe_mul]
  · rw [Complex.mul_im, Complex.conj_re, Complex.conj_im, mul_neg, add_comm (-_), ← sub_eq_add_neg, EReal.coe_sub, EReal.coe_mul, EReal.coe_mul]

theorem IsPair.conj {a b : EReal} {z : ℂ} (h : IsPair a b z) : IsPair a (-b) ((starRingEnd ℂ) z) := by
  obtain ⟨rfl, rfl⟩ := h
  exact ⟨by rw [Complex.conj_re], by rw [Complex.conj_im, EReal.coe_neg]⟩

theorem IsPair.zero : IsPair ((0 : ℝ) : EReal) ((0 : ℝ) : EReal) 0 := ⟨by simp, by simp⟩

/-- Column `c` of the two blocks holds the real and imaginary parts of `z`. -/
def IsC (x : V8 Ideal × V8 Ideal) (c : Fin 256) (z : Fin 8 → ℂ) : Prop :=
  ∀ r : Fin 8, IsPair (x.1 (ix2 r c)) (x.2 (ix2 r c)) (z r)

/-- The block's row numbers. -/
abbrev rowNo : IVec S8x256 32 := iota .tc S8x256 32 [0] iota_S8x256_d0_w32

theorem rowNo_at (r : Fin 8) (c : Fin 256) : rowNo (ix2 r c) = BitVec.ofNat 32 r.val := by
  show BitVec.ofNat 32 _ = _
  congr 1
  simp [ix2]

theorem cmpiAt (p : CmpIPredicate) (x y : IVec S8x256 32) (j : S8x256.Idx) : cmpi p x y j = IntOp.cmpi p (x j) (y j) := rfl

theorem zero8_at (j : S8x256.Idx) : (zero8 : V8 Ideal) j = ((0 : ℝ) : EReal) := by
  show Ideal.ofBits .f32 0x00000000#32 = _
  rw [Ideal.ofBits_zero_f32]; rfl

theorem rot_at (x : V8 Ideal) (s : BitVec 32) (n : ℕ) (hn : s.toNat = n) (r : Fin 8) (c : Fin 256) :
    dynamicRotate 0 s none x rotates_S8x256_d0 (ix2 r c) = x (ix2 ⟨(r.val + 8 - n % 8) % 8, Nat.mod_lt _ (by norm_num)⟩ c) := by
  refine dynamicRotate_apply 0 s x rotates_S8x256_d0 (ix2 r c) _ fun b => ?_
  subst hn
  fin_cases b <;> rfl

theorem spread_at (v : Vec Ideal S1x256 .f32) (r : Fin 8) (c : Fin 256) : spread (F := Ideal) v (ix2 r c) = v (ix2 0 c) := by
  unfold spread
  rw [shapeCast_self, shapeCast_self, broadcastTo_1b_ab_apply]

theorem lift_at (h : (⟨2, ![8, 256]⟩ : Shape).Reduces [0] (⟨1, ![256]⟩ : Shape)) (c : Fin 256)
    (k : Fin ((⟨2, ![8, 256]⟩ : Shape).size 0)) : h.lift (ix1 c) k = ix2 (⟨k.val, k.isLt⟩ : Fin 8) c := by
  funext b; apply Fin.ext
  fin_cases b <;> rfl

theorem eqNo : ∀ q k : Fin 8, IntOp.cmpi .eq (BitVec.ofNat 32 q.val) (BitVec.ofNat 32 k.val) = if q = k then 1#1 else 0#1 := by decide

theorem pick_at (n : BitVec 32) (k : Fin 8) (hk : n = BitVec.ofNat 32 k.val) (x : V8 Ideal) (r : Fin 8) (c : Fin 256) :
    pick n rowNo x (ix2 r c) = x (ix2 k c) := by
  subst hk
  unfold pick
  rw [shapeCast_self, broadcastTo_1b_ab_apply, shapeCast_a_1a_apply]
  refine (Ideal.multiReduction_add_single _ _ reduces_S8x256_S256 _ _ (ix1 c)).trans ?_
  have e : ∀ q : Fin 8, select (cmpi .eq rowNo (broadcast S8x256 (BitVec.ofNat 32 k.val))) x zero8 (reduces_S8x256_S256.lift (ix1 c) q)
      = if q = k then x (ix2 k c) else (0 : EReal) := by
    intro q
    have hl : reduces_S8x256_S256.lift (ix1 c) q = ix2 q c := lift_at reduces_S8x256_S256 c q
    rw [hl, select_apply, cmpiAt, rowNo_at]
    show Scalar.select (IntOp.cmpi .eq (BitVec.ofNat 32 q.val) (BitVec.ofNat 32 k.val)) _ _ = _
    have hb : IntOp.cmpi .eq (BitVec.ofNat 32 q.val) (BitVec.ofNat 32 k.val) = if q = k then 1#1 else 0#1 := eqNo q k
    rw [hb]
    by_cases hqk : q = k
    · subst hqk; rw [if_pos rfl, if_pos rfl]; rfl
    · rw [if_neg hqk, if_neg hqk, zero8_at]; rfl
  have hs : (∑ q : Fin 8, if q = k then x (ix2 k c) else (0 : EReal)) = x (ix2 k c) := by
    rw [Finset.sum_ite_eq']
    exact if_pos (Finset.mem_univ k)
  exact (Finset.sum_congr rfl fun q _ => e q).trans hs

/-- The rotated row `n` above, where there is one. -/
def upC (n : ℕ) (z : Fin 8 → ℂ) (r : Fin 8) : ℂ := if h : n ≤ r.val then z ⟨r.val - n, by omega⟩ else 0

/-- The row `n` below, where there is one. -/
def downC (n : ℕ) (z : Fin 8 → ℂ) (r : Fin 8) : ℂ := if h : r.val + n < 8 then z ⟨r.val + n, h⟩ else 0

theorem keepF : ∀ (n : Fin 8) (r : Fin 8), IntOp.cmpi .sge (BitVec.ofNat 32 r.val) (BitVec.ofNat 32 n.val) = if n.val ≤ r.val then 1#1 else 0#1 := by decide

theorem keepB : ∀ (n : Fin 8) (r : Fin 8), IntOp.cmpi .slt (BitVec.ofNat 32 r.val) (BitVec.ofNat 32 n.val) = if r.val < n.val then 1#1 else 0#1 := by decide

theorem dblF_at (s : BitVec 32) (n : Fin 8) (hs : s = BitVec.ofNat 32 n.val) (ar ai : V8 Ideal) (x : V8 Ideal × V8 Ideal) (c : Fin 256) (α : ℂ)
    (z : Fin 8 → ℂ) (ha : IsC (ar, ai) c fun _ => α) (hx : IsC x c z) : IsC (dblF s rowNo ar ai x) c fun r => z r + α * upC n.val z r := by
  intro r
  subst hs
  have hn : (BitVec.ofNat 32 n.val).toNat = n.val := by simp; omega
  have e1 := rot_at x.1 (BitVec.ofNat 32 n.val) n.val hn r c
  have e2 := rot_at x.2 (BitVec.ofNat 32 n.val) n.val hn r c
  have hk : cmpi .sge rowNo (broadcast S8x256 (BitVec.ofNat 32 n.val)) (ix2 r c) = if n.val ≤ r.val then 1#1 else 0#1 := by
    rw [cmpiAt, rowNo_at]; exact keepF n r
  have hp := (ha r).mul (hx ⟨(r.val + 8 - n.val % 8) % 8, Nat.mod_lt _ (by norm_num)⟩)
  rw [← e1, ← e2] at hp
  refine (hx r).add ?_
  rw [select_apply, select_apply, hk, zero8_at]
  unfold upC
  by_cases h : n.val ≤ r.val
  · rw [if_pos h, dif_pos h]
    have hi : (⟨(r.val + 8 - n.val % 8) % 8, Nat.mod_lt _ (by norm_num)⟩ : Fin 8) = ⟨r.val - n.val, by omega⟩ := Fin.ext (by show (r.val + 8 - n.val % 8) % 8 = r.val - n.val; omega)
    rw [hi] at hp
    exact hp
  · rw [if_neg h, dif_neg h, mul_zero]
    exact IsPair.zero

theorem dblB_at (t : BitVec 32) (n : Fin 8) (ht : t = BitVec.ofNat 32 n.val) (m : ℕ) (hm : n.val + m = 8) (ar ai : V8 Ideal) (x : V8 Ideal × V8 Ideal) (c : Fin 256) (α : ℂ)
    (z : Fin 8 → ℂ) (ha : IsC (ar, ai) c fun _ => α) (hx : IsC x c z) : IsC (dblB t rowNo ar ai x) c fun r => z r + α * downC m z r := by
  intro r
  subst ht
  have hn : (BitVec.ofNat 32 n.val).toNat = n.val := by simp; omega
  have e1 := rot_at x.1 (BitVec.ofNat 32 n.val) n.val hn r c
  have e2 := rot_at x.2 (BitVec.ofNat 32 n.val) n.val hn r c
  have hk : cmpi .slt rowNo (broadcast S8x256 (BitVec.ofNat 32 n.val)) (ix2 r c) = if r.val < n.val then 1#1 else 0#1 := by
    rw [cmpiAt, rowNo_at]; exact keepB n r
  have hp := (ha r).mul (hx ⟨(r.val + 8 - n.val % 8) % 8, Nat.mod_lt _ (by norm_num)⟩)
  rw [← e1, ← e2] at hp
  refine (hx r).add ?_
  rw [select_apply, select_apply, hk, zero8_at]
  unfold downC
  by_cases h : r.val < n.val
  · have h' : r.val + m < 8 := by omega
    rw [if_pos h, dif_pos h']
    have hi : (⟨(r.val + 8 - n.val % 8) % 8, Nat.mod_lt _ (by norm_num)⟩ : Fin 8) = ⟨r.val + m, h'⟩ := Fin.ext (by show (r.val + 8 - n.val % 8) % 8 = r.val + m; omega)
    rw [hi] at hp
    exact hp
  · rw [if_neg h, dif_neg (by omega), mul_zero]
    exact IsPair.zero

theorem addCarry_at (pr pi : V8 Ideal) (x w : V8 Ideal × V8 Ideal) (c : Fin 256) (p z ζ : Fin 8 → ℂ) (hp : IsC (pr, pi) c p) (hx : IsC x c z)
    (hw : IsC w c ζ) : IsC (addCarry pr pi x w) c fun r => z r + p r * ζ r := by
  intro r
  exact (hx r).add ((hp r).mul (hw r))

/-- The step's constants at column `c`: the powers of `a`, forward. -/
structure PowF (p : Pows Ideal) (c : Fin 256) (a : ℂ) : Prop where
  row : p.row = rowNo
  a1 : IsC (p.a1r, p.a1i) c fun _ => a
  a2 : IsC (p.a2r, p.a2i) c fun _ => a ^ 2
  a4 : IsC (p.a4r, p.a4i) c fun _ => a ^ 4
  p8 : IsC (p.pr, p.pi) c fun r => a ^ (r.val + 1)

/-- The step's constants at column `c`: the powers of `b`, backward. -/
structure PowB (p : Pows Ideal) (c : Fin 256) (b : ℂ) : Prop where
  row : p.row = rowNo
  a1 : IsC (p.a1r, p.a1i) c fun _ => b
  a2 : IsC (p.a2r, p.a2i) c fun _ => b ^ 2
  a4 : IsC (p.a4r, p.a4i) c fun _ => b ^ 4
  p8 : IsC (p.pr, p.pi) c fun r => b ^ (8 - r.val)

/-- The recurrence `s ↦ a s + u t` from `w`. -/
def rec (a : ℂ) (u : ℕ → ℂ) (w : ℂ) : ℕ → ℂ
  | 0 => w
  | t + 1 => a * rec a u w t + u t

theorem rec_add (a : ℂ) (u : ℕ → ℂ) (w : ℂ) (m n : ℕ) : rec a u w (m + n) = rec a (fun t => u (m + t)) (rec a u w m) n := by
  induction n with
  | zero => rfl
  | succ n ih => show a * rec a u w (m + n) + u (m + n) = a * _ + _; rw [ih]

theorem rowsF_at (p : Pows Ideal) (x w : V8 Ideal × V8 Ideal) (c : Fin 256) (a : ℂ) (u : ℕ → ℂ) (ζ : ℂ) (hp : PowF p c a)
    (hx : IsC x c fun r => u r.val) (hw : IsC w c fun _ => ζ) : IsC (rowsF p x w) c fun r => rec a u ζ (r.val + 1) := by
  unfold rowsF
  rw [hp.row]
  have h := addCarry_at _ _ _ _ c _ _ _ hp.p8 (dblF_at 4#32 4 rfl _ _ _ c _ _ hp.a4 (dblF_at 2#32 2 rfl _ _ _ c _ _ hp.a2 (dblF_at 1#32 1 rfl _ _ _ c _ _ hp.a1 hx))) hw
  intro r
  have := h r
  convert this using 1
  fin_cases r <;> simp [rec, upC] <;> ring

theorem carryF_at (p : Pows Ideal) (x w : V8 Ideal × V8 Ideal) (c : Fin 256) (a : ℂ) (u : ℕ → ℂ) (ζ : ℂ) (hp : PowF p c a)
    (hx : IsC x c fun r => u r.val) (hw : IsC w c fun _ => ζ) : IsC (carryF p x w) c fun _ => rec a u ζ 8 := by
  intro r
  have h := rowsF_at p x w c a u ζ hp hx hw 7
  have e : ∀ y : V8 Ideal, pick 7#32 p.row y (ix2 r c) = y (ix2 7 c) := fun y => by rw [hp.row]; exact pick_at 7#32 7 rfl y r c
  unfold IsPair carryF
  dsimp only
  rw [e, e]
  exact h

theorem rowsB_at (p : Pows Ideal) (x : RowsB Ideal) (w : V8 Ideal × V8 Ideal) (c : Fin 256) (b : ℂ) (u : ℕ → ℂ) (ζ : ℂ) (hp : PowB p c b)
    (hx : IsC x.d c fun r => u (7 - r.val)) (hw : IsC w c fun _ => ζ) : IsC (rowsB p x w) c fun r => rec b u ζ (8 - r.val) := by
  unfold rowsB
  rw [hp.row]
  have h := addCarry_at _ _ _ _ c _ _ _ hp.p8 (dblB_at 4#32 4 rfl 4 rfl _ _ _ c _ _ hp.a4 (dblB_at 6#32 6 rfl 2 rfl _ _ _ c _ _ hp.a2 (dblB_at 7#32 7 rfl 1 rfl _ _ _ c _ _ hp.a1 hx))) hw
  intro r
  have := h r
  convert this using 1
  fin_cases r <;> simp [rec, downC] <;> ring

theorem shiftB_at (n : BitVec 1) (before here : V8 Ideal) (r : Fin 8) (c : Fin 256) :
    shiftB rowNo n before here (ix2 r c) = if r.val = 0 then (if n = 1#1 then before (ix2 7 c) else ((0 : ℝ) : EReal)) else here (ix2 ⟨r.val - 1, by omega⟩ c) := by
  unfold shiftB
  rw [shapeCast_self, shapeCast_self, select_apply, cmpiAt, rowNo_at, rot_at here 1#32 1 rfl]
  have hb : IntOp.cmpi .eq (BitVec.ofNat 32 r.val) (broadcast S8x256 0#32 (ix2 r c)) = if r.val = 0 then 1#1 else 0#1 := by
    show IntOp.cmpi .eq (BitVec.ofNat 32 r.val) 0#32 = _
    revert r; decide
  rw [hb]
  by_cases h : r.val = 0
  · rw [if_pos h, if_pos h]
    have hr : r = 0 := Fin.ext h
    subst hr
    by_cases hn : n = 1#1
    · subst hn
      rw [if_pos rfl]
      exact rot_at before 1#32 1 rfl 0 c
    · have hn0 : n = 0#1 := by revert n; decide
      subst hn0
      rw [if_neg (by decide)]
      exact zero8_at (ix2 0 c)
  · rw [if_neg h, if_neg h]
    show here _ = here _
    congr 2
    exact Fin.ext (by show (r.val + 8 - 1 % 8) % 8 = r.val - 1; omega)

/-- The states one row earlier, at column `c`: `s r` before row `r`. -/
theorem shiftPair (n : BitVec 1) (before here : V8 Ideal × V8 Ideal) (c : Fin 256) (s : ℕ → ℂ)
    (hb : if n = 1#1 then IsPair (before.1 (ix2 7 c)) (before.2 (ix2 7 c)) (s 0) else s 0 = 0)
    (hh : IsC here c fun r => s (r.val + 1)) :
    IsC (shiftB rowNo n before.1 here.1, shiftB rowNo n before.2 here.2) c fun r => s r.val := by
  intro r
  show IsPair (shiftB rowNo n before.1 here.1 (ix2 r c)) (shiftB rowNo n before.2 here.2 (ix2 r c)) _
  rw [shiftB_at, shiftB_at]
  dsimp only
  by_cases h : r.val = 0
  · rw [if_pos h, if_pos h, h]
    by_cases hn : n = 1#1
    · rw [if_pos hn] at hb
      rw [if_pos hn, if_pos hn]; exact hb
    · rw [if_neg hn] at hb
      rw [if_neg hn, if_neg hn, hb]; exact IsPair.zero
  · rw [if_neg h, if_neg h]
    have := hh ⟨r.val - 1, by omega⟩
    have e : r.val - 1 + 1 = r.val := by omega
    simp only [e] at this
    exact this

theorem carryB_at (p : Pows Ideal) (x : RowsB Ideal) (w : V8 Ideal × V8 Ideal × V8 Ideal × V8 Ideal) (c : Fin 256) (b : ℂ) (u : ℕ → ℂ) (ζ : ℂ) (A : Fin 8 → ℂ) (s : ℕ → ℂ)
    (hp : PowB p c b) (hx : IsC x.d c fun r => u (7 - r.val)) (hw : IsC (w.1, w.2.1) c fun _ => ζ) (hA : IsC (w.2.2.1, w.2.2.2) c A)
    (hb : if x.n = 1#1 then IsPair (x.before.1 (ix2 7 c)) (x.before.2 (ix2 7 c)) (s 0) else s 0 = 0)
    (hh : IsC x.here c fun r => s (r.val + 1)) :
    IsC ((carryB p x w).1, (carryB p x w).2.1) c (fun _ => rec b u ζ 8)
      ∧ IsC ((carryB p x w).2.2.1, (carryB p x w).2.2.2) c (fun r => A r + rec b u ζ (8 - r.val) * (starRingEnd ℂ) (s r.val)) := by
  have h := rowsB_at p x (w.1, w.2.1) c b u ζ hp hx hw
  have hs := shiftPair x.n x.before x.here c s hb hh
  rw [← hp.row] at hs
  constructor
  · intro r
    have e : ∀ y : V8 Ideal, pick 0#32 p.row y (ix2 r c) = y (ix2 0 c) := fun y => by rw [hp.row]; exact pick_at 0#32 0 rfl y r c
    unfold IsPair carryB
    dsimp only
    rw [e, e]
    exact h 0
  · intro r
    exact (hA r).add ((h r).mulConj (hs r))

end Cert.KernelIdeal.Scan
-- ==== Proof.KValF.lean ====
module

public import proofs.«01_k».proof.Proof.KMath
public import proofs.«01_k».proof.Proof.Gen.KernelIdeal.Frame

/-! What the forward scan's body leaves of one block, over exact arithmetic: in each column the states of the recurrence. -/

@[expose] public section

set_option maxRecDepth 16384

noncomputable section

namespace Cert.KernelIdeal.Scan

open Cert.KernelIdeal Cert.KernelIdeal.Gen Idealize.ShloMosaic Idealize.ShloMosaic.ValueIdx

/-- Column `q` of two blocks of 2048 rows holds the real and imaginary parts of `u`. -/
def IsCol (x y : Vec Ideal S2048x256 .f32) (q : Fin 256) (u : ℕ → ℂ) : Prop :=
  ∀ t : Fin 2048, IsPair (x (ix2 t q)) (y (ix2 t q)) (u t.val)

/-- Where an access of eight rows at row `o` finds its element. -/
theorem emb_rows (off : Fin 2 → ℕ) (o : ℕ) (ho : off = ![o, 0]) (inb : ∀ a, off a + S8x256.size a ≤ S2048x256.size a) (r : Fin 8) (q : Fin 256)
    (t : Fin 2048) (ht : t.val = o + r.val) : (Rect.unit (s := S2048x256) off S8x256.size inb).emb (ix2 r q) = ix2 t q := by
  subst ho
  funext b
  apply Fin.ext
  fin_cases b
  · show o + 1 * r.val = t.val; omega
  · show 0 + 1 * q.val = q.val; omega

theorem rowBound (off : Fin 2 → ℕ) (o : ℕ) (ho : off = ![o, 0]) (inb : ∀ a, off a + S8x256.size a ≤ S2048x256.size a) : o + 8 ≤ 2048 := by
  subst ho
  exact inb 0

/-- The rows an access reads, of a whole buffer that holds `x`. -/
theorem load_at (arg : Memref sig .tc .vmem S2048x256 .f32) (harg : arg.IsWhole) (x : Vec Ideal S2048x256 .f32) (off : Fin 2 → ℕ) (o : ℕ) (ho : off = ![o, 0])
    (inb : ∀ a, off a + S8x256.size a ≤ S2048x256.size a) (r : Fin 8) (q : Fin 256) (t : Fin 2048) (ht : t.val = o + r.val) :
    View.readAt (Elt Ideal) arg.view (Rect.unit (s := S2048x256) off S8x256.size inb).toLoadRect (harg.unread x) (ix2 r q) = x (ix2 t q) := by
  rw [View.readAt_eq_ld, harg.read_unread]
  show x ((Rect.unit (s := S2048x256) off S8x256.size inb).emb (ix2 r q)) = _
  rw [emb_rows off o ho inb r q t ht]

theorem trips1 : k1_t1_loop.trips = 32 := by decide

section
variable (𝒱 : Variants) (c : Dev nD) (bd : Option 𝒱.V) (i : grid1.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S2048x256 .f32) (harg6 : arg6.IsWhole) (arg7 : Memref sig .tc .vmem S2048x256 .f32) (harg7 : arg7.IsWhole) (v0 : Vec Ideal S8x256 .f32) (v2 : Vec Ideal S8x256 .f32) (v4 : Vec Ideal S1x256 .f32) (v8 : Vec Ideal S1x256 .f32) (v12 : Vec Ideal S1x256 .f32) (v16 : Vec Ideal S1x256 .f32) (v20 : Vec Ideal S1x256 .f32) (v24 : Vec Ideal S1x256 .f32) (v28 : IVec S8x256 32)
  (x0 x1 : Vec Ideal S2048x256 .f32) (a : Fin 256 → ℂ) (u : Fin 256 → ℕ → ℂ)

theorem loadF_at (k : Fin k1_t1_loop.trips) (j : Fin 8) (q : Fin 256) (hu : IsCol x0 x1 q (u q)) :
    IsC (loadF arg2 arg3 (harg2.unread x0) (harg3.unread x1) k j) q fun r => u q (64 * k.val + 8 * j.val + r.val) := by
  intro r
  have hb := rowBound _ _ (k1_off1_eq k j) (k1_off1_inb k j)
  have ht : 64 * k.val + 8 * j.val + r.val < 2048 := by omega
  unfold loadF
  show IsPair (View.readAt (Elt Ideal) arg2.view (Rect.unit (s := S2048x256) (k1_off1 k (BitVec.ofNat 32 j.val)) S8x256.size (k1_off1_inb k j)).toLoadRect (harg2.unread x0) (ix2 r q))
    (View.readAt (Elt Ideal) arg3.view (Rect.unit (s := S2048x256) (k1_off1 k (BitVec.ofNat 32 j.val)) S8x256.size (k1_off1_inb k j)).toLoadRect (harg3.unread x1) (ix2 r q)) _
  rw [load_at arg2 harg2 x0 _ _ (k1_off1_eq k j) _ r q ⟨_, ht⟩ rfl, load_at arg3 harg3 x1 _ _ (k1_off1_eq k j) _ r q ⟨_, ht⟩ rfl]
  exact hu ⟨_, ht⟩

/-- The states of the forward recurrence of column `q`: `S 0 = 0`. -/
abbrev stF (q : Fin 256) : ℕ → ℂ := rec (a q) (u q) 0

theorem stF_add (q : Fin 256) (m n : ℕ) : rec (a q) (fun t => u q (m + t)) (stF a u q m) n = stF a u q (m + n) := (rec_add (a q) (u q) 0 m n).symm

theorem carriesF_at (k : Fin k1_t1_loop.trips) (acc : V8 Ideal × V8 Ideal) (q : Fin 256) (hu : IsCol x0 x1 q (u q))
    (hp : PowF (powsF v0 v2 v4 v8 v12 v16 v20 v24 v28) q (a q)) (hacc : IsC acc q fun _ => stF a u q (64 * k.val)) (j : ℕ) (hj : j ≤ 8) :
    IsC (carriesF (powsF v0 v2 v4 v8 v12 v16 v20 v24 v28) (loadN arg2 arg3 (harg2.unread x0) (harg3.unread x1) k) acc j) q
      fun _ => stF a u q (64 * k.val + 8 * j) := by
  induction j with
  | zero => exact hacc
  | succ j ih =>
    have hl := loadF_at arg2 harg2 arg3 harg3 x0 x1 u k (Fin.ofNat 8 j) q hu
    have e : (Fin.ofNat 8 j).val = j := Nat.mod_eq_of_lt (by omega)
    rw [e] at hl
    have := carryF_at _ _ _ q (a q) (fun t => u q (64 * k.val + 8 * j + t)) _ hp hl (ih (by omega))
    rw [stF_add] at this
    exact this

theorem rows_at (k : Fin k1_t1_loop.trips) (acc : V8 Ideal × V8 Ideal) (q : Fin 256) (hu : IsCol x0 x1 q (u q))
    (hp : PowF (powsF v0 v2 v4 v8 v12 v16 v20 v24 v28) q (a q)) (hacc : IsC acc q fun _ => stF a u q (64 * k.val)) (j : Fin 8) :
    IsC (rowsF (powsF v0 v2 v4 v8 v12 v16 v20 v24 v28) (loadF arg2 arg3 (harg2.unread x0) (harg3.unread x1) k j)
      (carriesF (powsF v0 v2 v4 v8 v12 v16 v20 v24 v28) (loadN arg2 arg3 (harg2.unread x0) (harg3.unread x1) k) acc j.val)) q
      fun r => stF a u q (64 * k.val + 8 * j.val + r.val + 1) := by
  have hl := loadF_at arg2 harg2 arg3 harg3 x0 x1 u k j q hu
  have := rowsF_at _ _ _ q (a q) (fun t => u q (64 * k.val + 8 * j.val + t)) _ hp hl (carriesF_at arg2 harg2 arg3 harg3 v0 v2 v4 v8 v12 v16 v20 v24 v28 x0 x1 a u k acc q hu hp hacc j.val (by omega))
  intro r
  have h2 := this r
  dsimp only at h2
  rw [stF_add] at h2
  exact h2

/-- The states as a block: their real parts. -/
def stRe (y : S2048x256.Idx) : EReal := (((stF a u (y 1) ((y 0).val + 1)).re : ℝ) : EReal)

/-- The states as a block: their imaginary parts. -/
def stIm (y : S2048x256.Idx) : EReal := (((stF a u (y 1) ((y 0).val + 1)).im : ℝ) : EReal)

theorem trip_pieces (k : Fin k1_t1_loop.trips) (acc : V8 Ideal × V8 Ideal) (hu : ∀ q, IsCol x0 x1 q (u q))
    (hp : ∀ q, PowF (powsF v0 v2 v4 v8 v12 v16 v20 v24 v28) q (a q)) (hacc : ∀ q, IsC acc q fun _ => stF a u q (64 * k.val))
    (f : V8 Ideal × V8 Ideal → V8 Ideal) (G : S2048x256.Idx → EReal)
    (hf : ∀ (x : V8 Ideal × V8 Ideal) (r : Fin 8) (q : Fin 256) (t : Fin 2048),
      IsPair (x.1 (ix2 r q)) (x.2 (ix2 r q)) (stF a u q (t.val + 1)) → f x (ix2 r q) = G (ix2 t q)) :
    ∀ p ∈ storedAll arg2 arg3 v0 v2 v4 v8 v12 v16 v20 v24 v28 (harg2.unread x0) (harg3.unread x1) k acc f, ∀ x : p.1.shape.Idx, p.2 x = G (p.1.emb x) := by
  intro p hp'
  unfold storedAll at hp'
  obtain ⟨j, -, rfl⟩ := List.mem_map.mp hp'
  intro x
  have hb := rowBound _ _ (k1_off1_eq k j) (k1_off1_inb k j)
  obtain ⟨r, q, rfl⟩ : ∃ (r : Fin 8) (q : Fin 256), x = ix2 r q := ⟨x 0, x 1, eq_ix2 x⟩
  have ht : 64 * k.val + 8 * j.val + r.val < 2048 := by omega
  have h := rows_at arg2 harg2 arg3 harg3 v0 v2 v4 v8 v12 v16 v20 v24 v28 x0 x1 a u k acc q (hu q) (hp q) (hacc q) j r
  have e := emb_rows _ _ (k1_off1_eq k j) (k1_off1_inb k j) r q ⟨_, ht⟩ rfl
  exact (hf _ r q ⟨_, ht⟩ h).trans (congrArg G e.symm)

/-- The loop's state after `n` trips: the carried state, and the stores so far. -/
theorem loop_at (init : V8 Ideal × V8 Ideal) (h28 : v28 = rowNo) (hu : ∀ q, IsCol x0 x1 q (u q))
    (hp : ∀ q, PowF (powsF v0 v2 v4 v8 v12 v16 v20 v24 v28) q (a q)) (hinit : ∀ q, IsC init q fun _ => 0) (n : ℕ) (hn : n ≤ k1_t1_loop.trips) :
    (∀ q, IsC (st_k1_t1 𝒱 c bd i arg2 harg2 arg3 harg3 arg4 harg4 arg5 harg5 arg6 harg6 arg7 harg7 v0 v2 v4 v8 v12 v16 v20 v24 v28 (harg2.unread x0) (harg3.unread x1) init n).1 q fun _ => stF a u q (64 * n))
    ∧ (∀ p ∈ (st_k1_t1 𝒱 c bd i arg2 harg2 arg3 harg3 arg4 harg4 arg5 harg5 arg6 harg6 arg7 harg7 v0 v2 v4 v8 v12 v16 v20 v24 v28 (harg2.unread x0) (harg3.unread x1) init n).2.1, ∀ x : p.1.shape.Idx, p.2 x = stRe a u (p.1.emb x))
    ∧ (∀ p ∈ (st_k1_t1 𝒱 c bd i arg2 harg2 arg3 harg3 arg4 harg4 arg5 harg5 arg6 harg6 arg7 harg7 v0 v2 v4 v8 v12 v16 v20 v24 v28 (harg2.unread x0) (harg3.unread x1) init n).2.2, ∀ x : p.1.shape.Idx, p.2 x = stIm a u (p.1.emb x)) := by
  induction n with
  | zero =>
    refine ⟨hinit, fun p hp => absurd hp ?_, fun p hp => absurd hp ?_⟩ <;> exact List.not_mem_nil
  | succ n ih =>
    obtain ⟨h1, h2, h3⟩ := ih (by omega)
    have hs := st_k1_t1_succ 𝒱 c bd i arg2 harg2 arg3 harg3 arg4 harg4 arg5 harg5 arg6 harg6 arg7 harg7 v0 v2 v4 v8 v12 v16 v20 v24 v28 (harg2.unread x0) (harg3.unread x1) init ⟨n, hn⟩
    have e1 := (congrArg Prod.fst hs).trans (tripR_eq 𝒱 c bd i arg2 harg2 arg3 harg3 arg4 harg4 arg5 harg5 arg6 harg6 arg7 harg7 v0 v2 v4 v8 v12 v16 v20 v24 v28 _ _ ⟨n, hn⟩ _ h28)
    have e2 := (congrArg (fun z => z.2.1) hs).trans (congrArg (fun z => z ++ _) (tripL_eq_fst 𝒱 c bd i arg2 harg2 arg3 harg3 arg4 harg4 arg5 harg5 arg6 harg6 arg7 harg7 v0 v2 v4 v8 v12 v16 v20 v24 v28 _ _ ⟨n, hn⟩ _))
    have e3 := (congrArg (fun z => z.2.2) hs).trans (congrArg (fun z => z ++ _) (tripL_eq_snd 𝒱 c bd i arg2 harg2 arg3 harg3 arg4 harg4 arg5 harg5 arg6 harg6 arg7 harg7 v0 v2 v4 v8 v12 v16 v20 v24 v28 _ _ ⟨n, hn⟩ _))
    rw [e1, e2, e3]
    refine ⟨fun q => ?_, fun p hp' => ?_, fun p hp' => ?_⟩
    · exact carriesF_at arg2 harg2 arg3 harg3 v0 v2 v4 v8 v12 v16 v20 v24 v28 x0 x1 a u ⟨n, hn⟩ _ q (hu q) (hp q) (h1 q) 8 le_rfl
    · rcases List.mem_append.mp hp' with hp' | hp'
      · exact trip_pieces arg2 harg2 arg3 harg3 v0 v2 v4 v8 v12 v16 v20 v24 v28 x0 x1 a u ⟨n, hn⟩ _ hu hp h1 Prod.fst (stRe a u) (fun x r q t h => h.1) p hp'
      · exact h2 p hp'
    · rcases List.mem_append.mp hp' with hp' | hp'
      · exact trip_pieces arg2 harg2 arg3 harg3 v0 v2 v4 v8 v12 v16 v20 v24 v28 x0 x1 a u ⟨n, hn⟩ _ hu hp h1 Prod.snd (stIm a u) (fun x r q t h => h.2) p hp'
      · exact h3 p hp'

end

section
variable (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S2048x256 .f32) (harg6 : arg6.IsWhole) (arg7 : Memref sig .tc .vmem S2048x256 .f32) (harg7 : arg7.IsWhole)
    (x0 : Vec Ideal S2048x256 .f32) (x1 : Vec Ideal S2048x256 .f32) (x2 : Vec Ideal S8x256 .f32) (x3 : Vec Ideal S8x256 .f32) (a : Fin 256 → ℂ) (u : Fin 256 → ℕ → ℂ)

/-- The powers the body reads, of the two blocks of powers. -/
theorem powF_at (q : Fin 256) (z : ℂ) (h : IsC (x2, x3) q fun r => z ^ (r.val + 1)) :
    PowF (powsF (F := Ideal) (View.readAt (Elt Ideal) arg4.view (Rect.unit (s := S8x256) ![0, 0] S8x256.size inb_S8x256_S8x256_0_0).toLoadRect (harg4.unread x2))
      (View.readAt (Elt Ideal) arg5.view (Rect.unit (s := S8x256) ![0, 0] S8x256.size inb_S8x256_S8x256_0_0).toLoadRect (harg5.unread x3))
      (View.readAt (Elt Ideal) arg4.view (Rect.unit (s := S8x256) ![0, 0] S1x256.size inb_S8x256_S1x256_0_0).toLoadRect (harg4.unread x2))
      (View.readAt (Elt Ideal) arg5.view (Rect.unit (s := S8x256) ![0, 0] S1x256.size inb_S8x256_S1x256_0_0).toLoadRect (harg5.unread x3))
      (View.readAt (Elt Ideal) arg4.view (Rect.unit (s := S8x256) ![1, 0] S1x256.size inb_S8x256_S1x256_1_0).toLoadRect (harg4.unread x2))
      (View.readAt (Elt Ideal) arg5.view (Rect.unit (s := S8x256) ![1, 0] S1x256.size inb_S8x256_S1x256_1_0).toLoadRect (harg5.unread x3))
      (View.readAt (Elt Ideal) arg4.view (Rect.unit (s := S8x256) ![3, 0] S1x256.size inb_S8x256_S1x256_3_0).toLoadRect (harg4.unread x2))
      (View.readAt (Elt Ideal) arg5.view (Rect.unit (s := S8x256) ![3, 0] S1x256.size inb_S8x256_S1x256_3_0).toLoadRect (harg5.unread x3))
      kernelRun1_A.sl.v28) q z := by
  have row1 : ∀ (arg : Memref sig .tc .vmem S8x256 .f32) (harg : arg.IsWhole) (x : Vec Ideal S8x256 .f32) (n : ℕ) (m : Fin 8) (hm : m.val = n)
      (inb : ∀ b, ![n, 0] b + S1x256.size b ≤ S8x256.size b) (r : Fin 8),
      spread (F := Ideal) (View.readAt (Elt Ideal) arg.view (Rect.unit (s := S8x256) ![n, 0] S1x256.size inb).toLoadRect (harg.unread x)) (ix2 r q) = x (ix2 m q) := by
    intro arg harg x n m hm inb r
    refine (spread_at _ r q).trans ?_
    rw [View.readAt_eq_ld, harg.read_unread]
    show x ((Rect.unit (s := S8x256) ![n, 0] S1x256.size inb).emb (ix2 (0 : Fin 1) q)) = _
    congr 1
    funext b
    apply Fin.ext
    fin_cases b
    · show n + 1 * 0 = m.val; omega
    · show 0 + 1 * q.val = q.val; omega
  have all1 : ∀ (arg : Memref sig .tc .vmem S8x256 .f32) (harg : arg.IsWhole) (x : Vec Ideal S8x256 .f32) (inb : ∀ b, ![0, 0] b + S8x256.size b ≤ S8x256.size b) (r : Fin 8),
      shapeCast S8x256 (View.readAt (Elt Ideal) arg.view (Rect.unit (s := S8x256) ![0, 0] S8x256.size inb).toLoadRect (harg.unread x)) shapeCasts_S8x256_S8x256 (ix2 r q) = x (ix2 r q) := by
    intro arg harg x inb r
    refine (congrFun (shapeCast_self (s := S8x256) _ _) (ix2 r q)).trans ?_
    rw [View.readAt_eq_ld, harg.read_unread]
    show x ((Rect.unit (s := S8x256) ![0, 0] S8x256.size inb).emb (ix2 r q)) = _
    congr 1
    funext b
    apply Fin.ext
    fin_cases b
    · show 0 + 1 * r.val = r.val; omega
    · show 0 + 1 * q.val = q.val; omega
  refine ⟨rfl, fun r => ?_, fun r => ?_, fun r => ?_, fun r => ?_⟩
  · have := h 0
    unfold IsPair powsF
    dsimp only
    rw [row1 arg4 harg4 x2 0 0 rfl, row1 arg5 harg5 x3 0 0 rfl]
    simpa [IsPair] using this
  · have := h 1
    unfold IsPair powsF
    dsimp only
    rw [row1 arg4 harg4 x2 1 1 rfl, row1 arg5 harg5 x3 1 1 rfl]
    simpa [IsPair] using this
  · have := h 3
    unfold IsPair powsF
    dsimp only
    rw [row1 arg4 harg4 x2 3 3 rfl, row1 arg5 harg5 x3 3 3 rfl]
    simpa [IsPair] using this
  · have := h r
    unfold IsPair powsF
    dsimp only
    rw [all1 arg4 harg4 x2, all1 arg5 harg5 x3]
    exact this

theorem pay9_at (q : Fin 256) : IsC (k1_pay9 (F := Ideal), k1_pay9 (F := Ideal)) q fun _ => 0 := by
  intro r
  have := zero8_at (ix2 r q)
  show IsPair (zero8 (F := Ideal) (ix2 r q)) (zero8 (F := Ideal) (ix2 r q)) 0
  rw [this]
  exact IsPair.zero

/-- What the forward scan leaves of one block: the states. -/
theorem out1_re (hu : ∀ q, IsCol x0 x1 q (u q)) (hp : ∀ q, IsC (x2, x3) q fun r => a q ^ (r.val + 1)) :
    out1_A_4 c i arg2 harg2 arg3 harg3 arg4 harg4 arg5 harg5 arg6 harg6 arg7 harg7 x0 x1 x2 x3 = stRe a u := by
  unfold out1_A_4
  rw [View.read_writes_eq_canon _ _ _ (cover1_A_4 c i arg2 harg2 arg3 harg3 arg4 harg4 arg5 harg5 arg6 harg6 arg7 harg7 x0 x1 x2 x3)]
  funext y
  refine View.canon_apply_of_pieces (stRe a u) _ ?_ y (cover1_A_4 c i arg2 harg2 arg3 harg3 arg4 harg4 arg5 harg5 arg6 harg6 arg7 harg7 x0 x1 x2 x3 y)
  unfold kernelRun1_A
  exact (loop_at Variants.none c none i arg2 harg2 arg3 harg3 arg4 harg4 arg5 harg5 arg6 harg6 arg7 harg7 _ _ _ _ _ _ _ _ _ x0 x1 a u _ rfl hu
    (fun q => powF_at arg4 harg4 arg5 harg5 x2 x3 q (a q) (hp q)) pay9_at _ le_rfl).2.1

theorem out1_im (hu : ∀ q, IsCol x0 x1 q (u q)) (hp : ∀ q, IsC (x2, x3) q fun r => a q ^ (r.val + 1)) :
    out1_A_5 c i arg2 harg2 arg3 harg3 arg4 harg4 arg5 harg5 arg6 harg6 arg7 harg7 x0 x1 x2 x3 = stIm a u := by
  unfold out1_A_5
  rw [View.read_writes_eq_canon _ _ _ (cover1_A_5 c i arg2 harg2 arg3 harg3 arg4 harg4 arg5 harg5 arg6 harg6 arg7 harg7 x0 x1 x2 x3)]
  funext y
  refine View.canon_apply_of_pieces (stIm a u) _ ?_ y (cover1_A_5 c i arg2 harg2 arg3 harg3 arg4 harg4 arg5 harg5 arg6 harg6 arg7 harg7 x0 x1 x2 x3 y)
  unfold kernelRun1_A
  exact (loop_at Variants.none c none i arg2 harg2 arg3 harg3 arg4 harg4 arg5 harg5 arg6 harg6 arg7 harg7 _ _ _ _ _ _ _ _ _ x0 x1 a u _ rfl hu
    (fun q => powF_at arg4 harg4 arg5 harg5 x2 x3 q (a q) (hp q)) pay9_at _ le_rfl).2.2

end

end Cert.KernelIdeal.Scan
-- ==== Proof.KValB.lean ====
module

public import proofs.«01_k».proof.Proof.KValF

/-! What the backward scan's body leaves of one block, over exact arithmetic: in each column the gradients of the states, and the
eight partial sums of the gradient of the recurrence's factor. -/

@[expose] public section

set_option maxRecDepth 16384

noncomputable section

namespace Cert.KernelIdeal.Scan

open Cert.KernelIdeal Cert.KernelIdeal.Gen Idealize.ShloMosaic Idealize.ShloMosaic.ValueIdx

theorem k2_off2_at : ∀ (k : Fin k2_t1_loop.trips) (j : Fin 8), k2_off2 k (BitVec.ofNat 32 j.val) = ![2040 - (64 * k.val + 8 * j.val) - 8, 0] := by
  decide +kernel

theorem trips2 : k2_t1_loop.trips = 32 := by decide

/-- The gradients of the states of one column, from the last: `lam b d i` is that of row `2048 - i`. -/
def lam (b : ℂ) (d : ℕ → ℂ) : ℕ → ℂ := rec b (fun i => d (2047 - i)) 0

theorem lam_add (b : ℂ) (d : ℕ → ℂ) (m n : ℕ) : rec b (fun i => d (2047 - (m + i))) (lam b d m) n = lam b d (m + n) :=
  (rec_add b (fun i => d (2047 - i)) 0 m n).symm

/-- Row `r`'s partial sum of `n` steps: `λ` times the conjugate of the state before it, of the rows whose number is `r` modulo 8. -/
def accB (b : ℂ) (d s : ℕ → ℂ) (n : ℕ) (r : Fin 8) : ℂ :=
  ∑ m ∈ Finset.range n, lam b d (8 * m + (8 - r.val)) * (starRingEnd ℂ) (s (2040 - 8 * m + r.val))

section
variable (𝒱 : Variants) (c : Dev nD) (bd : Option 𝒱.V) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S1x8x256 .f32) (harg12 : arg12.IsWhole) (arg13 : Memref sig .tc .vmem S1x8x256 .f32) (harg13 : arg13.IsWhole) (v1 v5 v9 v15 v19 v25 v29 v35 : FVec Ideal S8x256 .f32) (v36 : IVec S8x256 32)
  (x0 x1 x2 x3 : Vec Ideal S2048x256 .f32) (b : Fin 256 → ℂ) (d s : Fin 256 → ℕ → ℂ)

theorem bound2 (k : Fin k2_t1_loop.trips) (j : Fin 8) : 64 * k.val + 8 * j.val ≤ 2040 := by
  have := lt_of_lt_of_eq k.isLt trips2
  omega

theorem loadB_d (k : Fin k2_t1_loop.trips) (j : Fin 8) (q : Fin 256) (hd : IsCol x0 x1 q (d q)) :
    IsC (loadB arg2 arg3 arg4 arg5 (harg2.unread x0) (harg3.unread x1) (harg4.unread x2) (harg5.unread x3) k j).d q fun r => d q (2047 - (64 * k.val + 8 * j.val + (7 - r.val))) := by
  intro r
  have hb := bound2 k j
  have ht : 2040 - (64 * k.val + 8 * j.val) + r.val < 2048 := by omega
  have e : 2047 - (64 * k.val + 8 * j.val + (7 - r.val)) = 2040 - (64 * k.val + 8 * j.val) + r.val := by omega
  dsimp only
  rw [e]
  unfold loadB IsPair
  dsimp only
  rw [load_at arg2 harg2 x0 _ _ (k2_off1_eq k j) _ r q ⟨_, ht⟩ rfl, load_at arg3 harg3 x1 _ _ (k2_off1_eq k j) _ r q ⟨_, ht⟩ rfl]
  exact hd ⟨_, ht⟩

theorem loadB_here (k : Fin k2_t1_loop.trips) (j : Fin 8) (q : Fin 256) (hs : IsCol x2 x3 q fun t => s q (t + 1)) :
    IsC (loadB arg2 arg3 arg4 arg5 (harg2.unread x0) (harg3.unread x1) (harg4.unread x2) (harg5.unread x3) k j).here q fun r => s q (2040 - (64 * k.val + 8 * j.val) + (r.val + 1)) := by
  intro r
  have hb := bound2 k j
  have ht : 2040 - (64 * k.val + 8 * j.val) + r.val < 2048 := by omega
  unfold loadB IsPair
  dsimp only
  rw [load_at arg4 harg4 x2 _ _ (k2_off1_eq k j) _ r q ⟨_, ht⟩ rfl, load_at arg5 harg5 x3 _ _ (k2_off1_eq k j) _ r q ⟨_, ht⟩ rfl]
  exact hs ⟨_, ht⟩

theorem loadB_before (k : Fin k2_t1_loop.trips) (j : Fin 8) (q : Fin 256) (hs : IsCol x2 x3 q fun t => s q (t + 1)) (hs0 : s q 0 = 0) :
    if (loadB arg2 arg3 arg4 arg5 (harg2.unread x0) (harg3.unread x1) (harg4.unread x2) (harg5.unread x3) k j).n = 1#1 then
      IsPair ((loadB arg2 arg3 arg4 arg5 (harg2.unread x0) (harg3.unread x1) (harg4.unread x2) (harg5.unread x3) k j).before.1 (ix2 7 q)) ((loadB arg2 arg3 arg4 arg5 (harg2.unread x0) (harg3.unread x1) (harg4.unread x2) (harg5.unread x3) k j).before.2 (ix2 7 q)) (s q (2040 - (64 * k.val + 8 * j.val) + 0))
    else s q (2040 - (64 * k.val + 8 * j.val) + 0) = 0 := by
  have hb := bound2 k j
  have hn : (loadB arg2 arg3 arg4 arg5 (harg2.unread x0) (harg3.unread x1) (harg4.unread x2) (harg5.unread x3) k j).n = if k.val = 31 ∧ j.val = 7 then 0#1 else 1#1 := hasPrev_eq k j
  rw [hn]
  by_cases h : k.val = 31 ∧ j.val = 7
  · rw [if_pos h, if_neg (by decide)]
    have e : 2040 - (64 * k.val + 8 * j.val) + 0 = 0 := by omega
    rw [e, hs0]
  · rw [if_neg h, if_pos rfl]
    have hlt := lt_of_lt_of_eq k.isLt trips2
    have ht : 2040 - (64 * k.val + 8 * j.val) - 8 + 7 < 2048 := by omega
    have e : 2040 - (64 * k.val + 8 * j.val) + 0 = 2040 - (64 * k.val + 8 * j.val) - 8 + 7 + 1 := by omega
    rw [e]
    unfold loadB IsPair
    dsimp only
    rw [load_at arg4 harg4 x2 _ _ (k2_off2_at k j) _ 7 q ⟨_, ht⟩ rfl, load_at arg5 harg5 x3 _ _ (k2_off2_at k j) _ 7 q ⟨_, ht⟩ rfl]
    exact hs ⟨_, ht⟩

/-- What is carried, at column `q`: the gradient of the row before, and the partial sums of `n` steps. -/
def CarB (acc : V8 Ideal × V8 Ideal × V8 Ideal × V8 Ideal) (q : Fin 256) (n : ℕ) : Prop :=
  IsC (acc.1, acc.2.1) q (fun _ => lam (b q) (d q) (8 * n)) ∧ IsC (acc.2.2.1, acc.2.2.2) q (accB (b q) (d q) (s q) n)

theorem carriesB_at (k : Fin k2_t1_loop.trips) (acc : V8 Ideal × V8 Ideal × V8 Ideal × V8 Ideal) (q : Fin 256) (hd : IsCol x0 x1 q (d q))
    (hs : IsCol x2 x3 q fun t => s q (t + 1)) (hs0 : s q 0 = 0)
    (hp : PowB (powsB v1 v5 v9 v15 v19 v25 v29 v35 v36) q (b q)) (hacc : CarB b d s acc q (8 * k.val)) (j : ℕ) (hj : j ≤ 8) :
    CarB b d s (carriesB (powsB v1 v5 v9 v15 v19 v25 v29 v35 v36) (loadBN arg2 arg3 arg4 arg5 (harg2.unread x0) (harg3.unread x1) (harg4.unread x2) (harg5.unread x3) k) acc j) q (8 * k.val + j) := by
  induction j with
  | zero => exact hacc
  | succ j ih =>
    have e : (Fin.ofNat 8 j).val = j := Nat.mod_eq_of_lt (by omega)
    have h1 := loadB_d arg2 harg2 arg3 harg3 arg4 harg4 arg5 harg5 x0 x1 x2 x3 d k (Fin.ofNat 8 j) q hd
    have h2 := loadB_here arg2 harg2 arg3 harg3 arg4 harg4 arg5 harg5 x0 x1 x2 x3 s k (Fin.ofNat 8 j) q hs
    have h3 := loadB_before arg2 harg2 arg3 harg3 arg4 harg4 arg5 harg5 x0 x1 x2 x3 s k (Fin.ofNat 8 j) q hs hs0
    have hb := bound2 k (Fin.ofNat 8 j)
    rw [e] at h1 h2 h3 hb
    obtain ⟨i1, i2⟩ := ih (by omega)
    have := carryB_at _ _ _ q (b q) (fun i => d q (2047 - (64 * k.val + 8 * j + i))) _ _ (fun i => s q (2040 - (64 * k.val + 8 * j) + i)) hp h1 i1 i2 h3 h2
    have e8 : 8 * (8 * k.val + j) = 64 * k.val + 8 * j := by omega
    rw [e8] at this
    obtain ⟨t1, t2⟩ := this
    refine ⟨?_, ?_⟩
    · intro r
      have t := t1 r
      dsimp only at t
      rw [lam_add] at t
      have e9 : 8 * (8 * k.val + (j + 1)) = 64 * k.val + 8 * j + 8 := by omega
      dsimp only
      rw [e9]
      exact t
    · intro r
      have t := t2 r
      dsimp only at t
      rw [lam_add] at t
      have ea : accB (b q) (d q) (s q) (8 * k.val + (j + 1)) r = accB (b q) (d q) (s q) (8 * k.val + j) r
          + lam (b q) (d q) (64 * k.val + 8 * j + (8 - r.val)) * (starRingEnd ℂ) (s q (2040 - (64 * k.val + 8 * j) + r.val)) := by
        unfold accB
        rw [← Nat.add_assoc, Finset.sum_range_succ, e8]
      rw [ea]
      exact t

theorem rowsB_of (k : Fin k2_t1_loop.trips) (acc : V8 Ideal × V8 Ideal × V8 Ideal × V8 Ideal) (q : Fin 256) (hd : IsCol x0 x1 q (d q))
    (hs : IsCol x2 x3 q fun t => s q (t + 1)) (hs0 : s q 0 = 0)
    (hp : PowB (powsB v1 v5 v9 v15 v19 v25 v29 v35 v36) q (b q)) (hacc : CarB b d s acc q (8 * k.val)) (j : Fin 8) (r : Fin 8) (x : V8 Ideal × V8 Ideal)
    (hx : x = rowsB (powsB v1 v5 v9 v15 v19 v25 v29 v35 v36) (loadB arg2 arg3 arg4 arg5 (harg2.unread x0) (harg3.unread x1) (harg4.unread x2) (harg5.unread x3) k j) ((carriesB (powsB v1 v5 v9 v15 v19 v25 v29 v35 v36) (loadBN arg2 arg3 arg4 arg5 (harg2.unread x0) (harg3.unread x1) (harg4.unread x2) (harg5.unread x3) k) acc j.val).1, (carriesB (powsB v1 v5 v9 v15 v19 v25 v29 v35 v36) (loadBN arg2 arg3 arg4 arg5 (harg2.unread x0) (harg3.unread x1) (harg4.unread x2) (harg5.unread x3) k) acc j.val).2.1)) :
    IsPair (x.1 (ix2 r q)) (x.2 (ix2 r q)) (lam (b q) (d q) (2048 - (2040 - (64 * k.val + 8 * j.val) + r.val))) := by
  subst hx
  have h1 := loadB_d arg2 harg2 arg3 harg3 arg4 harg4 arg5 harg5 x0 x1 x2 x3 d k j q hd
  have hb := bound2 k j
  obtain ⟨i1, -⟩ := carriesB_at arg2 harg2 arg3 harg3 arg4 harg4 arg5 harg5 v1 v5 v9 v15 v19 v25 v29 v35 v36 x0 x1 x2 x3 b d s k acc q hd hs hs0 hp hacc j.val (by omega)
  have := rowsB_at _ _ _ q (b q) (fun i => d q (2047 - (64 * k.val + 8 * j.val + i))) _ hp h1 i1 r
  have e8 : 8 * (8 * k.val + j.val) = 64 * k.val + 8 * j.val := by omega
  rw [e8] at this
  dsimp only at this
  rw [lam_add] at this
  have e : 2048 - (2040 - (64 * k.val + 8 * j.val) + r.val) = 64 * k.val + 8 * j.val + (8 - r.val) := by omega
  rw [e]
  exact this

/-- The gradients of the states as a block: their real parts. -/
def lamRe (y : S2048x256.Idx) : EReal := (((lam (b (y 1)) (d (y 1)) (2048 - (y 0).val)).re : ℝ) : EReal)

/-- The gradients of the states as a block: their imaginary parts. -/
def lamIm (y : S2048x256.Idx) : EReal := (((lam (b (y 1)) (d (y 1)) (2048 - (y 0).val)).im : ℝ) : EReal)

theorem trip_piecesB (k : Fin k2_t1_loop.trips) (acc : V8 Ideal × V8 Ideal × V8 Ideal × V8 Ideal) (hd : ∀ q, IsCol x0 x1 q (d q))
    (hs : ∀ q, IsCol x2 x3 q fun t => s q (t + 1)) (hs0 : ∀ q, s q 0 = 0)
    (hp : ∀ q, PowB (powsB v1 v5 v9 v15 v19 v25 v29 v35 v36) q (b q)) (hacc : ∀ q, CarB b d s acc q (8 * k.val))
    (f : V8 Ideal × V8 Ideal → V8 Ideal) (G' : S2048x256.Idx → EReal)
    (hf : ∀ (x : V8 Ideal × V8 Ideal) (r : Fin 8) (q : Fin 256) (t : Fin 2048),
      IsPair (x.1 (ix2 r q)) (x.2 (ix2 r q)) (lam (b q) (d q) (2048 - t.val)) → f x (ix2 r q) = G' (ix2 t q)) :
    ∀ p ∈ storedAllB arg2 arg3 arg4 arg5 v1 v5 v9 v15 v19 v25 v29 v35 v36 (harg2.unread x0) (harg3.unread x1) (harg4.unread x2) (harg5.unread x3) k acc f, ∀ x : p.1.shape.Idx, p.2 x = G' (p.1.emb x) := by
  intro p hp'
  unfold storedAllB at hp'
  obtain ⟨j, -, rfl⟩ := List.mem_map.mp hp'
  intro x
  have hb := bound2 k j
  obtain ⟨r, q, rfl⟩ : ∃ (r : Fin 8) (q : Fin 256), x = ix2 r q := ⟨x 0, x 1, eq_ix2 x⟩
  have ht : 2040 - (64 * k.val + 8 * j.val) + r.val < 2048 := by omega
  have h := rowsB_of arg2 harg2 arg3 harg3 arg4 harg4 arg5 harg5 v1 v5 v9 v15 v19 v25 v29 v35 v36 x0 x1 x2 x3 b d s k acc q (hd q) (hs q) (hs0 q) (hp q) (hacc q) j r _ rfl
  have e := emb_rows _ _ (k2_off1_eq k j) (k2_off1_inb k j) r q ⟨_, ht⟩ rfl
  exact (hf _ r q ⟨_, ht⟩ h).trans (congrArg G' e.symm)

/-- The loop's state after `n` trips: what is carried, and the stores so far. -/
theorem loopB_at (init : V8 Ideal × V8 Ideal × V8 Ideal × V8 Ideal) (hd : ∀ q, IsCol x0 x1 q (d q))
    (hs : ∀ q, IsCol x2 x3 q fun t => s q (t + 1)) (hs0 : ∀ q, s q 0 = 0)
    (hp : ∀ q, PowB (powsB v1 v5 v9 v15 v19 v25 v29 v35 v36) q (b q)) (hinit : ∀ q, CarB b d s init q 0) (n : ℕ) (hn : n ≤ k2_t1_loop.trips) :
    (∀ q, CarB b d s (st_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 (harg2.unread x0) (harg3.unread x1) (harg4.unread x2) (harg5.unread x3) init n).1 q (8 * n))
    ∧ (∀ p ∈ (st_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 (harg2.unread x0) (harg3.unread x1) (harg4.unread x2) (harg5.unread x3) init n).2.1, ∀ x : p.1.shape.Idx, p.2 x = lamRe b d (p.1.emb x))
    ∧ (∀ p ∈ (st_k2_t1 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 (harg2.unread x0) (harg3.unread x1) (harg4.unread x2) (harg5.unread x3) init n).2.2, ∀ x : p.1.shape.Idx, p.2 x = lamIm b d (p.1.emb x)) := by
  induction n with
  | zero =>
    refine ⟨hinit, fun p hp => absurd hp ?_, fun p hp => absurd hp ?_⟩ <;> exact List.not_mem_nil
  | succ n ih =>
    obtain ⟨h1, h2, h3⟩ := ih (by omega)
    have hs' := st_k2_t1_succ 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 (harg2.unread x0) (harg3.unread x1) (harg4.unread x2) (harg5.unread x3) init ⟨n, hn⟩
    have e1 := (congrArg Prod.fst hs').trans (tripRB_eq 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 _ _ _ _ ⟨n, hn⟩ _)
    have e2 := (congrArg (fun z => z.2.1) hs').trans (congrArg (fun z => z ++ _) (tripLB_eq_fst 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 _ _ _ _ ⟨n, hn⟩ _))
    have e3 := (congrArg (fun z => z.2.2) hs').trans (congrArg (fun z => z ++ _) (tripLB_eq_snd 𝒱 c bd i arg2 harg2 arg3 harg3 arg4 harg4 arg5 harg5 arg6 harg6 arg7 harg7 arg8 harg8 arg9 harg9 arg10 harg10 arg11 harg11 arg12 harg12 arg13 harg13 v1 v5 v9 v15 v19 v25 v29 v35 v36 _ _ _ _ ⟨n, hn⟩ _))
    rw [e1, e2, e3]
    refine ⟨fun q => ?_, fun p hp' => ?_, fun p hp' => ?_⟩
    · exact carriesB_at arg2 harg2 arg3 harg3 arg4 harg4 arg5 harg5 v1 v5 v9 v15 v19 v25 v29 v35 v36 x0 x1 x2 x3 b d s ⟨n, hn⟩ _ q (hd q) (hs q) (hs0 q) (hp q) (h1 q) 8 le_rfl
    · rcases List.mem_append.mp hp' with hp' | hp'
      · exact trip_piecesB arg2 harg2 arg3 harg3 arg4 harg4 arg5 harg5 v1 v5 v9 v15 v19 v25 v29 v35 v36 x0 x1 x2 x3 b d s ⟨n, hn⟩ _ hd hs hs0 hp h1 Prod.fst (lamRe b d) (fun x r q t h => h.1) p hp'
      · exact h2 p hp'
    · rcases List.mem_append.mp hp' with hp' | hp'
      · exact trip_piecesB arg2 harg2 arg3 harg3 arg4 harg4 arg5 harg5 v1 v5 v9 v15 v19 v25 v29 v35 v36 x0 x1 x2 x3 b d s ⟨n, hn⟩ _ hd hs hs0 hp h1 Prod.snd (lamIm b d) (fun x r q t h => h.2) p hp'
      · exact h3 p hp'

end

section
variable (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S1x8x256 .f32) (harg12 : arg12.IsWhole) (arg13 : Memref sig .tc .vmem S1x8x256 .f32) (harg13 : arg13.IsWhole)
    (x0 x1 x2 x3 : Vec Ideal S2048x256 .f32) (x4 x5 x6 x7 : Vec Ideal S8x256 .f32) (a : Fin 256 → ℂ) (d s : Fin 256 → ℕ → ℂ)

theorem load_row (arg : Memref sig .tc .vmem S8x256 .f32) (harg : arg.IsWhole) (x : Vec Ideal S8x256 .f32) (n : ℕ) (m : Fin 8) (hm : m.val = n)
    (inb : ∀ b, ![n, 0] b + S1x256.size b ≤ S8x256.size b) (r : Fin 8) (q : Fin 256) :
    spread (F := Ideal) (View.readAt (Elt Ideal) arg.view (Rect.unit (s := S8x256) ![n, 0] S1x256.size inb).toLoadRect (harg.unread x)) (ix2 r q) = x (ix2 m q) := by
  refine (spread_at _ r q).trans ?_
  rw [View.readAt_eq_ld, harg.read_unread]
  show x ((Rect.unit (s := S8x256) ![n, 0] S1x256.size inb).emb (ix2 (0 : Fin 1) q)) = _
  congr 1
  funext b
  apply Fin.ext
  fin_cases b
  · show n + 1 * 0 = m.val; omega
  · show 0 + 1 * q.val = q.val; omega

theorem load_eight (arg : Memref sig .tc .vmem S8x256 .f32) (harg : arg.IsWhole) (x : Vec Ideal S8x256 .f32) (inb : ∀ b, ![0, 0] b + S8x256.size b ≤ S8x256.size b) :
    shapeCast S8x256 (View.readAt (Elt Ideal) arg.view (Rect.unit (s := S8x256) ![0, 0] S8x256.size inb).toLoadRect (harg.unread x)) shapeCasts_S8x256_S8x256 = x := by
  refine (shapeCast_self (s := S8x256) _ _).trans ?_
  rw [View.readAt_eq_ld, harg.read_unread]
  exact View.ld_unit_zero (by funext b; fin_cases b <;> rfl) _ _

/-- Zero less a number is its negative, elementwise. -/
theorem zeroSub_at (x : V8 Ideal) (r : Fin 8) (q : Fin 256) (t : ℝ) (h : x (ix2 r q) = (t : EReal)) : subf zero8 x (ix2 r q) = -(t : EReal) := by
  show zero8 (ix2 r q) - x (ix2 r q) = _
  rw [zero8_at, h, ← EReal.coe_sub, zero_sub, EReal.coe_neg]

/-- The powers the body reads: of the first pair of blocks the first, second and fourth, of the second pair all eight, all conjugated. -/
theorem powB_at (q : Fin 256) (z : ℂ) (h : IsC (x4, x5) q fun r => z ^ (r.val + 1)) (hf : IsC (x6, x7) q fun r => z ^ (8 - r.val)) :
    PowB (powsB (F := Ideal) (kernelRun2_A.sl.r c arg8 harg8 x6) (kernelRun2_A.sl.r_1 c arg9 harg9 x7) (kernelRun2_A.sl.r_2 c arg6 harg6 x4)
      (kernelRun2_A.sl.r_3 c arg7 harg7 x5) (kernelRun2_A.sl.r_4 c arg6 harg6 x4) (kernelRun2_A.sl.r_5 c arg7 harg7 x5)
      (kernelRun2_A.sl.r_6 c arg6 harg6 x4) (kernelRun2_A.sl.r_7 c arg7 harg7 x5) kernelRun2_A.sl.v36) q ((starRingEnd ℂ) z) := by
  have hone : ∀ (n : ℕ) (m : Fin 8) (hm : m.val = n) (inb : ∀ b, ![n, 0] b + S1x256.size b ≤ S8x256.size b) (r : Fin 8) (w : ℂ) (hw : z ^ (m.val + 1) = w),
      IsPair (spread (F := Ideal) (View.readAt (Elt Ideal) arg6.view (Rect.unit (s := S8x256) ![n, 0] S1x256.size inb).toLoadRect (harg6.unread x4)) (ix2 r q))
        (subf zero8 (spread (F := Ideal) (View.readAt (Elt Ideal) arg7.view (Rect.unit (s := S8x256) ![n, 0] S1x256.size inb).toLoadRect (harg7.unread x5))) (ix2 r q))
        ((starRingEnd ℂ) w) := by
    intro n m hm inb r w hw
    have := h m
    rw [zeroSub_at _ r q _ ((load_row arg7 harg7 x5 n m hm inb r q).trans this.2), load_row arg6 harg6 x4 n m hm inb r q, ← hw]
    exact IsPair.conj ⟨this.1, rfl⟩
  refine ⟨rfl, fun r => ?_, fun r => ?_, fun r => ?_, fun r => ?_⟩
  · exact hone 0 0 rfl _ r _ (pow_one z)
  · dsimp only
    rw [← map_pow]
    exact hone 1 1 rfl _ r _ rfl
  · dsimp only
    rw [← map_pow]
    exact hone 3 3 rfl _ r _ rfl
  · dsimp only
    rw [← map_pow]
    have := hf r
    have e6 := congrFun (load_eight arg8 harg8 x6 inb_S8x256_S8x256_0_0) (ix2 r q)
    have e7 := zeroSub_at _ r q _ ((congrFun (load_eight arg9 harg9 x7 inb_S8x256_S8x256_0_0) (ix2 r q)).trans this.2)
    have g : IsPair (x6 (ix2 r q)) (-(((z ^ (8 - r.val)).im : ℝ) : EReal)) ((starRingEnd ℂ) (z ^ (8 - r.val))) := IsPair.conj ⟨this.1, rfl⟩
    rw [← e6, ← e7] at g
    exact g

theorem initB_at (q : Fin 256) : CarB (fun q => (starRingEnd ℂ) (a q)) d s
    (k2_pay1 (kernelRun2_A.sl.cst_16 (F := Ideal)), k2_pay1 kernelRun2_A.sl.cst_16, k2_pay1 kernelRun2_A.sl.cst_16, k2_pay1 kernelRun2_A.sl.cst_16) q 0 := by
  have e : ∀ r : Fin 8, k2_pay1 (kernelRun2_A.sl.cst_16 (F := Ideal)) (ix2 r q) = ((0 : ℝ) : EReal) := fun r => zero8_at (ix2 r q)
  constructor
  · intro r
    unfold IsPair
    dsimp only
    rw [e]
    exact IsPair.zero
  · intro r
    unfold IsPair
    dsimp only
    rw [e]
    exact IsPair.zero

theorem loop2 (hd : ∀ q, IsCol x0 x1 q (d q)) (hs : ∀ q, IsCol x2 x3 q fun t => s q (t + 1)) (hs0 : ∀ q, s q 0 = 0)
    (h : ∀ q, IsC (x4, x5) q fun r => a q ^ (r.val + 1)) (hf : ∀ q, IsC (x6, x7) q fun r => a q ^ (8 - r.val)) :
    (∀ q, CarB (fun q => (starRingEnd ℂ) (a q)) d s (st_k2_t1 Variants.none c none i arg2 harg2 arg3 harg3 arg4 harg4 arg5 harg5 arg6 harg6 arg7 harg7 arg8 harg8 arg9 harg9 arg10 harg10 arg11 harg11 arg12 harg12 arg13 harg13 (kernelRun2_A.sl.r c arg8 harg8 x6) (kernelRun2_A.sl.r_1 c arg9 harg9 x7) (kernelRun2_A.sl.r_2 c arg6 harg6 x4)
      (kernelRun2_A.sl.r_3 c arg7 harg7 x5) (kernelRun2_A.sl.r_4 c arg6 harg6 x4) (kernelRun2_A.sl.r_5 c arg7 harg7 x5)
      (kernelRun2_A.sl.r_6 c arg6 harg6 x4) (kernelRun2_A.sl.r_7 c arg7 harg7 x5) kernelRun2_A.sl.v36 (harg2.unread x0) (harg3.unread x1) (harg4.unread x2) (harg5.unread x3) (k2_pay1 (kernelRun2_A.sl.cst_16 (F := Ideal)), k2_pay1 kernelRun2_A.sl.cst_16, k2_pay1 kernelRun2_A.sl.cst_16, k2_pay1 kernelRun2_A.sl.cst_16) k2_t1_loop.trips).1 q (8 * k2_t1_loop.trips))
    ∧ (∀ p ∈ (st_k2_t1 Variants.none c none i arg2 harg2 arg3 harg3 arg4 harg4 arg5 harg5 arg6 harg6 arg7 harg7 arg8 harg8 arg9 harg9 arg10 harg10 arg11 harg11 arg12 harg12 arg13 harg13 (kernelRun2_A.sl.r c arg8 harg8 x6) (kernelRun2_A.sl.r_1 c arg9 harg9 x7) (kernelRun2_A.sl.r_2 c arg6 harg6 x4)
      (kernelRun2_A.sl.r_3 c arg7 harg7 x5) (kernelRun2_A.sl.r_4 c arg6 harg6 x4) (kernelRun2_A.sl.r_5 c arg7 harg7 x5)
      (kernelRun2_A.sl.r_6 c arg6 harg6 x4) (kernelRun2_A.sl.r_7 c arg7 harg7 x5) kernelRun2_A.sl.v36 (harg2.unread x0) (harg3.unread x1) (harg4.unread x2) (harg5.unread x3) (k2_pay1 (kernelRun2_A.sl.cst_16 (F := Ideal)), k2_pay1 kernelRun2_A.sl.cst_16, k2_pay1 kernelRun2_A.sl.cst_16, k2_pay1 kernelRun2_A.sl.cst_16) k2_t1_loop.trips).2.1, ∀ x : p.1.shape.Idx, p.2 x = lamRe (fun q => (starRingEnd ℂ) (a q)) d (p.1.emb x))
    ∧ (∀ p ∈ (st_k2_t1 Variants.none c none i arg2 harg2 arg3 harg3 arg4 harg4 arg5 harg5 arg6 harg6 arg7 harg7 arg8 harg8 arg9 harg9 arg10 harg10 arg11 harg11 arg12 harg12 arg13 harg13 (kernelRun2_A.sl.r c arg8 harg8 x6) (kernelRun2_A.sl.r_1 c arg9 harg9 x7) (kernelRun2_A.sl.r_2 c arg6 harg6 x4)
      (kernelRun2_A.sl.r_3 c arg7 harg7 x5) (kernelRun2_A.sl.r_4 c arg6 harg6 x4) (kernelRun2_A.sl.r_5 c arg7 harg7 x5)
      (kernelRun2_A.sl.r_6 c arg6 harg6 x4) (kernelRun2_A.sl.r_7 c arg7 harg7 x5) kernelRun2_A.sl.v36 (harg2.unread x0) (harg3.unread x1) (harg4.unread x2) (harg5.unread x3) (k2_pay1 (kernelRun2_A.sl.cst_16 (F := Ideal)), k2_pay1 kernelRun2_A.sl.cst_16, k2_pay1 kernelRun2_A.sl.cst_16, k2_pay1 kernelRun2_A.sl.cst_16) k2_t1_loop.trips).2.2, ∀ x : p.1.shape.Idx, p.2 x = lamIm (fun q => (starRingEnd ℂ) (a q)) d (p.1.emb x)) :=
  loopB_at Variants.none c none i arg2 harg2 arg3 harg3 arg4 harg4 arg5 harg5 arg6 harg6 arg7 harg7 arg8 harg8 arg9 harg9 arg10 harg10 arg11 harg11 arg12 harg12 arg13 harg13 (kernelRun2_A.sl.r c arg8 harg8 x6) (kernelRun2_A.sl.r_1 c arg9 harg9 x7) (kernelRun2_A.sl.r_2 c arg6 harg6 x4)
      (kernelRun2_A.sl.r_3 c arg7 harg7 x5) (kernelRun2_A.sl.r_4 c arg6 harg6 x4) (kernelRun2_A.sl.r_5 c arg7 harg7 x5)
      (kernelRun2_A.sl.r_6 c arg6 harg6 x4) (kernelRun2_A.sl.r_7 c arg7 harg7 x5) kernelRun2_A.sl.v36 x0 x1 x2 x3 (fun q => (starRingEnd ℂ) (a q)) d s _ hd hs hs0
    (fun q => powB_at c arg6 harg6 arg7 harg7 arg8 harg8 arg9 harg9 x4 x5 x6 x7 q (a q) (h q) (hf q)) (initB_at a d s) k2_t1_loop.trips le_rfl

/-- What the backward scan leaves of one block: the gradients of the states. -/
theorem out2_re (hd : ∀ q, IsCol x0 x1 q (d q)) (hs : ∀ q, IsCol x2 x3 q fun t => s q (t + 1)) (hs0 : ∀ q, s q 0 = 0)
    (h : ∀ q, IsC (x4, x5) q fun r => a q ^ (r.val + 1)) (hf : ∀ q, IsC (x6, x7) q fun r => a q ^ (8 - r.val)) :
    out2_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 = lamRe (fun q => (starRingEnd ℂ) (a q)) d := by
  unfold out2_A_8
  rw [View.read_writes_eq_canon _ _ _ (cover2_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  funext y
  refine View.canon_apply_of_pieces (lamRe (fun q => (starRingEnd ℂ) (a q)) d) _ ?_ y (cover2_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 y)
  unfold kernelRun2_A
  exact (loop2 c i arg2 harg2 arg3 harg3 arg4 harg4 arg5 harg5 arg6 harg6 arg7 harg7 arg8 harg8 arg9 harg9 arg10 harg10 arg11 harg11 arg12 harg12 arg13 harg13 x0 x1 x2 x3 x4 x5 x6 x7 a d s hd hs hs0 h hf).2.1

theorem out2_im (hd : ∀ q, IsCol x0 x1 q (d q)) (hs : ∀ q, IsCol x2 x3 q fun t => s q (t + 1)) (hs0 : ∀ q, s q 0 = 0)
    (h : ∀ q, IsC (x4, x5) q fun r => a q ^ (r.val + 1)) (hf : ∀ q, IsC (x6, x7) q fun r => a q ^ (8 - r.val)) :
    out2_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 = lamIm (fun q => (starRingEnd ℂ) (a q)) d := by
  unfold out2_A_9
  rw [View.read_writes_eq_canon _ _ _ (cover2_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  funext y
  refine View.canon_apply_of_pieces (lamIm (fun q => (starRingEnd ℂ) (a q)) d) _ ?_ y (cover2_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 y)
  unfold kernelRun2_A
  exact (loop2 c i arg2 harg2 arg3 harg3 arg4 harg4 arg5 harg5 arg6 harg6 arg7 harg7 arg8 harg8 arg9 harg9 arg10 harg10 arg11 harg11 arg12 harg12 arg13 harg13 x0 x1 x2 x3 x4 x5 x6 x7 a d s hd hs hs0 h hf).2.2

theorem zero3 : (![0, 0, 0] : Fin 3 → ℕ) = fun _ => 0 := by funext b; fin_cases b <;> rfl

/-- What the backward scan leaves of the partial sums: row `r`'s of all 256 steps. -/
theorem out2_sumRe (hd : ∀ q, IsCol x0 x1 q (d q)) (hs : ∀ q, IsCol x2 x3 q fun t => s q (t + 1)) (hs0 : ∀ q, s q 0 = 0)
    (h : ∀ q, IsC (x4, x5) q fun r => a q ^ (r.val + 1)) (hf : ∀ q, IsC (x6, x7) q fun r => a q ^ (8 - r.val)) (r : Fin 8) (q : Fin 256) :
    out2_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 0 r q) = (((accB ((starRingEnd ℂ) (a q)) (d q) (s q) 256 r).re : ℝ) : EReal) := by
  unfold out2_A_10
  rw [View.read_writes_eq_canon _ _ _ (cover2_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun2_A
  dsimp only
  rw [View.canon_unit_zero zero3]
  unfold k2_pay3
  refine (shapeCast_ab_1ab_apply _ _ 0 r q).trans ?_
  exact (((loop2 c i arg2 harg2 arg3 harg3 arg4 harg4 arg5 harg5 arg6 harg6 arg7 harg7 arg8 harg8 arg9 harg9 arg10 harg10 arg11 harg11 arg12 harg12 arg13 harg13 x0 x1 x2 x3 x4 x5 x6 x7 a d s hd hs hs0 h hf).1 q).2 r).1

theorem out2_sumIm (hd : ∀ q, IsCol x0 x1 q (d q)) (hs : ∀ q, IsCol x2 x3 q fun t => s q (t + 1)) (hs0 : ∀ q, s q 0 = 0)
    (h : ∀ q, IsC (x4, x5) q fun r => a q ^ (r.val + 1)) (hf : ∀ q, IsC (x6, x7) q fun r => a q ^ (8 - r.val)) (r : Fin 8) (q : Fin 256) :
    out2_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 0 r q) = (((accB ((starRingEnd ℂ) (a q)) (d q) (s q) 256 r).im : ℝ) : EReal) := by
  unfold out2_A_11
  rw [View.read_writes_eq_canon _ _ _ (cover2_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun2_A
  dsimp only
  rw [View.canon_unit_zero zero3]
  unfold k2_pay4
  refine (shapeCast_ab_1ab_apply _ _ 0 r q).trans ?_
  exact (((loop2 c i arg2 harg2 arg3 harg3 arg4 harg4 arg5 harg5 arg6 harg6 arg7 harg7 arg8 harg8 arg9 harg9 arg10 harg10 arg11 harg11 arg12 harg12 arg13 harg13 x0 x1 x2 x3 x4 x5 x6 x7 a d s hd hs hs0 h hf).1 q).2 r).2

end

end Cert.KernelIdeal.Scan
-- ==== Proof.KParam.lean ====
module

public import proofs.«01_k».proof.Proof.KValB

/-! What the parameter call leaves: row `r` of its first two outputs holds power `r + 1` of the discretised
    eigenvalue, row `r` of the next two holds power `8 - r`. -/

@[expose] public section

set_option maxRecDepth 16384

noncomputable section

namespace Cert.KernelIdeal.Scan

open Cert.KernelIdeal Cert.KernelIdeal.Gen Idealize.ShloMosaic Idealize.ShloMosaic.ValueIdx

/-- The real part of a discretised eigenvalue, from its real part, its imaginary part and the logarithm of its step. -/
def discRe (l i s : EReal) : EReal :=
  Ideal.exp (min l (Ideal.ofBits .f32 0xB8D1B717#32) * Ideal.exp s) * Ideal.cos (i * Ideal.exp s)

/-- Its imaginary part. -/
def discIm (l i s : EReal) : EReal :=
  Ideal.exp (min l (Ideal.ofBits .f32 0xB8D1B717#32) * Ideal.exp s) * Ideal.sin (i * Ideal.exp s)

/-- The discretised eigenvalue as a complex number. -/
def disc (l i s : EReal) : ℂ := ⟨(discRe l i s).toReal, (discIm l i s).toReal⟩

theorem floor_real : ∃ r : ℝ, Ideal.ofBits .f32 0xB8D1B717#32 = ((r : ℝ) : EReal) := by
  show ∃ r : ℝ, Ideal.ieee 8 23 0xB8D1B717#32 = ((r : ℝ) : EReal)
  unfold Ideal.ieee
  dsimp only
  rw [if_neg (by decide), if_neg (by decide)]
  exact ⟨_, rfl⟩

theorem coe_min (x y : ℝ) : min (x : EReal) (y : EReal) = ((min x y : ℝ) : EReal) :=
  (EReal.coe_strictMono.monotone.map_min).symm

theorem disc_pair (l i s : ℝ) : IsPair (discRe l i s) (discIm l i s) (disc l i s) := by
  obtain ⟨r, hr⟩ := floor_real
  have h1 : discRe l i s = ((Real.exp (min l r * Real.exp s) * Real.cos (i * Real.exp s) : ℝ) : EReal) := by
    unfold discRe
    rw [hr, Ideal.exp_coe, coe_min, ← EReal.coe_mul, ← EReal.coe_mul, Ideal.exp_coe, Ideal.cos_coe, ← EReal.coe_mul]
  have h2 : discIm l i s = ((Real.exp (min l r * Real.exp s) * Real.sin (i * Real.exp s) : ℝ) : EReal) := by
    unfold discIm
    rw [hr, Ideal.exp_coe, coe_min, ← EReal.coe_mul, ← EReal.coe_mul, Ideal.exp_coe, Ideal.sin_coe, ← EReal.coe_mul]
  unfold disc
  rw [h1, h2]
  exact ⟨rfl, rfl⟩

/-- The powers of the pair `(x, y)`, the first being the pair itself. -/
def powers (x y : FVec Ideal S128x64 .f32) : ℕ → FVec Ideal S128x64 .f32 × FVec Ideal S128x64 .f32
  | 0 => (x, y)
  | n + 1 => (subf (mulf (powers x y n).1 x) (mulf (powers x y n).2 y), addf (mulf (powers x y n).1 y) (mulf (powers x y n).2 x))

theorem powers_at (x y : FVec Ideal S128x64 .f32) (j : S128x64.Idx) (a : ℂ) (h : IsPair (x j) (y j) a) :
    ∀ n, IsPair ((powers x y n).1 j) ((powers x y n).2 j) (a ^ (n + 1))
  | 0 => by simpa [powers] using h
  | n + 1 => by rw [pow_succ a (n + 1)]; exact (powers_at x y j a h n).mul h

/-- Eight blocks, one under the other. -/
def stack (f : ℕ → FVec Ideal S128x64 .f32) : Vec Ideal S8x128x64 .f32 := fun y => f (y 0).val (ix2 (y 1) (y 2))

/-- A row stored at `n` holds block `n` of the stack. -/
theorem row_at (n : ℕ) (off : Fin 3 → ℕ) (ho : off = ![n, 0, 0]) (inb : ∀ a, off a + S1x128x64.size a ≤ S8x128x64.size a)
    (f : ℕ → FVec Ideal S128x64 .f32) (x : FVec Ideal S1x128x64 .f32) (hx : x = shapeCast S1x128x64 (f n) shapeCasts_S128x64_S1x128x64)
    (j : S1x128x64.Idx) : x j = stack f ((Rect.unit (s := S8x128x64) off S1x128x64.size inb).emb j) := by
  subst hx ho
  obtain ⟨u, g, p, rfl⟩ : ∃ (u : Fin 1) (g : Fin 128) (p : Fin 64), j = ix3 u g p := ⟨j 0, j 1, j 2, by funext b; fin_cases b <;> rfl⟩
  refine (shapeCast_ab_1ab_apply (f n) shapeCasts_S128x64_S1x128x64 u g p).trans ?_
  have e0 : ((Rect.unit (s := S8x128x64) ![n, 0, 0] S1x128x64.size inb).emb (ix3 u g p) 0).val = n := by
    show n + 1 * u.val = n; omega
  have e1 : (Rect.unit (s := S8x128x64) ![n, 0, 0] S1x128x64.size inb).emb (ix3 u g p) 1 = g := Fin.ext (by show 0 + 1 * g.val = g.val; omega)
  have e2 : (Rect.unit (s := S8x128x64) ![n, 0, 0] S1x128x64.size inb).emb (ix3 u g p) 2 = p := Fin.ext (by show 0 + 1 * p.val = p.val; omega)
  show f n (ix2 g p) = f _ (ix2 _ _)
  rw [e0, e1, e2]

section
variable (x0 x1 : Vec Ideal S128x64 .f32) (x2 : Vec Ideal S128x1 .f32) (x3 x4 : Vec Ideal S16x128x64 .f32)

/-- The powers the call forms. -/
abbrev pw : ℕ → FVec Ideal S128x64 .f32 × FVec Ideal S128x64 .f32 := powers (k0_pay65 x0 x1 x2 x3 x4) (k0_pay66 x0 x1 x2 x3 x4)

theorem out0_5_eq : out0_5 x0 x1 x2 x3 x4 = stack fun n => (pw x0 x1 x2 x3 x4 n).1 := by
  funext y
  unfold out0_5
  refine View.canon_apply_of_pieces (stack (fun n => (pw x0 x1 x2 x3 x4 n).1)) _ ?_ y (cover0_5 _ _ _ _ _ _ _ _ y)
  simp only [List.forall_mem_cons, List.not_mem_nil, false_imp_iff, implies_true, and_true]
  exact ⟨row_at 7 _ rfl _ (fun n => (pw x0 x1 x2 x3 x4 n).1) _ rfl, row_at 6 _ rfl _ (fun n => (pw x0 x1 x2 x3 x4 n).1) _ rfl, row_at 5 _ rfl _ (fun n => (pw x0 x1 x2 x3 x4 n).1) _ rfl, row_at 4 _ rfl _ (fun n => (pw x0 x1 x2 x3 x4 n).1) _ rfl, row_at 3 _ rfl _ (fun n => (pw x0 x1 x2 x3 x4 n).1) _ rfl, row_at 2 _ rfl _ (fun n => (pw x0 x1 x2 x3 x4 n).1) _ rfl, row_at 1 _ rfl _ (fun n => (pw x0 x1 x2 x3 x4 n).1) _ rfl, row_at 0 _ rfl _ (fun n => (pw x0 x1 x2 x3 x4 n).1) _ rfl⟩

theorem out0_6_eq : out0_6 x0 x1 x2 x3 x4 = stack fun n => (pw x0 x1 x2 x3 x4 n).2 := by
  funext y
  unfold out0_6
  refine View.canon_apply_of_pieces (stack (fun n => (pw x0 x1 x2 x3 x4 n).2)) _ ?_ y (cover0_6 _ _ _ _ _ _ _ _ y)
  simp only [List.forall_mem_cons, List.not_mem_nil, false_imp_iff, implies_true, and_true]
  exact ⟨row_at 7 _ rfl _ (fun n => (pw x0 x1 x2 x3 x4 n).2) _ rfl, row_at 6 _ rfl _ (fun n => (pw x0 x1 x2 x3 x4 n).2) _ rfl, row_at 5 _ rfl _ (fun n => (pw x0 x1 x2 x3 x4 n).2) _ rfl, row_at 4 _ rfl _ (fun n => (pw x0 x1 x2 x3 x4 n).2) _ rfl, row_at 3 _ rfl _ (fun n => (pw x0 x1 x2 x3 x4 n).2) _ rfl, row_at 2 _ rfl _ (fun n => (pw x0 x1 x2 x3 x4 n).2) _ rfl, row_at 1 _ rfl _ (fun n => (pw x0 x1 x2 x3 x4 n).2) _ rfl, row_at 0 _ rfl _ (fun n => (pw x0 x1 x2 x3 x4 n).2) _ rfl⟩

theorem out0_7_eq : out0_7 x0 x1 x2 x3 x4 = stack fun n => (pw x0 x1 x2 x3 x4 (7 - n)).1 := by
  funext y
  unfold out0_7
  refine View.canon_apply_of_pieces (stack (fun n => (pw x0 x1 x2 x3 x4 (7 - n)).1)) _ ?_ y (cover0_7 _ _ _ _ _ _ _ _ y)
  simp only [List.forall_mem_cons, List.not_mem_nil, false_imp_iff, implies_true, and_true]
  exact ⟨row_at 0 _ rfl _ (fun n => (pw x0 x1 x2 x3 x4 (7 - n)).1) _ rfl, row_at 1 _ rfl _ (fun n => (pw x0 x1 x2 x3 x4 (7 - n)).1) _ rfl, row_at 2 _ rfl _ (fun n => (pw x0 x1 x2 x3 x4 (7 - n)).1) _ rfl, row_at 3 _ rfl _ (fun n => (pw x0 x1 x2 x3 x4 (7 - n)).1) _ rfl, row_at 4 _ rfl _ (fun n => (pw x0 x1 x2 x3 x4 (7 - n)).1) _ rfl, row_at 5 _ rfl _ (fun n => (pw x0 x1 x2 x3 x4 (7 - n)).1) _ rfl, row_at 6 _ rfl _ (fun n => (pw x0 x1 x2 x3 x4 (7 - n)).1) _ rfl, row_at 7 _ rfl _ (fun n => (pw x0 x1 x2 x3 x4 (7 - n)).1) _ rfl⟩

theorem out0_8_eq : out0_8 x0 x1 x2 x3 x4 = stack fun n => (pw x0 x1 x2 x3 x4 (7 - n)).2 := by
  funext y
  unfold out0_8
  refine View.canon_apply_of_pieces (stack (fun n => (pw x0 x1 x2 x3 x4 (7 - n)).2)) _ ?_ y (cover0_8 _ _ _ _ _ _ _ _ y)
  simp only [List.forall_mem_cons, List.not_mem_nil, false_imp_iff, implies_true, and_true]
  exact ⟨row_at 0 _ rfl _ (fun n => (pw x0 x1 x2 x3 x4 (7 - n)).2) _ rfl, row_at 1 _ rfl _ (fun n => (pw x0 x1 x2 x3 x4 (7 - n)).2) _ rfl, row_at 2 _ rfl _ (fun n => (pw x0 x1 x2 x3 x4 (7 - n)).2) _ rfl, row_at 3 _ rfl _ (fun n => (pw x0 x1 x2 x3 x4 (7 - n)).2) _ rfl, row_at 4 _ rfl _ (fun n => (pw x0 x1 x2 x3 x4 (7 - n)).2) _ rfl, row_at 5 _ rfl _ (fun n => (pw x0 x1 x2 x3 x4 (7 - n)).2) _ rfl, row_at 6 _ rfl _ (fun n => (pw x0 x1 x2 x3 x4 (7 - n)).2) _ rfl, row_at 7 _ rfl _ (fun n => (pw x0 x1 x2 x3 x4 (7 - n)).2) _ rfl⟩

/-- One column spread over many. -/
theorem spreadCol_at (v : FVec Ideal S128x1 .f32) (g : Fin 128) (p : Fin 64) :
    broadcastTo S128x64 v broadcasts_S128x1_S128x64 (ix2 g p) = v (ix2 g 0) := by
  unfold broadcastTo
  congr 1
  funext b
  apply Fin.ext
  fin_cases b <;> rfl

theorem pay12_at (v : Vec Ideal S128x1 .f32) (g : Fin 128) : k0_pay12 (F := Ideal) v (ix2 g 0) = Ideal.exp (v (ix2 g 0)) := by
  unfold k0_pay12
  exact congrArg Ideal.exp (congrFun (shapeCast_self (s := S128x1) v shapeCasts_S128x1_S128x1) (ix2 g 0))

theorem pay11_at (v : Vec Ideal S128x64 .f32) (j : S128x64.Idx) : k0_pay11 (F := Ideal) v j = min (v j) (Ideal.ofBits .f32 0xB8D1B717#32) := by
  unfold k0_pay11
  exact congrArg (fun z : EReal => min z (Ideal.ofBits .f32 0xB8D1B717#32)) (congrFun (shapeCast_self (s := S128x64) v shapeCasts_S128x64_S128x64) j)

theorem pay14_at (v : Vec Ideal S128x64 .f32) (w : Vec Ideal S128x1 .f32) (g : Fin 128) (p : Fin 64) :
    k0_pay14 (F := Ideal) v w (ix2 g p) = v (ix2 g p) * Ideal.exp (w (ix2 g 0)) := by
  unfold k0_pay14 k0_pay8
  exact congrArg₂ (fun y z : EReal => y * z) (congrFun (shapeCast_self (s := S128x64) v shapeCasts_S128x64_S128x64) (ix2 g p))
    ((spreadCol_at (k0_pay12 w) g p).trans (pay12_at w g))

theorem pay13_at (v : Vec Ideal S128x64 .f32) (w : Vec Ideal S128x1 .f32) (g : Fin 128) (p : Fin 64) :
    k0_pay13 (F := Ideal) v w (ix2 g p) = Ideal.exp (min (v (ix2 g p)) (Ideal.ofBits .f32 0xB8D1B717#32) * Ideal.exp (w (ix2 g 0))) := by
  unfold k0_pay13
  exact congrArg₂ (fun y z : EReal => Ideal.exp (y * z)) (pay11_at v (ix2 g p)) ((spreadCol_at (k0_pay12 w) g p).trans (pay12_at w g))

/-- The pair the powers are taken of is the discretised eigenvalue. -/
theorem pair_re (g : Fin 128) (p : Fin 64) :
    k0_pay65 x0 x1 x2 x3 x4 (ix2 g p) = discRe (x0 (ix2 g p)) (x1 (ix2 g p)) (x2 (ix2 g 0)) := by
  have e0 : (View.ld x0 r0_0 : Vec Ideal S128x64 .f32) = x0 := View.ld_unit_zero (by funext b; fin_cases b <;> rfl) _ x0
  have e1 : (View.ld x1 r0_0 : Vec Ideal S128x64 .f32) = x1 := View.ld_unit_zero (by funext b; fin_cases b <;> rfl) _ x1
  have e2 : (View.ld x2 r0_1 : Vec Ideal S128x1 .f32) = x2 := View.ld_unit_zero (by funext b; fin_cases b <;> rfl) _ x2
  unfold k0_pay65 k0_pay15
  rw [e0, e1, e2]
  exact congrArg₂ (fun y z : EReal => y * Ideal.cos z) (pay13_at x0 x2 g p) (pay14_at x1 x2 g p)

theorem pair_im (g : Fin 128) (p : Fin 64) :
    k0_pay66 x0 x1 x2 x3 x4 (ix2 g p) = discIm (x0 (ix2 g p)) (x1 (ix2 g p)) (x2 (ix2 g 0)) := by
  have e0 : (View.ld x0 r0_0 : Vec Ideal S128x64 .f32) = x0 := View.ld_unit_zero (by funext b; fin_cases b <;> rfl) _ x0
  have e1 : (View.ld x1 r0_0 : Vec Ideal S128x64 .f32) = x1 := View.ld_unit_zero (by funext b; fin_cases b <;> rfl) _ x1
  have e2 : (View.ld x2 r0_1 : Vec Ideal S128x1 .f32) = x2 := View.ld_unit_zero (by funext b; fin_cases b <;> rfl) _ x2
  unfold k0_pay66 k0_pay16
  rw [e0, e1, e2]
  exact congrArg₂ (fun y z : EReal => y * Ideal.sin z) (pay13_at x0 x2 g p) (pay14_at x1 x2 g p)

/-- Over real arguments entry `(r, g, p)` of the first two outputs is power `r + 1` of the eigenvalue of `(g, p)`. -/
theorem param_up (g : Fin 128) (p : Fin 64) (l i s : ℝ) (h0 : x0 (ix2 g p) = (l : EReal)) (h1 : x1 (ix2 g p) = (i : EReal)) (h2 : x2 (ix2 g 0) = (s : EReal)) (r : Fin 8) :
    IsPair (out0_5 x0 x1 x2 x3 x4 (ix3 r g p)) (out0_6 x0 x1 x2 x3 x4 (ix3 r g p)) (disc l i s ^ (r.val + 1)) := by
  rw [out0_5_eq, out0_6_eq]
  refine powers_at _ _ (ix2 g p) (disc l i s) ?_ r.val
  rw [pair_re, pair_im, h0, h1, h2]
  exact disc_pair l i s

/-- Entry `(r, g, p)` of the next two is power `8 - r`. -/
theorem param_down (g : Fin 128) (p : Fin 64) (l i s : ℝ) (h0 : x0 (ix2 g p) = (l : EReal)) (h1 : x1 (ix2 g p) = (i : EReal)) (h2 : x2 (ix2 g 0) = (s : EReal)) (r : Fin 8) :
    IsPair (out0_7 x0 x1 x2 x3 x4 (ix3 r g p)) (out0_8 x0 x1 x2 x3 x4 (ix3 r g p)) (disc l i s ^ (8 - r.val)) := by
  rw [out0_7_eq, out0_8_eq, show 8 - r.val = 7 - r.val + 1 by omega]
  refine powers_at _ _ (ix2 g p) (disc l i s) ?_ (7 - r.val)
  rw [pair_re, pair_im, h0, h1, h2]
  exact disc_pair l i s

end

end Cert.KernelIdeal.Scan

end
-- ==== Proof.Spec.lean ====
module

public import proofs.«01_k».proof.Proof.KParam

/-! The scan's gradient as a function of the arguments: the numbers both programs are shown to compute. -/

@[expose] public section

set_option maxRecDepth 16384

noncomputable section

namespace Cert.KernelIdeal.Scan

open Cert.KernelIdeal Cert.KernelIdeal.Gen Idealize.ShloMosaic Idealize.ShloMosaic.ValueIdx

/-- Row of the whole array that holds step `t` of sequence `b`. -/
def row (b : Fin 2) (t : ℕ) : Fin 4096 := ⟨(2048 * b.val + t) % 4096, Nat.mod_lt _ (by norm_num)⟩
/-- The sequence a row belongs to. -/
def seqOf (r : Fin 4096) : Fin 2 := ⟨r.val / 2048, by omega⟩
/-- Group and state of a column. -/
def gOf (q : Fin 8192) : Fin 128 := ⟨q.val / 64, by omega⟩
def pOf (q : Fin 8192) : Fin 64 := ⟨q.val % 64, by omega⟩
/-- Column of a group and a state. -/
def colOf (g : Fin 128) (p : Fin 64) : Fin 8192 := ⟨64 * g.val + p.val, by omega⟩

theorem gOf_colOf (g : Fin 128) (p : Fin 64) : gOf (colOf g p) = g := Fin.ext (by show (64 * g.val + p.val) / 64 = g.val; omega)
theorem pOf_colOf (g : Fin 128) (p : Fin 64) : pOf (colOf g p) = p := Fin.ext (by show (64 * g.val + p.val) % 64 = p.val; omega)
theorem row_val (b : Fin 2) (t : ℕ) (h : t < 2048) : (row b t).val = 2048 * b.val + t := Nat.mod_eq_of_lt (by omega)

/-- The arguments the scan's gradient depends on. -/
structure Args where
  l : Vec Ideal S1x128x64 .f32
  i : Vec Ideal S1x128x64 .f32
  s : Vec Ideal S1x128 .f32
  ur : Vec Ideal S4096x8192 .f32
  ui : Vec Ideal S4096x8192 .f32
  dr : Vec Ideal S4096x8192 .f32
  di : Vec Ideal S4096x8192 .f32

namespace Args

variable (X : Args)

/-- Every entry is a real number. -/
structure IsReal : Prop where
  l : ∀ j, ∃ r : ℝ, X.l j = (r : EReal)
  i : ∀ j, ∃ r : ℝ, X.i j = (r : EReal)
  s : ∀ j, ∃ r : ℝ, X.s j = (r : EReal)
  ur : ∀ j, ∃ r : ℝ, X.ur j = (r : EReal)
  ui : ∀ j, ∃ r : ℝ, X.ui j = (r : EReal)
  dr : ∀ j, ∃ r : ℝ, X.dr j = (r : EReal)
  di : ∀ j, ∃ r : ℝ, X.di j = (r : EReal)

/-- The discretised eigenvalue of a column. -/
def a (q : Fin 8192) : ℂ := disc (X.l (ix3 0 (gOf q) (pOf q))) (X.i (ix3 0 (gOf q) (pOf q))) (X.s (ix2 0 (gOf q)))
/-- The scan's input at step `t`. -/
def u (b : Fin 2) (q : Fin 8192) (t : ℕ) : ℂ := ⟨(X.ur (ix2 (row b t) q)).toReal, (X.ui (ix2 (row b t) q)).toReal⟩
/-- The gradient of the loss in the state at step `t`. -/
def d (b : Fin 2) (q : Fin 8192) (t : ℕ) : ℂ := ⟨(X.dr (ix2 (row b t) q)).toReal, (X.di (ix2 (row b t) q)).toReal⟩
/-- The state before step `t`. -/
def st (b : Fin 2) (q : Fin 8192) : ℕ → ℂ := Scan.rec (X.a q) (X.u b q) 0
/-- The gradient that has come back to step `t`. -/
def la (b : Fin 2) (q : Fin 8192) (t : ℕ) : ℂ := lam ((starRingEnd ℂ) (X.a q)) (X.d b q) (2048 - t)
/-- The eigenvalue's gradient: over both sequences and all steps. -/
def sum (q : Fin 8192) : ℂ := ∑ b : Fin 2, ∑ t ∈ Finset.range 2048, X.la b q t * (starRingEnd ℂ) (X.st b q t)

/-- The results. -/
def gRe : Vec Ideal S4096x8192 .f32 := fun y => ((X.la (seqOf (y 0)) (y 1) ((y 0).val % 2048)).re : EReal)
def gIm : Vec Ideal S4096x8192 .f32 := fun y => ((X.la (seqOf (y 0)) (y 1) ((y 0).val % 2048)).im : EReal)
def aRe : Vec Ideal S128x64 .f32 := fun y => ((X.sum (colOf (y 0) (y 1))).re : EReal)
def aIm : Vec Ideal S128x64 .f32 := fun y => ((X.sum (colOf (y 0) (y 1))).im : EReal)

variable {X}

theorem pair_of {x y : EReal} (hx : ∃ r : ℝ, x = (r : EReal)) (hy : ∃ r : ℝ, y = (r : EReal)) : IsPair x y ⟨x.toReal, y.toReal⟩ := by
  obtain ⟨r, rfl⟩ := hx
  obtain ⟨r', rfl⟩ := hy
  exact ⟨rfl, rfl⟩

theorem IsReal.u_pair (h : X.IsReal) (b : Fin 2) (q : Fin 8192) (t : ℕ) : IsPair (X.ur (ix2 (row b t) q)) (X.ui (ix2 (row b t) q)) (X.u b q t) :=
  pair_of (h.ur _) (h.ui _)

theorem IsReal.d_pair (h : X.IsReal) (b : Fin 2) (q : Fin 8192) (t : ℕ) : IsPair (X.dr (ix2 (row b t) q)) (X.di (ix2 (row b t) q)) (X.d b q t) :=
  pair_of (h.dr _) (h.di _)

theorem IsReal.a_pair (h : X.IsReal) (g : Fin 128) (p : Fin 64) :
    IsPair (discRe (X.l (ix3 0 g p)) (X.i (ix3 0 g p)) (X.s (ix2 0 g))) (discIm (X.l (ix3 0 g p)) (X.i (ix3 0 g p)) (X.s (ix2 0 g))) (X.a (colOf g p)) := by
  obtain ⟨l, hl⟩ := h.l (ix3 0 g p)
  obtain ⟨i, hi⟩ := h.i (ix3 0 g p)
  obtain ⟨s, hs⟩ := h.s (ix2 0 g)
  unfold Args.a
  rw [gOf_colOf, pOf_colOf, hl, hi, hs]
  exact disc_pair l i s

end Args

end Cert.KernelIdeal.Scan

end
-- ==== Proof.KArr.lean ====
module

public import proofs.«01_k».proof.Proof.Spec
public import Idealize.ShloMosaic.Lib.Pipeline.ValueKit.Geometry

/-! What the arrays hold after each of the three calls, over exact arithmetic. -/

@[expose] public section

set_option maxRecDepth 16384

noncomputable section

namespace Cert.KernelIdeal.Scan

open Cert.KernelIdeal Cert.KernelIdeal.Gen Idealize.ShloMosaic Idealize.ShloMosaic.ValueIdx Idealize.ShloMosaic.TcCoe

/-- Column `q` of tile `j`. -/
def tileCol (j : Fin 32) (q : Fin 256) : Fin 8192 := ⟨256 * j.val + q.val, by omega⟩

/-! The blocks of call 1: sequence and tile of a grid point, then where each block lies. -/

def sq1 (t : Fin cfg1.N) : Fin 2 := ⟨(grid1.coords t 0).val, (grid1.coords t 0).isLt⟩
def tl1 (t : Fin cfg1.N) : Fin 32 := ⟨(grid1.coords t 1).val, (grid1.coords t 1).isLt⟩

theorem idx1_0 : ∀ t : Fin cfg1.N, win1_0.index t = ![(grid1.coords t 0).val, (grid1.coords t 1).val] := (by decide +kernel : ∀ t : Fin grid1.N, _)
theorem emb1_0 (t : Fin cfg1.N) (r : Fin 2048) (q : Fin 256) : (win1_0.blk t).view.emb (ix2 r q) = ix2 (row (sq1 t) r.val) (tileCol (tl1 t) q) := by
  funext b
  apply Fin.ext
  fin_cases b
  · refine Eq.trans ?_ (row_val (sq1 t) r.val r.isLt).symm
    blk_simp [idx1_0]
    show (grid1.coords t 0).val * 2048 + r.val = 2048 * (grid1.coords t 0).val + r.val
    omega
  · blk_simp [idx1_0]
    show (grid1.coords t 1).val * 256 + q.val = 256 * (grid1.coords t 1).val + q.val
    omega
theorem idx1_1 : ∀ t : Fin cfg1.N, win1_1.index t = ![(grid1.coords t 0).val, (grid1.coords t 1).val] := (by decide +kernel : ∀ t : Fin grid1.N, _)
theorem emb1_1 (t : Fin cfg1.N) (r : Fin 2048) (q : Fin 256) : (win1_1.blk t).view.emb (ix2 r q) = ix2 (row (sq1 t) r.val) (tileCol (tl1 t) q) := by
  funext b
  apply Fin.ext
  fin_cases b
  · refine Eq.trans ?_ (row_val (sq1 t) r.val r.isLt).symm
    blk_simp [idx1_1]
    show (grid1.coords t 0).val * 2048 + r.val = 2048 * (grid1.coords t 0).val + r.val
    omega
  · blk_simp [idx1_1]
    show (grid1.coords t 1).val * 256 + q.val = 256 * (grid1.coords t 1).val + q.val
    omega
theorem idx1_4 : ∀ t : Fin cfg1.N, win1_4.index t = ![(grid1.coords t 0).val, (grid1.coords t 1).val] := (by decide +kernel : ∀ t : Fin grid1.N, _)
theorem emb1_4 (t : Fin cfg1.N) (r : Fin 2048) (q : Fin 256) : (win1_4.blk t).view.emb (ix2 r q) = ix2 (row (sq1 t) r.val) (tileCol (tl1 t) q) := by
  funext b
  apply Fin.ext
  fin_cases b
  · refine Eq.trans ?_ (row_val (sq1 t) r.val r.isLt).symm
    blk_simp [idx1_4]
    show (grid1.coords t 0).val * 2048 + r.val = 2048 * (grid1.coords t 0).val + r.val
    omega
  · blk_simp [idx1_4]
    show (grid1.coords t 1).val * 256 + q.val = 256 * (grid1.coords t 1).val + q.val
    omega
theorem idx1_5 : ∀ t : Fin cfg1.N, win1_5.index t = ![(grid1.coords t 0).val, (grid1.coords t 1).val] := (by decide +kernel : ∀ t : Fin grid1.N, _)
theorem emb1_5 (t : Fin cfg1.N) (r : Fin 2048) (q : Fin 256) : (win1_5.blk t).view.emb (ix2 r q) = ix2 (row (sq1 t) r.val) (tileCol (tl1 t) q) := by
  funext b
  apply Fin.ext
  fin_cases b
  · refine Eq.trans ?_ (row_val (sq1 t) r.val r.isLt).symm
    blk_simp [idx1_5]
    show (grid1.coords t 0).val * 2048 + r.val = 2048 * (grid1.coords t 0).val + r.val
    omega
  · blk_simp [idx1_5]
    show (grid1.coords t 1).val * 256 + q.val = 256 * (grid1.coords t 1).val + q.val
    omega
theorem idx1_2 : ∀ t : Fin cfg1.N, win1_2.index t = ![0, (grid1.coords t 1).val] := (by decide +kernel : ∀ t : Fin grid1.N, _)
theorem emb1_2 (t : Fin cfg1.N) (r : Fin 8) (q : Fin 256) : (win1_2.blk t).view.emb (ix2 r q) = ix2 r (tileCol (tl1 t) q) := by
  funext b
  apply Fin.ext
  fin_cases b
  · blk_simp [idx1_2]
  · blk_simp [idx1_2]
    show (grid1.coords t 1).val * 256 + q.val = 256 * (grid1.coords t 1).val + q.val
    omega
theorem idx1_3 : ∀ t : Fin cfg1.N, win1_3.index t = ![0, (grid1.coords t 1).val] := (by decide +kernel : ∀ t : Fin grid1.N, _)
theorem emb1_3 (t : Fin cfg1.N) (r : Fin 8) (q : Fin 256) : (win1_3.blk t).view.emb (ix2 r q) = ix2 r (tileCol (tl1 t) q) := by
  funext b
  apply Fin.ext
  fin_cases b
  · blk_simp [idx1_3]
  · blk_simp [idx1_3]
    show (grid1.coords t 1).val * 256 + q.val = 256 * (grid1.coords t 1).val + q.val
    omega
/-! The blocks of call 2: sequence and tile of a grid point, then where each block lies. -/

def sq2 (t : Fin cfg2.N) : Fin 2 := ⟨(grid2.coords t 0).val, (grid2.coords t 0).isLt⟩
def tl2 (t : Fin cfg2.N) : Fin 32 := ⟨(grid2.coords t 1).val, (grid2.coords t 1).isLt⟩

theorem idx2_0 : ∀ t : Fin cfg2.N, win2_0.index t = ![(grid2.coords t 0).val, (grid2.coords t 1).val] := (by decide +kernel : ∀ t : Fin grid2.N, _)
theorem emb2_0 (t : Fin cfg2.N) (r : Fin 2048) (q : Fin 256) : (win2_0.blk t).view.emb (ix2 r q) = ix2 (row (sq2 t) r.val) (tileCol (tl2 t) q) := by
  funext b
  apply Fin.ext
  fin_cases b
  · refine Eq.trans ?_ (row_val (sq2 t) r.val r.isLt).symm
    blk_simp [idx2_0]
    show (grid2.coords t 0).val * 2048 + r.val = 2048 * (grid2.coords t 0).val + r.val
    omega
  · blk_simp [idx2_0]
    show (grid2.coords t 1).val * 256 + q.val = 256 * (grid2.coords t 1).val + q.val
    omega
theorem idx2_1 : ∀ t : Fin cfg2.N, win2_1.index t = ![(grid2.coords t 0).val, (grid2.coords t 1).val] := (by decide +kernel : ∀ t : Fin grid2.N, _)
theorem emb2_1 (t : Fin cfg2.N) (r : Fin 2048) (q : Fin 256) : (win2_1.blk t).view.emb (ix2 r q) = ix2 (row (sq2 t) r.val) (tileCol (tl2 t) q) := by
  funext b
  apply Fin.ext
  fin_cases b
  · refine Eq.trans ?_ (row_val (sq2 t) r.val r.isLt).symm
    blk_simp [idx2_1]
    show (grid2.coords t 0).val * 2048 + r.val = 2048 * (grid2.coords t 0).val + r.val
    omega
  · blk_simp [idx2_1]
    show (grid2.coords t 1).val * 256 + q.val = 256 * (grid2.coords t 1).val + q.val
    omega
theorem idx2_2 : ∀ t : Fin cfg2.N, win2_2.index t = ![(grid2.coords t 0).val, (grid2.coords t 1).val] := (by decide +kernel : ∀ t : Fin grid2.N, _)
theorem emb2_2 (t : Fin cfg2.N) (r : Fin 2048) (q : Fin 256) : (win2_2.blk t).view.emb (ix2 r q) = ix2 (row (sq2 t) r.val) (tileCol (tl2 t) q) := by
  funext b
  apply Fin.ext
  fin_cases b
  · refine Eq.trans ?_ (row_val (sq2 t) r.val r.isLt).symm
    blk_simp [idx2_2]
    show (grid2.coords t 0).val * 2048 + r.val = 2048 * (grid2.coords t 0).val + r.val
    omega
  · blk_simp [idx2_2]
    show (grid2.coords t 1).val * 256 + q.val = 256 * (grid2.coords t 1).val + q.val
    omega
theorem idx2_3 : ∀ t : Fin cfg2.N, win2_3.index t = ![(grid2.coords t 0).val, (grid2.coords t 1).val] := (by decide +kernel : ∀ t : Fin grid2.N, _)
theorem emb2_3 (t : Fin cfg2.N) (r : Fin 2048) (q : Fin 256) : (win2_3.blk t).view.emb (ix2 r q) = ix2 (row (sq2 t) r.val) (tileCol (tl2 t) q) := by
  funext b
  apply Fin.ext
  fin_cases b
  · refine Eq.trans ?_ (row_val (sq2 t) r.val r.isLt).symm
    blk_simp [idx2_3]
    show (grid2.coords t 0).val * 2048 + r.val = 2048 * (grid2.coords t 0).val + r.val
    omega
  · blk_simp [idx2_3]
    show (grid2.coords t 1).val * 256 + q.val = 256 * (grid2.coords t 1).val + q.val
    omega
theorem idx2_8 : ∀ t : Fin cfg2.N, win2_8.index t = ![(grid2.coords t 0).val, (grid2.coords t 1).val] := (by decide +kernel : ∀ t : Fin grid2.N, _)
theorem emb2_8 (t : Fin cfg2.N) (r : Fin 2048) (q : Fin 256) : (win2_8.blk t).view.emb (ix2 r q) = ix2 (row (sq2 t) r.val) (tileCol (tl2 t) q) := by
  funext b
  apply Fin.ext
  fin_cases b
  · refine Eq.trans ?_ (row_val (sq2 t) r.val r.isLt).symm
    blk_simp [idx2_8]
    show (grid2.coords t 0).val * 2048 + r.val = 2048 * (grid2.coords t 0).val + r.val
    omega
  · blk_simp [idx2_8]
    show (grid2.coords t 1).val * 256 + q.val = 256 * (grid2.coords t 1).val + q.val
    omega
theorem idx2_9 : ∀ t : Fin cfg2.N, win2_9.index t = ![(grid2.coords t 0).val, (grid2.coords t 1).val] := (by decide +kernel : ∀ t : Fin grid2.N, _)
theorem emb2_9 (t : Fin cfg2.N) (r : Fin 2048) (q : Fin 256) : (win2_9.blk t).view.emb (ix2 r q) = ix2 (row (sq2 t) r.val) (tileCol (tl2 t) q) := by
  funext b
  apply Fin.ext
  fin_cases b
  · refine Eq.trans ?_ (row_val (sq2 t) r.val r.isLt).symm
    blk_simp [idx2_9]
    show (grid2.coords t 0).val * 2048 + r.val = 2048 * (grid2.coords t 0).val + r.val
    omega
  · blk_simp [idx2_9]
    show (grid2.coords t 1).val * 256 + q.val = 256 * (grid2.coords t 1).val + q.val
    omega
theorem idx2_4 : ∀ t : Fin cfg2.N, win2_4.index t = ![0, (grid2.coords t 1).val] := (by decide +kernel : ∀ t : Fin grid2.N, _)
theorem emb2_4 (t : Fin cfg2.N) (r : Fin 8) (q : Fin 256) : (win2_4.blk t).view.emb (ix2 r q) = ix2 r (tileCol (tl2 t) q) := by
  funext b
  apply Fin.ext
  fin_cases b
  · blk_simp [idx2_4]
  · blk_simp [idx2_4]
    show (grid2.coords t 1).val * 256 + q.val = 256 * (grid2.coords t 1).val + q.val
    omega
theorem idx2_5 : ∀ t : Fin cfg2.N, win2_5.index t = ![0, (grid2.coords t 1).val] := (by decide +kernel : ∀ t : Fin grid2.N, _)
theorem emb2_5 (t : Fin cfg2.N) (r : Fin 8) (q : Fin 256) : (win2_5.blk t).view.emb (ix2 r q) = ix2 r (tileCol (tl2 t) q) := by
  funext b
  apply Fin.ext
  fin_cases b
  · blk_simp [idx2_5]
  · blk_simp [idx2_5]
    show (grid2.coords t 1).val * 256 + q.val = 256 * (grid2.coords t 1).val + q.val
    omega
theorem idx2_6 : ∀ t : Fin cfg2.N, win2_6.index t = ![0, (grid2.coords t 1).val] := (by decide +kernel : ∀ t : Fin grid2.N, _)
theorem emb2_6 (t : Fin cfg2.N) (r : Fin 8) (q : Fin 256) : (win2_6.blk t).view.emb (ix2 r q) = ix2 r (tileCol (tl2 t) q) := by
  funext b
  apply Fin.ext
  fin_cases b
  · blk_simp [idx2_6]
  · blk_simp [idx2_6]
    show (grid2.coords t 1).val * 256 + q.val = 256 * (grid2.coords t 1).val + q.val
    omega
theorem idx2_7 : ∀ t : Fin cfg2.N, win2_7.index t = ![0, (grid2.coords t 1).val] := (by decide +kernel : ∀ t : Fin grid2.N, _)
theorem emb2_7 (t : Fin cfg2.N) (r : Fin 8) (q : Fin 256) : (win2_7.blk t).view.emb (ix2 r q) = ix2 r (tileCol (tl2 t) q) := by
  funext b
  apply Fin.ext
  fin_cases b
  · blk_simp [idx2_7]
  · blk_simp [idx2_7]
    show (grid2.coords t 1).val * 256 + q.val = 256 * (grid2.coords t 1).val + q.val
    omega
theorem idx2_10 : ∀ t : Fin cfg2.N, win2_10.index t = ![(grid2.coords t 0).val, 0, (grid2.coords t 1).val] := (by decide +kernel : ∀ t : Fin grid2.N, _)
theorem emb2_10 (t : Fin cfg2.N) (r : Fin 8) (q : Fin 256) : (win2_10.blk t).view.emb (ix3 0 r q) = ix3 (sq2 t) r (tileCol (tl2 t) q) := by
  funext b
  apply Fin.ext
  fin_cases b
  · blk_simp [idx2_10]
    rfl
  · blk_simp [idx2_10]
  · blk_simp [idx2_10]
    show (grid2.coords t 1).val * 256 + q.val = 256 * (grid2.coords t 1).val + q.val
    omega
theorem idx2_11 : ∀ t : Fin cfg2.N, win2_11.index t = ![(grid2.coords t 0).val, 0, (grid2.coords t 1).val] := (by decide +kernel : ∀ t : Fin grid2.N, _)
theorem emb2_11 (t : Fin cfg2.N) (r : Fin 8) (q : Fin 256) : (win2_11.blk t).view.emb (ix3 0 r q) = ix3 (sq2 t) r (tileCol (tl2 t) q) := by
  funext b
  apply Fin.ext
  fin_cases b
  · blk_simp [idx2_11]
    rfl
  · blk_simp [idx2_11]
  · blk_simp [idx2_11]
    show (grid2.coords t 1).val * 256 + q.val = 256 * (grid2.coords t 1).val + q.val
    omega

section
variable (V : (c : Dev nD) → (b : Ref sig .tc) → Buf (Elt Ideal) ((c : Thread nD τ).loc b)) (c : Dev nD) (X : Args)

/-- Rows of two whole arrays read as one complex sequence per column. -/
def IsSeq (x y : Vec Ideal S4096x8192 .f32) (z : Fin 2 → Fin 8192 → ℕ → ℂ) : Prop :=
  ∀ b q t, t < 2048 → IsPair (x (ix2 (row b t) q)) (y (ix2 (row b t) q)) (z b q t)

/-- Eight rows of two arrays read as powers. -/
def IsPow (x y : Vec Ideal S8x8192 .f32) (z : Fin 8192 → ℕ → ℂ) : Prop :=
  ∀ (r : Fin 8) q, IsPair (x (ix2 r q)) (y (ix2 r q)) (z q r.val)

theorem row_split (y : S4096x8192.Idx) : ∃ (b : Fin 2) (t : ℕ) (q : Fin 8192), t < 2048 ∧ y = ix2 (row b t) q := by
  refine ⟨seqOf (y 0), (y 0).val % 2048, y 1, Nat.mod_lt _ (by norm_num), ?_⟩
  funext b
  apply Fin.ext
  fin_cases b
  · refine Eq.trans ?_ (row_val _ _ (Nat.mod_lt _ (by norm_num))).symm
    show (y 0).val = 2048 * ((y 0).val / 2048) + (y 0).val % 2048
    omega
  · rfl

theorem cols1_0 (z : Fin 2 → Fin 8192 → ℕ → ℂ) (h : IsSeq (V c main_arg5) (V c main_arg6) z) (t : Fin cfg1.N) (q : Fin 256) :
    IsCol (iblk1 V c 0 t) (iblk1 V c 1 t) q (z (sq1 t) (tileCol (tl1 t) q)) := by
  intro r
  blk_simp [iblk1]
  rw [emb1_0, emb1_1]
  exact h _ _ _ r.isLt
theorem pows1_2 (z : Fin 8192 → ℕ → ℂ) (h : IsPow (V c main_v8) (V c main_v9) z) (t : Fin cfg1.N) (q : Fin 256) :
    IsC (iblk1 V c 2 t, iblk1 V c 3 t) q fun r => z (tileCol (tl1 t) q) r.val := by
  intro r
  show IsPair (iblk1 V c 2 t (ix2 r q)) (iblk1 V c 3 t (ix2 r q)) _
  blk_simp [iblk1]
  rw [emb1_2, emb1_3]
  exact h _ _
theorem cols2_0 (z : Fin 2 → Fin 8192 → ℕ → ℂ) (h : IsSeq (V c main_arg7) (V c main_arg8) z) (t : Fin cfg2.N) (q : Fin 256) :
    IsCol (iblk2 V c 0 t) (iblk2 V c 1 t) q (z (sq2 t) (tileCol (tl2 t) q)) := by
  intro r
  blk_simp [iblk2]
  rw [emb2_0, emb2_1]
  exact h _ _ _ r.isLt
theorem cols2_2 (z : Fin 2 → Fin 8192 → ℕ → ℂ) (h : IsSeq (V c main_v12_0) (V c main_v12_1) z) (t : Fin cfg2.N) (q : Fin 256) :
    IsCol (iblk2 V c 2 t) (iblk2 V c 3 t) q (z (sq2 t) (tileCol (tl2 t) q)) := by
  intro r
  blk_simp [iblk2]
  rw [emb2_2, emb2_3]
  exact h _ _ _ r.isLt
theorem pows2_4 (z : Fin 8192 → ℕ → ℂ) (h : IsPow (V c main_v8) (V c main_v9) z) (t : Fin cfg2.N) (q : Fin 256) :
    IsC (iblk2 V c 4 t, iblk2 V c 5 t) q fun r => z (tileCol (tl2 t) q) r.val := by
  intro r
  show IsPair (iblk2 V c 4 t (ix2 r q)) (iblk2 V c 5 t (ix2 r q)) _
  blk_simp [iblk2]
  rw [emb2_4, emb2_5]
  exact h _ _
theorem pows2_6 (z : Fin 8192 → ℕ → ℂ) (h : IsPow (V c main_v10) (V c main_v11) z) (t : Fin cfg2.N) (q : Fin 256) :
    IsC (iblk2 V c 6 t, iblk2 V c 7 t) q fun r => z (tileCol (tl2 t) q) r.val := by
  intro r
  show IsPair (iblk2 V c 6 t (ix2 r q)) (iblk2 V c 7 t (ix2 r q)) _
  blk_simp [iblk2]
  rw [emb2_6, emb2_7]
  exact h _ _

/-- The arrays that hold the real and the imaginary parts of a sequence per column. -/
def seqRe (z : Fin 2 → Fin 8192 → ℕ → ℂ) : Vec Ideal S4096x8192 .f32 := fun y => ((z (seqOf (y 0)) (y 1) ((y 0).val % 2048)).re : EReal)
def seqIm (z : Fin 2 → Fin 8192 → ℕ → ℂ) : Vec Ideal S4096x8192 .f32 := fun y => ((z (seqOf (y 0)) (y 1) ((y 0).val % 2048)).im : EReal)

theorem seqOf_row (b : Fin 2) (t : ℕ) (h : t < 2048) : seqOf (row b t) = b ∧ (row b t).val % 2048 = t := by
  have e := row_val b t h
  exact ⟨Fin.ext (by show (row b t).val / 2048 = b.val; omega), by omega⟩

theorem seqRe_at (z : Fin 2 → Fin 8192 → ℕ → ℂ) (b : Fin 2) (t : ℕ) (h : t < 2048) (q : Fin 8192) : seqRe z (ix2 (row b t) q) = ((z b q t).re : EReal) := by
  show ((z (seqOf (row b t)) q ((row b t).val % 2048)).re : EReal) = _
  rw [(seqOf_row b t h).1, (seqOf_row b t h).2]
theorem seqIm_at (z : Fin 2 → Fin 8192 → ℕ → ℂ) (b : Fin 2) (t : ℕ) (h : t < 2048) (q : Fin 8192) : seqIm z (ix2 (row b t) q) = ((z b q t).im : EReal) := by
  show ((z (seqOf (row b t)) q ((row b t).val % 2048)).im : EReal) = _
  rw [(seqOf_row b t h).1, (seqOf_row b t h).2]

theorem isSeq (z : Fin 2 → Fin 8192 → ℕ → ℂ) : IsSeq (seqRe z) (seqIm z) z := fun b q t h => ⟨seqRe_at z b t h q, seqIm_at z b t h q⟩

/-- The arrays of the eight running sums of each sequence and column. -/
def sumsRe (z : Fin 2 → Fin 8 → Fin 8192 → ℂ) : Vec Ideal S2x8x8192 .f32 := fun y => ((z (y 0) (y 1) (y 2)).re : EReal)
def sumsIm (z : Fin 2 → Fin 8 → Fin 8192 → ℂ) : Vec Ideal S2x8x8192 .f32 := fun y => ((z (y 0) (y 1) (y 2)).im : EReal)

theorem split2 (y : S2048x256.Idx) : ∃ (r : Fin 2048) (q : Fin 256), y = ix2 r q := ⟨y 0, y 1, eq_ix2 y⟩
theorem split3 (y : S1x8x256.Idx) : ∃ (r : Fin 8) (q : Fin 256), y = ix3 0 r q :=
  ⟨y 1, y 2, by funext b; fin_cases b; · exact Subsingleton.elim (α := Fin 1) _ _
                · rfl
                · rfl⟩

variable (a : Fin 8192 → ℂ) (u d s : Fin 2 → Fin 8192 → ℕ → ℂ)

section
variable (hu : IsSeq (V c main_arg5) (V c main_arg6) u) (ha : IsPow (V c main_v8) (V c main_v9) fun q r => a q ^ (r + 1))
include hu ha

theorem outs1_4 (t : Fin cfg1.N) : (outsAt1 V c t).1 = stRe (fun q => a (tileCol (tl1 t) q)) (fun q => u (sq1 t) (tileCol (tl1 t) q)) :=
  out1_re c (grid1.coords t) (ms1_0 t) (hs1_0 t) (ms1_1 t) (hs1_1 t) (ms1_2 t) (hs1_2 t) (ms1_3 t) (hs1_3 t) (ms1_4 t) (hs1_4 t) (ms1_5 t) (hs1_5 t) _ _ _ _
    (fun q => a (tileCol (tl1 t) q)) (fun q => u (sq1 t) (tileCol (tl1 t) q)) (cols1_0 V c u hu t) (pows1_2 V c _ ha t)

theorem arr1_4 : (dat1 V c).arrAt 4 cfg1.N = seqRe fun b q t => rec (a q) (u b q) 0 (t + 1) := by
  refine (dat1 V c).arrAt_eq_of_covers 4 _ (by decide +kernel) fun t hf y => ?_
  blk_simp
  rw [after1_4]
  obtain ⟨r, q, rfl⟩ := split2 y
  rw [emb1_4, seqRe_at _ _ _ r.isLt]
  rw [outs1_4 V c a u hu ha t]
  rfl

theorem outs1_5 (t : Fin cfg1.N) : (outsAt1 V c t).2 = stIm (fun q => a (tileCol (tl1 t) q)) (fun q => u (sq1 t) (tileCol (tl1 t) q)) :=
  out1_im c (grid1.coords t) (ms1_0 t) (hs1_0 t) (ms1_1 t) (hs1_1 t) (ms1_2 t) (hs1_2 t) (ms1_3 t) (hs1_3 t) (ms1_4 t) (hs1_4 t) (ms1_5 t) (hs1_5 t) _ _ _ _
    (fun q => a (tileCol (tl1 t) q)) (fun q => u (sq1 t) (tileCol (tl1 t) q)) (cols1_0 V c u hu t) (pows1_2 V c _ ha t)

theorem arr1_5 : (dat1 V c).arrAt 5 cfg1.N = seqIm fun b q t => rec (a q) (u b q) 0 (t + 1) := by
  refine (dat1 V c).arrAt_eq_of_covers 5 _ (by decide +kernel) fun t hf y => ?_
  blk_simp
  rw [after1_5]
  obtain ⟨r, q, rfl⟩ := split2 y
  rw [emb1_5, seqIm_at _ _ _ r.isLt]
  rw [outs1_5 V c a u hu ha t]
  rfl
end

section
variable (hd : IsSeq (V c main_arg7) (V c main_arg8) d) (hs : IsSeq (V c main_v12_0) (V c main_v12_1) fun b q t => s b q (t + 1)) (hs0 : ∀ b q, s b q 0 = 0)
  (ha : IsPow (V c main_v8) (V c main_v9) fun q r => a q ^ (r + 1)) (hf : IsPow (V c main_v10) (V c main_v11) fun q r => a q ^ (8 - r))
include hd hs hs0 ha hf

theorem outs2_8 (t : Fin cfg2.N) : (outsAt2 V c t).1 = lamRe (fun q => (starRingEnd ℂ) (a (tileCol (tl2 t) q))) (fun q => d (sq2 t) (tileCol (tl2 t) q)) :=
  out2_re c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) _ _ _ _ _ _ _ _
    (fun q => a (tileCol (tl2 t) q)) (fun q => d (sq2 t) (tileCol (tl2 t) q)) (fun q => s (sq2 t) (tileCol (tl2 t) q)) (cols2_0 V c d hd t) (cols2_2 V c _ hs t) (fun q => hs0 _ _)
    (pows2_4 V c _ ha t) (pows2_6 V c _ hf t)

theorem arr2_8 : (dat2 V c).arrAt 8 cfg2.N = seqRe fun b q t => lam ((starRingEnd ℂ) (a q)) (d b q) (2048 - t) := by
  refine (dat2 V c).arrAt_eq_of_covers 8 _ (by decide +kernel) fun t hf' y => ?_
  blk_simp
  rw [after2_8]
  obtain ⟨r, q, rfl⟩ := split2 y
  rw [emb2_8, seqRe_at _ _ _ r.isLt]
  rw [outs2_8 V c a d s hd hs hs0 ha hf t]
  rfl

theorem outs2_9 (t : Fin cfg2.N) : (outsAt2 V c t).2.1 = lamIm (fun q => (starRingEnd ℂ) (a (tileCol (tl2 t) q))) (fun q => d (sq2 t) (tileCol (tl2 t) q)) :=
  out2_im c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) _ _ _ _ _ _ _ _
    (fun q => a (tileCol (tl2 t) q)) (fun q => d (sq2 t) (tileCol (tl2 t) q)) (fun q => s (sq2 t) (tileCol (tl2 t) q)) (cols2_0 V c d hd t) (cols2_2 V c _ hs t) (fun q => hs0 _ _)
    (pows2_4 V c _ ha t) (pows2_6 V c _ hf t)

theorem arr2_9 : (dat2 V c).arrAt 9 cfg2.N = seqIm fun b q t => lam ((starRingEnd ℂ) (a q)) (d b q) (2048 - t) := by
  refine (dat2 V c).arrAt_eq_of_covers 9 _ (by decide +kernel) fun t hf' y => ?_
  blk_simp
  rw [after2_9]
  obtain ⟨r, q, rfl⟩ := split2 y
  rw [emb2_9, seqIm_at _ _ _ r.isLt]
  rw [outs2_9 V c a d s hd hs hs0 ha hf t]
  rfl

theorem outs2_10 (t : Fin cfg2.N) (r : Fin 8) (q : Fin 256) : (outsAt2 V c t).2.2.1 (ix3 0 r q) = ((accB ((starRingEnd ℂ) (a (tileCol (tl2 t) q))) (d (sq2 t) (tileCol (tl2 t) q)) (s (sq2 t) (tileCol (tl2 t) q)) 256 r).re : EReal) := by
  dsimp only [outsAt2]
  exact out2_sumRe c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) _ _ _ _ _ _ _ _
    (fun q => a (tileCol (tl2 t) q)) (fun q => d (sq2 t) (tileCol (tl2 t) q)) (fun q => s (sq2 t) (tileCol (tl2 t) q)) (cols2_0 V c d hd t) (cols2_2 V c _ hs t) (fun q => hs0 _ _)
    (pows2_4 V c _ ha t) (pows2_6 V c _ hf t) r q

theorem arr2_10 : (dat2 V c).arrAt 10 cfg2.N = sumsRe fun b r q => accB ((starRingEnd ℂ) (a q)) (d b q) (s b q) 256 r := by
  refine (dat2 V c).arrAt_eq_of_covers 10 _ (by decide +kernel) fun t hf' y => ?_
  blk_simp
  rw [after2_10]
  obtain ⟨r, q, rfl⟩ := split3 y
  rw [emb2_10]
  exact outs2_10 V c a d s hd hs hs0 ha hf t r q

theorem outs2_11 (t : Fin cfg2.N) (r : Fin 8) (q : Fin 256) : (outsAt2 V c t).2.2.2 (ix3 0 r q) = ((accB ((starRingEnd ℂ) (a (tileCol (tl2 t) q))) (d (sq2 t) (tileCol (tl2 t) q)) (s (sq2 t) (tileCol (tl2 t) q)) 256 r).im : EReal) := by
  dsimp only [outsAt2]
  exact out2_sumIm c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) _ _ _ _ _ _ _ _
    (fun q => a (tileCol (tl2 t) q)) (fun q => d (sq2 t) (tileCol (tl2 t) q)) (fun q => s (sq2 t) (tileCol (tl2 t) q)) (cols2_0 V c d hd t) (cols2_2 V c _ hs t) (fun q => hs0 _ _)
    (pows2_4 V c _ ha t) (pows2_6 V c _ hf t) r q

theorem arr2_11 : (dat2 V c).arrAt 11 cfg2.N = sumsIm fun b r q => accB ((starRingEnd ℂ) (a q)) (d b q) (s b q) 256 r := by
  refine (dat2 V c).arrAt_eq_of_covers 11 _ (by decide +kernel) fun t hf' y => ?_
  blk_simp
  rw [after2_11]
  obtain ⟨r, q, rfl⟩ := split3 y
  rw [emb2_11]
  exact outs2_11 V c a d s hd hs hs0 ha hf t r q

end

end

end Cert.KernelIdeal.Scan

end
-- ==== Proof.KRun.lean ====
module

public import proofs.«01_k».proof.Proof.Gen.KernelIdeal.Frame

/-! The run of the three calls with what every array ends holding: each one's contents at the last boundary. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state holds of every array that outlives the calls. -/
def AllAt (s : (ℓ : Loc nD τ sig) → Buf (Elt F) ℓ) : Prop :=
  ∀ (c : Dev nD) (b : Ref sig .tc), ¬ (Proc.devRef .tc b : DevRef τ sig).isScoped → s ((c.tc : Thread nD τ).loc b) = W6 m ρ c (Proc.devRef .tc b)

set_option backward.isDefEq.respectTransparency.types false in
/-- Every run ends with every such array at its contents of the last boundary. -/
theorem run_all : θ_run defs (onTc (τ := τ) (main (F := F))) ⟨m, fun _ => 0, ρ⟩ (fun r => AllAt m ρ r.2.mem) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c b hb => h c _ (mem_uc b hb))

end Cert.KernelIdeal.Gen

end
-- ==== Proof.KFinal.lean ====
module

public import proofs.«01_k».proof.Proof.KArr
public import proofs.«01_k».proof.Proof.KRun
public import Idealize.ShloMosaic.Lib.Pointwise

/-! What the kernel's results hold at the end of a run: the scan's gradient of Spec.lean. -/

@[expose] public section

set_option maxRecDepth 16384

noncomputable section

namespace Cert.KernelIdeal.Scan

open Cert.KernelIdeal Cert.KernelIdeal.Gen Idealize.ShloMosaic.ValueIdx Idealize.ShloMosaic.TcCoe
open Idealize.ShloMosaic hiding ix1 ix2 ix3 eq_ix2 eq_ix3

/-! Call 0 has one grid point, whose blocks are the whole arrays. -/

section
variable (V : (c : Dev nD) → (b : Ref sig .tc) → Buf (Elt Ideal) ((c : Thread nD τ).loc b)) (c : Dev nD)

theorem idx0_0 : ∀ t : Fin cfg0.N, win0_0.index t = ![0, 0] := (by decide +kernel : ∀ t : Fin grid0.N, _)
theorem blk0_0 (t : Fin cfg0.N) : iblk0 V c 0 t = V c main_v0 := by
  funext y
  blk_simp [iblk0]
  congr 1
  funext b
  apply Fin.ext
  fin_cases b
  · blk_simp [idx0_0]
  · blk_simp [idx0_0]
theorem idx0_1 : ∀ t : Fin cfg0.N, win0_1.index t = ![0, 0] := (by decide +kernel : ∀ t : Fin grid0.N, _)
theorem blk0_1 (t : Fin cfg0.N) : iblk0 V c 1 t = V c main_v1 := by
  funext y
  blk_simp [iblk0]
  congr 1
  funext b
  apply Fin.ext
  fin_cases b
  · blk_simp [idx0_1]
  · blk_simp [idx0_1]
theorem idx0_2 : ∀ t : Fin cfg0.N, win0_2.index t = ![0, 0] := (by decide +kernel : ∀ t : Fin grid0.N, _)
theorem blk0_2 (t : Fin cfg0.N) : iblk0 V c 2 t = V c main_v2 := by
  funext y
  blk_simp [iblk0]
  congr 1
  funext b
  apply Fin.ext
  fin_cases b
  · blk_simp [idx0_2]
  · blk_simp [idx0_2]
theorem idx0_3 : ∀ t : Fin cfg0.N, win0_3.index t = ![0, 0, 0] := (by decide +kernel : ∀ t : Fin grid0.N, _)
theorem blk0_3 (t : Fin cfg0.N) : iblk0 V c 3 t = V c main_v4 := by
  funext y
  blk_simp [iblk0]
  congr 1
  funext b
  apply Fin.ext
  fin_cases b
  · blk_simp [idx0_3]
  · blk_simp [idx0_3]
  · blk_simp [idx0_3]
theorem idx0_4 : ∀ t : Fin cfg0.N, win0_4.index t = ![0, 0, 0] := (by decide +kernel : ∀ t : Fin grid0.N, _)
theorem blk0_4 (t : Fin cfg0.N) : iblk0 V c 4 t = V c main_v6 := by
  funext y
  blk_simp [iblk0]
  congr 1
  funext b
  apply Fin.ext
  fin_cases b
  · blk_simp [idx0_4]
  · blk_simp [idx0_4]
  · blk_simp [idx0_4]
theorem idx0_5 : ∀ t : Fin cfg0.N, win0_5.index t = ![0, 0, 0] := (by decide +kernel : ∀ t : Fin grid0.N, _)
theorem emb0_5 (t : Fin cfg0.N) (y : S8x128x64.Idx) : (win0_5.blk t).view.emb y = y := by
  funext b
  apply Fin.ext
  fin_cases b
  · blk_simp [idx0_5]
  · blk_simp [idx0_5]
  · blk_simp [idx0_5]
theorem arr0_5 : (dat0 V c).arrAt 5 cfg0.N = out0_5 (V c main_v0) (V c main_v1) (V c main_v2) (V c main_v4) (V c main_v6) := by
  refine (dat0 V c).arrAt_eq_of_covers 5 _ (by decide +kernel) fun t hf y => ?_
  blk_simp
  rw [after0_5, emb0_5, blk0_0, blk0_1, blk0_2, blk0_3, blk0_4]
theorem idx0_6 : ∀ t : Fin cfg0.N, win0_6.index t = ![0, 0, 0] := (by decide +kernel : ∀ t : Fin grid0.N, _)
theorem emb0_6 (t : Fin cfg0.N) (y : S8x128x64.Idx) : (win0_6.blk t).view.emb y = y := by
  funext b
  apply Fin.ext
  fin_cases b
  · blk_simp [idx0_6]
  · blk_simp [idx0_6]
  · blk_simp [idx0_6]
theorem arr0_6 : (dat0 V c).arrAt 6 cfg0.N = out0_6 (V c main_v0) (V c main_v1) (V c main_v2) (V c main_v4) (V c main_v6) := by
  refine (dat0 V c).arrAt_eq_of_covers 6 _ (by decide +kernel) fun t hf y => ?_
  blk_simp
  rw [after0_6, emb0_6, blk0_0, blk0_1, blk0_2, blk0_3, blk0_4]
theorem idx0_7 : ∀ t : Fin cfg0.N, win0_7.index t = ![0, 0, 0] := (by decide +kernel : ∀ t : Fin grid0.N, _)
theorem emb0_7 (t : Fin cfg0.N) (y : S8x128x64.Idx) : (win0_7.blk t).view.emb y = y := by
  funext b
  apply Fin.ext
  fin_cases b
  · blk_simp [idx0_7]
  · blk_simp [idx0_7]
  · blk_simp [idx0_7]
theorem arr0_7 : (dat0 V c).arrAt 7 cfg0.N = out0_7 (V c main_v0) (V c main_v1) (V c main_v2) (V c main_v4) (V c main_v6) := by
  refine (dat0 V c).arrAt_eq_of_covers 7 _ (by decide +kernel) fun t hf y => ?_
  blk_simp
  rw [after0_7, emb0_7, blk0_0, blk0_1, blk0_2, blk0_3, blk0_4]
theorem idx0_8 : ∀ t : Fin cfg0.N, win0_8.index t = ![0, 0, 0] := (by decide +kernel : ∀ t : Fin grid0.N, _)
theorem emb0_8 (t : Fin cfg0.N) (y : S8x128x64.Idx) : (win0_8.blk t).view.emb y = y := by
  funext b
  apply Fin.ext
  fin_cases b
  · blk_simp [idx0_8]
  · blk_simp [idx0_8]
  · blk_simp [idx0_8]
theorem arr0_8 : (dat0 V c).arrAt 8 cfg0.N = out0_8 (V c main_v0) (V c main_v1) (V c main_v2) (V c main_v4) (V c main_v6) := by
  refine (dat0 V c).arrAt_eq_of_covers 8 _ (by decide +kernel) fun t hf y => ?_
  blk_simp
  rw [after0_8, emb0_8, blk0_0, blk0_1, blk0_2, blk0_3, blk0_4]
end

variable (m : (ℓ : Loc nD τ sig) → Buf (Elt Ideal) ℓ) (ρ : Dev nD → PrngReg) (c : Dev nD)

/-- The scan's arguments in a memory. -/
def argsOf : Args where
  l := m ((c : Thread nD τ).loc main_arg0)
  i := m ((c : Thread nD τ).loc main_arg1)
  s := m ((c : Thread nD τ).loc main_arg2)
  ur := m ((c : Thread nD τ).loc main_arg5)
  ui := m ((c : Thread nD τ).loc main_arg6)
  dr := m ((c : Thread nD τ).loc main_arg7)
  di := m ((c : Thread nD τ).loc main_arg8)

theorem W1_v0 : W1 m ρ c (Proc.devRef .tc main_v0) = shapeCast S128x64 (argsOf m c).l shapeCasts_S1x128x64_S128x64 := by
  dsimp only [W1]
  after_results
  rfl
theorem W1_v1 : W1 m ρ c (Proc.devRef .tc main_v1) = shapeCast S128x64 (argsOf m c).i shapeCasts_S1x128x64_S128x64 := by
  dsimp only [W1]
  after_results
  rfl
theorem W1_v2 : W1 m ρ c (Proc.devRef .tc main_v2) = shapeCast S128x1 (argsOf m c).s shapeCasts_S1x128_S128x1 := by
  dsimp only [W1]
  after_results
  rfl
theorem W3_v8 : W3 m ρ c (Proc.devRef .tc main_v8) = shapeCast S8x8192 (W2 m ρ c (Proc.devRef .tc main_v7_0)) shapeCasts_S8x128x64_S8x8192 := by
  dsimp only [W3]
  after_results
  rfl
theorem W3_v9 : W3 m ρ c (Proc.devRef .tc main_v9) = shapeCast S8x8192 (W2 m ρ c (Proc.devRef .tc main_v7_1)) shapeCasts_S8x128x64_S8x8192 := by
  dsimp only [W3]
  after_results
  rfl
theorem W3_v10 : W3 m ρ c (Proc.devRef .tc main_v10) = shapeCast S8x8192 (W2 m ρ c (Proc.devRef .tc main_v7_2)) shapeCasts_S8x128x64_S8x8192 := by
  dsimp only [W3]
  after_results
  rfl
theorem W3_v11 : W3 m ρ c (Proc.devRef .tc main_v11) = shapeCast S8x8192 (W2 m ρ c (Proc.devRef .tc main_v7_3)) shapeCasts_S8x128x64_S8x8192 := by
  dsimp only [W3]
  after_results
  rfl

theorem flat_at (v : Vec Ideal S8x128x64 .f32) (r : Fin 8) (q : Fin 8192) :
    shapeCast S8x8192 v shapeCasts_S8x128x64_S8x8192 (ix2 r q) = v (ix3 r (gOf q) (pOf q)) := by
  refine shapeCast_apply _ _ _ _ ?_
  rw [Shape.rowMajor_val_two, Shape.rowMajor_val_three]
  show (r.val * 128 + q.val / 64) * 64 + q.val % 64 = r.val * 8192 + q.val
  omega

theorem col_at (v : Vec Ideal S1x128 .f32) (g : Fin 128) : shapeCast S128x1 v shapeCasts_S1x128_S128x1 (ix2 g 0) = v (ix2 0 g) := by
  refine shapeCast_apply _ _ _ _ ?_
  rw [Shape.rowMajor_val_two, Shape.rowMajor_val_two]
  show 0 * 128 + g.val = g.val * 1 + 0
  omega

section
variable (hX : (argsOf m c).IsReal)
include hX

theorem isPow_up : IsPow (V3 m ρ c main_v8) (V3 m ρ c main_v9) fun q r => (argsOf m c).a q ^ (r + 1) := by
  intro r q
  obtain ⟨l, hl⟩ := hX.l (ix3 0 (gOf q) (pOf q))
  obtain ⟨i, hi⟩ := hX.i (ix3 0 (gOf q) (pOf q))
  obtain ⟨s, hs⟩ := hX.s (ix2 0 (gOf q))
  have e8 : V3 m ρ c main_v8 = shapeCast S8x8192 (out0_5 (V1 m ρ c main_v0) (V1 m ρ c main_v1) (V1 m ρ c main_v2) (V1 m ρ c main_v4) (V1 m ρ c main_v6)) shapeCasts_S8x128x64_S8x8192 :=
    (W3_v8 m ρ c).trans (congrArg (fun v => shapeCast S8x8192 v shapeCasts_S8x128x64_S8x8192) ((W2_arr m ρ c 5).trans (arr0_5 (V1 m ρ) c)))
  have e9 : V3 m ρ c main_v9 = shapeCast S8x8192 (out0_6 (V1 m ρ c main_v0) (V1 m ρ c main_v1) (V1 m ρ c main_v2) (V1 m ρ c main_v4) (V1 m ρ c main_v6)) shapeCasts_S8x128x64_S8x8192 :=
    (W3_v9 m ρ c).trans (congrArg (fun v => shapeCast S8x8192 v shapeCasts_S8x128x64_S8x8192) ((W2_arr m ρ c 6).trans (arr0_6 (V1 m ρ) c)))
  rw [e8, e9, flat_at, flat_at]
  unfold Args.a
  dsimp only
  rw [hl, hi, hs]
  refine param_up _ _ _ _ _ (gOf q) (pOf q) l i s ?_ ?_ ?_ r
  · exact (congrFun (W1_v0 m ρ c) _).trans ((shapeCast_1ab_ab_apply _ _ _ _).trans hl)
  · exact (congrFun (W1_v1 m ρ c) _).trans ((shapeCast_1ab_ab_apply _ _ _ _).trans hi)
  · exact (congrFun (W1_v2 m ρ c) _).trans ((col_at _ _).trans hs)

theorem isPow_down : IsPow (V3 m ρ c main_v10) (V3 m ρ c main_v11) fun q r => (argsOf m c).a q ^ (8 - r) := by
  intro r q
  obtain ⟨l, hl⟩ := hX.l (ix3 0 (gOf q) (pOf q))
  obtain ⟨i, hi⟩ := hX.i (ix3 0 (gOf q) (pOf q))
  obtain ⟨s, hs⟩ := hX.s (ix2 0 (gOf q))
  have e8 : V3 m ρ c main_v10 = shapeCast S8x8192 (out0_7 (V1 m ρ c main_v0) (V1 m ρ c main_v1) (V1 m ρ c main_v2) (V1 m ρ c main_v4) (V1 m ρ c main_v6)) shapeCasts_S8x128x64_S8x8192 :=
    (W3_v10 m ρ c).trans (congrArg (fun v => shapeCast S8x8192 v shapeCasts_S8x128x64_S8x8192) ((W2_arr m ρ c 7).trans (arr0_7 (V1 m ρ) c)))
  have e9 : V3 m ρ c main_v11 = shapeCast S8x8192 (out0_8 (V1 m ρ c main_v0) (V1 m ρ c main_v1) (V1 m ρ c main_v2) (V1 m ρ c main_v4) (V1 m ρ c main_v6)) shapeCasts_S8x128x64_S8x8192 :=
    (W3_v11 m ρ c).trans (congrArg (fun v => shapeCast S8x8192 v shapeCasts_S8x128x64_S8x8192) ((W2_arr m ρ c 8).trans (arr0_8 (V1 m ρ) c)))
  rw [e8, e9, flat_at, flat_at]
  unfold Args.a
  dsimp only
  rw [hl, hi, hs]
  refine param_down _ _ _ _ _ (gOf q) (pOf q) l i s ?_ ?_ ?_ r
  · exact (congrFun (W1_v0 m ρ c) _).trans ((shapeCast_1ab_ab_apply _ _ _ _).trans hl)
  · exact (congrFun (W1_v1 m ρ c) _).trans ((shapeCast_1ab_ab_apply _ _ _ _).trans hi)
  · exact (congrFun (W1_v2 m ρ c) _).trans ((col_at _ _).trans hs)

theorem isSeq_u : IsSeq (V3 m ρ c main_arg5) (V3 m ρ c main_arg6) (argsOf m c).u := by
  intro b q t _
  rw [show V3 m ρ c main_arg5 = (argsOf m c).ur from W3_args m ρ c main_arg5 (by decide +kernel),
    show V3 m ρ c main_arg6 = (argsOf m c).ui from W3_args m ρ c main_arg6 (by decide +kernel)]
  exact hX.u_pair b q t

theorem isSeq_d : IsSeq (V4 m ρ c main_arg7) (V4 m ρ c main_arg8) (argsOf m c).d := by
  intro b q t _
  rw [show V4 m ρ c main_arg7 = (argsOf m c).dr from W4_args m ρ c main_arg7 (by decide +kernel),
    show V4 m ρ c main_arg8 = (argsOf m c).di from W4_args m ρ c main_arg8 (by decide +kernel)]
  exact hX.d_pair b q t

theorem isSeq_st : IsSeq (V4 m ρ c main_v12_0) (V4 m ρ c main_v12_1) fun b q t => (argsOf m c).st b q (t + 1) := by
  rw [show V4 m ρ c main_v12_0 = _ from (W4_arr m ρ c 4).trans (arr1_4 (V3 m ρ) c _ _ (isSeq_u m ρ c hX) (isPow_up m ρ c hX)),
    show V4 m ρ c main_v12_1 = _ from (W4_arr m ρ c 5).trans (arr1_5 (V3 m ρ) c _ _ (isSeq_u m ρ c hX) (isPow_up m ρ c hX))]
  exact isSeq _

theorem keepPow (r : Ref sig .tc) (h : ∀ w : Fin cfg1.W, Pipeline.arrRef spec1 w = r → (cfg1.win w).isOut = false) : V4 m ρ c r = V3 m ρ c r := W4_of m ρ c r h

theorem isPow_up4 : IsPow (V4 m ρ c main_v8) (V4 m ρ c main_v9) fun q r => (argsOf m c).a q ^ (r + 1) := by
  rw [keepPow m ρ c hX main_v8 (by decide +kernel), keepPow m ρ c hX main_v9 (by decide +kernel)]
  exact isPow_up m ρ c hX
theorem isPow_down4 : IsPow (V4 m ρ c main_v10) (V4 m ρ c main_v11) fun q r => (argsOf m c).a q ^ (8 - r) := by
  rw [keepPow m ρ c hX main_v10 (by decide +kernel), keepPow m ρ c hX main_v11 (by decide +kernel)]
  exact isPow_down m ρ c hX

theorem W5_re : W5 m ρ c (Proc.devRef .tc main_v13_0) = (argsOf m c).gRe :=
  (W5_arr m ρ c 8).trans (arr2_8 (V4 m ρ) c _ _ _ (isSeq_d m ρ c hX) (isSeq_st m ρ c hX) (fun _ _ => rfl) (isPow_up4 m ρ c hX) (isPow_down4 m ρ c hX))
theorem W5_im : W5 m ρ c (Proc.devRef .tc main_v13_1) = (argsOf m c).gIm :=
  (W5_arr m ρ c 9).trans (arr2_9 (V4 m ρ) c _ _ _ (isSeq_d m ρ c hX) (isSeq_st m ρ c hX) (fun _ _ => rfl) (isPow_up4 m ρ c hX) (isPow_down4 m ρ c hX))
theorem W5_sumRe : W5 m ρ c (Proc.devRef .tc main_v13_2) = sumsRe fun b r q => accB ((starRingEnd ℂ) ((argsOf m c).a q)) ((argsOf m c).d b q) ((argsOf m c).st b q) 256 r :=
  (W5_arr m ρ c 10).trans (arr2_10 (V4 m ρ) c _ _ _ (isSeq_d m ρ c hX) (isSeq_st m ρ c hX) (fun _ _ => rfl) (isPow_up4 m ρ c hX) (isPow_down4 m ρ c hX))
theorem W5_sumIm : W5 m ρ c (Proc.devRef .tc main_v13_3) = sumsIm fun b r q => accB ((starRingEnd ℂ) ((argsOf m c).a q)) ((argsOf m c).d b q) ((argsOf m c).st b q) 256 r :=
  (W5_arr m ρ c 11).trans (arr2_11 (V4 m ρ) c _ _ _ (isSeq_d m ρ c hX) (isSeq_st m ρ c hX) (fun _ _ => rfl) (isPow_up4 m ρ c hX) (isPow_down4 m ρ c hX))

theorem W6_re : W6 m ρ c (Proc.devRef .tc main_v13_0) = (argsOf m c).gRe :=
  (W6_of m ρ c main_v13_0 (by decide +kernel)).trans (W5_re m ρ c hX)
theorem W6_im : W6 m ρ c (Proc.devRef .tc main_v13_1) = (argsOf m c).gIm :=
  (W6_of m ρ c main_v13_1 (by decide +kernel)).trans (W5_im m ρ c hX)
end

/-- Eight running sums, each over every eighth step, add up to the sum over all steps. -/
theorem accB_total (b : ℂ) (d s : ℕ → ℂ) : ∑ r : Fin 8, accB b d s 256 r = ∑ t ∈ Finset.range 2048, lam b d (2048 - t) * (starRingEnd ℂ) (s t) := by
  unfold accB
  rw [Finset.sum_comm]
  have e : ∀ n : ℕ, n ≤ 256 → ∑ m ∈ Finset.range n, ∑ r : Fin 8, lam b d (8 * m + (8 - r.val)) * (starRingEnd ℂ) (s (2040 - 8 * m + r.val))
      = ∑ t ∈ Finset.Ico (2048 - 8 * n) 2048, lam b d (2048 - t) * (starRingEnd ℂ) (s t) := by
    intro n
    induction n with
    | zero => intro _; simp
    | succ n ih =>
      intro h
      rw [Finset.sum_range_succ, ih (by omega), ← Finset.sum_Ico_consecutive _ (show 2048 - 8 * (n + 1) ≤ 2048 - 8 * n by omega) (show 2048 - 8 * n ≤ 2048 by omega), add_comm]
      congr 1
      rw [Finset.sum_Ico_eq_sum_range, show 2048 - 8 * n - (2048 - 8 * (n + 1)) = 8 by omega, Finset.sum_range]
      refine Finset.sum_congr rfl fun r _ => ?_
      rw [show 2048 - (2048 - 8 * (n + 1) + r.val) = 8 * n + (8 - r.val) by omega, show 2048 - 8 * (n + 1) + r.val = 2040 - 8 * n + r.val by omega]
  rw [e 256 le_rfl, show 2048 - 8 * 256 = 0 from rfl, Finset.range_eq_Ico]

theorem W6_v15 : W6 m ρ c (Proc.devRef .tc main_v15) = Host.reduceAdd (shapeCast S16x128x64 (W5 m ρ c (Proc.devRef .tc main_v13_2)) shapeCasts_S2x8x8192_S16x128x64)
    (constant (F := Ideal) S_ .f32 0x00000000#32) reducesTo_S16x128x64_S128x64_d0 h_S_ := by
  dsimp only [W6]
  after_results
  rfl
theorem W6_v17 : W6 m ρ c (Proc.devRef .tc main_v17) = Host.reduceAdd (shapeCast S16x128x64 (W5 m ρ c (Proc.devRef .tc main_v13_3)) shapeCasts_S2x8x8192_S16x128x64)
    (constant (F := Ideal) S_ .f32 0x00000000#32) reducesTo_S16x128x64_S128x64_d0 h_S_ := by
  dsimp only [W6]
  after_results
  rfl

theorem unflat_at (v : Vec Ideal S2x8x8192 .f32) (b : Fin 2) (r : Fin 8) (g : Fin 128) (p : Fin 64) (k : Fin 16) (hk : k.val = 8 * b.val + r.val) :
    shapeCast S16x128x64 v shapeCasts_S2x8x8192_S16x128x64 (ix3 k g p) = v (ix3 b r (colOf g p)) := by
  refine shapeCast_apply _ _ _ _ ?_
  rw [Shape.rowMajor_val_three, Shape.rowMajor_val_three]
  show (b.val * 8 + r.val) * 8192 + (64 * g.val + p.val) = (k.val * 128 + g.val) * 64 + p.val
  omega

theorem sum16 (f : Fin 16 → EReal) (h : Fin 2 → Fin 8 → EReal) (e : ∀ b r (k : Fin 16), k.val = 8 * b.val + r.val → f k = h b r) : ∑ k, f k = ∑ b, ∑ r, h b r := by
  calc ∑ k, f k = ∑ x : Fin 2 × Fin 8, f (finProdFinEquiv x) := (Equiv.sum_comp (finProdFinEquiv (m := 2) (n := 8)) f).symm
    _ = ∑ x : Fin 2 × Fin 8, h x.1 x.2 := by
      refine Finset.sum_congr rfl fun x _ => e x.1 x.2 _ ?_
      show x.2.val + 8 * x.1.val = _
      omega
    _ = ∑ b, ∑ r, h b r := Fintype.sum_prod_type _

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem total_at (v : Vec Ideal S16x128x64 .f32) (g : Fin 128) (p : Fin 64) :
    Host.reduceAdd v (constant (F := Ideal) S_ .f32 0x00000000#32) reducesTo_S16x128x64_S128x64_d0 h_S_ (ix2 g p) = ∑ k : Fin 16, v (ix3 k g p) := by
  pointwise
  rfl

theorem partsRe (b : ℂ) (d s : Fin 2 → ℕ → ℂ) :
    ∑ n : Fin 2, ∑ r : Fin 8, (((accB b (d n) (s n) 256 r).re : ℝ) : EReal)
      = (((∑ n : Fin 2, ∑ t ∈ Finset.range 2048, lam b (d n) (2048 - t) * (starRingEnd ℂ) (s n t)).re : ℝ) : EReal) := by
  simp_rw [sum_coe, ← Complex.re_sum, accB_total]
theorem partsIm (b : ℂ) (d s : Fin 2 → ℕ → ℂ) :
    ∑ n : Fin 2, ∑ r : Fin 8, (((accB b (d n) (s n) 256 r).im : ℝ) : EReal)
      = (((∑ n : Fin 2, ∑ t ∈ Finset.range 2048, lam b (d n) (2048 - t) * (starRingEnd ℂ) (s n t)).im : ℝ) : EReal) := by
  simp_rw [sum_coe, ← Complex.im_sum, accB_total]

section
variable (hX : (argsOf m c).IsReal)
include hX

theorem W6_aRe : W6 m ρ c (Proc.devRef .tc main_v15) = (argsOf m c).aRe := by
  rw [W6_v15, W5_sumRe m ρ c hX]
  funext y
  obtain ⟨g, p, rfl⟩ : ∃ (g : Fin 128) (p : Fin 64), y = ix2 g p := ⟨y 0, y 1, eq_ix2 y⟩
  rw [total_at, sum16 _ _ fun b r k hk => unflat_at _ b r _ _ k hk]
  exact partsRe ((starRingEnd ℂ) ((argsOf m c).a (colOf g p))) (fun n => (argsOf m c).d n (colOf g p)) fun n => (argsOf m c).st n (colOf g p)
theorem W6_aIm : W6 m ρ c (Proc.devRef .tc main_v17) = (argsOf m c).aIm := by
  rw [W6_v17, W5_sumIm m ρ c hX]
  funext y
  obtain ⟨g, p, rfl⟩ : ∃ (g : Fin 128) (p : Fin 64), y = ix2 g p := ⟨y 0, y 1, eq_ix2 y⟩
  rw [total_at, sum16 _ _ fun b r k hk => unflat_at _ b r _ _ k hk]
  exact partsIm ((starRingEnd ℂ) ((argsOf m c).a (colOf g p))) (fun n => (argsOf m c).d n (colOf g p)) fun n => (argsOf m c).st n (colOf g p)
end

end Cert.KernelIdeal.Scan

end
-- ==== Proof.Finite.lean ====
module

public import proofs.«01_k».proof.Defs
public import proofs.«01_k».proof.Proof.KFinal
public import Idealize.ShloMosaic.Lib.ReduceAll
public import Idealize.ShloMosaic.Lib.Decide

/-! What the precondition says: the entries of seven arguments are real numbers. -/

@[expose] public section

set_option maxRecDepth 16384

noncomputable section

namespace Cert.Pre_finite

open Idealize.ShloMosaic

theorem isFacts : Facts where
  bcast_S_S1x128x64 := by decide
  reducesTo_S1x128x64_S_d0_1_2 := by decide
  h_S_ := by decide
  bcast_S_S1x128 := by decide
  reducesTo_S1x128_S_d0_1 := by decide
  bcast_S_S4096x8192 := by decide
  reducesTo_S4096x8192_S_d0_1 := by decide

instance : Subsingleton S_.Idx := ⟨fun _ _ => funext fun a => a.elim0⟩

theorem top_word : Ideal.ofBits .f32 0x7F800000#32 = (⊤ : EReal) := by
  show Ideal.ieee 8 23 0x7F800000#32 = (⊤ : EReal)
  unfold Ideal.ieee
  dsimp only
  rw [if_pos (by decide), if_pos (by decide)]
  rfl

theorem real_of_abs {x : EReal} (h : max x (-x) < ⊤) : ∃ r : ℝ, x = (r : EReal) := by
  induction x with
  | bot => simp at h
  | coe r => exact ⟨r, rfl⟩
  | top => simp at h

/-- An array whose `isfinite`, as the precondition writes it, is one everywhere has real entries. -/
theorem reals {s : Shape} {axes : List (Fin s.rank)} (x : FVec Ideal s .f32) (hb : S_.BroadcastsInDim s ![]) (h : s.ReducesTo axes S_) (hu : 0 < S_.numel)
    (j : S_.Idx)
    (e : Host.reduce IntOp.andi (cmpf .olt (Host.absf x) (broadcastInDim s ![] hb (constant S_ .f32 0x7F800000#32))) (constantI S_ 1 1#1) h hu j = 1#1)
    (i : s.Idx) : ∃ r : ℝ, x i = (r : EReal) := by
  have e1 := Host.reduce_andi_all _ _ h hu j e i
  have e2 : Ideal.cmp .olt (max (x i) (-(x i))) (Ideal.ofBits .f32 0x7F800000#32) = 1#1 := e1
  rw [top_word] at e2
  refine real_of_abs ?_
  by_contra hc
  simp [Ideal.cmp, hc] at e2

end Cert.Pre_finite

namespace Cert.KernelIdeal.Scan

open Idealize.ShloMosaic Idealize.ShloMosaic.TcCoe Cert.Pre_finite

theorem isReal (m : (ℓ : Loc Cert.KernelIdeal.nD Cert.KernelIdeal.τ Cert.KernelIdeal.sig) → Buf (Elt Ideal) ℓ)
    (h : Cert.Pre_KernelIdeal_finite (hPre_finite := Cert.Pre_finite.isFacts) m) (c : Dev Cert.KernelIdeal.nD) : (argsOf m c).IsReal := by
  haveI := Cert.Pre_finite.isFacts
  have e := congrFun (h c) (Shape.Idx.first (by decide : 0 < S_.numel))
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e2⟩ := IntOp.andi_eq_one.1 e
  obtain ⟨e0, e1⟩ := IntOp.andi_eq_one.1 e
  exact ⟨reals _ _ _ _ _ e0, reals _ _ _ _ _ e1, reals _ _ _ _ _ e2, reals _ _ _ _ _ e5, reals _ _ _ _ _ e6, reals _ _ _ _ _ e7, reals _ _ _ _ _ e8⟩

end Cert.KernelIdeal.Scan

end
-- ==== Proof.RefStep.lean ====
module

public import proofs.«01_k».proof.Proof.RefRun
public import Idealize.ShloMosaic.Lib.StableHlo.RunClose

/-! One trip of each of the reference's loops, read off its operations. -/

@[expose] public section

set_option maxRecDepth 8192

noncomputable section

namespace Cert.ReferenceIdeal.Ops

open Cert.ReferenceIdeal Cert.ReferenceIdeal.Gen Cert.TwoLoops
open Idealize.ShloMosaic Idealize.ShloMosaic.TcCoe Idealize.ShloMosaic.StableHlo
open Idealize.SL.Sem

variable {F : FTy → Type} [FloatOps F]

/-- The start of a slice at one index of the leading axis. -/
abbrev startAt (n : IVec S_ 32) : Fin 3 → Int := fun k => ((![n, constantI S_ 32 0#32, constantI S_ 32 0#32] : Fin 3 → IVec S_ 32) k (Shape.Idx.first h_S_)).toInt
/-- Both sequences' rows at one index. -/
def slc (x : Vec F S2048x2x8192 .f32) (n : IVec S_ 32) : Vec F S2x8192 .f32 :=
  shapeCast S2x8192 (Host.dynamicSlice S1x2x8192 x (startAt n) sliceFits_S2048x2x8192_S1x2x8192) shapeCasts_S1x2x8192_S2x8192
/-- The array with both sequences' rows at one index replaced. -/
def upd (x : Vec F S2048x2x8192 .f32) (u : Vec F S2x8192 .f32) (n : IVec S_ 32) : Vec F S2048x2x8192 .f32 :=
  Host.dynamicUpdateSlice x (broadcastInDim S1x2x8192 ![1, 2] bcast_S2x8192_S1x2x8192_1_2 u) (startAt n) updateFits_S2048x2x8192_S1x2x8192
/-- One row laid along both sequences. -/
def both (x : Vec F S1x8192 .f32) : Vec F S2x8192 .f32 := broadcastInDim S2x8192 ![0, 1] bcast_S1x8192_S2x8192_0_1 x
/-- The sum over both sequences. -/
def sum2 (x : Vec F S2x8192 .f32) : Vec F S8192 .f32 :=
  Host.reduceAdd (shapeCast S1x8192 (Host.reduceAdd x (constant S_ .f32 0x00000000#32) reducesTo_S2x8192_S8192_d0 h_S_) shapeCasts_S8192_S1x8192)
    (constant S_ .f32 0x00000000#32) reducesTo_S1x8192_S8192_d0 h_S_

variable (X : Valuation τ sig (Elt F))

theorem rA0 : after bodyA0 X (Proc.devRef .tc main_while0b_v55) = slc (X (Proc.devRef .tc main_v31_0)) (X (Proc.devRef .tc main_v31_6)) := by
  after_results_entrywise []
theorem rA1 : after bodyA1 X (Proc.devRef .tc main_while0b_v56) = slc (X (Proc.devRef .tc main_v31_1)) (X (Proc.devRef .tc main_v31_6)) := by
  after_results_entrywise []
theorem rA2re : after bodyA2 X (Proc.devRef .tc main_while0b_v62) = addf (subf (mulf (both (X (Proc.devRef .tc main_v31_2))) (X (Proc.devRef .tc main_v31_7))) (mulf (both (X (Proc.devRef .tc main_v31_3))) (X (Proc.devRef .tc main_v31_8)))) (X (Proc.devRef .tc main_while0b_v55)) := by
  after_results <;> rfl
theorem rA2im : after bodyA2 X (Proc.devRef .tc main_while0b_v68) = addf (addf (mulf (both (X (Proc.devRef .tc main_v31_4))) (X (Proc.devRef .tc main_v31_8))) (mulf (both (X (Proc.devRef .tc main_v31_5))) (X (Proc.devRef .tc main_v31_7)))) (X (Proc.devRef .tc main_while0b_v56)) := by
  after_results <;> rfl
theorem rA5 : after bodyA5 X (Proc.devRef .tc main_while0b_v71) = upd (X (Proc.devRef .tc main_v31_11)) (X (Proc.devRef .tc main_v31_7)) (X (Proc.devRef .tc main_v31_6)) := by
  after_results_entrywise []
theorem rA6 : after bodyA6 X (Proc.devRef .tc main_while0b_v72) = upd (X (Proc.devRef .tc main_v31_12)) (X (Proc.devRef .tc main_v31_8)) (X (Proc.devRef .tc main_v31_6)) := by
  after_results_entrywise []
theorem rA7_7 : after bodyA7 X (Proc.devRef .tc main_v31_7) = (X (Proc.devRef .tc main_while0b_v62)) := by
  after_results <;> rfl
theorem rA7_8 : after bodyA7 X (Proc.devRef .tc main_v31_8) = (X (Proc.devRef .tc main_while0b_v68)) := by
  after_results <;> rfl
theorem rA7_11 : after bodyA7 X (Proc.devRef .tc main_v31_11) = (X (Proc.devRef .tc main_while0b_v71)) := by
  after_results <;> rfl
theorem rA7_12 : after bodyA7 X (Proc.devRef .tc main_v31_12) = (X (Proc.devRef .tc main_while0b_v72)) := by
  after_results <;> rfl
theorem rB0 : after bodyB0 X (Proc.devRef .tc main_while1b_v56) = subi (subi (constantI S_ 32 2048#32) (X (Proc.devRef .tc main_v48_8))) (constantI S_ 32 1#32) := by
  after_results <;> rfl
theorem rB1 : after bodyB1 X (Proc.devRef .tc main_while1b_v57) = slc (X (Proc.devRef .tc main_v48_0)) (X (Proc.devRef .tc main_while1b_v56)) := by
  after_results_entrywise []
theorem rB2 : after bodyB2 X (Proc.devRef .tc main_while1b_v58) = slc (X (Proc.devRef .tc main_v48_1)) (X (Proc.devRef .tc main_while1b_v56)) := by
  after_results_entrywise []
theorem rB3 : after bodyB3 X (Proc.devRef .tc main_while1b_v59) = slc (X (Proc.devRef .tc main_v48_2)) (X (Proc.devRef .tc main_while1b_v56)) := by
  after_results_entrywise []
theorem rB4 : after bodyB4 X (Proc.devRef .tc main_while1b_v60) = slc (X (Proc.devRef .tc main_v48_3)) (X (Proc.devRef .tc main_while1b_v56)) := by
  after_results_entrywise []
theorem rB5_61 : after bodyB5 X (Proc.devRef .tc main_while1b_v61) = (addf (X (Proc.devRef .tc main_v48_11)) (X (Proc.devRef .tc main_while1b_v57))) := by
  after_results <;> rfl
theorem rB5_62 : after bodyB5 X (Proc.devRef .tc main_while1b_v62) = (addf (X (Proc.devRef .tc main_v48_12)) (X (Proc.devRef .tc main_while1b_v58))) := by
  after_results <;> rfl
theorem rB5_88 : after bodyB5 X (Proc.devRef .tc main_while1b_v88) = addf (mulf (both (X (Proc.devRef .tc main_v48_7))) (addf (X (Proc.devRef .tc main_v48_12)) (X (Proc.devRef .tc main_while1b_v58)))) (mulf (both (X (Proc.devRef .tc main_v48_4))) (addf (X (Proc.devRef .tc main_v48_11)) (X (Proc.devRef .tc main_while1b_v57)))) := by
  after_results <;> rfl
theorem rB5_80 : after bodyB5 X (Proc.devRef .tc main_while1b_v80) = addf (mulf (both (X (Proc.devRef .tc main_v48_6))) (addf (X (Proc.devRef .tc main_v48_12)) (X (Proc.devRef .tc main_while1b_v58)))) (mulf (both (X (Proc.devRef .tc main_v48_5))) (Host.negf (addf (X (Proc.devRef .tc main_v48_11)) (X (Proc.devRef .tc main_while1b_v57))))) := by
  after_results <;> rfl
theorem rB5_85 : after bodyB5 X (Proc.devRef .tc main_while1b_v85) = addf (addf (X (Proc.devRef .tc main_v48_10)) (sum2 (mulf (addf (X (Proc.devRef .tc main_v48_12)) (X (Proc.devRef .tc main_while1b_v58))) (X (Proc.devRef .tc main_while1b_v59))))) (sum2 (mulf (Host.negf (addf (X (Proc.devRef .tc main_v48_11)) (X (Proc.devRef .tc main_while1b_v57)))) (X (Proc.devRef .tc main_while1b_v60)))) := by
  after_results <;> rfl
theorem rB5_93 : after bodyB5 X (Proc.devRef .tc main_while1b_v93) = addf (addf (X (Proc.devRef .tc main_v48_9)) (sum2 (mulf (addf (X (Proc.devRef .tc main_v48_12)) (X (Proc.devRef .tc main_while1b_v58))) (X (Proc.devRef .tc main_while1b_v60))))) (sum2 (mulf (addf (X (Proc.devRef .tc main_v48_11)) (X (Proc.devRef .tc main_while1b_v57))) (X (Proc.devRef .tc main_while1b_v59)))) := by
  after_results <;> rfl
theorem rB6 : after bodyB6 X (Proc.devRef .tc main_while1b_v94) = upd (X (Proc.devRef .tc main_v48_13)) (X (Proc.devRef .tc main_while1b_v61)) (X (Proc.devRef .tc main_while1b_v56)) := by
  after_results_entrywise []
theorem rB7 : after bodyB7 X (Proc.devRef .tc main_while1b_v95) = upd (X (Proc.devRef .tc main_v48_14)) (X (Proc.devRef .tc main_while1b_v62)) (X (Proc.devRef .tc main_while1b_v56)) := by
  after_results_entrywise []
theorem rB8_9 : after bodyB8 X (Proc.devRef .tc main_v48_9) = (X (Proc.devRef .tc main_while1b_v93)) := by
  after_results <;> rfl
theorem rB8_10 : after bodyB8 X (Proc.devRef .tc main_v48_10) = (X (Proc.devRef .tc main_while1b_v85)) := by
  after_results <;> rfl
theorem rB8_11 : after bodyB8 X (Proc.devRef .tc main_v48_11) = (X (Proc.devRef .tc main_while1b_v88)) := by
  after_results <;> rfl
theorem rB8_12 : after bodyB8 X (Proc.devRef .tc main_v48_12) = (X (Proc.devRef .tc main_while1b_v80)) := by
  after_results <;> rfl
theorem rB8_13 : after bodyB8 X (Proc.devRef .tc main_v48_13) = (X (Proc.devRef .tc main_while1b_v94)) := by
  after_results <;> rfl
theorem rB8_14 : after bodyB8 X (Proc.devRef .tc main_v48_14) = (X (Proc.devRef .tc main_while1b_v95)) := by
  after_results <;> rfl

/-- A trip of the forward loop: its test and its body. -/
abbrev tripA : Valuation τ sig (Elt F) := afterL bodyA (after condA X)
/-- A trip of the backward loop: its test and its body. -/
abbrev tripB : Valuation τ sig (Elt F) := afterL bodyB (after condB X)

theorem tripA_keep (r : Ref sig .tc) (h7 : r ∉ bodyA7_W) (h6 : r ∉ bodyA6_W) (h5 : r ∉ bodyA5_W) (h4 : r ∉ bodyA4_W) (h3 : r ∉ bodyA3_W) (h2 : r ∉ bodyA2_W)
    (h1 : r ∉ bodyA1_W) (h0 : r ∉ bodyA0_W) (hc : r ∉ condA_W) : tripA X (Proc.devRef .tc r) = X (Proc.devRef .tc r) := by
  simp only [tripA, afterL_cons, afterL_nil]
  rw [after_of_writes_sub bodyA7 _ bodyA7_writes h7, after_of_writes_sub bodyA6 _ bodyA6_writes h6, after_of_writes_sub bodyA5 _ bodyA5_writes h5,
    after_of_writes_sub bodyA4 _ bodyA4_writes h4, after_of_writes_sub bodyA3 _ bodyA3_writes h3, after_of_writes_sub bodyA2 _ bodyA2_writes h2,
    after_of_writes_sub bodyA1 _ bodyA1_writes h1, after_of_writes_sub bodyA0 _ bodyA0_writes h0, after_of_writes_sub condA _ condA_writes hc]
theorem tripB_keep (r : Ref sig .tc) (h8 : r ∉ bodyB8_W) (h7 : r ∉ bodyB7_W) (h6 : r ∉ bodyB6_W) (h5 : r ∉ bodyB5_W) (h4 : r ∉ bodyB4_W) (h3 : r ∉ bodyB3_W) (h2 : r ∉ bodyB2_W)
    (h1 : r ∉ bodyB1_W) (h0 : r ∉ bodyB0_W) (hc : r ∉ condB_W) : tripB X (Proc.devRef .tc r) = X (Proc.devRef .tc r) := by
  simp only [tripB, afterL_cons, afterL_nil]
  rw [after_of_writes_sub bodyB8 _ bodyB8_writes h8, after_of_writes_sub bodyB7 _ bodyB7_writes h7, after_of_writes_sub bodyB6 _ bodyB6_writes h6, after_of_writes_sub bodyB5 _ bodyB5_writes h5,
    after_of_writes_sub bodyB4 _ bodyB4_writes h4, after_of_writes_sub bodyB3 _ bodyB3_writes h3, after_of_writes_sub bodyB2 _ bodyB2_writes h2,
    after_of_writes_sub bodyB1 _ bodyB1_writes h1, after_of_writes_sub bodyB0 _ bodyB0_writes h0, after_of_writes_sub condB _ condB_writes hc]
theorem tripA_7 : tripA X (Proc.devRef .tc main_v31_7) = addf (subf (mulf (both (X (Proc.devRef .tc main_v31_2))) (X (Proc.devRef .tc main_v31_7))) (mulf (both (X (Proc.devRef .tc main_v31_3))) (X (Proc.devRef .tc main_v31_8)))) (slc (X (Proc.devRef .tc main_v31_0)) (X (Proc.devRef .tc main_v31_6))) := by
  simp only [tripA, afterL_cons, afterL_nil]
  rw [rA7_7, after_of_writes_sub bodyA6 _ bodyA6_writes (show main_while0b_v62 ∉ bodyA6_W by decide +kernel), after_of_writes_sub bodyA5 _ bodyA5_writes (show main_while0b_v62 ∉ bodyA5_W by decide +kernel), after_of_writes_sub bodyA4 _ bodyA4_writes (show main_while0b_v62 ∉ bodyA4_W by decide +kernel), after_of_writes_sub bodyA3 _ bodyA3_writes (show main_while0b_v62 ∉ bodyA3_W by decide +kernel), rA2re, after_of_writes_sub bodyA1 _ bodyA1_writes (show main_v31_2 ∉ bodyA1_W by decide +kernel), after_of_writes_sub bodyA0 _ bodyA0_writes (show main_v31_2 ∉ bodyA0_W by decide +kernel), after_of_writes_sub condA _ condA_writes (show main_v31_2 ∉ condA_W by decide +kernel), after_of_writes_sub bodyA1 _ bodyA1_writes (show main_v31_7 ∉ bodyA1_W by decide +kernel), after_of_writes_sub bodyA0 _ bodyA0_writes (show main_v31_7 ∉ bodyA0_W by decide +kernel), after_of_writes_sub condA _ condA_writes (show main_v31_7 ∉ condA_W by decide +kernel), after_of_writes_sub bodyA1 _ bodyA1_writes (show main_v31_3 ∉ bodyA1_W by decide +kernel), after_of_writes_sub bodyA0 _ bodyA0_writes (show main_v31_3 ∉ bodyA0_W by decide +kernel), after_of_writes_sub condA _ condA_writes (show main_v31_3 ∉ condA_W by decide +kernel), after_of_writes_sub bodyA1 _ bodyA1_writes (show main_v31_8 ∉ bodyA1_W by decide +kernel), after_of_writes_sub bodyA0 _ bodyA0_writes (show main_v31_8 ∉ bodyA0_W by decide +kernel), after_of_writes_sub condA _ condA_writes (show main_v31_8 ∉ condA_W by decide +kernel), after_of_writes_sub bodyA1 _ bodyA1_writes (show main_while0b_v55 ∉ bodyA1_W by decide +kernel), rA0, after_of_writes_sub condA _ condA_writes (show main_v31_0 ∉ condA_W by decide +kernel), after_of_writes_sub condA _ condA_writes (show main_v31_6 ∉ condA_W by decide +kernel)]
theorem tripA_8 : tripA X (Proc.devRef .tc main_v31_8) = addf (addf (mulf (both (X (Proc.devRef .tc main_v31_4))) (X (Proc.devRef .tc main_v31_8))) (mulf (both (X (Proc.devRef .tc main_v31_5))) (X (Proc.devRef .tc main_v31_7)))) (slc (X (Proc.devRef .tc main_v31_1)) (X (Proc.devRef .tc main_v31_6))) := by
  simp only [tripA, afterL_cons, afterL_nil]
  rw [rA7_8, after_of_writes_sub bodyA6 _ bodyA6_writes (show main_while0b_v68 ∉ bodyA6_W by decide +kernel), after_of_writes_sub bodyA5 _ bodyA5_writes (show main_while0b_v68 ∉ bodyA5_W by decide +kernel), after_of_writes_sub bodyA4 _ bodyA4_writes (show main_while0b_v68 ∉ bodyA4_W by decide +kernel), after_of_writes_sub bodyA3 _ bodyA3_writes (show main_while0b_v68 ∉ bodyA3_W by decide +kernel), rA2im, after_of_writes_sub bodyA1 _ bodyA1_writes (show main_v31_4 ∉ bodyA1_W by decide +kernel), after_of_writes_sub bodyA0 _ bodyA0_writes (show main_v31_4 ∉ bodyA0_W by decide +kernel), after_of_writes_sub condA _ condA_writes (show main_v31_4 ∉ condA_W by decide +kernel), after_of_writes_sub bodyA1 _ bodyA1_writes (show main_v31_8 ∉ bodyA1_W by decide +kernel), after_of_writes_sub bodyA0 _ bodyA0_writes (show main_v31_8 ∉ bodyA0_W by decide +kernel), after_of_writes_sub condA _ condA_writes (show main_v31_8 ∉ condA_W by decide +kernel), after_of_writes_sub bodyA1 _ bodyA1_writes (show main_v31_5 ∉ bodyA1_W by decide +kernel), after_of_writes_sub bodyA0 _ bodyA0_writes (show main_v31_5 ∉ bodyA0_W by decide +kernel), after_of_writes_sub condA _ condA_writes (show main_v31_5 ∉ condA_W by decide +kernel), after_of_writes_sub bodyA1 _ bodyA1_writes (show main_v31_7 ∉ bodyA1_W by decide +kernel), after_of_writes_sub bodyA0 _ bodyA0_writes (show main_v31_7 ∉ bodyA0_W by decide +kernel), after_of_writes_sub condA _ condA_writes (show main_v31_7 ∉ condA_W by decide +kernel), rA1, after_of_writes_sub bodyA0 _ bodyA0_writes (show main_v31_1 ∉ bodyA0_W by decide +kernel), after_of_writes_sub condA _ condA_writes (show main_v31_1 ∉ condA_W by decide +kernel), after_of_writes_sub bodyA0 _ bodyA0_writes (show main_v31_6 ∉ bodyA0_W by decide +kernel), after_of_writes_sub condA _ condA_writes (show main_v31_6 ∉ condA_W by decide +kernel)]
theorem tripA_11 : tripA X (Proc.devRef .tc main_v31_11) = upd (X (Proc.devRef .tc main_v31_11)) (X (Proc.devRef .tc main_v31_7)) (X (Proc.devRef .tc main_v31_6)) := by
  simp only [tripA, afterL_cons, afterL_nil]
  rw [rA7_11, after_of_writes_sub bodyA6 _ bodyA6_writes (show main_while0b_v71 ∉ bodyA6_W by decide +kernel), rA5, after_of_writes_sub bodyA4 _ bodyA4_writes (show main_v31_11 ∉ bodyA4_W by decide +kernel), after_of_writes_sub bodyA3 _ bodyA3_writes (show main_v31_11 ∉ bodyA3_W by decide +kernel), after_of_writes_sub bodyA2 _ bodyA2_writes (show main_v31_11 ∉ bodyA2_W by decide +kernel), after_of_writes_sub bodyA1 _ bodyA1_writes (show main_v31_11 ∉ bodyA1_W by decide +kernel), after_of_writes_sub bodyA0 _ bodyA0_writes (show main_v31_11 ∉ bodyA0_W by decide +kernel), after_of_writes_sub condA _ condA_writes (show main_v31_11 ∉ condA_W by decide +kernel), after_of_writes_sub bodyA4 _ bodyA4_writes (show main_v31_7 ∉ bodyA4_W by decide +kernel), after_of_writes_sub bodyA3 _ bodyA3_writes (show main_v31_7 ∉ bodyA3_W by decide +kernel), after_of_writes_sub bodyA2 _ bodyA2_writes (show main_v31_7 ∉ bodyA2_W by decide +kernel), after_of_writes_sub bodyA1 _ bodyA1_writes (show main_v31_7 ∉ bodyA1_W by decide +kernel), after_of_writes_sub bodyA0 _ bodyA0_writes (show main_v31_7 ∉ bodyA0_W by decide +kernel), after_of_writes_sub condA _ condA_writes (show main_v31_7 ∉ condA_W by decide +kernel), after_of_writes_sub bodyA4 _ bodyA4_writes (show main_v31_6 ∉ bodyA4_W by decide +kernel), after_of_writes_sub bodyA3 _ bodyA3_writes (show main_v31_6 ∉ bodyA3_W by decide +kernel), after_of_writes_sub bodyA2 _ bodyA2_writes (show main_v31_6 ∉ bodyA2_W by decide +kernel), after_of_writes_sub bodyA1 _ bodyA1_writes (show main_v31_6 ∉ bodyA1_W by decide +kernel), after_of_writes_sub bodyA0 _ bodyA0_writes (show main_v31_6 ∉ bodyA0_W by decide +kernel), after_of_writes_sub condA _ condA_writes (show main_v31_6 ∉ condA_W by decide +kernel)]
theorem tripA_12 : tripA X (Proc.devRef .tc main_v31_12) = upd (X (Proc.devRef .tc main_v31_12)) (X (Proc.devRef .tc main_v31_8)) (X (Proc.devRef .tc main_v31_6)) := by
  simp only [tripA, afterL_cons, afterL_nil]
  rw [rA7_12, rA6, after_of_writes_sub bodyA5 _ bodyA5_writes (show main_v31_12 ∉ bodyA5_W by decide +kernel), after_of_writes_sub bodyA4 _ bodyA4_writes (show main_v31_12 ∉ bodyA4_W by decide +kernel), after_of_writes_sub bodyA3 _ bodyA3_writes (show main_v31_12 ∉ bodyA3_W by decide +kernel), after_of_writes_sub bodyA2 _ bodyA2_writes (show main_v31_12 ∉ bodyA2_W by decide +kernel), after_of_writes_sub bodyA1 _ bodyA1_writes (show main_v31_12 ∉ bodyA1_W by decide +kernel), after_of_writes_sub bodyA0 _ bodyA0_writes (show main_v31_12 ∉ bodyA0_W by decide +kernel), after_of_writes_sub condA _ condA_writes (show main_v31_12 ∉ condA_W by decide +kernel), after_of_writes_sub bodyA5 _ bodyA5_writes (show main_v31_8 ∉ bodyA5_W by decide +kernel), after_of_writes_sub bodyA4 _ bodyA4_writes (show main_v31_8 ∉ bodyA4_W by decide +kernel), after_of_writes_sub bodyA3 _ bodyA3_writes (show main_v31_8 ∉ bodyA3_W by decide +kernel), after_of_writes_sub bodyA2 _ bodyA2_writes (show main_v31_8 ∉ bodyA2_W by decide +kernel), after_of_writes_sub bodyA1 _ bodyA1_writes (show main_v31_8 ∉ bodyA1_W by decide +kernel), after_of_writes_sub bodyA0 _ bodyA0_writes (show main_v31_8 ∉ bodyA0_W by decide +kernel), after_of_writes_sub condA _ condA_writes (show main_v31_8 ∉ condA_W by decide +kernel), after_of_writes_sub bodyA5 _ bodyA5_writes (show main_v31_6 ∉ bodyA5_W by decide +kernel), after_of_writes_sub bodyA4 _ bodyA4_writes (show main_v31_6 ∉ bodyA4_W by decide +kernel), after_of_writes_sub bodyA3 _ bodyA3_writes (show main_v31_6 ∉ bodyA3_W by decide +kernel), after_of_writes_sub bodyA2 _ bodyA2_writes (show main_v31_6 ∉ bodyA2_W by decide +kernel), after_of_writes_sub bodyA1 _ bodyA1_writes (show main_v31_6 ∉ bodyA1_W by decide +kernel), after_of_writes_sub bodyA0 _ bodyA0_writes (show main_v31_6 ∉ bodyA0_W by decide +kernel), after_of_writes_sub condA _ condA_writes (show main_v31_6 ∉ condA_W by decide +kernel)]

/-- The index a backward trip works at. -/
def idxB (n : IVec S_ 32) : IVec S_ 32 := subi (subi (constantI S_ 32 2048#32) n) (constantI S_ 32 1#32)
/-- What a backward trip works with. -/
theorem midB : let Y := after bodyB4 (after bodyB3 (after bodyB2 (after bodyB1 (after bodyB0 (after condB X)))));
    Y (Proc.devRef .tc main_while1b_v57) = slc (X (Proc.devRef .tc main_v48_0)) (idxB (X (Proc.devRef .tc main_v48_8))) ∧ Y (Proc.devRef .tc main_while1b_v58) = slc (X (Proc.devRef .tc main_v48_1)) (idxB (X (Proc.devRef .tc main_v48_8))) ∧ Y (Proc.devRef .tc main_while1b_v59) = slc (X (Proc.devRef .tc main_v48_2)) (idxB (X (Proc.devRef .tc main_v48_8))) ∧ Y (Proc.devRef .tc main_while1b_v60) = slc (X (Proc.devRef .tc main_v48_3)) (idxB (X (Proc.devRef .tc main_v48_8)))
      ∧ Y (Proc.devRef .tc main_while1b_v56) = idxB (X (Proc.devRef .tc main_v48_8)) := by
  dsimp only
  refine ⟨?_, ?_, ?_, ?_, ?_⟩
  · rw [after_of_writes_sub bodyB4 _ bodyB4_writes (show main_while1b_v57 ∉ bodyB4_W by decide +kernel), after_of_writes_sub bodyB3 _ bodyB3_writes (show main_while1b_v57 ∉ bodyB3_W by decide +kernel), after_of_writes_sub bodyB2 _ bodyB2_writes (show main_while1b_v57 ∉ bodyB2_W by decide +kernel), rB1, after_of_writes_sub bodyB0 _ bodyB0_writes (show main_v48_0 ∉ bodyB0_W by decide +kernel), after_of_writes_sub condB _ condB_writes (show main_v48_0 ∉ condB_W by decide +kernel), rB0, after_of_writes_sub condB _ condB_writes (show main_v48_8 ∉ condB_W by decide +kernel)]
    rfl
  · rw [after_of_writes_sub bodyB4 _ bodyB4_writes (show main_while1b_v58 ∉ bodyB4_W by decide +kernel), after_of_writes_sub bodyB3 _ bodyB3_writes (show main_while1b_v58 ∉ bodyB3_W by decide +kernel), rB2, after_of_writes_sub bodyB1 _ bodyB1_writes (show main_v48_1 ∉ bodyB1_W by decide +kernel), after_of_writes_sub bodyB0 _ bodyB0_writes (show main_v48_1 ∉ bodyB0_W by decide +kernel), after_of_writes_sub condB _ condB_writes (show main_v48_1 ∉ condB_W by decide +kernel), after_of_writes_sub bodyB1 _ bodyB1_writes (show main_while1b_v56 ∉ bodyB1_W by decide +kernel), rB0, after_of_writes_sub condB _ condB_writes (show main_v48_8 ∉ condB_W by decide +kernel)]
    rfl
  · rw [after_of_writes_sub bodyB4 _ bodyB4_writes (show main_while1b_v59 ∉ bodyB4_W by decide +kernel), rB3, after_of_writes_sub bodyB2 _ bodyB2_writes (show main_v48_2 ∉ bodyB2_W by decide +kernel), after_of_writes_sub bodyB1 _ bodyB1_writes (show main_v48_2 ∉ bodyB1_W by decide +kernel), after_of_writes_sub bodyB0 _ bodyB0_writes (show main_v48_2 ∉ bodyB0_W by decide +kernel), after_of_writes_sub condB _ condB_writes (show main_v48_2 ∉ condB_W by decide +kernel), after_of_writes_sub bodyB2 _ bodyB2_writes (show main_while1b_v56 ∉ bodyB2_W by decide +kernel), after_of_writes_sub bodyB1 _ bodyB1_writes (show main_while1b_v56 ∉ bodyB1_W by decide +kernel), rB0, after_of_writes_sub condB _ condB_writes (show main_v48_8 ∉ condB_W by decide +kernel)]
    rfl
  · rw [rB4, after_of_writes_sub bodyB3 _ bodyB3_writes (show main_v48_3 ∉ bodyB3_W by decide +kernel), after_of_writes_sub bodyB2 _ bodyB2_writes (show main_v48_3 ∉ bodyB2_W by decide +kernel), after_of_writes_sub bodyB1 _ bodyB1_writes (show main_v48_3 ∉ bodyB1_W by decide +kernel), after_of_writes_sub bodyB0 _ bodyB0_writes (show main_v48_3 ∉ bodyB0_W by decide +kernel), after_of_writes_sub condB _ condB_writes (show main_v48_3 ∉ condB_W by decide +kernel), after_of_writes_sub bodyB3 _ bodyB3_writes (show main_while1b_v56 ∉ bodyB3_W by decide +kernel), after_of_writes_sub bodyB2 _ bodyB2_writes (show main_while1b_v56 ∉ bodyB2_W by decide +kernel), after_of_writes_sub bodyB1 _ bodyB1_writes (show main_while1b_v56 ∉ bodyB1_W by decide +kernel), rB0, after_of_writes_sub condB _ condB_writes (show main_v48_8 ∉ condB_W by decide +kernel)]
    rfl
  · rw [after_of_writes_sub bodyB4 _ bodyB4_writes (show main_while1b_v56 ∉ bodyB4_W by decide +kernel), after_of_writes_sub bodyB3 _ bodyB3_writes (show main_while1b_v56 ∉ bodyB3_W by decide +kernel), after_of_writes_sub bodyB2 _ bodyB2_writes (show main_while1b_v56 ∉ bodyB2_W by decide +kernel), after_of_writes_sub bodyB1 _ bodyB1_writes (show main_while1b_v56 ∉ bodyB1_W by decide +kernel), rB0, after_of_writes_sub condB _ condB_writes (show main_v48_8 ∉ condB_W by decide +kernel)]
    rfl
theorem tripB_11 : tripB X (Proc.devRef .tc main_v48_11) = addf (mulf (both (X (Proc.devRef .tc main_v48_7))) (addf (X (Proc.devRef .tc main_v48_12)) (slc (X (Proc.devRef .tc main_v48_1)) (idxB (X (Proc.devRef .tc main_v48_8)))))) (mulf (both (X (Proc.devRef .tc main_v48_4))) (addf (X (Proc.devRef .tc main_v48_11)) (slc (X (Proc.devRef .tc main_v48_0)) (idxB (X (Proc.devRef .tc main_v48_8)))))) := by
  simp only [tripB, afterL_cons, afterL_nil]
  obtain ⟨e0, e1, e2, e3, e4⟩ := midB X
  rw [rB8_11, after_of_writes_sub bodyB7 _ bodyB7_writes (show main_while1b_v88 ∉ bodyB7_W by decide +kernel), after_of_writes_sub bodyB6 _ bodyB6_writes (show main_while1b_v88 ∉ bodyB6_W by decide +kernel), rB5_88, e0, e1, after_of_writes_sub bodyB4 _ bodyB4_writes (show main_v48_7 ∉ bodyB4_W by decide +kernel), after_of_writes_sub bodyB3 _ bodyB3_writes (show main_v48_7 ∉ bodyB3_W by decide +kernel), after_of_writes_sub bodyB2 _ bodyB2_writes (show main_v48_7 ∉ bodyB2_W by decide +kernel), after_of_writes_sub bodyB1 _ bodyB1_writes (show main_v48_7 ∉ bodyB1_W by decide +kernel), after_of_writes_sub bodyB0 _ bodyB0_writes (show main_v48_7 ∉ bodyB0_W by decide +kernel), after_of_writes_sub condB _ condB_writes (show main_v48_7 ∉ condB_W by decide +kernel), after_of_writes_sub bodyB4 _ bodyB4_writes (show main_v48_12 ∉ bodyB4_W by decide +kernel), after_of_writes_sub bodyB3 _ bodyB3_writes (show main_v48_12 ∉ bodyB3_W by decide +kernel), after_of_writes_sub bodyB2 _ bodyB2_writes (show main_v48_12 ∉ bodyB2_W by decide +kernel), after_of_writes_sub bodyB1 _ bodyB1_writes (show main_v48_12 ∉ bodyB1_W by decide +kernel), after_of_writes_sub bodyB0 _ bodyB0_writes (show main_v48_12 ∉ bodyB0_W by decide +kernel), after_of_writes_sub condB _ condB_writes (show main_v48_12 ∉ condB_W by decide +kernel), after_of_writes_sub bodyB4 _ bodyB4_writes (show main_v48_4 ∉ bodyB4_W by decide +kernel), after_of_writes_sub bodyB3 _ bodyB3_writes (show main_v48_4 ∉ bodyB3_W by decide +kernel), after_of_writes_sub bodyB2 _ bodyB2_writes (show main_v48_4 ∉ bodyB2_W by decide +kernel), after_of_writes_sub bodyB1 _ bodyB1_writes (show main_v48_4 ∉ bodyB1_W by decide +kernel), after_of_writes_sub bodyB0 _ bodyB0_writes (show main_v48_4 ∉ bodyB0_W by decide +kernel), after_of_writes_sub condB _ condB_writes (show main_v48_4 ∉ condB_W by decide +kernel), after_of_writes_sub bodyB4 _ bodyB4_writes (show main_v48_11 ∉ bodyB4_W by decide +kernel), after_of_writes_sub bodyB3 _ bodyB3_writes (show main_v48_11 ∉ bodyB3_W by decide +kernel), after_of_writes_sub bodyB2 _ bodyB2_writes (show main_v48_11 ∉ bodyB2_W by decide +kernel), after_of_writes_sub bodyB1 _ bodyB1_writes (show main_v48_11 ∉ bodyB1_W by decide +kernel), after_of_writes_sub bodyB0 _ bodyB0_writes (show main_v48_11 ∉ bodyB0_W by decide +kernel), after_of_writes_sub condB _ condB_writes (show main_v48_11 ∉ condB_W by decide +kernel)]
theorem tripB_12 : tripB X (Proc.devRef .tc main_v48_12) = addf (mulf (both (X (Proc.devRef .tc main_v48_6))) (addf (X (Proc.devRef .tc main_v48_12)) (slc (X (Proc.devRef .tc main_v48_1)) (idxB (X (Proc.devRef .tc main_v48_8)))))) (mulf (both (X (Proc.devRef .tc main_v48_5))) (Host.negf (addf (X (Proc.devRef .tc main_v48_11)) (slc (X (Proc.devRef .tc main_v48_0)) (idxB (X (Proc.devRef .tc main_v48_8))))))) := by
  simp only [tripB, afterL_cons, afterL_nil]
  obtain ⟨e0, e1, e2, e3, e4⟩ := midB X
  rw [rB8_12, after_of_writes_sub bodyB7 _ bodyB7_writes (show main_while1b_v80 ∉ bodyB7_W by decide +kernel), after_of_writes_sub bodyB6 _ bodyB6_writes (show main_while1b_v80 ∉ bodyB6_W by decide +kernel), rB5_80, e0, e1, after_of_writes_sub bodyB4 _ bodyB4_writes (show main_v48_6 ∉ bodyB4_W by decide +kernel), after_of_writes_sub bodyB3 _ bodyB3_writes (show main_v48_6 ∉ bodyB3_W by decide +kernel), after_of_writes_sub bodyB2 _ bodyB2_writes (show main_v48_6 ∉ bodyB2_W by decide +kernel), after_of_writes_sub bodyB1 _ bodyB1_writes (show main_v48_6 ∉ bodyB1_W by decide +kernel), after_of_writes_sub bodyB0 _ bodyB0_writes (show main_v48_6 ∉ bodyB0_W by decide +kernel), after_of_writes_sub condB _ condB_writes (show main_v48_6 ∉ condB_W by decide +kernel), after_of_writes_sub bodyB4 _ bodyB4_writes (show main_v48_12 ∉ bodyB4_W by decide +kernel), after_of_writes_sub bodyB3 _ bodyB3_writes (show main_v48_12 ∉ bodyB3_W by decide +kernel), after_of_writes_sub bodyB2 _ bodyB2_writes (show main_v48_12 ∉ bodyB2_W by decide +kernel), after_of_writes_sub bodyB1 _ bodyB1_writes (show main_v48_12 ∉ bodyB1_W by decide +kernel), after_of_writes_sub bodyB0 _ bodyB0_writes (show main_v48_12 ∉ bodyB0_W by decide +kernel), after_of_writes_sub condB _ condB_writes (show main_v48_12 ∉ condB_W by decide +kernel), after_of_writes_sub bodyB4 _ bodyB4_writes (show main_v48_5 ∉ bodyB4_W by decide +kernel), after_of_writes_sub bodyB3 _ bodyB3_writes (show main_v48_5 ∉ bodyB3_W by decide +kernel), after_of_writes_sub bodyB2 _ bodyB2_writes (show main_v48_5 ∉ bodyB2_W by decide +kernel), after_of_writes_sub bodyB1 _ bodyB1_writes (show main_v48_5 ∉ bodyB1_W by decide +kernel), after_of_writes_sub bodyB0 _ bodyB0_writes (show main_v48_5 ∉ bodyB0_W by decide +kernel), after_of_writes_sub condB _ condB_writes (show main_v48_5 ∉ condB_W by decide +kernel), after_of_writes_sub bodyB4 _ bodyB4_writes (show main_v48_11 ∉ bodyB4_W by decide +kernel), after_of_writes_sub bodyB3 _ bodyB3_writes (show main_v48_11 ∉ bodyB3_W by decide +kernel), after_of_writes_sub bodyB2 _ bodyB2_writes (show main_v48_11 ∉ bodyB2_W by decide +kernel), after_of_writes_sub bodyB1 _ bodyB1_writes (show main_v48_11 ∉ bodyB1_W by decide +kernel), after_of_writes_sub bodyB0 _ bodyB0_writes (show main_v48_11 ∉ bodyB0_W by decide +kernel), after_of_writes_sub condB _ condB_writes (show main_v48_11 ∉ condB_W by decide +kernel)]
theorem tripB_10 : tripB X (Proc.devRef .tc main_v48_10) = addf (addf (X (Proc.devRef .tc main_v48_10)) (sum2 (mulf (addf (X (Proc.devRef .tc main_v48_12)) (slc (X (Proc.devRef .tc main_v48_1)) (idxB (X (Proc.devRef .tc main_v48_8))))) (slc (X (Proc.devRef .tc main_v48_2)) (idxB (X (Proc.devRef .tc main_v48_8))))))) (sum2 (mulf (Host.negf (addf (X (Proc.devRef .tc main_v48_11)) (slc (X (Proc.devRef .tc main_v48_0)) (idxB (X (Proc.devRef .tc main_v48_8)))))) (slc (X (Proc.devRef .tc main_v48_3)) (idxB (X (Proc.devRef .tc main_v48_8)))))) := by
  simp only [tripB, afterL_cons, afterL_nil]
  obtain ⟨e0, e1, e2, e3, e4⟩ := midB X
  rw [rB8_10, after_of_writes_sub bodyB7 _ bodyB7_writes (show main_while1b_v85 ∉ bodyB7_W by decide +kernel), after_of_writes_sub bodyB6 _ bodyB6_writes (show main_while1b_v85 ∉ bodyB6_W by decide +kernel), rB5_85, e0, e1, e2, e3, after_of_writes_sub bodyB4 _ bodyB4_writes (show main_v48_10 ∉ bodyB4_W by decide +kernel), after_of_writes_sub bodyB3 _ bodyB3_writes (show main_v48_10 ∉ bodyB3_W by decide +kernel), after_of_writes_sub bodyB2 _ bodyB2_writes (show main_v48_10 ∉ bodyB2_W by decide +kernel), after_of_writes_sub bodyB1 _ bodyB1_writes (show main_v48_10 ∉ bodyB1_W by decide +kernel), after_of_writes_sub bodyB0 _ bodyB0_writes (show main_v48_10 ∉ bodyB0_W by decide +kernel), after_of_writes_sub condB _ condB_writes (show main_v48_10 ∉ condB_W by decide +kernel), after_of_writes_sub bodyB4 _ bodyB4_writes (show main_v48_12 ∉ bodyB4_W by decide +kernel), after_of_writes_sub bodyB3 _ bodyB3_writes (show main_v48_12 ∉ bodyB3_W by decide +kernel), after_of_writes_sub bodyB2 _ bodyB2_writes (show main_v48_12 ∉ bodyB2_W by decide +kernel), after_of_writes_sub bodyB1 _ bodyB1_writes (show main_v48_12 ∉ bodyB1_W by decide +kernel), after_of_writes_sub bodyB0 _ bodyB0_writes (show main_v48_12 ∉ bodyB0_W by decide +kernel), after_of_writes_sub condB _ condB_writes (show main_v48_12 ∉ condB_W by decide +kernel), after_of_writes_sub bodyB4 _ bodyB4_writes (show main_v48_11 ∉ bodyB4_W by decide +kernel), after_of_writes_sub bodyB3 _ bodyB3_writes (show main_v48_11 ∉ bodyB3_W by decide +kernel), after_of_writes_sub bodyB2 _ bodyB2_writes (show main_v48_11 ∉ bodyB2_W by decide +kernel), after_of_writes_sub bodyB1 _ bodyB1_writes (show main_v48_11 ∉ bodyB1_W by decide +kernel), after_of_writes_sub bodyB0 _ bodyB0_writes (show main_v48_11 ∉ bodyB0_W by decide +kernel), after_of_writes_sub condB _ condB_writes (show main_v48_11 ∉ condB_W by decide +kernel)]
theorem tripB_9 : tripB X (Proc.devRef .tc main_v48_9) = addf (addf (X (Proc.devRef .tc main_v48_9)) (sum2 (mulf (addf (X (Proc.devRef .tc main_v48_12)) (slc (X (Proc.devRef .tc main_v48_1)) (idxB (X (Proc.devRef .tc main_v48_8))))) (slc (X (Proc.devRef .tc main_v48_3)) (idxB (X (Proc.devRef .tc main_v48_8))))))) (sum2 (mulf (addf (X (Proc.devRef .tc main_v48_11)) (slc (X (Proc.devRef .tc main_v48_0)) (idxB (X (Proc.devRef .tc main_v48_8))))) (slc (X (Proc.devRef .tc main_v48_2)) (idxB (X (Proc.devRef .tc main_v48_8)))))) := by
  simp only [tripB, afterL_cons, afterL_nil]
  obtain ⟨e0, e1, e2, e3, e4⟩ := midB X
  rw [rB8_9, after_of_writes_sub bodyB7 _ bodyB7_writes (show main_while1b_v93 ∉ bodyB7_W by decide +kernel), after_of_writes_sub bodyB6 _ bodyB6_writes (show main_while1b_v93 ∉ bodyB6_W by decide +kernel), rB5_93, e0, e1, e2, e3, after_of_writes_sub bodyB4 _ bodyB4_writes (show main_v48_9 ∉ bodyB4_W by decide +kernel), after_of_writes_sub bodyB3 _ bodyB3_writes (show main_v48_9 ∉ bodyB3_W by decide +kernel), after_of_writes_sub bodyB2 _ bodyB2_writes (show main_v48_9 ∉ bodyB2_W by decide +kernel), after_of_writes_sub bodyB1 _ bodyB1_writes (show main_v48_9 ∉ bodyB1_W by decide +kernel), after_of_writes_sub bodyB0 _ bodyB0_writes (show main_v48_9 ∉ bodyB0_W by decide +kernel), after_of_writes_sub condB _ condB_writes (show main_v48_9 ∉ condB_W by decide +kernel), after_of_writes_sub bodyB4 _ bodyB4_writes (show main_v48_12 ∉ bodyB4_W by decide +kernel), after_of_writes_sub bodyB3 _ bodyB3_writes (show main_v48_12 ∉ bodyB3_W by decide +kernel), after_of_writes_sub bodyB2 _ bodyB2_writes (show main_v48_12 ∉ bodyB2_W by decide +kernel), after_of_writes_sub bodyB1 _ bodyB1_writes (show main_v48_12 ∉ bodyB1_W by decide +kernel), after_of_writes_sub bodyB0 _ bodyB0_writes (show main_v48_12 ∉ bodyB0_W by decide +kernel), after_of_writes_sub condB _ condB_writes (show main_v48_12 ∉ condB_W by decide +kernel), after_of_writes_sub bodyB4 _ bodyB4_writes (show main_v48_11 ∉ bodyB4_W by decide +kernel), after_of_writes_sub bodyB3 _ bodyB3_writes (show main_v48_11 ∉ bodyB3_W by decide +kernel), after_of_writes_sub bodyB2 _ bodyB2_writes (show main_v48_11 ∉ bodyB2_W by decide +kernel), after_of_writes_sub bodyB1 _ bodyB1_writes (show main_v48_11 ∉ bodyB1_W by decide +kernel), after_of_writes_sub bodyB0 _ bodyB0_writes (show main_v48_11 ∉ bodyB0_W by decide +kernel), after_of_writes_sub condB _ condB_writes (show main_v48_11 ∉ condB_W by decide +kernel)]
theorem tripB_13 : tripB X (Proc.devRef .tc main_v48_13) = upd (X (Proc.devRef .tc main_v48_13)) (addf (X (Proc.devRef .tc main_v48_11)) (slc (X (Proc.devRef .tc main_v48_0)) (idxB (X (Proc.devRef .tc main_v48_8))))) (idxB (X (Proc.devRef .tc main_v48_8))) := by
  simp only [tripB, afterL_cons, afterL_nil]
  obtain ⟨e0, e1, e2, e3, e4⟩ := midB X
  rw [rB8_13, after_of_writes_sub bodyB7 _ bodyB7_writes (show main_while1b_v94 ∉ bodyB7_W by decide +kernel), rB6, after_of_writes_sub bodyB5 _ bodyB5_writes (show main_v48_13 ∉ bodyB5_W by decide +kernel), after_of_writes_sub bodyB4 _ bodyB4_writes (show main_v48_13 ∉ bodyB4_W by decide +kernel), after_of_writes_sub bodyB3 _ bodyB3_writes (show main_v48_13 ∉ bodyB3_W by decide +kernel), after_of_writes_sub bodyB2 _ bodyB2_writes (show main_v48_13 ∉ bodyB2_W by decide +kernel), after_of_writes_sub bodyB1 _ bodyB1_writes (show main_v48_13 ∉ bodyB1_W by decide +kernel), after_of_writes_sub bodyB0 _ bodyB0_writes (show main_v48_13 ∉ bodyB0_W by decide +kernel), after_of_writes_sub condB _ condB_writes (show main_v48_13 ∉ condB_W by decide +kernel), rB5_61, after_of_writes_sub bodyB4 _ bodyB4_writes (show main_v48_11 ∉ bodyB4_W by decide +kernel), after_of_writes_sub bodyB3 _ bodyB3_writes (show main_v48_11 ∉ bodyB3_W by decide +kernel), after_of_writes_sub bodyB2 _ bodyB2_writes (show main_v48_11 ∉ bodyB2_W by decide +kernel), after_of_writes_sub bodyB1 _ bodyB1_writes (show main_v48_11 ∉ bodyB1_W by decide +kernel), after_of_writes_sub bodyB0 _ bodyB0_writes (show main_v48_11 ∉ bodyB0_W by decide +kernel), after_of_writes_sub condB _ condB_writes (show main_v48_11 ∉ condB_W by decide +kernel), e0, after_of_writes_sub bodyB5 _ bodyB5_writes (show main_while1b_v56 ∉ bodyB5_W by decide +kernel), e4]
theorem tripB_14 : tripB X (Proc.devRef .tc main_v48_14) = upd (X (Proc.devRef .tc main_v48_14)) (addf (X (Proc.devRef .tc main_v48_12)) (slc (X (Proc.devRef .tc main_v48_1)) (idxB (X (Proc.devRef .tc main_v48_8))))) (idxB (X (Proc.devRef .tc main_v48_8))) := by
  simp only [tripB, afterL_cons, afterL_nil]
  obtain ⟨e0, e1, e2, e3, e4⟩ := midB X
  rw [rB8_14, rB7, after_of_writes_sub bodyB6 _ bodyB6_writes (show main_v48_14 ∉ bodyB6_W by decide +kernel), after_of_writes_sub bodyB5 _ bodyB5_writes (show main_v48_14 ∉ bodyB5_W by decide +kernel), after_of_writes_sub bodyB4 _ bodyB4_writes (show main_v48_14 ∉ bodyB4_W by decide +kernel), after_of_writes_sub bodyB3 _ bodyB3_writes (show main_v48_14 ∉ bodyB3_W by decide +kernel), after_of_writes_sub bodyB2 _ bodyB2_writes (show main_v48_14 ∉ bodyB2_W by decide +kernel), after_of_writes_sub bodyB1 _ bodyB1_writes (show main_v48_14 ∉ bodyB1_W by decide +kernel), after_of_writes_sub bodyB0 _ bodyB0_writes (show main_v48_14 ∉ bodyB0_W by decide +kernel), after_of_writes_sub condB _ condB_writes (show main_v48_14 ∉ condB_W by decide +kernel), after_of_writes_sub bodyB6 _ bodyB6_writes (show main_while1b_v62 ∉ bodyB6_W by decide +kernel), rB5_62, after_of_writes_sub bodyB4 _ bodyB4_writes (show main_v48_12 ∉ bodyB4_W by decide +kernel), after_of_writes_sub bodyB3 _ bodyB3_writes (show main_v48_12 ∉ bodyB3_W by decide +kernel), after_of_writes_sub bodyB2 _ bodyB2_writes (show main_v48_12 ∉ bodyB2_W by decide +kernel), after_of_writes_sub bodyB1 _ bodyB1_writes (show main_v48_12 ∉ bodyB1_W by decide +kernel), after_of_writes_sub bodyB0 _ bodyB0_writes (show main_v48_12 ∉ bodyB0_W by decide +kernel), after_of_writes_sub condB _ condB_writes (show main_v48_12 ∉ condB_W by decide +kernel), e1, after_of_writes_sub bodyB6 _ bodyB6_writes (show main_while1b_v56 ∉ bodyB6_W by decide +kernel), after_of_writes_sub bodyB5 _ bodyB5_writes (show main_while1b_v56 ∉ bodyB5_W by decide +kernel), e4]

end Cert.ReferenceIdeal.Ops

end
-- ==== Proof.RefRead.lean ====
module

public import proofs.«01_k».proof.Proof.RefStep
public import proofs.«01_k».proof.Proof.Spec
public import Idealize.ShloMosaic.Lib.Pointwise
public import Idealize.ShloMosaic.Lib.DynamicIndex

/-! The reference's shape operations read entry by entry, over the extended reals. -/

@[expose] public section

set_option maxRecDepth 16384

noncomputable section

namespace Cert.ReferenceIdeal.Ops

open Cert.ReferenceIdeal Cert.ReferenceIdeal.Gen Cert.TwoLoops
open Idealize.ShloMosaic hiding ix1 ix2 ix3 eq_ix2 eq_ix3
open Idealize.ShloMosaic.ValueIdx
open Cert.KernelIdeal.Scan (row row_val)

/-- The start is `k` on the leading axis and zero on the others. -/
theorem startAt_clamped {n : IVec S_ 32} {k : Fin 2048} (hn : (n (Shape.Idx.first h_S_)).toInt = k.val) (a : Fin 3) :
    (min (max (startAt n a) 0) (((![2048, 2, 8192] : Fin 3 → ℕ) a - (![1, 2, 8192] : Fin 3 → ℕ) a : ℕ) : Int)).toNat = (![k.val, 0, 0] : Fin 3 → ℕ) a := by
  have hk := k.isLt
  fin_cases a
  · show (min (max ((n (Shape.Idx.first h_S_)).toInt) 0) ((2048 - 1 : ℕ) : Int)).toNat = k.val
    rw [hn]; omega
  · show (min (max ((0#32 : BitVec 32).toInt) 0) ((2 - 2 : ℕ) : Int)).toNat = 0
    decide
  · show (min (max ((0#32 : BitVec 32).toInt) 0) ((8192 - 8192 : ℕ) : Int)).toNat = 0
    decide

theorem slices_row (k : Fin 2048) : S2048x2x8192.Slices ![k.val, 0, 0] S1x2x8192 :=
  ⟨rfl, fun a => by
    have hk := k.isLt
    fin_cases a
    · show k.val + 1 ≤ 2048; omega
    · show 0 + 2 ≤ 2; omega
    · show 0 + 8192 ≤ 8192; omega⟩

theorem slc_at (x : Vec Ideal S2048x2x8192 .f32) {n : IVec S_ 32} {k : Fin 2048} (hn : (n (Shape.Idx.first h_S_)).toInt = k.val)
    (b : Fin 2) (q : Fin 8192) : slc x n (ix2 b q) = x (ix3 k b q) := by
  unfold slc
  rw [Host.dynamicSlice_eq_extractStridedSlice_of_clamp S1x2x8192 x (startAt n) _ ![k.val, 0, 0] (startAt_clamped hn) (slices_row k)]
  refine (shapeCast_apply _ _ _ (ix3 (0 : Fin 1) b q) ?_).trans ?_
  · rw [Shape.rowMajor_val_two, Shape.rowMajor_val_three]
    show (0 * 2 + b.val) * 8192 + q.val = b.val * 8192 + q.val
    omega
  · refine extractStridedSlice_apply _ _ _ _ _ fun a => ?_
    fin_cases a
    · show k.val = k.val + 0; omega
    · show b.val = 0 + b.val; omega
    · show q.val = 0 + q.val; omega

theorem upd_at (x : Vec Ideal S2048x2x8192 .f32) (u : Vec Ideal S2x8192 .f32) {n : IVec S_ 32} {k : Fin 2048}
    (hn : (n (Shape.Idx.first h_S_)).toInt = k.val) (t : Fin 2048) (b : Fin 2) (q : Fin 8192) :
    upd x u n (ix3 t b q) = if t = k then u (ix2 b q) else x (ix3 t b q) := by
  unfold upd
  rw [Host.dynamicUpdateSlice_eq_updateSlice _ _ _ _ ![k.val, 0, 0] (startAt_clamped hn) (slices_row k)]
  unfold updateSlice
  by_cases h : t = k
  · subst h
    rw [dif_pos, if_pos rfl]
    · refine broadcastInDim_apply _ _ _ _ _ fun a => ?_
      fin_cases a
      · show b.val = if (2 : ℕ) = 1 then 0 else b.val - 0; simp
      · show q.val = if (8192 : ℕ) = 1 then 0 else q.val - 0; simp
    · intro a
      fin_cases a
      · show t.val ≤ t.val ∧ t.val < t.val + 1; omega
      · show 0 ≤ b.val ∧ b.val < 0 + 2; omega
      · show 0 ≤ q.val ∧ q.val < 0 + 8192; omega
  · rw [dif_neg, if_neg h]
    intro hin
    have h0 := hin 0
    have h1 : k.val ≤ t.val ∧ t.val < k.val + 1 := h0
    exact h (Fin.ext (by omega))

theorem both_at (x : Vec Ideal S1x8192 .f32) (b : Fin 2) (q : Fin 8192) : both x (ix2 b q) = x (ix2 0 q) := by
  unfold both
  refine broadcastInDim_apply _ _ _ _ _ fun a => ?_
  fin_cases a
  · show (0 : ℕ) = if (1 : ℕ) = 1 then 0 else b.val; simp
  · show q.val = if (8192 : ℕ) = 1 then 0 else q.val; simp

theorem sum2_at (x : Vec Ideal S2x8192 .f32) (q : Fin 8192) : sum2 x (ix1 q) = x (ix2 0 q) + x (ix2 1 q) := by
  unfold sum2
  pointwise
  exact (Fin.sum_univ_one _).trans (Fin.sum_univ_two _)

/-- The word of the index the backward loop reads at its `k`-th trip. -/
theorem idxB_toInt {k : ℕ} (hk : k < 2048) : ((subi (subi (constantI S_ 32 2048#32) (fun _ => Scf.iv 0#32 1#32 k)) (constantI S_ 32 1#32) : IVec S_ 32) (Shape.Idx.first h_S_)).toInt = ((2047 - k : ℕ) : Int) := by
  show ((2048#32 - (0#32 + BitVec.ofNat 32 k * 1#32)) - 1#32 : BitVec 32).toInt = _
  have : ((2048#32 - (0#32 + BitVec.ofNat 32 k * 1#32)) - 1#32 : BitVec 32) = BitVec.ofNat 32 (2047 - k) := by
    apply BitVec.eq_of_toNat_eq
    simp [BitVec.toNat_sub, BitVec.toNat_ofNat]
    omega
  rw [this, toInt_ofNat_of_lt (by omega)]

theorem idxA_toInt {k : ℕ} (hk : k < 2048) : ((fun _ => Scf.iv 0#32 1#32 k : IVec S_ 32) (Shape.Idx.first h_S_)).toInt = (k : Int) := by
  show (0#32 + BitVec.ofNat 32 k * 1#32 : BitVec 32).toInt = _
  have : (0#32 + BitVec.ofNat 32 k * 1#32 : BitVec 32) = BitVec.ofNat 32 k := by simp
  rw [this, toInt_ofNat_of_lt (by omega)]

/-- A sequence-major array laid time-major. -/
theorem timeMajor_at (x : Vec Ideal S4096x8192 .f32) (t : Fin 2048) (b : Fin 2) (q : Fin 8192) :
    transpose S2048x2x8192 [1, 0, 2] (shapeCast S2x2048x8192 x shapeCasts_S4096x8192_S2x2048x8192) transposes_S2x2048x8192_S2048x2x8192_1_0_2 (ix3 t b q)
      = x (ix2 (row b t) q) := by
  refine (transpose_apply _ _ _ _ (ix3 b t q) fun a => ?_).trans ?_
  · fin_cases a <;> rfl
  · refine shapeCast_apply _ _ _ _ ?_
    rw [Shape.rowMajor_val_two, Shape.rowMajor_val_three]
    show (row b t).val * 8192 + q.val = (b.val * 2048 + t.val) * 8192 + q.val
    rw [row_val b t t.isLt]
    omega

/-- And back. -/
theorem seqMajor_at (x : Vec Ideal S2048x2x8192 .f32) (t : Fin 2048) (b : Fin 2) (q : Fin 8192) :
    shapeCast S4096x8192 (transpose S2x2048x8192 [1, 0, 2] x transposes_S2048x2x8192_S2x2048x8192_1_0_2) shapeCasts_S2x2048x8192_S4096x8192 (ix2 (row b t) q)
      = x (ix3 t b q) := by
  refine (shapeCast_apply _ _ _ (ix3 b t q) ?_).trans ?_
  · rw [Shape.rowMajor_val_two, Shape.rowMajor_val_three]
    show (b.val * 2048 + t.val) * 8192 + q.val = (row b t).val * 8192 + q.val
    rw [row_val b t t.isLt]
    omega
  · refine transpose_apply _ _ _ _ _ fun a => ?_
    fin_cases a <;> rfl

end Cert.ReferenceIdeal.Ops

end
-- ==== Proof.RefEntry.lean ====
module

public import proofs.«01_k».proof.Proof.RefRead
public import Idealize.ShloMosaic.Lib.StableHlo.RunRead

/-! The reference's loops at their entries, and its results in what the backward loop leaves. -/

@[expose] public section

set_option maxRecDepth 16384

noncomputable section

namespace Cert.ReferenceIdeal.Ops

open Cert.ReferenceIdeal Cert.ReferenceIdeal.Gen Cert.TwoLoops
open Idealize.ShloMosaic hiding ix1 ix2 ix3 eq_ix2 eq_ix3
open Idealize.ShloMosaic.ValueIdx
open Idealize.ShloMosaic.TcCoe Idealize.ShloMosaic.StableHlo
open Cert.KernelIdeal.Scan (row row_val discRe discIm gOf pOf colOf)

variable (X : Valuation τ sig (Elt Ideal))

/-- The scan's inputs, time-major. -/
abbrev timeMajor (x : Vec Ideal S4096x8192 .f32) : Vec Ideal S2048x2x8192 .f32 :=
  transpose S2048x2x8192 [1, 0, 2] (shapeCast S2x2048x8192 x shapeCasts_S4096x8192_S2x2048x8192) transposes_S2x2048x8192_S2048x2x8192_1_0_2
abbrev seqMajor (x : Vec Ideal S2048x2x8192 .f32) : Vec Ideal S4096x8192 .f32 :=
  shapeCast S4096x8192 (transpose S2x2048x8192 [1, 0, 2] x transposes_S2048x2x8192_S2x2048x8192_1_0_2) shapeCasts_S2x2048x8192_S4096x8192

/-- The step, one per group, and its product with an array of states. -/
def steps (s : FVec Ideal S1x128 .f32) : FVec Ideal S128x64 .f32 :=
  broadcastInDim S128x64 ![0, 1] bcast_S128x1_S128x64_0_1 (broadcastInDim S128x1 ![0] bcast_S128_S128x1_0 (Host.exp (shapeCast S128 s shapeCasts_S1x128_S128)))
def modulus (l : FVec Ideal S1x128x64 .f32) (s : FVec Ideal S1x128 .f32) : FVec Ideal S128x64 .f32 :=
  Host.exp (mulf (minimumf (shapeCast S128x64 l shapeCasts_S1x128x64_S128x64) (broadcastInDim S128x64 ![] bcast_S_S128x64 (constant S_ .f32 0xB8D1B717#32))) (steps s))
def angle (i : FVec Ideal S1x128x64 .f32) (s : FVec Ideal S1x128 .f32) : FVec Ideal S128x64 .f32 :=
  mulf (shapeCast S128x64 i shapeCasts_S1x128x64_S128x64) (steps s)
/-- The eigenvalues as one row. -/
def rowRe (l i : FVec Ideal S1x128x64 .f32) (s : FVec Ideal S1x128 .f32) : FVec Ideal S1x8192 .f32 :=
  broadcastInDim S1x8192 ![1] bcast_S8192_S1x8192_1 (shapeCast S8192 (mulf (modulus l s) (Host.cos (angle i s))) shapeCasts_S128x64_S8192)
def rowIm (l i : FVec Ideal S1x128x64 .f32) (s : FVec Ideal S1x128 .f32) : FVec Ideal S1x8192 .f32 :=
  broadcastInDim S1x8192 ![1] bcast_S8192_S1x8192_1 (shapeCast S8192 (mulf (modulus l s) (Host.sin (angle i s))) shapeCasts_S128x64_S8192)

theorem oA_0 : after opsA X (Proc.devRef .tc main_v31_0) = timeMajor (X (Proc.devRef .tc main_arg5)) := by
  after_results <;> rfl
theorem oA_1 : after opsA X (Proc.devRef .tc main_v31_1) = timeMajor (X (Proc.devRef .tc main_arg6)) := by
  after_results <;> rfl
theorem oA_23 : after opsA X (Proc.devRef .tc main_v23) = rowRe (X (Proc.devRef .tc main_arg0)) (X (Proc.devRef .tc main_arg1)) (X (Proc.devRef .tc main_arg2)) := by
  unfold rowRe modulus angle steps
  after_results_entrywise []
theorem oA_24 : after opsA X (Proc.devRef .tc main_v24) = rowIm (X (Proc.devRef .tc main_arg0)) (X (Proc.devRef .tc main_arg1)) (X (Proc.devRef .tc main_arg2)) := by
  unfold rowIm modulus angle steps
  after_results_entrywise []
theorem oA_25 : after opsA X (Proc.devRef .tc main_v25) = rowRe (X (Proc.devRef .tc main_arg0)) (X (Proc.devRef .tc main_arg1)) (X (Proc.devRef .tc main_arg2)) := by
  unfold rowRe modulus angle steps
  after_results_entrywise []
theorem oA_26 : after opsA X (Proc.devRef .tc main_v26) = rowIm (X (Proc.devRef .tc main_arg0)) (X (Proc.devRef .tc main_arg1)) (X (Proc.devRef .tc main_arg2)) := by
  unfold rowIm modulus angle steps
  after_results_entrywise []
theorem oA_2 : after opsA X (Proc.devRef .tc main_v31_2) = rowRe (X (Proc.devRef .tc main_arg0)) (X (Proc.devRef .tc main_arg1)) (X (Proc.devRef .tc main_arg2)) := by
  unfold rowRe modulus angle steps
  after_results_entrywise []
theorem oA_3 : after opsA X (Proc.devRef .tc main_v31_3) = rowIm (X (Proc.devRef .tc main_arg0)) (X (Proc.devRef .tc main_arg1)) (X (Proc.devRef .tc main_arg2)) := by
  unfold rowIm modulus angle steps
  after_results_entrywise []
theorem oA_4 : after opsA X (Proc.devRef .tc main_v31_4) = rowRe (X (Proc.devRef .tc main_arg0)) (X (Proc.devRef .tc main_arg1)) (X (Proc.devRef .tc main_arg2)) := by
  unfold rowRe modulus angle steps
  after_results_entrywise []
theorem oA_5 : after opsA X (Proc.devRef .tc main_v31_5) = rowIm (X (Proc.devRef .tc main_arg0)) (X (Proc.devRef .tc main_arg1)) (X (Proc.devRef .tc main_arg2)) := by
  unfold rowIm modulus angle steps
  after_results_entrywise []
theorem oA_7 : after opsA X (Proc.devRef .tc main_v31_7) = broadcastInDim S2x8192 ![] bcast_S_S2x8192 (constant (F := Ideal) S_ .f32 0x00000000#32) := by
  after_results <;> rfl
theorem oA_8 : after opsA X (Proc.devRef .tc main_v31_8) = broadcastInDim S2x8192 ![] bcast_S_S2x8192 (constant (F := Ideal) S_ .f32 0x00000000#32) := by
  after_results <;> rfl

theorem oB_0 : after opsB X (Proc.devRef .tc main_v48_0) = timeMajor (X (Proc.devRef .tc main_arg7)) := by
  after_results <;> rfl
theorem oB_1 : after opsB X (Proc.devRef .tc main_v48_1) = timeMajor (X (Proc.devRef .tc main_arg8)) := by
  after_results <;> rfl
theorem oB_2 : after opsB X (Proc.devRef .tc main_v48_2) = X (Proc.devRef .tc main_v31_11) := by
  after_results <;> rfl
theorem oB_3 : after opsB X (Proc.devRef .tc main_v48_3) = X (Proc.devRef .tc main_v31_12) := by
  after_results <;> rfl
theorem oB_4 : after opsB X (Proc.devRef .tc main_v48_4) = X (Proc.devRef .tc main_v23) := by
  after_results <;> rfl
theorem oB_5 : after opsB X (Proc.devRef .tc main_v48_5) = X (Proc.devRef .tc main_v24) := by
  after_results <;> rfl
theorem oB_6 : after opsB X (Proc.devRef .tc main_v48_6) = X (Proc.devRef .tc main_v25) := by
  after_results <;> rfl
theorem oB_7 : after opsB X (Proc.devRef .tc main_v48_7) = X (Proc.devRef .tc main_v26) := by
  after_results <;> rfl
theorem oB_9 : after opsB X (Proc.devRef .tc main_v48_9) = broadcastInDim S8192 ![] bcast_S_S8192 (constant (F := Ideal) S_ .f32 0x00000000#32) := by
  after_results <;> rfl
theorem oB_10 : after opsB X (Proc.devRef .tc main_v48_10) = broadcastInDim S8192 ![] bcast_S_S8192 (constant (F := Ideal) S_ .f32 0x00000000#32) := by
  after_results <;> rfl
theorem oB_11 : after opsB X (Proc.devRef .tc main_v48_11) = broadcastInDim S2x8192 ![] bcast_S_S2x8192 (constant (F := Ideal) S_ .f32 0x00000000#32) := by
  after_results <;> rfl
theorem oB_12 : after opsB X (Proc.devRef .tc main_v48_12) = broadcastInDim S2x8192 ![] bcast_S_S2x8192 (constant (F := Ideal) S_ .f32 0x00000000#32) := by
  after_results <;> rfl

theorem oC_50 : after opsC X (Proc.devRef .tc main_v50) = seqMajor (X (Proc.devRef .tc main_v48_14)) := by
  after_results <;> rfl
theorem oC_52 : after opsC X (Proc.devRef .tc main_v52) = seqMajor (X (Proc.devRef .tc main_v48_13)) := by
  after_results <;> rfl
theorem oC_53 : after opsC X (Proc.devRef .tc main_v53) = (shapeCast S128x64 (X (Proc.devRef .tc main_v48_9)) shapeCasts_S8192_S128x64 : Vec Ideal S128x64 .f32) := by
  after_results <;> rfl
theorem oC_54 : after opsC X (Proc.devRef .tc main_v54) = (shapeCast S128x64 (X (Proc.devRef .tc main_v48_10)) shapeCasts_S8192_S128x64 : Vec Ideal S128x64 .f32) := by
  after_results <;> rfl

theorem flat_at (x : Vec Ideal S8192 .f32) (g : Fin 128) (p : Fin 64) : shapeCast S128x64 x shapeCasts_S8192_S128x64 (ix2 g p) = x (ix1 (colOf g p)) := by
  refine shapeCast_apply _ _ _ _ ?_
  rw [Shape.rowMajor_val_one, Shape.rowMajor_val_two]
  show 64 * g.val + p.val = g.val * 64 + p.val
  omega

theorem unflat_at (x : Vec Ideal S128x64 .f32) (g : Fin 128) (p : Fin 64) : shapeCast S8192 x shapeCasts_S128x64_S8192 (ix1 (colOf g p)) = x (ix2 g p) := by
  refine shapeCast_apply _ _ _ _ ?_
  rw [Shape.rowMajor_val_one, Shape.rowMajor_val_two]
  show g.val * 64 + p.val = 64 * g.val + p.val
  omega

theorem lanes_at (x : FVec Ideal S128x1 .f32) (g : Fin 128) (p : Fin 64) :
    broadcastInDim S128x64 ![0, 1] bcast_S128x1_S128x64_0_1 x (ix2 g p) = x (ix2 g 0) := by
  refine broadcastInDim_apply _ _ _ _ _ fun a => ?_
  fin_cases a
  · show g.val = if (128 : ℕ) = 1 then 0 else g.val; simp
  · show (0 : ℕ) = if (1 : ℕ) = 1 then 0 else p.val; simp

theorem col_at (x : FVec Ideal S128 .f32) (g : Fin 128) : broadcastInDim S128x1 ![0] bcast_S128_S128x1_0 x (ix2 g 0) = x (ix1 g) := by
  refine broadcastInDim_apply _ _ _ _ _ fun a => ?_
  fin_cases a
  show g.val = if (128 : ℕ) = 1 then 0 else g.val; simp

theorem step_at (s : FVec Ideal S1x128 .f32) (g : Fin 128) : shapeCast S128 s shapeCasts_S1x128_S128 (ix1 g) = s (ix2 0 g) := by
  refine shapeCast_apply _ _ _ _ ?_
  rw [Shape.rowMajor_val_one, Shape.rowMajor_val_two]
  show 0 * 128 + g.val = g.val
  omega

theorem steps_at (s : Vec Ideal S1x128 .f32) (g : Fin 128) (p : Fin 64) : steps s (ix2 g p) = Ideal.exp (s (ix2 0 g)) := by
  unfold steps
  rw [lanes_at, col_at]
  exact congrArg Ideal.exp (step_at s g)

theorem drop_at (x : Vec Ideal S1x128x64 .f32) (g : Fin 128) (p : Fin 64) : shapeCast S128x64 x shapeCasts_S1x128x64_S128x64 (ix2 g p) = x (ix3 0 g p) := by
  refine shapeCast_apply _ _ _ _ ?_
  rw [Shape.rowMajor_val_two, Shape.rowMajor_val_three]
  show (0 * 128 + g.val) * 64 + p.val = g.val * 64 + p.val
  omega

theorem modulus_at (l : Vec Ideal S1x128x64 .f32) (s : Vec Ideal S1x128 .f32) (g : Fin 128) (p : Fin 64) :
    modulus l s (ix2 g p) = Ideal.exp (min (l (ix3 0 g p)) (Ideal.ofBits .f32 0xB8D1B717#32) * Ideal.exp (s (ix2 0 g))) := by
  unfold modulus
  refine congrArg Ideal.exp (congrArg₂ (fun y z : EReal => y * z) (congrArg₂ (fun y z : EReal => min y z) (drop_at l g p) ?_) (steps_at s g p))
  exact broadcastInDim_apply _ _ _ _ (Shape.Idx.first h_S_) fun a => a.elim0

theorem angle_at (i : Vec Ideal S1x128x64 .f32) (s : Vec Ideal S1x128 .f32) (g : Fin 128) (p : Fin 64) :
    angle i s (ix2 g p) = i (ix3 0 g p) * Ideal.exp (s (ix2 0 g)) := by
  unfold angle
  exact congrArg₂ (fun y z : EReal => y * z) (drop_at i g p) (steps_at s g p)

theorem spread_at (x : Vec Ideal S8192 .f32) (q : Fin 8192) : broadcastInDim S1x8192 ![1] bcast_S8192_S1x8192_1 x (ix2 0 q) = x (ix1 q) := by
  refine broadcastInDim_apply _ _ _ _ _ fun a => ?_
  fin_cases a
  show q.val = if (8192 : ℕ) = 1 then 0 else q.val; simp

theorem rowRe_at (l i : Vec Ideal S1x128x64 .f32) (s : Vec Ideal S1x128 .f32) (g : Fin 128) (p : Fin 64) :
    rowRe l i s (ix2 0 (colOf g p)) = discRe (l (ix3 0 g p)) (i (ix3 0 g p)) (s (ix2 0 g)) := by
  unfold rowRe
  refine (spread_at _ _).trans ((unflat_at _ g p).trans ?_)
  exact congrArg₂ (fun y z : EReal => y * Ideal.cos z) (modulus_at l s g p) (angle_at i s g p)

theorem rowIm_at (l i : Vec Ideal S1x128x64 .f32) (s : Vec Ideal S1x128 .f32) (g : Fin 128) (p : Fin 64) :
    rowIm l i s (ix2 0 (colOf g p)) = discIm (l (ix3 0 g p)) (i (ix3 0 g p)) (s (ix2 0 g)) := by
  unfold rowIm
  refine (spread_at _ _).trans ((unflat_at _ g p).trans ?_)
  exact congrArg₂ (fun y z : EReal => y * Ideal.sin z) (modulus_at l s g p) (angle_at i s g p)

end Cert.ReferenceIdeal.Ops

end
-- ==== Proof.RefFwd.lean ====
module

public import proofs.«01_k».proof.Proof.RefEntry

/-! What the reference computes: its two loops by induction on their trips. -/

@[expose] public section

set_option maxRecDepth 16384

noncomputable section

namespace Cert.ReferenceIdeal.Ops

open Cert.ReferenceIdeal Cert.ReferenceIdeal.Gen Cert.TwoLoops
open Idealize.ShloMosaic hiding ix1 ix2 ix3 eq_ix2 eq_ix3
open Idealize.ShloMosaic.ValueIdx
open Idealize.ShloMosaic.TcCoe Idealize.ShloMosaic.StableHlo
open Idealize.SL.Sem
open Cert.KernelIdeal.Scan (Args IsPair row row_val seqOf gOf pOf colOf lam)

theorem exists_col (q : Fin 8192) : ∃ g p, q = colOf g p :=
  ⟨gOf q, pOf q, Fin.ext (by show q.val = 64 * (q.val / 64) + q.val % 64; omega)⟩

theorem row_pair {A : Args} (hA : A.IsReal) (q : Fin 8192) : IsPair (rowRe A.l A.i A.s (ix2 0 q)) (rowIm A.l A.i A.s (ix2 0 q)) (A.a q) := by
  obtain ⟨g, p, rfl⟩ := exists_col q
  rw [rowRe_at, rowIm_at]
  exact hA.a_pair g p

theorem zeros2_at (b : Fin 2) (q : Fin 8192) :
    (broadcastInDim S2x8192 ![] bcast_S_S2x8192 (constant (F := Ideal) S_ .f32 0x00000000#32) : FVec Ideal S2x8192 .f32) (ix2 b q) = ((0 : ℝ) : EReal) := by
  refine (broadcastInDim_apply _ _ _ _ (Shape.Idx.first h_S_) fun a => a.elim0).trans ?_
  exact Ideal.ofBits_zero .f32

theorem zeros1_at (q : Fin 8192) :
    (broadcastInDim S8192 ![] bcast_S_S8192 (constant (F := Ideal) S_ .f32 0x00000000#32) : FVec Ideal S8192 .f32) (ix1 q) = ((0 : ℝ) : EReal) := by
  refine (broadcastInDim_apply _ _ _ _ (Shape.Idx.first h_S_) fun a => a.elim0).trans ?_
  exact Ideal.ofBits_zero .f32

/-- The conjugate of `a` times `z`, as the backward loop writes it. -/
theorem conjMul {x y x' y' : EReal} {a z : ℂ} (h : IsPair x y a) (h' : IsPair x' y' z) :
    IsPair (y * y' + x * x') (x * y' + y * -x') ((starRingEnd ℂ) a * z) := by
  obtain ⟨rfl, rfl⟩ := h
  obtain ⟨rfl, rfl⟩ := h'
  constructor
  · rw [← EReal.coe_mul, ← EReal.coe_mul, ← EReal.coe_add, Complex.mul_re, Complex.conj_re, Complex.conj_im]
    congr 1; ring
  · rw [← EReal.coe_neg, ← EReal.coe_mul, ← EReal.coe_mul, ← EReal.coe_add, Complex.mul_im, Complex.conj_re, Complex.conj_im]
    congr 1; ring

/-- The sum of `z * conj w` over both sequences, added to what came before, as the backward loop writes it. -/
theorem sumStep {p q x0 y0 x1 y1 u0 v0 u1 v1 : EReal} {P z0 z1 w0 w1 : ℂ} (hP : IsPair p q P) (h0 : IsPair x0 y0 z0) (h1 : IsPair x1 y1 z1)
    (g0 : IsPair u0 v0 w0) (g1 : IsPair u1 v1 w1) :
    IsPair (p + (y0 * v0 + y1 * v1) + (x0 * u0 + x1 * u1)) (q + (y0 * u0 + y1 * u1) + (-x0 * v0 + -x1 * v1))
      (P + (z0 * (starRingEnd ℂ) w0 + z1 * (starRingEnd ℂ) w1)) := by
  obtain ⟨rfl, rfl⟩ := hP
  obtain ⟨rfl, rfl⟩ := h0
  obtain ⟨rfl, rfl⟩ := h1
  obtain ⟨rfl, rfl⟩ := g0
  obtain ⟨rfl, rfl⟩ := g1
  simp only [← EReal.coe_neg, ← EReal.coe_mul, ← EReal.coe_add]
  constructor
  · congr 1
    simp only [Complex.add_re, Complex.mul_re, Complex.conj_re, Complex.conj_im]
    ring
  · congr 1
    simp only [Complex.add_im, Complex.mul_im, Complex.conj_re, Complex.conj_im]
    ring

variable (m : (ℓ : Loc nD τ sig) → Buf (Elt Ideal) ℓ) (c : Dev nD)

/-- The arguments the scan's gradient depends on, as the reference is given them. -/
def refArgs : Args where
  l := m ((c.tc : Thread nD τ).loc main_arg0)
  i := m ((c.tc : Thread nD τ).loc main_arg1)
  s := m ((c.tc : Thread nD τ).loc main_arg2)
  ur := m ((c.tc : Thread nD τ).loc main_arg5)
  ui := m ((c.tc : Thread nD τ).loc main_arg6)
  dr := m ((c.tc : Thread nD τ).loc main_arg7)
  di := m ((c.tc : Thread nD τ).loc main_arg8)

theorem atA_v31_0 : ∀ k, atA m k c (Proc.devRef .tc main_v31_0) = timeMajor (refArgs m c).ur
  | 0 => oA_0 _
  | k + 1 => (tripA_keep (atA m k c) main_v31_0 (by decide +kernel) (by decide +kernel) (by decide +kernel) (by decide +kernel) (by decide +kernel) (by decide +kernel) (by decide +kernel) (by decide +kernel) (by decide +kernel) ).trans (atA_v31_0 k)
theorem atA_v31_1 : ∀ k, atA m k c (Proc.devRef .tc main_v31_1) = timeMajor (refArgs m c).ui
  | 0 => oA_1 _
  | k + 1 => (tripA_keep (atA m k c) main_v31_1 (by decide +kernel) (by decide +kernel) (by decide +kernel) (by decide +kernel) (by decide +kernel) (by decide +kernel) (by decide +kernel) (by decide +kernel) (by decide +kernel) ).trans (atA_v31_1 k)
theorem atA_v31_2 : ∀ k, atA m k c (Proc.devRef .tc main_v31_2) = rowRe (refArgs m c).l (refArgs m c).i (refArgs m c).s
  | 0 => oA_2 _
  | k + 1 => (tripA_keep (atA m k c) main_v31_2 (by decide +kernel) (by decide +kernel) (by decide +kernel) (by decide +kernel) (by decide +kernel) (by decide +kernel) (by decide +kernel) (by decide +kernel) (by decide +kernel) ).trans (atA_v31_2 k)
theorem atA_v31_3 : ∀ k, atA m k c (Proc.devRef .tc main_v31_3) = rowIm (refArgs m c).l (refArgs m c).i (refArgs m c).s
  | 0 => oA_3 _
  | k + 1 => (tripA_keep (atA m k c) main_v31_3 (by decide +kernel) (by decide +kernel) (by decide +kernel) (by decide +kernel) (by decide +kernel) (by decide +kernel) (by decide +kernel) (by decide +kernel) (by decide +kernel) ).trans (atA_v31_3 k)
theorem atA_v31_4 : ∀ k, atA m k c (Proc.devRef .tc main_v31_4) = rowRe (refArgs m c).l (refArgs m c).i (refArgs m c).s
  | 0 => oA_4 _
  | k + 1 => (tripA_keep (atA m k c) main_v31_4 (by decide +kernel) (by decide +kernel) (by decide +kernel) (by decide +kernel) (by decide +kernel) (by decide +kernel) (by decide +kernel) (by decide +kernel) (by decide +kernel) ).trans (atA_v31_4 k)
theorem atA_v31_5 : ∀ k, atA m k c (Proc.devRef .tc main_v31_5) = rowIm (refArgs m c).l (refArgs m c).i (refArgs m c).s
  | 0 => oA_5 _
  | k + 1 => (tripA_keep (atA m k c) main_v31_5 (by decide +kernel) (by decide +kernel) (by decide +kernel) (by decide +kernel) (by decide +kernel) (by decide +kernel) (by decide +kernel) (by decide +kernel) (by decide +kernel) ).trans (atA_v31_5 k)
theorem atA_v23 : ∀ k, atA m k c (Proc.devRef .tc main_v23) = rowRe (refArgs m c).l (refArgs m c).i (refArgs m c).s
  | 0 => oA_23 _
  | k + 1 => (tripA_keep (atA m k c) main_v23 (by decide +kernel) (by decide +kernel) (by decide +kernel) (by decide +kernel) (by decide +kernel) (by decide +kernel) (by decide +kernel) (by decide +kernel) (by decide +kernel) ).trans (atA_v23 k)
theorem atA_v24 : ∀ k, atA m k c (Proc.devRef .tc main_v24) = rowIm (refArgs m c).l (refArgs m c).i (refArgs m c).s
  | 0 => oA_24 _
  | k + 1 => (tripA_keep (atA m k c) main_v24 (by decide +kernel) (by decide +kernel) (by decide +kernel) (by decide +kernel) (by decide +kernel) (by decide +kernel) (by decide +kernel) (by decide +kernel) (by decide +kernel) ).trans (atA_v24 k)
theorem atA_v25 : ∀ k, atA m k c (Proc.devRef .tc main_v25) = rowRe (refArgs m c).l (refArgs m c).i (refArgs m c).s
  | 0 => oA_25 _
  | k + 1 => (tripA_keep (atA m k c) main_v25 (by decide +kernel) (by decide +kernel) (by decide +kernel) (by decide +kernel) (by decide +kernel) (by decide +kernel) (by decide +kernel) (by decide +kernel) (by decide +kernel) ).trans (atA_v25 k)
theorem atA_v26 : ∀ k, atA m k c (Proc.devRef .tc main_v26) = rowIm (refArgs m c).l (refArgs m c).i (refArgs m c).s
  | 0 => oA_26 _
  | k + 1 => (tripA_keep (atA m k c) main_v26 (by decide +kernel) (by decide +kernel) (by decide +kernel) (by decide +kernel) (by decide +kernel) (by decide +kernel) (by decide +kernel) (by decide +kernel) (by decide +kernel) ).trans (atA_v26 k)
theorem atA_arg7 : ∀ k, atA m k c (Proc.devRef .tc main_arg7) = (refArgs m c).dr
  | 0 => after_of_writes_sub opsA (launchContents m c) opsA_writes (show main_arg7 ∉ opsA_W by decide +kernel)
  | k + 1 => (tripA_keep (atA m k c) main_arg7 (by decide +kernel) (by decide +kernel) (by decide +kernel) (by decide +kernel) (by decide +kernel) (by decide +kernel) (by decide +kernel) (by decide +kernel) (by decide +kernel) ).trans (atA_arg7 k)
theorem atA_arg8 : ∀ k, atA m k c (Proc.devRef .tc main_arg8) = (refArgs m c).di
  | 0 => after_of_writes_sub opsA (launchContents m c) opsA_writes (show main_arg8 ∉ opsA_W by decide +kernel)
  | k + 1 => (tripA_keep (atA m k c) main_arg8 (by decide +kernel) (by decide +kernel) (by decide +kernel) (by decide +kernel) (by decide +kernel) (by decide +kernel) (by decide +kernel) (by decide +kernel) (by decide +kernel) ).trans (atA_arg8 k)

variable {m c} (hA : (refArgs m c).IsReal)
include hA

/-- Before the forward loop's `k`-th test the carried pair is the state before step `k`. -/
theorem atA_state (b : Fin 2) (q : Fin 8192) : ∀ k, k ≤ 2048 →
    IsPair ((atA m k c (Proc.devRef .tc main_v31_7) : Vec Ideal S2x8192 .f32) (ix2 b q)) ((atA m k c (Proc.devRef .tc main_v31_8) : Vec Ideal S2x8192 .f32) (ix2 b q)) ((refArgs m c).st b q k)
  | 0, _ => by
    rw [show atA m 0 c (Proc.devRef .tc main_v31_7) = _ from oA_7 _, show atA m 0 c (Proc.devRef .tc main_v31_8) = _ from oA_8 _, zeros2_at]
    exact IsPair.zero
  | k + 1, hk => by
    have ih := atA_state b q k (by omega)
    have hn : ((atA m k c (Proc.devRef .tc main_v31_6) : IVec S_ 32) (Shape.Idx.first h_S_)).toInt = ((⟨k, by omega⟩ : Fin 2048).val : Int) := by
      rw [atA_ctr]; exact idxA_toInt (by omega)
    have hu := hA.u_pair b q k
    have e := (row_pair hA q).mul ih |>.add hu
    rw [show atA m (k + 1) c (Proc.devRef .tc main_v31_7) = _ from tripA_7 (atA m k c), show atA m (k + 1) c (Proc.devRef .tc main_v31_8) = _ from tripA_8 (atA m k c)]
    have r0 : slc (atA m k c (Proc.devRef .tc main_v31_0)) (atA m k c (Proc.devRef .tc main_v31_6)) (ix2 b q) = (refArgs m c).ur (ix2 (row b k) q) := by
      rw [slc_at _ hn, atA_v31_0]; exact timeMajor_at _ _ _ _
    have r1 : slc (atA m k c (Proc.devRef .tc main_v31_1)) (atA m k c (Proc.devRef .tc main_v31_6)) (ix2 b q) = (refArgs m c).ui (ix2 (row b k) q) := by
      rw [slc_at _ hn, atA_v31_1]; exact timeMajor_at _ _ _ _
    have b2 : both (atA m k c (Proc.devRef .tc main_v31_2)) (ix2 b q) = rowRe (refArgs m c).l (refArgs m c).i (refArgs m c).s (ix2 0 q) := by rw [both_at, atA_v31_2]
    have b3 : both (atA m k c (Proc.devRef .tc main_v31_3)) (ix2 b q) = rowIm (refArgs m c).l (refArgs m c).i (refArgs m c).s (ix2 0 q) := by rw [both_at, atA_v31_3]
    have b4 : both (atA m k c (Proc.devRef .tc main_v31_4)) (ix2 b q) = rowRe (refArgs m c).l (refArgs m c).i (refArgs m c).s (ix2 0 q) := by rw [both_at, atA_v31_4]
    have b5 : both (atA m k c (Proc.devRef .tc main_v31_5)) (ix2 b q) = rowIm (refArgs m c).l (refArgs m c).i (refArgs m c).s (ix2 0 q) := by rw [both_at, atA_v31_5]
    generalize slc (atA m k c (Proc.devRef .tc main_v31_0)) (atA m k c (Proc.devRef .tc main_v31_6)) = y0 at r0 ⊢
    generalize slc (atA m k c (Proc.devRef .tc main_v31_1)) (atA m k c (Proc.devRef .tc main_v31_6)) = y1 at r1 ⊢
    generalize both (atA m k c (Proc.devRef .tc main_v31_2)) = y2 at b2 ⊢
    generalize both (atA m k c (Proc.devRef .tc main_v31_3)) = y3 at b3 ⊢
    generalize both (atA m k c (Proc.devRef .tc main_v31_4)) = y4 at b4 ⊢
    generalize both (atA m k c (Proc.devRef .tc main_v31_5)) = y5 at b5 ⊢
    generalize (atA m k c (Proc.devRef .tc main_v31_7) : Vec Ideal S2x8192 .f32) = y7 at e ⊢
    generalize (atA m k c (Proc.devRef .tc main_v31_8) : Vec Ideal S2x8192 .f32) = y8 at e ⊢
    rw [← b2, ← b3, ← r0, ← r1] at e
    refine ⟨e.1, (?_ : _ = _).trans e.2⟩
    show y4 (ix2 b q) * y8 (ix2 b q) + y5 (ix2 b q) * y7 (ix2 b q) + y1 (ix2 b q) = y2 (ix2 b q) * y8 (ix2 b q) + y3 (ix2 b q) * y7 (ix2 b q) + y1 (ix2 b q)
    rw [b2, b3, b4, b5]

/-- The rows written so far are the states before their steps. -/
theorem atA_rows (b : Fin 2) (q : Fin 8192) (t : Fin 2048) : ∀ k, k ≤ 2048 → t.val < k →
    IsPair ((atA m k c (Proc.devRef .tc main_v31_11) : Vec Ideal S2048x2x8192 .f32) (ix3 t b q)) ((atA m k c (Proc.devRef .tc main_v31_12) : Vec Ideal S2048x2x8192 .f32) (ix3 t b q)) ((refArgs m c).st b q t.val)
  | 0, _, h => absurd h (Nat.not_lt_zero _)
  | k + 1, hk, h => by
    have hn : ((atA m k c (Proc.devRef .tc main_v31_6) : IVec S_ 32) (Shape.Idx.first h_S_)).toInt = ((⟨k, by omega⟩ : Fin 2048).val : Int) := by
      rw [atA_ctr]; exact idxA_toInt (by omega)
    rw [show atA m (k + 1) c (Proc.devRef .tc main_v31_11) = _ from tripA_11 (atA m k c), show atA m (k + 1) c (Proc.devRef .tc main_v31_12) = _ from tripA_12 (atA m k c),
      upd_at _ _ hn, upd_at _ _ hn]
    by_cases ht : t.val = k
    · subst ht
      rw [if_pos rfl, if_pos rfl]
      exact atA_state hA b q t.val (by omega)
    · have ht' : ¬ t = (⟨k, by omega⟩ : Fin 2048) := fun h => ht (congrArg Fin.val h)
      rw [if_neg ht', if_neg ht']
      exact atA_rows b q t k (by omega) (by omega)

end Cert.ReferenceIdeal.Ops

end
-- ==== Proof.RefBwd.lean ====
module

public import proofs.«01_k».proof.Proof.RefFwd

/-! The reference's backward loop by induction on its trips, and its results. -/

@[expose] public section

set_option maxRecDepth 16384

noncomputable section

namespace Cert.ReferenceIdeal.Ops

open Cert.ReferenceIdeal Cert.ReferenceIdeal.Gen Cert.TwoLoops
open Idealize.ShloMosaic hiding ix1 ix2 ix3 eq_ix2 eq_ix3
open Idealize.ShloMosaic.ValueIdx
open Idealize.ShloMosaic.TcCoe Idealize.ShloMosaic.StableHlo
open Idealize.SL.Sem
open Cert.KernelIdeal.Scan (Args IsPair row row_val seqOf gOf pOf colOf lam)

variable (m : (ℓ : Loc nD τ sig) → Buf (Elt Ideal) ℓ) (c : Dev nD)

theorem atB_v48_0 : ∀ k, atB m k c (Proc.devRef .tc main_v48_0) = timeMajor (refArgs m c).dr
  | 0 => (oB_0 (after condA (atA m 2048 c))).trans (congrArg timeMajor ((after_of_writes_sub condA _ condA_writes (show main_arg7 ∉ condA_W by decide +kernel)).trans (atA_arg7 m c 2048)))
  | k + 1 => (tripB_keep (atB m k c) main_v48_0 (by decide +kernel) (by decide +kernel) (by decide +kernel) (by decide +kernel) (by decide +kernel) (by decide +kernel) (by decide +kernel) (by decide +kernel) (by decide +kernel) (by decide +kernel) ).trans (atB_v48_0 k)
theorem atB_v48_1 : ∀ k, atB m k c (Proc.devRef .tc main_v48_1) = timeMajor (refArgs m c).di
  | 0 => (oB_1 (after condA (atA m 2048 c))).trans (congrArg timeMajor ((after_of_writes_sub condA _ condA_writes (show main_arg8 ∉ condA_W by decide +kernel)).trans (atA_arg8 m c 2048)))
  | k + 1 => (tripB_keep (atB m k c) main_v48_1 (by decide +kernel) (by decide +kernel) (by decide +kernel) (by decide +kernel) (by decide +kernel) (by decide +kernel) (by decide +kernel) (by decide +kernel) (by decide +kernel) (by decide +kernel) ).trans (atB_v48_1 k)
theorem atB_v48_2 : ∀ k, atB m k c (Proc.devRef .tc main_v48_2) = atA m 2048 c (Proc.devRef .tc main_v31_11)
  | 0 => (oB_2 (after condA (atA m 2048 c))).trans (after_of_writes_sub condA _ condA_writes (show main_v31_11 ∉ condA_W by decide +kernel))
  | k + 1 => (tripB_keep (atB m k c) main_v48_2 (by decide +kernel) (by decide +kernel) (by decide +kernel) (by decide +kernel) (by decide +kernel) (by decide +kernel) (by decide +kernel) (by decide +kernel) (by decide +kernel) (by decide +kernel) ).trans (atB_v48_2 k)
theorem atB_v48_3 : ∀ k, atB m k c (Proc.devRef .tc main_v48_3) = atA m 2048 c (Proc.devRef .tc main_v31_12)
  | 0 => (oB_3 (after condA (atA m 2048 c))).trans (after_of_writes_sub condA _ condA_writes (show main_v31_12 ∉ condA_W by decide +kernel))
  | k + 1 => (tripB_keep (atB m k c) main_v48_3 (by decide +kernel) (by decide +kernel) (by decide +kernel) (by decide +kernel) (by decide +kernel) (by decide +kernel) (by decide +kernel) (by decide +kernel) (by decide +kernel) (by decide +kernel) ).trans (atB_v48_3 k)
theorem atB_v48_4 : ∀ k, atB m k c (Proc.devRef .tc main_v48_4) = rowRe (refArgs m c).l (refArgs m c).i (refArgs m c).s
  | 0 => (oB_4 (after condA (atA m 2048 c))).trans ((after_of_writes_sub condA _ condA_writes (show main_v23 ∉ condA_W by decide +kernel)).trans (atA_v23 m c 2048))
  | k + 1 => (tripB_keep (atB m k c) main_v48_4 (by decide +kernel) (by decide +kernel) (by decide +kernel) (by decide +kernel) (by decide +kernel) (by decide +kernel) (by decide +kernel) (by decide +kernel) (by decide +kernel) (by decide +kernel) ).trans (atB_v48_4 k)
theorem atB_v48_5 : ∀ k, atB m k c (Proc.devRef .tc main_v48_5) = rowIm (refArgs m c).l (refArgs m c).i (refArgs m c).s
  | 0 => (oB_5 (after condA (atA m 2048 c))).trans ((after_of_writes_sub condA _ condA_writes (show main_v24 ∉ condA_W by decide +kernel)).trans (atA_v24 m c 2048))
  | k + 1 => (tripB_keep (atB m k c) main_v48_5 (by decide +kernel) (by decide +kernel) (by decide +kernel) (by decide +kernel) (by decide +kernel) (by decide +kernel) (by decide +kernel) (by decide +kernel) (by decide +kernel) (by decide +kernel) ).trans (atB_v48_5 k)
theorem atB_v48_6 : ∀ k, atB m k c (Proc.devRef .tc main_v48_6) = rowRe (refArgs m c).l (refArgs m c).i (refArgs m c).s
  | 0 => (oB_6 (after condA (atA m 2048 c))).trans ((after_of_writes_sub condA _ condA_writes (show main_v25 ∉ condA_W by decide +kernel)).trans (atA_v25 m c 2048))
  | k + 1 => (tripB_keep (atB m k c) main_v48_6 (by decide +kernel) (by decide +kernel) (by decide +kernel) (by decide +kernel) (by decide +kernel) (by decide +kernel) (by decide +kernel) (by decide +kernel) (by decide +kernel) (by decide +kernel) ).trans (atB_v48_6 k)
theorem atB_v48_7 : ∀ k, atB m k c (Proc.devRef .tc main_v48_7) = rowIm (refArgs m c).l (refArgs m c).i (refArgs m c).s
  | 0 => (oB_7 (after condA (atA m 2048 c))).trans ((after_of_writes_sub condA _ condA_writes (show main_v26 ∉ condA_W by decide +kernel)).trans (atA_v26 m c 2048))
  | k + 1 => (tripB_keep (atB m k c) main_v48_7 (by decide +kernel) (by decide +kernel) (by decide +kernel) (by decide +kernel) (by decide +kernel) (by decide +kernel) (by decide +kernel) (by decide +kernel) (by decide +kernel) (by decide +kernel) ).trans (atB_v48_7 k)

/-- The gradients of the states at the backward loop's `k`-th trip, and the states it reads. -/
def LR (k : ℕ) : FVec Ideal S2x8192 .f32 := addf (atB m k c (Proc.devRef .tc main_v48_11)) (slc (atB m k c (Proc.devRef .tc main_v48_0)) (idxB (atB m k c (Proc.devRef .tc main_v48_8))))
def LI (k : ℕ) : FVec Ideal S2x8192 .f32 := addf (atB m k c (Proc.devRef .tc main_v48_12)) (slc (atB m k c (Proc.devRef .tc main_v48_1)) (idxB (atB m k c (Proc.devRef .tc main_v48_8))))
def SR (k : ℕ) : FVec Ideal S2x8192 .f32 := slc (atB m k c (Proc.devRef .tc main_v48_2)) (idxB (atB m k c (Proc.devRef .tc main_v48_8)))
def SI (k : ℕ) : FVec Ideal S2x8192 .f32 := slc (atB m k c (Proc.devRef .tc main_v48_3)) (idxB (atB m k c (Proc.devRef .tc main_v48_8)))

/-- The sums before the backward loop's `k`-th trip. -/
def acc9 (k : ℕ) : FVec Ideal S8192 .f32 := (atB m k c (Proc.devRef .tc main_v48_9))
def acc10 (k : ℕ) : FVec Ideal S8192 .f32 := (atB m k c (Proc.devRef .tc main_v48_10))

theorem stepB_11 (k : ℕ) (b : Fin 2) (q : Fin 8192) : (atB m (k + 1) c (Proc.devRef .tc main_v48_11) : FVec Ideal S2x8192 .f32) (ix2 b q)
    = rowIm (refArgs m c).l (refArgs m c).i (refArgs m c).s (ix2 0 q) * LI m c k (ix2 b q) + rowRe (refArgs m c).l (refArgs m c).i (refArgs m c).s (ix2 0 q) * LR m c k (ix2 b q) := by
  rw [show atB m (k + 1) c (Proc.devRef .tc main_v48_11) = _ from tripB_11 (atB m k c)]
  have b7 : both (atB m k c (Proc.devRef .tc main_v48_7)) (ix2 b q) = rowIm (refArgs m c).l (refArgs m c).i (refArgs m c).s (ix2 0 q) := by rw [both_at, atB_v48_7]
  have b4 : both (atB m k c (Proc.devRef .tc main_v48_4)) (ix2 b q) = rowRe (refArgs m c).l (refArgs m c).i (refArgs m c).s (ix2 0 q) := by rw [both_at, atB_v48_4]
  rw [← b7, ← b4]
  rfl
theorem stepB_12 (k : ℕ) (b : Fin 2) (q : Fin 8192) : (atB m (k + 1) c (Proc.devRef .tc main_v48_12) : FVec Ideal S2x8192 .f32) (ix2 b q)
    = rowRe (refArgs m c).l (refArgs m c).i (refArgs m c).s (ix2 0 q) * LI m c k (ix2 b q) + rowIm (refArgs m c).l (refArgs m c).i (refArgs m c).s (ix2 0 q) * -LR m c k (ix2 b q) := by
  rw [show atB m (k + 1) c (Proc.devRef .tc main_v48_12) = _ from tripB_12 (atB m k c)]
  have b7 : both (atB m k c (Proc.devRef .tc main_v48_6)) (ix2 b q) = rowRe (refArgs m c).l (refArgs m c).i (refArgs m c).s (ix2 0 q) := by rw [both_at, atB_v48_6]
  have b4 : both (atB m k c (Proc.devRef .tc main_v48_5)) (ix2 b q) = rowIm (refArgs m c).l (refArgs m c).i (refArgs m c).s (ix2 0 q) := by rw [both_at, atB_v48_5]
  rw [← b7, ← b4]
  rfl
theorem stepB_9 (k : ℕ) (q : Fin 8192) : (atB m (k + 1) c (Proc.devRef .tc main_v48_9) : FVec Ideal S8192 .f32) (ix1 q)
    = acc9 m c k (ix1 q) + (LI m c k (ix2 0 q) * SI m c k (ix2 0 q) + LI m c k (ix2 1 q) * SI m c k (ix2 1 q))
      + (LR m c k (ix2 0 q) * SR m c k (ix2 0 q) + LR m c k (ix2 1 q) * SR m c k (ix2 1 q)) := by
  rw [show atB m (k + 1) c (Proc.devRef .tc main_v48_9) = _ from tripB_9 (atB m k c)]
  have e1 := sum2_at (mulf (LI m c k) (SI m c k)) q
  have e2 := sum2_at (mulf (LR m c k) (SR m c k)) q
  exact congrArg₂ (fun y z : EReal => y + z) (congrArg (fun y : EReal => acc9 m c k (ix1 q) + y) e1) e2
theorem stepB_10 (k : ℕ) (q : Fin 8192) : (atB m (k + 1) c (Proc.devRef .tc main_v48_10) : FVec Ideal S8192 .f32) (ix1 q)
    = acc10 m c k (ix1 q) + (LI m c k (ix2 0 q) * SR m c k (ix2 0 q) + LI m c k (ix2 1 q) * SR m c k (ix2 1 q))
      + (-LR m c k (ix2 0 q) * SI m c k (ix2 0 q) + -LR m c k (ix2 1 q) * SI m c k (ix2 1 q)) := by
  rw [show atB m (k + 1) c (Proc.devRef .tc main_v48_10) = _ from tripB_10 (atB m k c)]
  have e1 := sum2_at (mulf (LI m c k) (SR m c k)) q
  have e2 := sum2_at (mulf (Host.negf (LR m c k)) (SI m c k)) q
  exact congrArg₂ (fun y z : EReal => y + z) (congrArg (fun y : EReal => acc10 m c k (ix1 q) + y) e1) e2

theorem idxB_at {k : ℕ} (hk : k < 2048) : ((idxB (atB m k c (Proc.devRef .tc main_v48_8)) : IVec S_ 32) (Shape.Idx.first h_S_)).toInt = ((⟨2047 - k, by omega⟩ : Fin 2048).val : Int) := by
  rw [atB_ctr]; exact idxB_toInt hk

variable {m c} (hA : (refArgs m c).IsReal)
include hA

theorem SR_pair {k : ℕ} (hk : k < 2048) (b : Fin 2) (q : Fin 8192) : IsPair (SR m c k (ix2 b q)) (SI m c k (ix2 b q)) ((refArgs m c).st b q (2047 - k)) := by
  unfold SR SI
  rw [slc_at _ (idxB_at m c hk), slc_at _ (idxB_at m c hk), atB_v48_2, atB_v48_3]
  exact atA_rows hA b q ⟨2047 - k, by omega⟩ 2048 le_rfl (show 2047 - k < 2048 by omega)

theorem LR_of {k : ℕ} (hk : k < 2048) (b : Fin 2) (q : Fin 8192) {z : ℂ}
    (h : IsPair ((atB m k c (Proc.devRef .tc main_v48_11) : FVec Ideal S2x8192 .f32) (ix2 b q)) ((atB m k c (Proc.devRef .tc main_v48_12) : FVec Ideal S2x8192 .f32) (ix2 b q)) z) :
    IsPair (LR m c k (ix2 b q)) (LI m c k (ix2 b q)) (z + (refArgs m c).d b q (2047 - k)) := by
  have r0 : slc (atB m k c (Proc.devRef .tc main_v48_0)) (idxB (atB m k c (Proc.devRef .tc main_v48_8))) (ix2 b q) = (refArgs m c).dr (ix2 (row b (2047 - k)) q) := by
    rw [slc_at _ (idxB_at m c hk), atB_v48_0]; exact timeMajor_at _ _ _ _
  have r1 : slc (atB m k c (Proc.devRef .tc main_v48_1)) (idxB (atB m k c (Proc.devRef .tc main_v48_8))) (ix2 b q) = (refArgs m c).di (ix2 (row b (2047 - k)) q) := by
    rw [slc_at _ (idxB_at m c hk), atB_v48_1]; exact timeMajor_at _ _ _ _
  have e := h.add (hA.d_pair b q (2047 - k))
  rw [← r0, ← r1] at e
  exact e

/-- Before the backward loop's `k`-th test the carried pair is the conjugate eigenvalue times the gradient of the state `k` steps from the end. -/
theorem atB_carry (b : Fin 2) (q : Fin 8192) : ∀ k, k ≤ 2048 →
    IsPair ((atB m k c (Proc.devRef .tc main_v48_11) : FVec Ideal S2x8192 .f32) (ix2 b q)) ((atB m k c (Proc.devRef .tc main_v48_12) : FVec Ideal S2x8192 .f32) (ix2 b q))
      ((starRingEnd ℂ) ((refArgs m c).a q) * lam ((starRingEnd ℂ) ((refArgs m c).a q)) ((refArgs m c).d b q) k)
  | 0, _ => by
    rw [show atB m 0 c (Proc.devRef .tc main_v48_11) = _ from oB_11 _, show atB m 0 c (Proc.devRef .tc main_v48_12) = _ from oB_12 _, zeros2_at,
      show lam ((starRingEnd ℂ) ((refArgs m c).a q)) ((refArgs m c).d b q) 0 = 0 from rfl, mul_zero]
    exact IsPair.zero
  | k + 1, hk => by
    have e := Cert.ReferenceIdeal.Ops.conjMul (row_pair hA q) (LR_of hA (by omega) b q (atB_carry b q k (by omega)))
    rw [stepB_11, stepB_12]
    exact e

theorem LR_pair {k : ℕ} (hk : k < 2048) (b : Fin 2) (q : Fin 8192) :
    IsPair (LR m c k (ix2 b q)) (LI m c k (ix2 b q)) ((refArgs m c).la b q (2047 - k)) := by
  have e := LR_of hA hk b q (atB_carry hA b q k (by omega))
  unfold Args.la
  rw [show 2048 - (2047 - k) = k + 1 by omega]
  exact e

/-- The rows written so far are the gradients of the states. -/
theorem atB_rows (b : Fin 2) (q : Fin 8192) (t : Fin 2048) : ∀ k, k ≤ 2048 → 2048 ≤ t.val + k →
    IsPair ((atB m k c (Proc.devRef .tc main_v48_13) : FVec Ideal S2048x2x8192 .f32) (ix3 t b q)) ((atB m k c (Proc.devRef .tc main_v48_14) : FVec Ideal S2048x2x8192 .f32) (ix3 t b q)) ((refArgs m c).la b q t.val)
  | 0, _, h => absurd t.isLt (by omega)
  | k + 1, hk, h => by
    have hn := idxB_at m c (k := k) (by omega)
    rw [show atB m (k + 1) c (Proc.devRef .tc main_v48_13) = _ from tripB_13 (atB m k c), show atB m (k + 1) c (Proc.devRef .tc main_v48_14) = _ from tripB_14 (atB m k c),
      upd_at _ _ hn, upd_at _ _ hn]
    by_cases ht : t.val = 2047 - k
    · have ht' : t = (⟨2047 - k, by omega⟩ : Fin 2048) := Fin.ext ht
      rw [if_pos ht', if_pos ht', ht]
      exact LR_pair hA (by omega) b q
    · have ht' : ¬ t = (⟨2047 - k, by omega⟩ : Fin 2048) := fun h => ht (congrArg Fin.val h)
      rw [if_neg ht', if_neg ht']
      exact atB_rows b q t k (by omega) (by omega)

/-- The sums so far. -/
theorem atB_sums (q : Fin 8192) : ∀ k, k ≤ 2048 →
    IsPair ((atB m k c (Proc.devRef .tc main_v48_9) : FVec Ideal S8192 .f32) (ix1 q)) ((atB m k c (Proc.devRef .tc main_v48_10) : FVec Ideal S8192 .f32) (ix1 q))
      (∑ j ∈ Finset.range k, ((refArgs m c).la 0 q (2047 - j) * (starRingEnd ℂ) ((refArgs m c).st 0 q (2047 - j))
        + (refArgs m c).la 1 q (2047 - j) * (starRingEnd ℂ) ((refArgs m c).st 1 q (2047 - j))))
  | 0, _ => by
    rw [show atB m 0 c (Proc.devRef .tc main_v48_9) = _ from oB_9 _, show atB m 0 c (Proc.devRef .tc main_v48_10) = _ from oB_10 _, zeros1_at, Finset.sum_range_zero]
    exact IsPair.zero
  | k + 1, hk => by
    rw [stepB_9, stepB_10, Finset.sum_range_succ]
    exact sumStep (atB_sums q k (by omega)) (LR_pair hA (by omega) 0 q) (LR_pair hA (by omega) 1 q) (SR_pair hA (by omega) 0 q) (SR_pair hA (by omega) 1 q)

theorem atB_total (q : Fin 8192) :
    IsPair ((atB m 2048 c (Proc.devRef .tc main_v48_9) : FVec Ideal S8192 .f32) (ix1 q)) ((atB m 2048 c (Proc.devRef .tc main_v48_10) : FVec Ideal S8192 .f32) (ix1 q)) ((refArgs m c).sum q) := by
  have e := atB_sums hA q 2048 le_rfl
  have h : (refArgs m c).sum q = ∑ j ∈ Finset.range 2048, ((refArgs m c).la 0 q (2047 - j) * (starRingEnd ℂ) ((refArgs m c).st 0 q (2047 - j))
        + (refArgs m c).la 1 q (2047 - j) * (starRingEnd ℂ) ((refArgs m c).st 1 q (2047 - j))) := by
    unfold Args.sum
    rw [Fin.sum_univ_two, ← Finset.sum_add_distrib, ← Finset.sum_range_reflect]
  rw [h]
  exact e

omit hA in
theorem exists_row (y : S4096x8192.Idx) : ∃ (b : Fin 2) (t : Fin 2048) (q : Fin 8192), y = ix2 (row b t.val) q ∧ b = seqOf (y 0) ∧ t.val = (y 0).val % 2048 ∧ q = y 1 := by
  have hy : (y 0).val < 4096 := (y 0).isLt
  refine ⟨seqOf (y 0), ⟨(y 0).val % 2048, by omega⟩, y 1, ?_, rfl, rfl, rfl⟩
  have e : row (seqOf (y 0)) ((y 0).val % 2048) = y 0 := by
    apply Fin.ext
    rw [row_val _ _ (by omega)]
    show 2048 * ((y 0).val / 2048) + (y 0).val % 2048 = (y 0).val
    omega
  show y = ix2 (row (seqOf (y 0)) ((y 0).val % 2048)) (y 1)
  rw [e]
  exact eq_ix2 y

theorem finish_v52 : finish m c (Proc.devRef .tc main_v52) = (refArgs m c).gRe := by
  refine (oC_52 (after condB (atB m 2048 c))).trans ?_
  rw [after_of_writes_sub condB _ condB_writes (show main_v48_13 ∉ condB_W by decide +kernel)]
  funext y
  obtain ⟨b, t, q, e, eb, et, eq⟩ := exists_row y
  unfold Args.gRe
  dsimp only
  rw [← eb, ← et, ← eq, e]
  exact (seqMajor_at _ t b q).trans (atB_rows hA b q t 2048 le_rfl (by omega)).1

theorem finish_v50 : finish m c (Proc.devRef .tc main_v50) = (refArgs m c).gIm := by
  refine (oC_50 (after condB (atB m 2048 c))).trans ?_
  rw [after_of_writes_sub condB _ condB_writes (show main_v48_14 ∉ condB_W by decide +kernel)]
  funext y
  obtain ⟨b, t, q, e, eb, et, eq⟩ := exists_row y
  unfold Args.gIm
  dsimp only
  rw [← eb, ← et, ← eq, e]
  exact (seqMajor_at _ t b q).trans (atB_rows hA b q t 2048 le_rfl (by omega)).2

theorem finish_v53 : finish m c (Proc.devRef .tc main_v53) = (refArgs m c).aRe := by
  refine (oC_53 (after condB (atB m 2048 c))).trans ?_
  rw [after_of_writes_sub condB _ condB_writes (show main_v48_9 ∉ condB_W by decide +kernel)]
  funext y
  obtain ⟨g, p, rfl⟩ : ∃ (g : Fin 128) (p : Fin 64), y = ix2 g p := ⟨y 0, y 1, eq_ix2 y⟩
  exact (flat_at _ g p).trans (atB_total hA (colOf g p)).1

theorem finish_v54 : finish m c (Proc.devRef .tc main_v54) = (refArgs m c).aIm := by
  refine (oC_54 (after condB (atB m 2048 c))).trans ?_
  rw [after_of_writes_sub condB _ condB_writes (show main_v48_10 ∉ condB_W by decide +kernel)]
  funext y
  obtain ⟨g, p, rfl⟩ : ∃ (g : Fin 128) (p : Fin 64), y = ix2 g p := ⟨y 0, y 1, eq_ix2 y⟩
  exact (flat_at _ g p).trans (atB_total hA (colOf g p)).2

end Cert.ReferenceIdeal.Ops

end
-- ==== Proof.Same.lean ====
module

public import proofs.«01_k».proof.Proof.Finite
public import proofs.«01_k».proof.Proof.RefBwd
public import proofs.«01_k».proof.Proof.RefFrame

/-! The kernel's results and the reference's are the same: both are the scan's gradient of Spec.lean. -/

@[expose] public section

set_option maxRecDepth 16384

noncomputable section

namespace Cert.Proof

open Idealize.ShloMosaic Idealize.ShloMosaic.TcCoe Idealize.SL.Sem Cert.KernelIdeal.Scan

theorem same_values : Cert.algebraic_KernelIdeal_ReferenceIdeal_pre_finite (hKernelIdeal := Cert.KernelIdeal.Gen.facts)
    (hReferenceIdeal := Cert.ReferenceIdeal.Gen.facts) (hPre_finite := Cert.Pre_finite.isFacts) := by
  intro m g m' g' hpre hargs
  have hX : ∀ c, (argsOf m c).IsReal := isReal m hpre
  have hE : ∀ c : Dev Cert.KernelIdeal.nD, Cert.ReferenceIdeal.Ops.refArgs m' c = argsOf m c := fun c => by
    obtain ⟨h0, h1, h2, -, -, h5, h6, h7, h8⟩ := hargs c
    unfold Cert.ReferenceIdeal.Ops.refArgs argsOf
    congr 1
  have hX' : ∀ c : Dev Cert.ReferenceIdeal.nD, (Cert.ReferenceIdeal.Ops.refArgs m' c).IsReal := fun c => by
    rw [hE c]; exact hX c
  refine ⟨fun c => (argsOf m c).gRe, fun c => (argsOf m c).gIm, fun c => (argsOf m c).aRe, fun c => (argsOf m c).aIm, ?_, ?_⟩
  · refine (θ_run Cert.KernelIdeal.defs _ _).mono (fun r hr c => ?_) (Cert.KernelIdeal.Gen.run_all m g)
    exact ⟨(hr c Cert.KernelIdeal.main_v13_0 (by decide +kernel)).trans (W6_re m g c (hX c)), (hr c Cert.KernelIdeal.main_v13_1 (by decide +kernel)).trans (W6_im m g c (hX c)),
      (hr c Cert.KernelIdeal.main_v15 (by decide +kernel)).trans (W6_aRe m g c (hX c)), (hr c Cert.KernelIdeal.main_v17 (by decide +kernel)).trans (W6_aIm m g c (hX c)),
      (hr c Cert.KernelIdeal.main_arg0 (by decide +kernel)).trans (Cert.KernelIdeal.Gen.W6_main_arg0 m g c),
      (hr c Cert.KernelIdeal.main_arg1 (by decide +kernel)).trans (Cert.KernelIdeal.Gen.W6_main_arg1 m g c),
      (hr c Cert.KernelIdeal.main_arg2 (by decide +kernel)).trans (Cert.KernelIdeal.Gen.W6_main_arg2 m g c),
      (hr c Cert.KernelIdeal.main_arg3 (by decide +kernel)).trans (Cert.KernelIdeal.Gen.W6_main_arg3 m g c),
      (hr c Cert.KernelIdeal.main_arg4 (by decide +kernel)).trans (Cert.KernelIdeal.Gen.W6_main_arg4 m g c),
      (hr c Cert.KernelIdeal.main_arg5 (by decide +kernel)).trans (Cert.KernelIdeal.Gen.W6_main_arg5 m g c),
      (hr c Cert.KernelIdeal.main_arg6 (by decide +kernel)).trans (Cert.KernelIdeal.Gen.W6_main_arg6 m g c),
      (hr c Cert.KernelIdeal.main_arg7 (by decide +kernel)).trans (Cert.KernelIdeal.Gen.W6_main_arg7 m g c),
      (hr c Cert.KernelIdeal.main_arg8 (by decide +kernel)).trans (Cert.KernelIdeal.Gen.W6_main_arg8 m g c)⟩
  · refine (θ_run Cert.ReferenceIdeal.defs _ _).mono (fun r hr c => ?_) (Cert.ReferenceIdeal.Ops.run_finish m' g')
    have a : ∀ (c : Dev Cert.ReferenceIdeal.nD) (b : Ref Cert.ReferenceIdeal.sig .tc), b ∈ Cert.ReferenceIdeal.Ops.argRefs →
        (Proc.devRef .tc b : DevRef Cert.ReferenceIdeal.τ Cert.ReferenceIdeal.sig).isScoped = false →
        r.2.mem ((c.tc : Thread Cert.ReferenceIdeal.nD Cert.ReferenceIdeal.τ).loc b) = m' ((c.tc : Thread Cert.ReferenceIdeal.nD Cert.ReferenceIdeal.τ).loc b) :=
      fun c b hb hs => (hr c b hs).trans (Cert.ReferenceIdeal.Ops.finish_args m' c b hb)
    have e := hE c
    refine ⟨?_, ?_, ?_, ?_, a c Cert.ReferenceIdeal.main_arg0 (by decide) rfl, a c Cert.ReferenceIdeal.main_arg1 (by decide) rfl, a c Cert.ReferenceIdeal.main_arg2 (by decide) rfl, a c Cert.ReferenceIdeal.main_arg3 (by decide) rfl, a c Cert.ReferenceIdeal.main_arg4 (by decide) rfl, a c Cert.ReferenceIdeal.main_arg5 (by decide) rfl, a c Cert.ReferenceIdeal.main_arg6 (by decide) rfl, a c Cert.ReferenceIdeal.main_arg7 (by decide) rfl, a c Cert.ReferenceIdeal.main_arg8 (by decide) rfl⟩
    · exact (hr c Cert.ReferenceIdeal.main_v52 rfl).trans ((Cert.ReferenceIdeal.Ops.finish_v52 (hX' c)).trans (congrArg Args.gRe e))
    · exact (hr c Cert.ReferenceIdeal.main_v50 rfl).trans ((Cert.ReferenceIdeal.Ops.finish_v50 (hX' c)).trans (congrArg Args.gIm e))
    · exact (hr c Cert.ReferenceIdeal.main_v53 rfl).trans ((Cert.ReferenceIdeal.Ops.finish_v53 (hX' c)).trans (congrArg Args.aRe e))
    · exact (hr c Cert.ReferenceIdeal.main_v54 rfl).trans ((Cert.ReferenceIdeal.Ops.finish_v54 (hX' c)).trans (congrArg Args.aIm e))

end Cert.Proof

end
-- ==== Proof.Blocks.lean ====
module

public import Idealize.ShloMosaic.Lib.Pipeline.ValueKit
public import Idealize.ShloMosaic.Lib.Claim

/-! A sum over a range, block by block. -/

@[expose] public section

noncomputable section

namespace Cert.Blocks

open Idealize.ShloMosaic

/-- A sum over four consecutive blocks of `n`. -/
theorem sum_four (n N : ℕ) (h : 4 * n = N) (f : Fin N → EReal) :
    ∑ l : Fin N, f l = (∑ k : Fin n, f ⟨0 * n + k.val, by omega⟩) + (∑ k : Fin n, f ⟨1 * n + k.val, by omega⟩)
      + (∑ k : Fin n, f ⟨2 * n + k.val, by omega⟩) + ∑ k : Fin n, f ⟨3 * n + k.val, by omega⟩ := by
  subst h
  let g : ℕ → EReal := fun l => if hl : l < 4 * n then f ⟨l, hl⟩ else 0
  have hg : ∀ (l : ℕ) (hl : l < 4 * n), g l = f ⟨l, hl⟩ := fun l hl => dif_pos hl
  have e := (Fin.sum_univ_univ_mul_add 4 n g).symm
  rw [Fin.sum_univ_four] at e
  refine (Finset.sum_congr rfl fun l _ => (hg l.val l.isLt).symm).trans (e.trans ?_)
  refine congrArg₂ (· + ·) (congrArg₂ (· + ·) (congrArg₂ (· + ·) ?_ ?_) ?_) ?_
  all_goals exact Finset.sum_congr rfl fun k _ => hg _ _

end Cert.Blocks

end
-- ==== Proof.UpInput.lean ====
module

public import proofs.«01_k».proof.Defs
public import proofs.«01_k».proof.Proof.Gen.Kernel2Ideal.Value
public import proofs.«01_k».proof.Proof.Gen.Reference2Ideal.Run
public import proofs.«01_k».proof.Proof.Blocks
public import Idealize.ShloMosaic.Lib.Pipeline.ValueKit
public import Idealize.ShloMosaic.Lib.Pointwise
public import Idealize.ShloMosaic.Lib.Claim

/-! The gradient of the up-projection's input: what the kernel's tiled product leaves, over exact arithmetic, and that the reference's product is the same. -/

@[expose] public section

set_option maxRecDepth 16384

noncomputable section

namespace Cert.Reference2Ideal.Product

open Cert.Reference2Ideal Cert.Reference2Ideal.Gen Idealize.ShloMosaic Idealize.ShloMosaic.TcCoe Idealize.SL.Sem

/-- An entry of the reference's product. -/
theorem product_at (p : FVec Ideal S1x4096x22016 .f32) (q : FVec Ideal S4096x22016 .f32) (i : S4096x4096.Idx) :
    (Host.dotGeneral dot_S4096x22016_S4096x22016_S4096x4096_1_1_0_0_n_n none q (shapeCast _ p shapeCasts_S1x4096x22016_S4096x22016) : FVec Ideal S4096x4096 .f32) i = ∑ l : Fin 22016, q (ix2 (i 0) l) * p (ix3 0 (i 1) l) := by
  pointwise

/-- The reference runs, leaves its arguments as they were, and ends with every counter at zero. -/
theorem reference_frame : Cert.quiescent_Reference2Ideal (hReference2Ideal := Cert.Reference2Ideal.Gen.facts) :=
  fun m g _ => (θ_run defs _ _).mono
    (fun r h => ⟨fun c => (h c).2, sem_eq_zero_of_no_sems (by decide) r.2⟩) (Value.run m g)

end Cert.Reference2Ideal.Product

namespace Cert.Kernel2Ideal.Product

open Cert.Kernel2Ideal Cert.Kernel2Ideal.Gen Idealize.ShloMosaic Idealize.ShloMosaic.TcCoe Idealize.SL.Sem

/-- The product: token `a` of the cotangent against feature `b`, summed over the 22016 hidden units. -/
def value (p : FVec Ideal S1x4096x22016 .f32) (q : FVec Ideal S4096x22016 .f32) : FVec Ideal S4096x4096 .f32 := fun i => ∑ l : Fin 22016, q (ix2 (i 0) l) * p (ix3 0 (i 1) l)

/-- Where a grid point's blocks lie, in blocks. -/
theorem idx0 : ∀ t : Fin cfg0.N, win0_0.index t = ![2 * (t.val % 4), t.val / 16, 0] := (by decide +kernel : ∀ t : Fin grid0.N, _)
theorem idx1 : ∀ t : Fin cfg0.N, win0_1.index t = ![2 * (t.val % 4), 0, t.val / 4 % 4] := (by decide +kernel : ∀ t : Fin grid0.N, _)
theorem idx2 : ∀ t : Fin cfg0.N, win0_2.index t = ![2 * (t.val % 4) + 1, t.val / 16, 0] := (by decide +kernel : ∀ t : Fin grid0.N, _)
theorem idx3 : ∀ t : Fin cfg0.N, win0_3.index t = ![2 * (t.val % 4) + 1, 0, t.val / 4 % 4] := (by decide +kernel : ∀ t : Fin grid0.N, _)
theorem idx4 : ∀ t : Fin cfg0.N, win0_4.index t = ![t.val / 16, t.val / 4 % 4] := (by decide +kernel : ∀ t : Fin grid0.N, _)

/-- Two shards' sums of products. -/
def pair (x0 : Vec Ideal S1x512x2752 .bf16) (w0 : Vec Ideal S1x2752x1024 .bf16) (x1 : Vec Ideal S1x512x2752 .bf16) (w1 : Vec Ideal S1x2752x1024 .bf16) (a : Fin 512) (n : Fin 1024) : EReal :=
  (∑ k : Fin 2752, x0 (ix3 0 a k) * w0 (ix3 0 k n)) + ∑ k : Fin 2752, x1 (ix3 0 a k) * w1 (ix3 0 k n)

/-- The 5504 terms of the product's entry `(r, s)` that `f` names. -/
def part (p : FVec Ideal S1x4096x22016 .f32) (q : FVec Ideal S4096x22016 .f32) (r s : Fin 4096) (f : Fin 5504 → Fin 22016) : EReal :=
  ∑ k : Fin 5504, q (ix2 r (f k)) * p (ix3 0 s (f k))

/-- The first visit to a block stores two shards' sums of products. -/
theorem first_at (x0 : Vec Ideal S1x512x2752 .bf16) (w0 : Vec Ideal S1x2752x1024 .bf16) (x1 : Vec Ideal S1x512x2752 .bf16) (w1 : Vec Ideal S1x2752x1024 .bf16) (y : S512x1024.Idx) :
    k0_pay1 (F := Ideal) x0 w0 x1 w1 y = pair x0 w0 x1 w1 (y 0) (y 1) := by
  unfold k0_pay1 pair
  pointwise

/-- A later visit adds its own. -/
theorem next_at (x0 : Vec Ideal S1x512x2752 .bf16) (w0 : Vec Ideal S1x2752x1024 .bf16) (x1 : Vec Ideal S1x512x2752 .bf16) (w1 : Vec Ideal S1x2752x1024 .bf16) (acc : Vec Ideal S512x1024 .f32) (y : S512x1024.Idx) :
    k0_pay2 (F := Ideal) x0 w0 x1 w1 acc y = acc (ix2 (y 0) (y 1)) + pair x0 w0 x1 w1 (y 0) (y 1) := by
  unfold k0_pay2 pair
  pointwise

/-- The last visit adds its own and writes the block. -/
theorem last_at (x0 : Vec Ideal S1x512x2752 .bf16) (w0 : Vec Ideal S1x2752x1024 .bf16) (x1 : Vec Ideal S1x512x2752 .bf16) (w1 : Vec Ideal S1x2752x1024 .bf16) (acc : Vec Ideal S512x1024 .f32) (y : S512x1024.Idx) :
    k0_pay3 (F := Ideal) x0 w0 x1 w1 acc y = acc (ix2 (y 0) (y 1)) + pair x0 w0 x1 w1 (y 0) (y 1) := by
  unfold k0_pay3 pair
  pointwise

variable (m : (ℓ : Loc nD τ sig) → Buf (Elt Ideal) ℓ) (c : Dev nD)

/-- A block's entries are entries of the argument the block was prepared from. -/
theorem left0_at (t : Fin cfg0.N) (a : Fin 512) (k : Fin 2752) (r : Fin 4096) (q : Fin 22016) (hr : r.val = t.val / 16 * 512 + a.val) (hq : q.val = 2 * (t.val % 4) * 2752 + k.val) :
    iblk m c 0 t (ix3 0 a k) = m ((c : Thread nD τ).loc main_arg1) (ix2 r q) := by
  blk_simp [iblk, idx0 t]
  entry_read
  pointwise
  blk_ext [idx0 t]

theorem right0_at (t : Fin cfg0.N) (k : Fin 2752) (n : Fin 1024) (r : Fin 22016) (q : Fin 4096) (hr : r.val = 2 * (t.val % 4) * 2752 + k.val) (hq : q.val = t.val / 4 % 4 * 1024 + n.val) :
    iblk m c 1 t (ix3 0 k n) = m ((c : Thread nD τ).loc main_arg0) (ix3 0 q r) := by
  blk_simp [iblk, idx1 t]
  entry_read
  pointwise
  blk_ext [idx1 t]

theorem left1_at (t : Fin cfg0.N) (a : Fin 512) (k : Fin 2752) (r : Fin 4096) (q : Fin 22016) (hr : r.val = t.val / 16 * 512 + a.val) (hq : q.val = (2 * (t.val % 4) + 1) * 2752 + k.val) :
    iblk m c 2 t (ix3 0 a k) = m ((c : Thread nD τ).loc main_arg1) (ix2 r q) := by
  blk_simp [iblk, idx2 t]
  entry_read
  pointwise
  blk_ext [idx2 t]

theorem right1_at (t : Fin cfg0.N) (k : Fin 2752) (n : Fin 1024) (r : Fin 22016) (q : Fin 4096) (hr : r.val = (2 * (t.val % 4) + 1) * 2752 + k.val) (hq : q.val = t.val / 4 % 4 * 1024 + n.val) :
    iblk m c 3 t (ix3 0 k n) = m ((c : Thread nD τ).loc main_arg0) (ix3 0 q r) := by
  blk_simp [iblk, idx3 t]
  entry_read
  pointwise
  blk_ext [idx3 t]

/-- What a visit adds: its 5504 of the 22016 hidden units. -/
theorem visit_eq (t : Fin cfg0.N) (a : Fin 512) (n : Fin 1024) (r q : Fin 4096) (f : Fin 5504 → Fin 22016)
    (hr : r.val = t.val / 16 * 512 + a.val) (hq : q.val = t.val / 4 % 4 * 1024 + n.val) (hf : ∀ k : Fin 5504, (f k).val = t.val % 4 * 5504 + k.val) :
    pair (iblk m c 0 t) (iblk m c 1 t) (iblk m c 2 t) (iblk m c 3 t) a n =
      part (m ((c : Thread nD τ).loc main_arg0)) (m ((c : Thread nD τ).loc main_arg1)) r q f := by
  unfold pair part
  refine Eq.trans ?_ (Fin.sum_univ_two_halves 2752 2752 rfl _).symm
  refine congrArg₂ (· + ·) (Finset.sum_congr rfl fun k _ => congrArg₂ (· * ·) ?_ ?_) (Finset.sum_congr rfl fun k _ => congrArg₂ (· * ·) ?_ ?_)
  · exact left0_at m c t a k _ _ hr ((hf _).trans (by show t.val % 4 * 5504 + k.val = 2 * (t.val % 4) * 2752 + k.val; omega))
  · exact right0_at m c t k n _ _ ((hf _).trans (by show t.val % 4 * 5504 + k.val = 2 * (t.val % 4) * 2752 + k.val; omega)) hq
  · exact left1_at m c t a k _ _ hr ((hf _).trans (by show t.val % 4 * 5504 + (2752 + k.val) = (2 * (t.val % 4) + 1) * 2752 + k.val; omega))
  · exact right1_at m c t k n _ _ ((hf _).trans (by show t.val % 4 * 5504 + (2752 + k.val) = (2 * (t.val % 4) + 1) * 2752 + k.val; omega)) hq

/-- The array the call leaves is the product. -/
theorem array_eq : (dats m 0 c).arrAt 4 cfg0.N = value (m ((c : Thread nD τ).loc main_arg0)) (m ((c : Thread nD τ).loc main_arg1)) := by
  refine (dats m 0 c).arrAt_eq_of_covers 4 _ (by decide +kernel) fun t hf y => ?_
  have h2 : t.val % 4 = 3 := (flush0_4 t).mp hf
  have b1 : t.val - 1 < cfg0.N := Nat.lt_of_le_of_lt (Nat.sub_le _ _) t.isLt
  have b2 : t.val - 1 - 1 < cfg0.N := Nat.lt_of_le_of_lt (Nat.sub_le _ _) b1
  have b3 : t.val - 1 - 1 - 1 < cfg0.N := Nat.lt_of_le_of_lt (Nat.sub_le _ _) b2
  blk_simp
  rw [after0_4, outsAt0_C m c t (by omega) (by omega) h2,
    outsAt0_B m c ⟨t.val - 1, b1⟩ (by dsimp only; omega) (by dsimp only; omega) (by dsimp only; omega),
    outsAt0_B m c ⟨t.val - 1 - 1, b2⟩ (by dsimp only; omega) (by dsimp only; omega) (by dsimp only; omega),
    outsAt0_A m c ⟨t.val - 1 - 1 - 1, b3⟩ (by dsimp only; omega) (by dsimp only; omega) (by dsimp only; omega)]
  frame_out
  have hN := lt_of_lt_of_eq t.isLt N_0
  have e0 : ((((cfg0.win 4).blk t).view.emb y) 0).val = t.val / 16 * 512 + (y 0).val := by blk_simp [idx4 t]
  have e1 : ((((cfg0.win 4).blk t).view.emb y) 1).val = t.val / 4 % 4 * 1024 + (y 1).val := by blk_simp [idx4 t]
  refine (last_at _ _ _ _ _ _).trans ?_
  refine (congrArg₂ (· + ·) ((congrFun (Memref.IsWhole.read_unread _ _) _).trans ((next_at _ _ _ _ _ _).trans
    (congrArg₂ (· + ·) ((congrFun (Memref.IsWhole.read_unread _ _) _).trans ((next_at _ _ _ _ _ _).trans
      (congrArg₂ (· + ·) ((congrFun (Memref.IsWhole.read_unread _ _) _).trans (first_at _ _ _ _ _)) rfl))) rfl))) rfl).trans ?_
  refine Eq.trans ?_ (Blocks.sum_four 5504 22016 (by decide) _).symm
  refine congrArg₂ (· + ·) (congrArg₂ (· + ·) (congrArg₂ (· + ·) ?_ ?_) ?_) ?_
  · exact visit_eq m c ⟨t.val - 1 - 1 - 1, b3⟩ (y 0) (y 1) _ _ (fun k => ⟨0 * 5504 + k.val, by omega⟩) (by show (((cfg0.win 4).blk t).view.emb y 0).val = (t.val - 1 - 1 - 1) / 16 * 512 + (y 0).val; omega)
      (by show (((cfg0.win 4).blk t).view.emb y 1).val = (t.val - 1 - 1 - 1) / 4 % 4 * 1024 + (y 1).val; omega) (fun k => by show 0 * 5504 + k.val = (t.val - 1 - 1 - 1) % 4 * 5504 + k.val; omega)
  · exact visit_eq m c ⟨t.val - 1 - 1, b2⟩ (y 0) (y 1) _ _ (fun k => ⟨1 * 5504 + k.val, by omega⟩) (by show (((cfg0.win 4).blk t).view.emb y 0).val = (t.val - 1 - 1) / 16 * 512 + (y 0).val; omega)
      (by show (((cfg0.win 4).blk t).view.emb y 1).val = (t.val - 1 - 1) / 4 % 4 * 1024 + (y 1).val; omega) (fun k => by show 1 * 5504 + k.val = (t.val - 1 - 1) % 4 * 5504 + k.val; omega)
  · exact visit_eq m c ⟨t.val - 1, b1⟩ (y 0) (y 1) _ _ (fun k => ⟨2 * 5504 + k.val, by omega⟩) (by show (((cfg0.win 4).blk t).view.emb y 0).val = (t.val - 1) / 16 * 512 + (y 0).val; omega)
      (by show (((cfg0.win 4).blk t).view.emb y 1).val = (t.val - 1) / 4 % 4 * 1024 + (y 1).val; omega) (fun k => by show 2 * 5504 + k.val = (t.val - 1) % 4 * 5504 + k.val; omega)
  · exact visit_eq m c t (y 0) (y 1) _ _ (fun k => ⟨3 * 5504 + k.val, by omega⟩) (by show (((cfg0.win 4).blk t).view.emb y 0).val = t.val / 16 * 512 + (y 0).val; omega)
      (by show (((cfg0.win 4).blk t).view.emb y 1).val = t.val / 4 % 4 * 1024 + (y 1).val; omega) (fun k => by show 3 * 5504 + k.val = t.val % 4 * 5504 + k.val; omega)

/-- The kernel and the reference end with the same array. -/
theorem same_values : Cert.algebraic_Kernel2Ideal_Reference2Ideal (hKernel2Ideal := Cert.Kernel2Ideal.Gen.facts)
    (hReference2Ideal := Cert.Reference2Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference2Ideal.defs _ _).mono (fun r hr c => ⟨(hr c).1.trans ?_, (hr c).2⟩) (Cert.Reference2Ideal.Value.run m' g')
    exact (funext (Cert.Reference2Ideal.Product.product_at _ _)).trans (congrArg₂ value (hargs c).1 (hargs c).2)

end Cert.Kernel2Ideal.Product

end
-- ==== Proof.UpWeight.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

/-! The gradient of the up-projection's weight: what the kernel's tiled product leaves, over exact arithmetic, and that the reference's product is the same. -/

@[expose] public section

set_option maxRecDepth 16384

noncomputable section

namespace Cert.Reference3Ideal.Product

open Cert.Reference3Ideal Cert.Reference3Ideal.Gen Idealize.ShloMosaic Idealize.ShloMosaic.TcCoe Idealize.SL.Sem

/-- An entry of the reference's product. -/
theorem product_at (p : FVec Ideal S4096x4096 .f32) (q : FVec Ideal S4096x22016 .f32) (i : S8x2752x4096.Idx) :
    (truncf .bf16 (shapeCast _ (transpose S22016x4096 [1, 0] (transpose S4096x22016 [1, 0] (Host.dotGeneral dot_S4096x22016_S4096x4096_S22016x4096_0_0_1_1_n_n none q p) transposes_S22016x4096_S4096x22016_1_0) transposes_S4096x22016_S22016x4096_1_0) shapeCasts_S22016x4096_S8x2752x4096) bitsLt_bf16_f32 : FVec Ideal S8x2752x4096 .bf16) i = ∑ t : Fin 4096, q (ix2 t (⟨(i 0).val * 2752 + (i 1).val, by have h0 : (i 0).val < 8 := (i 0).isLt; have h1 : (i 1).val < 2752 := (i 1).isLt; omega⟩ : Fin 22016)) * p (ix2 t (i 2)) := by
  pointwise

/-- The reference runs, leaves its arguments as they were, and ends with every counter at zero. -/
theorem reference_frame : Cert.quiescent_Reference3Ideal (hReference3Ideal := Cert.Reference3Ideal.Gen.facts) :=
  fun m g _ => (θ_run defs _ _).mono
    (fun r h => ⟨fun c => (h c).2, sem_eq_zero_of_no_sems (by decide) r.2⟩) (Value.run m g)

end Cert.Reference3Ideal.Product

namespace Cert.Kernel3Ideal.Product

open Cert.Kernel3Ideal Cert.Kernel3Ideal.Gen Idealize.ShloMosaic Idealize.ShloMosaic.TcCoe Idealize.SL.Sem

/-- The product: row `b` of shard `a` against column `n`, summed over the 4096 tokens. -/
def value (p : FVec Ideal S4096x4096 .f32) (q : FVec Ideal S4096x22016 .f32) : FVec Ideal S8x2752x4096 .bf16 := fun i => ∑ t : Fin 4096, q (ix2 t (⟨(i 0).val * 2752 + (i 1).val, by have h0 : (i 0).val < 8 := (i 0).isLt; have h1 : (i 1).val < 2752 := (i 1).isLt; omega⟩ : Fin 22016)) * p (ix2 t (i 2))

/-- Where a grid point's blocks lie, in blocks. -/
theorem idx0 : ∀ t : Fin cfg0.N, win0_0.index t = ![t.val / 16, t.val % 2, 0] := (by decide +kernel : ∀ t : Fin grid0.N, _)
theorem idx1 : ∀ t : Fin cfg0.N, win0_1.index t = ![t.val % 2, t.val / 2 % 8] := (by decide +kernel : ∀ t : Fin grid0.N, _)
theorem idx2 : ∀ t : Fin cfg0.N, win0_2.index t = ![t.val / 16, 0, t.val / 2 % 8] := (by decide +kernel : ∀ t : Fin grid0.N, _)

/-- The first visit to a block stores its sum of products. -/
theorem first_at (x0 : Vec Ideal S1x2048x2752 .bf16) (x1 : Vec Ideal S2048x512 .bf16) (y : S2752x512.Idx) :
    k0_pay1 (F := Ideal) x0 x1 y = ∑ k : Fin 2048, x0 (ix3 0 k (y 0)) * x1 (ix2 k (y 1)) := by
  unfold k0_pay1
  pointwise

/-- The last visit adds its own and writes the block. -/
theorem last_at (x0 : Vec Ideal S1x2048x2752 .bf16) (x1 : Vec Ideal S2048x512 .bf16) (acc : Vec Ideal S2752x512 .f32) (y : S1x2752x512.Idx) :
    k0_pay2 (F := Ideal) x0 x1 acc y = acc (ix2 (y 1) (y 2)) + ∑ k : Fin 2048, x0 (ix3 0 k (y 1)) * x1 (ix2 k (y 2)) := by
  unfold k0_pay2
  pointwise

variable (m : (ℓ : Loc nD τ sig) → Buf (Elt Ideal) ℓ) (c : Dev nD)

/-- A block's entries are entries of the argument the block was prepared from. -/
theorem left_at (t : Fin cfg0.N) (k : Fin 2048) (b : Fin 2752) (r : Fin 4096) (q : Fin 22016) (hr : r.val = t.val % 2 * 2048 + k.val) (hq : q.val = t.val / 16 * 2752 + b.val) :
    iblk m c 0 t (ix3 0 k b) = m ((c : Thread nD τ).loc main_arg1) (ix2 r q) := by
  blk_simp [iblk, idx0 t]
  entry_read
  pointwise
  blk_ext [idx0 t]

theorem right_at (t : Fin cfg0.N) (k : Fin 2048) (n : Fin 512) (r : Fin 4096) (q : Fin 4096) (hr : r.val = t.val % 2 * 2048 + k.val) (hq : q.val = t.val / 2 % 8 * 512 + n.val) :
    iblk m c 1 t (ix2 k n) = m ((c : Thread nD τ).loc main_arg0) (ix2 r q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1, outsAt0_A m c ⟨t.val - 1, Nat.lt_of_le_of_lt (Nat.sub_le _ _) t.isLt⟩ (by dsimp only; omega) (by dsimp only; omega)]
  frame_out
  have hN := lt_of_lt_of_eq t.isLt N_0
  have e0 : ((((cfg0.win 2).blk t).view.emb y) 0).val = t.val / 16 := by blk_simp [idx2 t]
  have e1 : ((((cfg0.win 2).blk t).view.emb y) 1).val = (y 1).val := by blk_simp [idx2 t]
  have e2 : ((((cfg0.win 2).blk t).view.emb y) 2).val = t.val / 2 % 8 * 512 + (y 2).val := by blk_simp [idx2 t]
  refine (last_at _ _ _ _).trans ?_
  refine (congrArg₂ (· + ·) ((congrFun (Memref.IsWhole.read_unread _ _) _).trans (first_at _ _ _)) rfl).trans ?_
  refine Eq.trans ?_ (Fin.sum_univ_two_halves 2048 2048 rfl _).symm
  refine congrArg₂ (· + ·) (Finset.sum_congr rfl fun k _ => congrArg₂ (· * ·) ?_ ?_) (Finset.sum_congr rfl fun k _ => congrArg₂ (· * ·) ?_ ?_)
  · exact left_at m c _ k _ _ _ (by show k.val = (t.val - 1) % 2 * 2048 + k.val; omega) (by show (((cfg0.win 2).blk t).view.emb y 0).val * 2752 + (((cfg0.win 2).blk t).view.emb y 1).val = (t.val - 1) / 16 * 2752 + (y 1).val; omega)
  · exact right_at m c _ k _ _ _ (by show k.val = (t.val - 1) % 2 * 2048 + k.val; omega) (by show (((cfg0.win 2).blk t).view.emb y 2).val = (t.val - 1) / 2 % 8 * 512 + (y 2).val; omega)
  · exact left_at m c _ k _ _ _ (by show (2048 + k.val) = t.val % 2 * 2048 + k.val; omega) (by show (((cfg0.win 2).blk t).view.emb y 0).val * 2752 + (((cfg0.win 2).blk t).view.emb y 1).val = t.val / 16 * 2752 + (y 1).val; omega)
  · exact right_at m c _ k _ _ _ (by show (2048 + k.val) = t.val % 2 * 2048 + k.val; omega) (by show (((cfg0.win 2).blk t).view.emb y 2).val = t.val / 2 % 8 * 512 + (y 2).val; omega)

/-- The kernel and the reference end with the same array. -/
theorem same_values : Cert.algebraic_Kernel3Ideal_Reference3Ideal (hKernel3Ideal := Cert.Kernel3Ideal.Gen.facts)
    (hReference3Ideal := Cert.Reference3Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference3Ideal.defs _ _).mono (fun r hr c => ⟨(hr c).1.trans ?_, (hr c).2⟩) (Cert.Reference3Ideal.Value.run m' g')
    exact (funext (Cert.Reference3Ideal.Product.product_at _ _)).trans (congrArg₂ value (hargs c).1 (hargs c).2)

end Cert.Kernel3Ideal.Product

end
-- ==== Proof.DownInput.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

/-! The gradient of the down-projection's input: what the kernel's tiled product leaves, over exact arithmetic, and that the reference's product is the same. -/

@[expose] public section

set_option maxRecDepth 16384

noncomputable section

namespace Cert.Reference4Ideal.Product

open Cert.Reference4Ideal Cert.Reference4Ideal.Gen Idealize.ShloMosaic Idealize.ShloMosaic.TcCoe Idealize.SL.Sem

/-- An entry of the reference's product. -/
theorem product_at (p : FVec Ideal S1x11008x4096 .f32) (q : FVec Ideal S4096x4096 .f32) (i : S4x4096x2752.Idx) :
    (truncf .bf16 (transpose S4x4096x2752 [1, 0, 2] (shapeCast _ (Host.dotGeneral dot_S4096x4096_S11008x4096_S4096x11008_1_1_0_0_n_n none q (shapeCast _ p shapeCasts_S1x11008x4096_S11008x4096)) shapeCasts_S4096x11008_S4096x4x2752) transposes_S4096x4x2752_S4x4096x2752_1_0_2) bitsLt_bf16_f32 : FVec Ideal S4x4096x2752 .bf16) i = ∑ k : Fin 4096, q (ix2 (i 1) k) * p (ix3 0 (⟨(i 0).val * 2752 + (i 2).val, by have h0 : (i 0).val < 4 := (i 0).isLt; have h1 : (i 2).val < 2752 := (i 2).isLt; omega⟩ : Fin 11008) k) := by
  pointwise

/-- The reference runs, leaves its arguments as they were, and ends with every counter at zero. -/
theorem reference_frame : Cert.quiescent_Reference4Ideal (hReference4Ideal := Cert.Reference4Ideal.Gen.facts) :=
  fun m g _ => (θ_run defs _ _).mono
    (fun r h => ⟨fun c => (h c).2, sem_eq_zero_of_no_sems (by decide) r.2⟩) (Value.run m g)

end Cert.Reference4Ideal.Product

namespace Cert.Kernel4Ideal.Product

open Cert.Kernel4Ideal Cert.Kernel4Ideal.Gen Idealize.ShloMosaic Idealize.ShloMosaic.TcCoe Idealize.SL.Sem

/-- The product: token `t` of the cotangent against hidden unit `b` of shard `a`, summed over the 4096 features. -/
def value (p : FVec Ideal S1x11008x4096 .f32) (q : FVec Ideal S4096x4096 .f32) : FVec Ideal S4x4096x2752 .bf16 := fun i => ∑ k : Fin 4096, q (ix2 (i 1) k) * p (ix3 0 (⟨(i 0).val * 2752 + (i 2).val, by have h0 : (i 0).val < 4 := (i 0).isLt; have h1 : (i 2).val < 2752 := (i 2).isLt; omega⟩ : Fin 11008) k)

/-- Where a grid point's blocks lie, in blocks. -/
theorem idx0 : ∀ t : Fin cfg0.N, win0_0.index t = ![t.val / 8, t.val % 2] := (by decide +kernel : ∀ t : Fin grid0.N, _)
theorem idx1 : ∀ t : Fin cfg0.N, win0_1.index t = ![t.val / 2 % 4, 0, t.val % 2] := (by decide +kernel : ∀ t : Fin grid0.N, _)
theorem idx2 : ∀ t : Fin cfg0.N, win0_2.index t = ![t.val / 2 % 4, t.val / 8, 0] := (by decide +kernel : ∀ t : Fin grid0.N, _)

/-- The first visit to a block stores its sum of products. -/
theorem first_at (x0 : Vec Ideal S512x2048 .bf16) (x1 : Vec Ideal S1x2752x2048 .bf16) (y : S512x2752.Idx) :
    k0_pay1 (F := Ideal) x0 x1 y = ∑ k : Fin 2048, x0 (ix2 (y 0) k) * x1 (ix3 0 (y 1) k) := by
  unfold k0_pay1
  pointwise

/-- The last visit adds its own and writes the block. -/
theorem last_at (x0 : Vec Ideal S512x2048 .bf16) (x1 : Vec Ideal S1x2752x2048 .bf16) (acc : Vec Ideal S512x2752 .f32) (y : S1x512x2752.Idx) :
    k0_pay2 (F := Ideal) x0 x1 acc y = acc (ix2 (y 1) (y 2)) + ∑ k : Fin 2048, x0 (ix2 (y 1) k) * x1 (ix3 0 (y 2) k) := by
  unfold k0_pay2
  pointwise

variable (m : (ℓ : Loc nD τ sig) → Buf (Elt Ideal) ℓ) (c : Dev nD)

/-- A block's entries are entries of the argument the block was prepared from. -/
theorem left_at (t : Fin cfg0.N) (a : Fin 512) (k : Fin 2048) (r : Fin 4096) (q : Fin 4096) (hr : r.val = t.val / 8 * 512 + a.val) (hq : q.val = t.val % 2 * 2048 + k.val) :
    iblk m c 0 t (ix2 a k) = m ((c : Thread nD τ).loc main_arg1) (ix2 r q) := by
  blk_simp [iblk, idx0 t]
  entry_read
  pointwise
  blk_ext [idx0 t]

theorem right_at (t : Fin cfg0.N) (b : Fin 2752) (k : Fin 2048) (r : Fin 11008) (q : Fin 4096) (hr : r.val = t.val / 2 % 4 * 2752 + b.val) (hq : q.val = t.val % 2 * 2048 + k.val) :
    iblk m c 1 t (ix3 0 b k) = m ((c : Thread nD τ).loc main_arg0) (ix3 0 r q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1, outsAt0_A m c ⟨t.val - 1, Nat.lt_of_le_of_lt (Nat.sub_le _ _) t.isLt⟩ (by dsimp only; omega) (by dsimp only; omega)]
  frame_out
  have hN := lt_of_lt_of_eq t.isLt N_0
  have e0 : ((((cfg0.win 2).blk t).view.emb y) 0).val = t.val / 2 % 4 := by blk_simp [idx2 t]
  have e1 : ((((cfg0.win 2).blk t).view.emb y) 1).val = t.val / 8 * 512 + (y 1).val := by blk_simp [idx2 t]
  have e2 : ((((cfg0.win 2).blk t).view.emb y) 2).val = (y 2).val := by blk_simp [idx2 t]
  refine (last_at _ _ _ _).trans ?_
  refine (congrArg₂ (· + ·) ((congrFun (Memref.IsWhole.read_unread _ _) _).trans (first_at _ _ _)) rfl).trans ?_
  refine Eq.trans ?_ (Fin.sum_univ_two_halves 2048 2048 rfl _).symm
  refine congrArg₂ (· + ·) (Finset.sum_congr rfl fun k _ => congrArg₂ (· * ·) ?_ ?_) (Finset.sum_congr rfl fun k _ => congrArg₂ (· * ·) ?_ ?_)
  · exact left_at m c _ _ k _ _ (by show (((cfg0.win 2).blk t).view.emb y 1).val = (t.val - 1) / 8 * 512 + (y 1).val; omega) (by show k.val = (t.val - 1) % 2 * 2048 + k.val; omega)
  · exact right_at m c _ _ k _ _ (by show (((cfg0.win 2).blk t).view.emb y 0).val * 2752 + (((cfg0.win 2).blk t).view.emb y 2).val = (t.val - 1) / 2 % 4 * 2752 + (y 2).val; omega) (by show k.val = (t.val - 1) % 2 * 2048 + k.val; omega)
  · exact left_at m c _ _ k _ _ (by show (((cfg0.win 2).blk t).view.emb y 1).val = t.val / 8 * 512 + (y 1).val; omega) (by show (2048 + k.val) = t.val % 2 * 2048 + k.val; omega)
  · exact right_at m c _ _ k _ _ (by show (((cfg0.win 2).blk t).view.emb y 0).val * 2752 + (((cfg0.win 2).blk t).view.emb y 2).val = t.val / 2 % 4 * 2752 + (y 2).val; omega) (by show (2048 + k.val) = t.val % 2 * 2048 + k.val; omega)

/-- The kernel and the reference end with the same array. -/
theorem same_values : Cert.algebraic_Kernel4Ideal_Reference4Ideal (hKernel4Ideal := Cert.Kernel4Ideal.Gen.facts)
    (hReference4Ideal := Cert.Reference4Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference4Ideal.defs _ _).mono (fun r hr c => ⟨(hr c).1.trans ?_, (hr c).2⟩) (Cert.Reference4Ideal.Value.run m' g')
    exact (funext (Cert.Reference4Ideal.Product.product_at _ _)).trans (congrArg₂ value (hargs c).1 (hargs c).2)

end Cert.Kernel4Ideal.Product

end
-- ==== Proof.DownWeight.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

/-! The gradient of the down-projection's weight: what the kernel's tiled product leaves, over exact arithmetic, and that the reference's product is the same. -/

@[expose] public section

set_option maxRecDepth 16384

noncomputable section

namespace Cert.Reference5Ideal.Product

open Cert.Reference5Ideal Cert.Reference5Ideal.Gen Idealize.ShloMosaic Idealize.ShloMosaic.TcCoe Idealize.SL.Sem

/-- An entry of the reference's product. -/
theorem product_at (p : FVec Ideal S4096x11008 .f32) (q : FVec Ideal S4096x4096 .f32) (i : S4x2752x4096.Idx) :
    (truncf .bf16 (shapeCast _ (transpose S11008x4096 [1, 0] (Host.dotGeneral dot_S4096x4096_S4096x11008_S4096x11008_0_0_1_1_n_n none q p) transposes_S4096x11008_S11008x4096_1_0) shapeCasts_S11008x4096_S4x2752x4096) bitsLt_bf16_f32 : FVec Ideal S4x2752x4096 .bf16) i = ∑ t : Fin 4096, p (ix2 t (⟨(i 0).val * 2752 + (i 1).val, by have h0 : (i 0).val < 4 := (i 0).isLt; have h1 : (i 1).val < 2752 := (i 1).isLt; omega⟩ : Fin 11008)) * q (ix2 t (i 2)) := by
  refine Eq.trans (b := ∑ t : Fin 4096, q (ix2 t (i 2)) * p (ix2 t (⟨(i 0).val * 2752 + (i 1).val, by have h0 : (i 0).val < 4 := (i 0).isLt; have h1 : (i 1).val < 2752 := (i 1).isLt; omega⟩ : Fin 11008))) ?_ (Finset.sum_congr rfl fun _ _ => mul_comm _ _)
  pointwise

/-- The reference runs, leaves its arguments as they were, and ends with every counter at zero. -/
theorem reference_frame : Cert.quiescent_Reference5Ideal (hReference5Ideal := Cert.Reference5Ideal.Gen.facts) :=
  fun m g _ => (θ_run defs _ _).mono
    (fun r h => ⟨fun c => (h c).2, sem_eq_zero_of_no_sems (by decide) r.2⟩) (Value.run m g)

end Cert.Reference5Ideal.Product

namespace Cert.Kernel5Ideal.Product

open Cert.Kernel5Ideal Cert.Kernel5Ideal.Gen Idealize.ShloMosaic Idealize.ShloMosaic.TcCoe Idealize.SL.Sem

/-- The product: row `b` of shard `a` against column `n`, summed over the 4096 tokens. -/
def value (p : FVec Ideal S4096x11008 .f32) (q : FVec Ideal S4096x4096 .f32) : FVec Ideal S4x2752x4096 .bf16 := fun i => ∑ t : Fin 4096, p (ix2 t (⟨(i 0).val * 2752 + (i 1).val, by have h0 : (i 0).val < 4 := (i 0).isLt; have h1 : (i 1).val < 2752 := (i 1).isLt; omega⟩ : Fin 11008)) * q (ix2 t (i 2))

/-- Where a grid point's blocks lie, in blocks. -/
theorem idx0 : ∀ t : Fin cfg0.N, win0_0.index t = ![t.val / 16, t.val % 2, 0] := (by decide +kernel : ∀ t : Fin grid0.N, _)
theorem idx1 : ∀ t : Fin cfg0.N, win0_1.index t = ![t.val % 2, t.val / 2 % 8] := (by decide +kernel : ∀ t : Fin grid0.N, _)
theorem idx2 : ∀ t : Fin cfg0.N, win0_2.index t = ![t.val / 16, 0, t.val / 2 % 8] := (by decide +kernel : ∀ t : Fin grid0.N, _)

/-- The first visit to a block stores its sum of products. -/
theorem first_at (x0 : Vec Ideal S1x2048x2752 .bf16) (x1 : Vec Ideal S2048x512 .bf16) (y : S2752x512.Idx) :
    k0_pay1 (F := Ideal) x0 x1 y = ∑ k : Fin 2048, x0 (ix3 0 k (y 0)) * x1 (ix2 k (y 1)) := by
  unfold k0_pay1
  pointwise

/-- The last visit adds its own and writes the block. -/
theorem last_at (x0 : Vec Ideal S1x2048x2752 .bf16) (x1 : Vec Ideal S2048x512 .bf16) (acc : Vec Ideal S2752x512 .f32) (y : S1x2752x512.Idx) :
    k0_pay2 (F := Ideal) x0 x1 acc y = acc (ix2 (y 1) (y 2)) + ∑ k : Fin 2048, x0 (ix3 0 k (y 1)) * x1 (ix2 k (y 2)) := by
  unfold k0_pay2
  pointwise

variable (m : (ℓ : Loc nD τ sig) → Buf (Elt Ideal) ℓ) (c : Dev nD)

/-- A block's entries are entries of the argument the block was prepared from. -/
theorem left_at (t : Fin cfg0.N) (k : Fin 2048) (b : Fin 2752) (r : Fin 4096) (q : Fin 11008) (hr : r.val = t.val % 2 * 2048 + k.val) (hq : q.val = t.val / 16 * 2752 + b.val) :
    iblk m c 0 t (ix3 0 k b) = m ((c : Thread nD τ).loc main_arg0) (ix2 r q) := by
  blk_simp [iblk, idx0 t]
  entry_read
  pointwise
  blk_ext [idx0 t]

theorem right_at (t : Fin cfg0.N) (k : Fin 2048) (n : Fin 512) (r : Fin 4096) (q : Fin 4096) (hr : r.val = t.val % 2 * 2048 + k.val) (hq : q.val = t.val / 2 % 8 * 512 + n.val) :
    iblk m c 1 t (ix2 k n) = m ((c : Thread nD τ).loc main_arg1) (ix2 r q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1, outsAt0_A m c ⟨t.val - 1, Nat.lt_of_le_of_lt (Nat.sub_le _ _) t.isLt⟩ (by dsimp only; omega) (by dsimp only; omega)]
  frame_out
  have hN := lt_of_lt_of_eq t.isLt N_0
  have e0 : ((((cfg0.win 2).blk t).view.emb y) 0).val = t.val / 16 := by blk_simp [idx2 t]
  have e1 : ((((cfg0.win 2).blk t).view.emb y) 1).val = (y 1).val := by blk_simp [idx2 t]
  have e2 : ((((cfg0.win 2).blk t).view.emb y) 2).val = t.val / 2 % 8 * 512 + (y 2).val := by blk_simp [idx2 t]
  refine (last_at _ _ _ _).trans ?_
  refine (congrArg₂ (· + ·) ((congrFun (Memref.IsWhole.read_unread _ _) _).trans (first_at _ _ _)) rfl).trans ?_
  refine Eq.trans ?_ (Fin.sum_univ_two_halves 2048 2048 rfl _).symm
  refine congrArg₂ (· + ·) (Finset.sum_congr rfl fun k _ => congrArg₂ (· * ·) ?_ ?_) (Finset.sum_congr rfl fun k _ => congrArg₂ (· * ·) ?_ ?_)
  · exact left_at m c _ k _ _ _ (by show k.val = (t.val - 1) % 2 * 2048 + k.val; omega) (by show (((cfg0.win 2).blk t).view.emb y 0).val * 2752 + (((cfg0.win 2).blk t).view.emb y 1).val = (t.val - 1) / 16 * 2752 + (y 1).val; omega)
  · exact right_at m c _ k _ _ _ (by show k.val = (t.val - 1) % 2 * 2048 + k.val; omega) (by show (((cfg0.win 2).blk t).view.emb y 2).val = (t.val - 1) / 2 % 8 * 512 + (y 2).val; omega)
  · exact left_at m c _ k _ _ _ (by show (2048 + k.val) = t.val % 2 * 2048 + k.val; omega) (by show (((cfg0.win 2).blk t).view.emb y 0).val * 2752 + (((cfg0.win 2).blk t).view.emb y 1).val = t.val / 16 * 2752 + (y 1).val; omega)
  · exact right_at m c _ k _ _ _ (by show (2048 + k.val) = t.val % 2 * 2048 + k.val; omega) (by show (((cfg0.win 2).blk t).view.emb y 2).val = t.val / 2 % 8 * 512 + (y 2).val; omega)

/-- The kernel and the reference end with the same array. -/
theorem same_values : Cert.algebraic_Kernel5Ideal_Reference5Ideal (hKernel5Ideal := Cert.Kernel5Ideal.Gen.facts)
    (hReference5Ideal := Cert.Reference5Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference5Ideal.defs _ _).mono (fun r hr c => ⟨(hr c).1.trans ?_, (hr c).2⟩) (Cert.Reference5Ideal.Value.run m' g')
    exact (funext (Cert.Reference5Ideal.Product.product_at _ _)).trans (congrArg₂ value (hargs c).1 (hargs c).2)

end Cert.Kernel5Ideal.Product

end
-- ==== Proof.InInput.lean ====
module

public import proofs.«01_k».proof.Defs
public import proofs.«01_k».proof.Proof.Gen.Kernel6Ideal.Value
public import proofs.«01_k».proof.Proof.Gen.Reference6Ideal.Run
public import proofs.«01_k».proof.Proof.Blocks
public import Idealize.ShloMosaic.Lib.Pipeline.ValueKit
public import Idealize.ShloMosaic.Lib.Pointwise
public import Idealize.ShloMosaic.Lib.Claim

/-! The gradient of the input projection's input: what the kernel's tiled product leaves, over exact arithmetic, and that the reference's product is the same. -/

@[expose] public section

set_option maxRecDepth 16384

noncomputable section

namespace Cert.Reference6Ideal.Product

open Cert.Reference6Ideal Cert.Reference6Ideal.Gen Idealize.ShloMosaic Idealize.ShloMosaic.TcCoe Idealize.SL.Sem

/-- An entry of the reference's product. -/
theorem product_at (p : FVec Ideal S1x4096x12288 .f32) (q : FVec Ideal S4096x12288 .f32) (i : S4096x4096.Idx) :
    (Host.dotGeneral dot_S4096x12288_S4096x12288_S4096x4096_1_1_0_0_n_n none q (shapeCast _ p shapeCasts_S1x4096x12288_S4096x12288) : FVec Ideal S4096x4096 .f32) i = ∑ l : Fin 12288, q (ix2 (i 0) l) * p (ix3 0 (i 1) l) := by
  pointwise

/-- The reference runs, leaves its arguments as they were, and ends with every counter at zero. -/
theorem reference_frame : Cert.quiescent_Reference6Ideal (hReference6Ideal := Cert.Reference6Ideal.Gen.facts) :=
  fun m g _ => (θ_run defs _ _).mono
    (fun r h => ⟨fun c => (h c).2, sem_eq_zero_of_no_sems (by decide) r.2⟩) (Value.run m g)

end Cert.Reference6Ideal.Product

namespace Cert.Kernel6Ideal.Product

open Cert.Kernel6Ideal Cert.Kernel6Ideal.Gen Idealize.ShloMosaic Idealize.ShloMosaic.TcCoe Idealize.SL.Sem

/-- The product: token `a` of the cotangent against feature `b`, summed over the 12288 columns. -/
def value (p : FVec Ideal S1x4096x12288 .f32) (q : FVec Ideal S4096x12288 .f32) : FVec Ideal S4096x4096 .f32 := fun i => ∑ l : Fin 12288, q (ix2 (i 0) l) * p (ix3 0 (i 1) l)

/-- Where a grid point's blocks lie, in blocks. -/
theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4, 0] := (by decide +kernel : ∀ t : Fin grid0.N, _)
theorem idx2 : ∀ t : Fin cfg0.N, win0_2.index t = ![t.val / 16, t.val / 4 % 4] := (by decide +kernel : ∀ t : Fin grid0.N, _)

/-- Two shards side by side. -/
def cat (u v : Vec Ideal S1x1024x1536 .bf16) : FVec Ideal S1024x3072 .bf16 :=
  concatenate S1024x3072 1 [⟨S1024x1536, shapeCast S1024x1536 u shapeCasts_S1x1024x1536_S1024x1536⟩, ⟨S1024x1536, shapeCast S1024x1536 v shapeCasts_S1x1024x1536_S1024x1536⟩]
    concatenates_S1024x1536_S1024x1536_S1024x3072_d1

theorem cat_left (u v : Vec Ideal S1x1024x1536 .bf16) (n : Fin 1024) (k : Fin 1536) (l : Fin 3072) (hl : l.val = k.val) : cat u v (ix2 n l) = u (ix3 0 n k) := by
  unfold cat
  refine (concatenate_pair_apply_left (t := S1024x3072) (s₁ := S1024x1536) (s₂ := S1024x1536) 1 _ _ _ (ix2 n l) rfl (ix2 n k) (fun b => ?_)).trans ?_
  · match b with
    | ⟨0, _⟩ => rfl
    | ⟨1, _⟩ => exact hl.symm
  · pointwise

theorem cat_right (u v : Vec Ideal S1x1024x1536 .bf16) (n : Fin 1024) (k : Fin 1536) (l : Fin 3072) (hl : l.val = 1536 + k.val) : cat u v (ix2 n l) = v (ix3 0 n k) := by
  unfold cat
  refine (concatenate_pair_apply_right (t := S1024x3072) (s₁ := S1024x1536) (s₂ := S1024x1536) 1 _ _ _ (ix2 n l) rfl rfl (ix2 n k) (fun b hb => ?_) ?_).trans ?_
  · match b with
    | ⟨0, _⟩ => rfl
    | ⟨1, _⟩ => exact absurd rfl hb
  · show k.val + 1536 = l.val
    omega
  · pointwise

/-- Two shards' sums of products. -/
def pair (x : Vec Ideal S1024x3072 .bf16) (u v : Vec Ideal S1x1024x1536 .bf16) (a n : Fin 1024) : EReal :=
  ∑ k : Fin 3072, x (ix2 a k) * cat u v (ix2 n k)

/-- The 3072 terms of the product's entry `(r, s)` that `f` names. -/
def part (p : FVec Ideal S1x4096x12288 .f32) (q : FVec Ideal S4096x12288 .f32) (r s : Fin 4096) (f : Fin 3072 → Fin 12288) : EReal :=
  ∑ k : Fin 3072, q (ix2 r (f k)) * p (ix3 0 s (f k))

/-- The first visit to a block stores two shards' sums of products. -/
theorem first_at (x : Vec Ideal S1024x3072 .bf16) (u v : Vec Ideal S1x1024x1536 .bf16) (y : S1024x1024.Idx) :
    k0_pay1 (F := Ideal) x u v y = pair x u v (y 0) (y 1) := by
  unfold pair
  show (shapeCast S1024x1024 (matmul dot_S1024x3072_S1024x3072_S1024x1024_1_1_0_0_n_n none (shapeCast S1024x3072 x shapeCasts_S1024x3072_S1024x3072) (cat u v) (constant S1024x1024 .f32 0x00000000#32)) shapeCasts_S1024x1024_S1024x1024 : FVec Ideal S1024x1024 .f32) y = _
  generalize cat u v = w
  pointwise

/-- A later visit adds its own. -/
theorem next_at (x : Vec Ideal S1024x3072 .bf16) (u v : Vec Ideal S1x1024x1536 .bf16) (acc : Vec Ideal S1024x1024 .f32) (y : S1024x1024.Idx) :
    k0_pay2 (F := Ideal) x u v acc y = acc (ix2 (y 0) (y 1)) + pair x u v (y 0) (y 1) := by
  unfold pair
  show (shapeCast S1024x1024 (addf acc (matmul dot_S1024x3072_S1024x3072_S1024x1024_1_1_0_0_n_n none (shapeCast S1024x3072 x shapeCasts_S1024x3072_S1024x3072) (cat u v) (constant S1024x1024 .f32 0x00000000#32))) shapeCasts_S1024x1024_S1024x1024 : FVec Ideal S1024x1024 .f32) y = _
  generalize cat u v = w
  pointwise

/-- The last visit adds its own and writes the block. -/
theorem last_at (x : Vec Ideal S1024x3072 .bf16) (u v : Vec Ideal S1x1024x1536 .bf16) (acc : Vec Ideal S1024x1024 .f32) (y : S1024x1024.Idx) :
    k0_pay3 (F := Ideal) x u v acc y = acc (ix2 (y 0) (y 1)) + pair x u v (y 0) (y 1) := by
  unfold pair
  show (addf acc (matmul dot_S1024x3072_S1024x3072_S1024x1024_1_1_0_0_n_n none (shapeCast S1024x3072 x shapeCasts_S1024x3072_S1024x3072) (cat u v) (constant S1024x1024 .f32 0x00000000#32)) : FVec Ideal S1024x1024 .f32) y = _
  generalize cat u v = w
  pointwise

variable (m : (ℓ : Loc nD τ sig) → Buf (Elt Ideal) ℓ) (c : Dev nD)

/-- A block's entries are entries of the argument the block was prepared from. -/
theorem left_at (t : Fin cfg0.N) (a : Fin 1024) (k : Fin 3072) (r : Fin 4096) (q : Fin 12288) (hr : r.val = t.val / 16 * 1024 + a.val) (hq : q.val = t.val % 4 * 3072 + k.val) :
    iblk m c 0 t (ix2 a k) = m ((c : Thread nD τ).loc main_arg1) (ix2 r q) := by
  blk_simp [iblk, idx0 t]
  entry_read
  pointwise
  blk_ext [idx0 t]

theorem shard_at (t : Fin cfg0.N) (s : Fin 2) (n : Fin 1024) (k : Fin 1536) (r : Fin 12288) (q : Fin 4096) (hr : r.val = (t.val % 4 * 2 + s.val) * 1536 + k.val) (hq : q.val = t.val / 4 % 4 * 1024 + n.val) :
    iblk m c 1 t (ix3 s n k) = m ((c : Thread nD τ).loc main_arg0) (ix3 0 q r) := by
  blk_simp [iblk, idx1 t]
  entry_read
  pointwise
  blk_ext [idx1 t]

theorem first_shard (X : Vec Ideal S2x1024x1536 .bf16) (n : Fin 1024) (k : Fin 1536) :
    View.ld (Val := Elt Ideal) (e' := .bf16) X (Rect.unit (s := S2x1024x1536) ![0, 0, 0] ![1, 1024, 1536] inb_S2x1024x1536_S1x1024x1536_0_0_0) (ix3 0 n k) = X (ix3 0 n k) :=
  View.ld_unit_apply_of X _ _ _ _ _ fun a => by match a with | ⟨0, _⟩ => rfl | ⟨1, _⟩ => exact (Nat.zero_add _).symm | ⟨2, _⟩ => exact (Nat.zero_add _).symm

theorem second_shard (X : Vec Ideal S2x1024x1536 .bf16) (n : Fin 1024) (k : Fin 1536) :
    View.ld (Val := Elt Ideal) (e' := .bf16) X (Rect.unit (s := S2x1024x1536) ![1, 0, 0] ![1, 1024, 1536] inb_S2x1024x1536_S1x1024x1536_1_0_0) (ix3 0 n k) = X (ix3 1 n k) :=
  View.ld_unit_apply_of X _ _ _ _ _ fun a => by match a with | ⟨0, _⟩ => rfl | ⟨1, _⟩ => exact (Nat.zero_add _).symm | ⟨2, _⟩ => exact (Nat.zero_add _).symm

/-- What a visit adds: its 3072 of the 12288 columns. -/
theorem visit_eq (t : Fin cfg0.N) (a n : Fin 1024) (r q : Fin 4096) (f : Fin 3072 → Fin 12288)
    (hr : r.val = t.val / 16 * 1024 + a.val) (hq : q.val = t.val / 4 % 4 * 1024 + n.val) (hf : ∀ k : Fin 3072, (f k).val = t.val % 4 * 3072 + k.val) :
    pair (iblk m c 0 t) (View.ld (iblk m c 1 t) (Rect.unit (s := S2x1024x1536) ![0, 0, 0] ![1, 1024, 1536] inb_S2x1024x1536_S1x1024x1536_0_0_0))
        (View.ld (iblk m c 1 t) (Rect.unit (s := S2x1024x1536) ![1, 0, 0] ![1, 1024, 1536] inb_S2x1024x1536_S1x1024x1536_1_0_0)) a n =
      part (m ((c : Thread nD τ).loc main_arg0)) (m ((c : Thread nD τ).loc main_arg1)) r q f := by
  unfold pair part
  refine (Fin.sum_univ_two_halves 1536 1536 rfl _).trans (Eq.trans ?_ (Fin.sum_univ_two_halves 1536 1536 rfl _).symm)
  refine congrArg₂ (· + ·) (Finset.sum_congr rfl fun k _ => congrArg₂ (· * ·) ?_ ?_) (Finset.sum_congr rfl fun k _ => congrArg₂ (· * ·) ?_ ?_)
  · exact left_at m c t a _ _ _ hr (hf _)
  · refine (cat_left _ _ n k _ rfl).trans ((first_shard _ n k).trans (shard_at m c t 0 n k _ _ ((hf _).trans ?_) hq))
    show t.val % 4 * 3072 + k.val = (t.val % 4 * 2 + 0) * 1536 + k.val
    omega
  · exact left_at m c t a _ _ _ hr (hf _)
  · refine (cat_right _ _ n k _ rfl).trans ((second_shard _ n k).trans (shard_at m c t 1 n k _ _ ((hf _).trans ?_) hq))
    show t.val % 4 * 3072 + (1536 + k.val) = (t.val % 4 * 2 + 1) * 1536 + k.val
    omega

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h2 : t.val % 4 = 3 := (flush0_2 t).mp hf
  have b1 : t.val - 1 < cfg0.N := Nat.lt_of_le_of_lt (Nat.sub_le _ _) t.isLt
  have b2 : t.val - 1 - 1 < cfg0.N := Nat.lt_of_le_of_lt (Nat.sub_le _ _) b1
  have b3 : t.val - 1 - 1 - 1 < cfg0.N := Nat.lt_of_le_of_lt (Nat.sub_le _ _) b2
  blk_simp
  rw [after0_2, outsAt0_C m c t (by omega) (by omega) h2,
    outsAt0_B m c ⟨t.val - 1, b1⟩ (by dsimp only; omega) (by dsimp only; omega) (by dsimp only; omega),
    outsAt0_B m c ⟨t.val - 1 - 1, b2⟩ (by dsimp only; omega) (by dsimp only; omega) (by dsimp only; omega),
    outsAt0_A m c ⟨t.val - 1 - 1 - 1, b3⟩ (by dsimp only; omega) (by dsimp only; omega) (by dsimp only; omega)]
  frame_out
  have hN := lt_of_lt_of_eq t.isLt N_0
  have e0 : ((((cfg0.win 2).blk t).view.emb y) 0).val = t.val / 16 * 1024 + (y 0).val := by blk_simp [idx2 t]
  have e1 : ((((cfg0.win 2).blk t).view.emb y) 1).val = t.val / 4 % 4 * 1024 + (y 1).val := by blk_simp [idx2 t]
  refine (last_at _ _ _ _ _).trans ?_
  refine (congrArg₂ (· + ·) ((congrFun (Memref.IsWhole.read_unread _ _) _).trans ((next_at _ _ _ _ _).trans
    (congrArg₂ (· + ·) ((congrFun (Memref.IsWhole.read_unread _ _) _).trans ((next_at _ _ _ _ _).trans
      (congrArg₂ (· + ·) ((congrFun (Memref.IsWhole.read_unread _ _) _).trans (first_at _ _ _ _)) rfl))) rfl))) rfl).trans ?_
  refine Eq.trans ?_ (Blocks.sum_four 3072 12288 (by decide) _).symm
  refine congrArg₂ (· + ·) (congrArg₂ (· + ·) (congrArg₂ (· + ·) ?_ ?_) ?_) ?_
  · exact visit_eq m c ⟨t.val - 1 - 1 - 1, b3⟩ (y 0) (y 1) _ _ (fun k => ⟨0 * 3072 + k.val, by omega⟩) (by show (((cfg0.win 2).blk t).view.emb y 0).val = (t.val - 1 - 1 - 1) / 16 * 1024 + (y 0).val; omega)
      (by show (((cfg0.win 2).blk t).view.emb y 1).val = (t.val - 1 - 1 - 1) / 4 % 4 * 1024 + (y 1).val; omega) (fun k => by show 0 * 3072 + k.val = (t.val - 1 - 1 - 1) % 4 * 3072 + k.val; omega)
  · exact visit_eq m c ⟨t.val - 1 - 1, b2⟩ (y 0) (y 1) _ _ (fun k => ⟨1 * 3072 + k.val, by omega⟩) (by show (((cfg0.win 2).blk t).view.emb y 0).val = (t.val - 1 - 1) / 16 * 1024 + (y 0).val; omega)
      (by show (((cfg0.win 2).blk t).view.emb y 1).val = (t.val - 1 - 1) / 4 % 4 * 1024 + (y 1).val; omega) (fun k => by show 1 * 3072 + k.val = (t.val - 1 - 1) % 4 * 3072 + k.val; omega)
  · exact visit_eq m c ⟨t.val - 1, b1⟩ (y 0) (y 1) _ _ (fun k => ⟨2 * 3072 + k.val, by omega⟩) (by show (((cfg0.win 2).blk t).view.emb y 0).val = (t.val - 1) / 16 * 1024 + (y 0).val; omega)
      (by show (((cfg0.win 2).blk t).view.emb y 1).val = (t.val - 1) / 4 % 4 * 1024 + (y 1).val; omega) (fun k => by show 2 * 3072 + k.val = (t.val - 1) % 4 * 3072 + k.val; omega)
  · exact visit_eq m c t (y 0) (y 1) _ _ (fun k => ⟨3 * 3072 + k.val, by omega⟩) (by show (((cfg0.win 2).blk t).view.emb y 0).val = t.val / 16 * 1024 + (y 0).val; omega)
      (by show (((cfg0.win 2).blk t).view.emb y 1).val = t.val / 4 % 4 * 1024 + (y 1).val; omega) (fun k => by show 3 * 3072 + k.val = t.val % 4 * 3072 + k.val; omega)

/-- The kernel and the reference end with the same array. -/
theorem same_values : Cert.algebraic_Kernel6Ideal_Reference6Ideal (hKernel6Ideal := Cert.Kernel6Ideal.Gen.facts)
    (hReference6Ideal := Cert.Reference6Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference6Ideal.defs _ _).mono (fun r hr c => ⟨(hr c).1.trans ?_, (hr c).2⟩) (Cert.Reference6Ideal.Value.run m' g')
    exact (funext (Cert.Reference6Ideal.Product.product_at _ _)).trans (congrArg₂ value (hargs c).1 (hargs c).2)

end Cert.Kernel6Ideal.Product

end
-- ==== Proof.InWeight.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

/-! The gradient of the input projection's weight: what the kernel's tiled product leaves, over exact arithmetic, and that the reference's product is the same. -/

@[expose] public section

set_option maxRecDepth 16384

noncomputable section

namespace Cert.Reference7Ideal.Product

open Cert.Reference7Ideal Cert.Reference7Ideal.Gen Idealize.ShloMosaic Idealize.ShloMosaic.TcCoe Idealize.SL.Sem

/-- An entry of the reference's product. -/
theorem product_at (p : FVec Ideal S4096x4096 .f32) (q : FVec Ideal S4096x12288 .f32) (i : S8x4096x1536.Idx) :
    (truncf .bf16 (transpose S8x4096x1536 [1, 0, 2] (shapeCast _ (transpose S4096x12288 [1, 0] (Host.dotGeneral dot_S4096x12288_S4096x4096_S12288x4096_0_0_1_1_n_n none q p) transposes_S12288x4096_S4096x12288_1_0) shapeCasts_S4096x12288_S4096x8x1536) transposes_S4096x8x1536_S8x4096x1536_1_0_2) bitsLt_bf16_f32 : FVec Ideal S8x4096x1536 .bf16) i = ∑ t : Fin 4096, p (ix2 t (i 1)) * q (ix2 t (⟨(i 0).val * 1536 + (i 2).val, by have h0 : (i 0).val < 8 := (i 0).isLt; have h1 : (i 2).val < 1536 := (i 2).isLt; omega⟩ : Fin 12288)) := by
  refine Eq.trans (b := ∑ t : Fin 4096, q (ix2 t (⟨(i 0).val * 1536 + (i 2).val, by have h0 : (i 0).val < 8 := (i 0).isLt; have h1 : (i 2).val < 1536 := (i 2).isLt; omega⟩ : Fin 12288)) * p (ix2 t (i 1))) ?_ (Finset.sum_congr rfl fun _ _ => mul_comm _ _)
  pointwise

/-- The reference runs, leaves its arguments as they were, and ends with every counter at zero. -/
theorem reference_frame : Cert.quiescent_Reference7Ideal (hReference7Ideal := Cert.Reference7Ideal.Gen.facts) :=
  fun m g _ => (θ_run defs _ _).mono
    (fun r h => ⟨fun c => (h c).2, sem_eq_zero_of_no_sems (by decide) r.2⟩) (Value.run m g)

end Cert.Reference7Ideal.Product

namespace Cert.Kernel7Ideal.Product

open Cert.Kernel7Ideal Cert.Kernel7Ideal.Gen Idealize.ShloMosaic Idealize.ShloMosaic.TcCoe Idealize.SL.Sem

/-- The product: feature `b` against column `n` of shard `a`, summed over the 4096 tokens. -/
def value (p : FVec Ideal S4096x4096 .f32) (q : FVec Ideal S4096x12288 .f32) : FVec Ideal S8x4096x1536 .bf16 := fun i => ∑ t : Fin 4096, p (ix2 t (i 1)) * q (ix2 t (⟨(i 0).val * 1536 + (i 2).val, by have h0 : (i 0).val < 8 := (i 0).isLt; have h1 : (i 2).val < 1536 := (i 2).isLt; omega⟩ : Fin 12288))

/-- Where a grid point's blocks lie, in blocks. -/
theorem idx0 : ∀ t : Fin cfg0.N, win0_0.index t = ![0, t.val / 24] := (by decide +kernel : ∀ t : Fin grid0.N, _)
theorem idx1 : ∀ t : Fin cfg0.N, win0_1.index t = ![0, t.val % 24] := (by decide +kernel : ∀ t : Fin grid0.N, _)
theorem idx2 : ∀ t : Fin cfg0.N, win0_2.index t = ![t.val % 24 / 3, t.val / 24, t.val % 24 % 3] := (by decide +kernel : ∀ t : Fin grid0.N, _)

/-- A visit stores its sum of products. -/
theorem block_at (x0 : Vec Ideal S4096x512 .bf16) (x1 : Vec Ideal S4096x512 .bf16) (y : S1x512x512.Idx) :
    k0_pay1 (F := Ideal) x0 x1 y = ∑ k : Fin 4096, x0 (ix2 k (y 1)) * x1 (ix2 k (y 2)) := by
  unfold k0_pay1
  pointwise

variable (m : (ℓ : Loc nD τ sig) → Buf (Elt Ideal) ℓ) (c : Dev nD)

/-- A block's entries are entries of the argument the block was prepared from. -/
theorem left_at (t : Fin cfg0.N) (k : Fin 4096) (n : Fin 512) (q : Fin 4096) (hq : q.val = t.val / 24 * 512 + n.val) :
    iblk m c 0 t (ix2 k n) = m ((c : Thread nD τ).loc main_arg0) (ix2 k q) := by
  blk_simp [iblk, idx0 t]
  entry_read
  pointwise
  blk_ext [idx0 t]

theorem right_at (t : Fin cfg0.N) (k : Fin 4096) (n : Fin 512) (q : Fin 12288) (hq : q.val = t.val % 24 * 512 + n.val) :
    iblk m c 1 t (ix2 k n) = m ((c : Thread nD τ).loc main_arg1) (ix2 k q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t _ y => ?_
  blk_simp
  rw [after0_2]
  frame_out
  have hN := lt_of_lt_of_eq t.isLt N_0
  have e0 : ((((cfg0.win 2).blk t).view.emb y) 0).val = t.val % 24 / 3 := by blk_simp [idx2 t]
  have e1 : ((((cfg0.win 2).blk t).view.emb y) 1).val = t.val / 24 * 512 + (y 1).val := by blk_simp [idx2 t]
  have e2 : ((((cfg0.win 2).blk t).view.emb y) 2).val = t.val % 24 % 3 * 512 + (y 2).val := by blk_simp [idx2 t]
  refine (block_at _ _ _).trans ?_
  refine Finset.sum_congr rfl fun k _ => congrArg₂ (· * ·) ?_ ?_
  · exact left_at m c _ k _ _ (by show (((cfg0.win 2).blk t).view.emb y 1).val = t.val / 24 * 512 + (y 1).val; omega)
  · exact right_at m c _ k _ _ (by show (((cfg0.win 2).blk t).view.emb y 0).val * 1536 + (((cfg0.win 2).blk t).view.emb y 2).val = t.val % 24 * 512 + (y 2).val; omega)

/-- The kernel and the reference end with the same array. -/
theorem same_values : Cert.algebraic_Kernel7Ideal_Reference7Ideal (hKernel7Ideal := Cert.Kernel7Ideal.Gen.facts)
    (hReference7Ideal := Cert.Reference7Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference7Ideal.defs _ _).mono (fun r hr c => ⟨(hr c).1.trans ?_, (hr c).2⟩) (Cert.Reference7Ideal.Value.run m' g')
    exact (funext (Cert.Reference7Ideal.Product.product_at _ _)).trans (congrArg₂ value (hargs c).1 (hargs c).2)

end Cert.Kernel7Ideal.Product

end
-- ==== Proof.Up.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

/-! The up-projection: what the kernel's tiled product leaves, over exact arithmetic, and that the reference's product is the same. -/

@[expose] public section

set_option maxRecDepth 16384

noncomputable section

namespace Cert.Reference8Ideal.Product

open Cert.Reference8Ideal Cert.Reference8Ideal.Gen Idealize.ShloMosaic Idealize.ShloMosaic.TcCoe Idealize.SL.Sem

/-- An entry of the reference's product. -/
theorem product_at (p : FVec Ideal S4096x4096 .f32) (q : FVec Ideal S1x4096x22016 .f32) (i : S8x4096x2752.Idx) :
    (transpose S8x4096x2752 [1, 0, 2] (shapeCast _ (Host.dotGeneral dot_S4096x4096_S4096x22016_S4096x22016_1_0_0_1_n_n none p (shapeCast _ q shapeCasts_S1x4096x22016_S4096x22016)) shapeCasts_S4096x22016_S4096x8x2752) transposes_S4096x8x2752_S8x4096x2752_1_0_2 : FVec Ideal S8x4096x2752 .f32) i = ∑ k : Fin 4096, p (ix2 (i 1) k) * q (ix3 0 k (⟨(i 0).val * 2752 + (i 2).val, by have h0 : (i 0).val < 8 := (i 0).isLt; have h1 : (i 2).val < 2752 := (i 2).isLt; omega⟩ : Fin 22016)) := by
  pointwise

/-- The reference runs, leaves its arguments as they were, and ends with every counter at zero. -/
theorem reference_frame : Cert.quiescent_Reference8Ideal (hReference8Ideal := Cert.Reference8Ideal.Gen.facts) :=
  fun m g _ => (θ_run defs _ _).mono
    (fun r h => ⟨fun c => (h c).2, sem_eq_zero_of_no_sems (by decide) r.2⟩) (Value.run m g)

end Cert.Reference8Ideal.Product

namespace Cert.Kernel8Ideal.Product

open Cert.Kernel8Ideal Cert.Kernel8Ideal.Gen Idealize.ShloMosaic Idealize.ShloMosaic.TcCoe Idealize.SL.Sem

/-- The product: token `t` against hidden unit `b` of shard `a`, summed over the 4096 features. -/
def value (p : FVec Ideal S4096x4096 .f32) (q : FVec Ideal S1x4096x22016 .f32) : FVec Ideal S8x4096x2752 .f32 := fun i => ∑ k : Fin 4096, p (ix2 (i 1) k) * q (ix3 0 k (⟨(i 0).val * 2752 + (i 2).val, by have h0 : (i 0).val < 8 := (i 0).isLt; have h1 : (i 2).val < 2752 := (i 2).isLt; omega⟩ : Fin 22016))

/-- Where a grid point's blocks lie, in blocks. -/
theorem idx0 : ∀ t : Fin cfg0.N, win0_0.index t = ![t.val / 16, t.val % 2] := (by decide +kernel : ∀ t : Fin grid0.N, _)
theorem idx1 : ∀ t : Fin cfg0.N, win0_1.index t = ![t.val / 2 % 8, 0, t.val % 2] := (by decide +kernel : ∀ t : Fin grid0.N, _)
theorem idx2 : ∀ t : Fin cfg0.N, win0_2.index t = ![t.val / 2 % 8, t.val / 16, 0] := (by decide +kernel : ∀ t : Fin grid0.N, _)

/-- The first visit to a block stores its sum of products. -/
theorem first_at (x0 : Vec Ideal S512x2048 .bf16) (x1 : Vec Ideal S1x2752x2048 .bf16) (y : S512x2752.Idx) :
    k0_pay1 (F := Ideal) x0 x1 y = ∑ k : Fin 2048, x0 (ix2 (y 0) k) * x1 (ix3 0 (y 1) k) := by
  unfold k0_pay1
  pointwise

/-- The last visit adds its own and writes the block. -/
theorem last_at (x0 : Vec Ideal S512x2048 .bf16) (x1 : Vec Ideal S1x2752x2048 .bf16) (acc : Vec Ideal S512x2752 .f32) (y : S1x512x2752.Idx) :
    k0_pay2 (F := Ideal) x0 x1 acc y = acc (ix2 (y 1) (y 2)) + ∑ k : Fin 2048, x0 (ix2 (y 1) k) * x1 (ix3 0 (y 2) k) := by
  unfold k0_pay2
  pointwise

variable (m : (ℓ : Loc nD τ sig) → Buf (Elt Ideal) ℓ) (c : Dev nD)

/-- A block's entries are entries of the argument the block was prepared from. -/
theorem left_at (t : Fin cfg0.N) (a : Fin 512) (k : Fin 2048) (r : Fin 4096) (q : Fin 4096) (hr : r.val = t.val / 16 * 512 + a.val) (hq : q.val = t.val % 2 * 2048 + k.val) :
    iblk m c 0 t (ix2 a k) = m ((c : Thread nD τ).loc main_arg0) (ix2 r q) := by
  blk_simp [iblk, idx0 t]
  entry_read
  pointwise
  blk_ext [idx0 t]

theorem right_at (t : Fin cfg0.N) (b : Fin 2752) (k : Fin 2048) (r : Fin 4096) (q : Fin 22016) (hr : r.val = t.val % 2 * 2048 + k.val) (hq : q.val = t.val / 2 % 8 * 2752 + b.val) :
    iblk m c 1 t (ix3 0 b k) = m ((c : Thread nD τ).loc main_arg1) (ix3 0 r q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1, outsAt0_A m c ⟨t.val - 1, Nat.lt_of_le_of_lt (Nat.sub_le _ _) t.isLt⟩ (by dsimp only; omega) (by dsimp only; omega)]
  frame_out
  have hN := lt_of_lt_of_eq t.isLt N_0
  have e0 : ((((cfg0.win 2).blk t).view.emb y) 0).val = t.val / 2 % 8 := by blk_simp [idx2 t]
  have e1 : ((((cfg0.win 2).blk t).view.emb y) 1).val = t.val / 16 * 512 + (y 1).val := by blk_simp [idx2 t]
  have e2 : ((((cfg0.win 2).blk t).view.emb y) 2).val = (y 2).val := by blk_simp [idx2 t]
  refine (last_at _ _ _ _).trans ?_
  refine (congrArg₂ (· + ·) ((congrFun (Memref.IsWhole.read_unread _ _) _).trans (first_at _ _ _)) rfl).trans ?_
  refine Eq.trans ?_ (Fin.sum_univ_two_halves 2048 2048 rfl _).symm
  refine congrArg₂ (· + ·) (Finset.sum_congr rfl fun k _ => congrArg₂ (· * ·) ?_ ?_) (Finset.sum_congr rfl fun k _ => congrArg₂ (· * ·) ?_ ?_)
  · exact left_at m c _ _ k _ _ (by show (((cfg0.win 2).blk t).view.emb y 1).val = (t.val - 1) / 16 * 512 + (y 1).val; omega) (by show k.val = (t.val - 1) % 2 * 2048 + k.val; omega)
  · exact right_at m c _ _ k _ _ (by show k.val = (t.val - 1) % 2 * 2048 + k.val; omega) (by show (((cfg0.win 2).blk t).view.emb y 0).val * 2752 + (((cfg0.win 2).blk t).view.emb y 2).val = (t.val - 1) / 2 % 8 * 2752 + (y 2).val; omega)
  · exact left_at m c _ _ k _ _ (by show (((cfg0.win 2).blk t).view.emb y 1).val = t.val / 16 * 512 + (y 1).val; omega) (by show (2048 + k.val) = t.val % 2 * 2048 + k.val; omega)
  · exact right_at m c _ _ k _ _ (by show (2048 + k.val) = t.val % 2 * 2048 + k.val; omega) (by show (((cfg0.win 2).blk t).view.emb y 0).val * 2752 + (((cfg0.win 2).blk t).view.emb y 2).val = t.val / 2 % 8 * 2752 + (y 2).val; omega)

/-- The kernel and the reference end with the same array. -/
theorem same_values : Cert.algebraic_Kernel8Ideal_Reference8Ideal (hKernel8Ideal := Cert.Kernel8Ideal.Gen.facts)
    (hReference8Ideal := Cert.Reference8Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference8Ideal.defs _ _).mono (fun r hr c => ⟨(hr c).1.trans ?_, (hr c).2⟩) (Cert.Reference8Ideal.Value.run m' g')
    exact (funext (Cert.Reference8Ideal.Product.product_at _ _)).trans (congrArg₂ value (hargs c).1 (hargs c).2)

end Cert.Kernel8Ideal.Product

end
-- ==== Proof.Down.lean ====
module

public import proofs.«01_k».proof.Defs
public import proofs.«01_k».proof.Proof.Gen.Kernel9Ideal.Value
public import proofs.«01_k».proof.Proof.Gen.Reference9Ideal.Run
public import proofs.«01_k».proof.Proof.Blocks
public import Idealize.ShloMosaic.Lib.Pipeline.ValueKit
public import Idealize.ShloMosaic.Lib.Pointwise
public import Idealize.ShloMosaic.Lib.Claim

/-! The down-projection: what the kernel's tiled product leaves, over exact arithmetic, and that the reference's product is the same. -/

@[expose] public section

set_option maxRecDepth 16384

noncomputable section

namespace Cert.Reference9Ideal.Product

open Cert.Reference9Ideal Cert.Reference9Ideal.Gen Idealize.ShloMosaic Idealize.ShloMosaic.TcCoe Idealize.SL.Sem

/-- An entry of the reference's product. -/
theorem product_at (p : FVec Ideal S4096x11008 .f32) (q : FVec Ideal S1x11008x4096 .f32) (i : S4096x4096.Idx) :
    (Host.dotGeneral dot_S4096x11008_S11008x4096_S4096x4096_1_0_0_1_n_n none p (shapeCast _ q shapeCasts_S1x11008x4096_S11008x4096) : FVec Ideal S4096x4096 .f32) i = ∑ l : Fin 11008, p (ix2 (i 0) l) * q (ix3 0 l (i 1)) := by
  pointwise

/-- The reference runs, leaves its arguments as they were, and ends with every counter at zero. -/
theorem reference_frame : Cert.quiescent_Reference9Ideal (hReference9Ideal := Cert.Reference9Ideal.Gen.facts) :=
  fun m g _ => (θ_run defs _ _).mono
    (fun r h => ⟨fun c => (h c).2, sem_eq_zero_of_no_sems (by decide) r.2⟩) (Value.run m g)

end Cert.Reference9Ideal.Product

namespace Cert.Kernel9Ideal.Product

open Cert.Kernel9Ideal Cert.Kernel9Ideal.Gen Idealize.ShloMosaic Idealize.ShloMosaic.TcCoe Idealize.SL.Sem

/-- The product: token `a` against feature `b`, summed over the 11008 hidden units. -/
def value (p : FVec Ideal S4096x11008 .f32) (q : FVec Ideal S1x11008x4096 .f32) : FVec Ideal S4096x4096 .f32 := fun i => ∑ l : Fin 11008, p (ix2 (i 0) l) * q (ix3 0 l (i 1))

/-- Where a grid point's blocks lie, in blocks. -/
theorem idx0 : ∀ t : Fin cfg0.N, win0_0.index t = ![0, t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![1, t.val / 8, 0] := (by decide +kernel : ∀ t : Fin grid0.N, _)
theorem idx3 : ∀ t : Fin cfg0.N, win0_3.index t = ![1, 0, t.val % 8] := (by decide +kernel : ∀ t : Fin grid0.N, _)
theorem idx4 : ∀ t : Fin cfg0.N, win0_4.index t = ![2, t.val / 8, 0] := (by decide +kernel : ∀ t : Fin grid0.N, _)
theorem idx5 : ∀ t : Fin cfg0.N, win0_5.index t = ![2, 0, t.val % 8] := (by decide +kernel : ∀ t : Fin grid0.N, _)
theorem idx6 : ∀ t : Fin cfg0.N, win0_6.index t = ![3, t.val / 8, 0] := (by decide +kernel : ∀ t : Fin grid0.N, _)
theorem idx7 : ∀ t : Fin cfg0.N, win0_7.index t = ![3, 0, t.val % 8] := (by decide +kernel : ∀ t : Fin grid0.N, _)
theorem idx8 : ∀ t : Fin cfg0.N, win0_8.index t = ![t.val / 8, t.val % 8] := (by decide +kernel : ∀ t : Fin grid0.N, _)

/-- A visit stores the four shards' sums of products. -/
theorem block_at (x0 : Vec Ideal S1x512x2752 .bf16) (w0 : Vec Ideal S1x2752x512 .bf16) (x1 : Vec Ideal S1x512x2752 .bf16) (w1 : Vec Ideal S1x2752x512 .bf16) (x2 : Vec Ideal S1x512x2752 .bf16) (w2 : Vec Ideal S1x2752x512 .bf16) (x3 : Vec Ideal S1x512x2752 .bf16) (w3 : Vec Ideal S1x2752x512 .bf16) (y : S512x512.Idx) :
    k0_pay1 (F := Ideal) x0 w0 x1 w1 x2 w2 x3 w3 y =
      (∑ k : Fin 2752, x0 (ix3 0 (y 0) k) * w0 (ix3 0 k (y 1))) + (∑ k : Fin 2752, x1 (ix3 0 (y 0) k) * w1 (ix3 0 k (y 1)))
        + (∑ k : Fin 2752, x2 (ix3 0 (y 0) k) * w2 (ix3 0 k (y 1))) + ∑ k : Fin 2752, x3 (ix3 0 (y 0) k) * w3 (ix3 0 k (y 1)) := by
  unfold k0_pay1
  pointwise

variable (m : (ℓ : Loc nD τ sig) → Buf (Elt Ideal) ℓ) (c : Dev nD)

/-- A block's entries are entries of the argument the block was prepared from. -/
theorem left0_at (t : Fin cfg0.N) (a : Fin 512) (k : Fin 2752) (r : Fin 4096) (q : Fin 11008) (hr : r.val = t.val / 8 * 512 + a.val) (hq : q.val = 0 * 2752 + k.val) :
    iblk m c 0 t (ix3 0 a k) = m ((c : Thread nD τ).loc main_arg0) (ix2 r q) := by
  blk_simp [iblk, idx0 t]
  entry_read
  pointwise
  blk_ext [idx0 t]

theorem right0_at (t : Fin cfg0.N) (k : Fin 2752) (n : Fin 512) (r : Fin 11008) (q : Fin 4096) (hr : r.val = 0 * 2752 + k.val) (hq : q.val = t.val % 8 * 512 + n.val) :
    iblk m c 1 t (ix3 0 k n) = m ((c : Thread nD τ).loc main_arg1) (ix3 0 r q) := by
  blk_simp [iblk, idx1 t]
  entry_read
  pointwise
  blk_ext [idx1 t]

theorem left1_at (t : Fin cfg0.N) (a : Fin 512) (k : Fin 2752) (r : Fin 4096) (q : Fin 11008) (hr : r.val = t.val / 8 * 512 + a.val) (hq : q.val = 1 * 2752 + k.val) :
    iblk m c 2 t (ix3 0 a k) = m ((c : Thread nD τ).loc main_arg0) (ix2 r q) := by
  blk_simp [iblk, idx2 t]
  entry_read
  pointwise
  blk_ext [idx2 t]

theorem right1_at (t : Fin cfg0.N) (k : Fin 2752) (n : Fin 512) (r : Fin 11008) (q : Fin 4096) (hr : r.val = 1 * 2752 + k.val) (hq : q.val = t.val % 8 * 512 + n.val) :
    iblk m c 3 t (ix3 0 k n) = m ((c : Thread nD τ).loc main_arg1) (ix3 0 r q) := by
  blk_simp [iblk, idx3 t]
  entry_read
  pointwise
  blk_ext [idx3 t]

theorem left2_at (t : Fin cfg0.N) (a : Fin 512) (k : Fin 2752) (r : Fin 4096) (q : Fin 11008) (hr : r.val = t.val / 8 * 512 + a.val) (hq : q.val = 2 * 2752 + k.val) :
    iblk m c 4 t (ix3 0 a k) = m ((c : Thread nD τ).loc main_arg0) (ix2 r q) := by
  blk_simp [iblk, idx4 t]
  entry_read
  pointwise
  blk_ext [idx4 t]

theorem right2_at (t : Fin cfg0.N) (k : Fin 2752) (n : Fin 512) (r : Fin 11008) (q : Fin 4096) (hr : r.val = 2 * 2752 + k.val) (hq : q.val = t.val % 8 * 512 + n.val) :
    iblk m c 5 t (ix3 0 k n) = m ((c : Thread nD τ).loc main_arg1) (ix3 0 r q) := by
  blk_simp [iblk, idx5 t]
  entry_read
  pointwise
  blk_ext [idx5 t]

theorem left3_at (t : Fin cfg0.N) (a : Fin 512) (k : Fin 2752) (r : Fin 4096) (q : Fin 11008) (hr : r.val = t.val / 8 * 512 + a.val) (hq : q.val = 3 * 2752 + k.val) :
    iblk m c 6 t (ix3 0 a k) = m ((c : Thread nD τ).loc main_arg0) (ix2 r q) := by
  blk_simp [iblk, idx6 t]
  entry_read
  pointwise
  blk_ext [idx6 t]

theorem right3_at (t : Fin cfg0.N) (k : Fin 2752) (n : Fin 512) (r : Fin 11008) (q : Fin 4096) (hr : r.val = 3 * 2752 + k.val) (hq : q.val = t.val % 8 * 512 + n.val) :
    iblk m c 7 t (ix3 0 k n) = m ((c : Thread nD τ).loc main_arg1) (ix3 0 r q) := by
  blk_simp [iblk, idx7 t]
  entry_read
  pointwise
  blk_ext [idx7 t]

/-- The array the call leaves is the product. -/
theorem array_eq : (dats m 0 c).arrAt 8 cfg0.N = value (m ((c : Thread nD τ).loc main_arg0)) (m ((c : Thread nD τ).loc main_arg1)) := by
  refine (dats m 0 c).arrAt_eq_of_covers 8 _ (by decide +kernel) fun t _ y => ?_
  blk_simp
  rw [after0_8]
  frame_out
  have hN := lt_of_lt_of_eq t.isLt N_0
  have e0 : ((((cfg0.win 8).blk t).view.emb y) 0).val = t.val / 8 * 512 + (y 0).val := by blk_simp [idx8 t]
  have e1 : ((((cfg0.win 8).blk t).view.emb y) 1).val = t.val % 8 * 512 + (y 1).val := by blk_simp [idx8 t]
  refine (block_at _ _ _ _ _ _ _ _ _).trans ?_
  refine Eq.trans ?_ (Blocks.sum_four 2752 11008 (by decide) _).symm
  refine congrArg₂ (· + ·) (congrArg₂ (· + ·) (congrArg₂ (· + ·) ?_ ?_) ?_) ?_
  · exact Finset.sum_congr rfl fun k _ => congrArg₂ (· * ·)
      (left0_at m c _ _ k _ _ (by show (((cfg0.win 8).blk t).view.emb y 0).val = t.val / 8 * 512 + (y 0).val; omega) (by show 0 * 2752 + k.val = 0 * 2752 + k.val; rfl))
      (right0_at m c _ k _ _ _ (by show 0 * 2752 + k.val = 0 * 2752 + k.val; rfl) (by show (((cfg0.win 8).blk t).view.emb y 1).val = t.val % 8 * 512 + (y 1).val; omega))
  · exact Finset.sum_congr rfl fun k _ => congrArg₂ (· * ·)
      (left1_at m c _ _ k _ _ (by show (((cfg0.win 8).blk t).view.emb y 0).val = t.val / 8 * 512 + (y 0).val; omega) (by show 1 * 2752 + k.val = 1 * 2752 + k.val; rfl))
      (right1_at m c _ k _ _ _ (by show 1 * 2752 + k.val = 1 * 2752 + k.val; rfl) (by show (((cfg0.win 8).blk t).view.emb y 1).val = t.val % 8 * 512 + (y 1).val; omega))
  · exact Finset.sum_congr rfl fun k _ => congrArg₂ (· * ·)
      (left2_at m c _ _ k _ _ (by show (((cfg0.win 8).blk t).view.emb y 0).val = t.val / 8 * 512 + (y 0).val; omega) (by show 2 * 2752 + k.val = 2 * 2752 + k.val; rfl))
      (right2_at m c _ k _ _ _ (by show 2 * 2752 + k.val = 2 * 2752 + k.val; rfl) (by show (((cfg0.win 8).blk t).view.emb y 1).val = t.val % 8 * 512 + (y 1).val; omega))
  · exact Finset.sum_congr rfl fun k _ => congrArg₂ (· * ·)
      (left3_at m c _ _ k _ _ (by show (((cfg0.win 8).blk t).view.emb y 0).val = t.val / 8 * 512 + (y 0).val; omega) (by show 3 * 2752 + k.val = 3 * 2752 + k.val; rfl))
      (right3_at m c _ k _ _ _ (by show 3 * 2752 + k.val = 3 * 2752 + k.val; rfl) (by show (((cfg0.win 8).blk t).view.emb y 1).val = t.val % 8 * 512 + (y 1).val; omega))

/-- The kernel and the reference end with the same array. -/
theorem same_values : Cert.algebraic_Kernel9Ideal_Reference9Ideal (hKernel9Ideal := Cert.Kernel9Ideal.Gen.facts)
    (hReference9Ideal := Cert.Reference9Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference9Ideal.defs _ _).mono (fun r hr c => ⟨(hr c).1.trans ?_, (hr c).2⟩) (Cert.Reference9Ideal.Value.run m' g')
    exact (funext (Cert.Reference9Ideal.Product.product_at _ _)).trans (congrArg₂ value (hargs c).1 (hargs c).2)

end Cert.Kernel9Ideal.Product

end
-- ==== Proof.In.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim

/-! The input projection: what the kernel's tiled product leaves, over exact arithmetic, and that the reference's product is the same. -/

@[expose] public section

set_option maxRecDepth 16384

noncomputable section

namespace Cert.Reference10Ideal.Product

open Cert.Reference10Ideal Cert.Reference10Ideal.Gen Idealize.ShloMosaic Idealize.ShloMosaic.TcCoe Idealize.SL.Sem

/-- An entry of the reference's product. -/
theorem product_at (p : FVec Ideal S4096x4096 .f32) (q : FVec Ideal S1x4096x12288 .f32) (i : S4096x12288.Idx) :
    (Host.dotGeneral dot_S4096x4096_S4096x12288_S4096x12288_1_0_0_1_n_n none p (shapeCast _ q shapeCasts_S1x4096x12288_S4096x12288) : FVec Ideal S4096x12288 .f32) i = ∑ k : Fin 4096, p (ix2 (i 0) k) * q (ix3 0 k (i 1)) := by
  pointwise

/-- The reference runs, leaves its arguments as they were, and ends with every counter at zero. -/
theorem reference_frame : Cert.quiescent_Reference10Ideal (hReference10Ideal := Cert.Reference10Ideal.Gen.facts) :=
  fun m g _ => (θ_run defs _ _).mono
    (fun r h => ⟨fun c => (h c).2, sem_eq_zero_of_no_sems (by decide) r.2⟩) (Value.run m g)

end Cert.Reference10Ideal.Product

namespace Cert.Kernel10Ideal.Product

open Cert.Kernel10Ideal Cert.Kernel10Ideal.Gen Idealize.ShloMosaic Idealize.ShloMosaic.TcCoe Idealize.SL.Sem

/-- The product: token `a` against column `b`, summed over the 4096 features. -/
def value (p : FVec Ideal S4096x4096 .f32) (q : FVec Ideal S1x4096x12288 .f32) : FVec Ideal S4096x12288 .f32 := fun i => ∑ k : Fin 4096, p (ix2 (i 0) k) * q (ix3 0 k (i 1))

/-- Where a grid point's blocks lie, in blocks. -/
theorem idx0 : ∀ t : Fin cfg0.N, win0_0.index t = ![t.val / 24, 0] := (by decide +kernel : ∀ t : Fin grid0.N, _)
theorem idx1 : ∀ t : Fin cfg0.N, win0_1.index t = ![t.val % 24 / 3, 0, t.val % 24 % 3] := (by decide +kernel : ∀ t : Fin grid0.N, _)
theorem idx2 : ∀ t : Fin cfg0.N, win0_2.index t = ![t.val / 24, t.val % 24] := (by decide +kernel : ∀ t : Fin grid0.N, _)

/-- A visit stores its sum of products. -/
theorem block_at (x0 : Vec Ideal S1024x4096 .bf16) (x1 : Vec Ideal S1x4096x512 .bf16) (y : S1024x512.Idx) :
    k0_pay1 (F := Ideal) x0 x1 y = ∑ k : Fin 4096, x0 (ix2 (y 0) k) * x1 (ix3 0 k (y 1)) := by
  unfold k0_pay1
  pointwise

variable (m : (ℓ : Loc nD τ sig) → Buf (Elt Ideal) ℓ) (c : Dev nD)

/-- A block's entries are entries of the argument the block was prepared from. -/
theorem left_at (t : Fin cfg0.N) (a : Fin 1024) (k : Fin 4096) (r : Fin 4096) (hr : r.val = t.val / 24 * 1024 + a.val) :
    iblk m c 0 t (ix2 a k) = m ((c : Thread nD τ).loc main_arg0) (ix2 r k) := by
  blk_simp [iblk, idx0 t]
  entry_read
  pointwise
  blk_ext [idx0 t]

theorem right_at (t : Fin cfg0.N) (k : Fin 4096) (n : Fin 512) (q : Fin 12288) (hq : q.val = t.val % 24 * 512 + n.val) :
    iblk m c 1 t (ix3 0 k n) = m ((c : Thread nD τ).loc main_arg1) (ix3 0 k q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t _ y => ?_
  blk_simp
  rw [after0_2]
  frame_out
  have hN := lt_of_lt_of_eq t.isLt N_0
  have e0 : ((((cfg0.win 2).blk t).view.emb y) 0).val = t.val / 24 * 1024 + (y 0).val := by blk_simp [idx2 t]
  have e1 : ((((cfg0.win 2).blk t).view.emb y) 1).val = t.val % 24 * 512 + (y 1).val := by blk_simp [idx2 t]
  refine (block_at _ _ _).trans ?_
  refine Finset.sum_congr rfl fun k _ => congrArg₂ (· * ·) ?_ ?_
  · exact left_at m c _ _ k _ (by show (((cfg0.win 2).blk t).view.emb y 0).val = t.val / 24 * 1024 + (y 0).val; omega)
  · exact right_at m c _ k _ _ (by show (((cfg0.win 2).blk t).view.emb y 1).val = t.val % 24 * 512 + (y 1).val; omega)

/-- The kernel and the reference end with the same array. -/
theorem same_values : Cert.algebraic_Kernel10Ideal_Reference10Ideal (hKernel10Ideal := Cert.Kernel10Ideal.Gen.facts)
    (hReference10Ideal := Cert.Reference10Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference10Ideal.defs _ _).mono (fun r hr c => ⟨(hr c).1.trans ?_, (hr c).2⟩) (Cert.Reference10Ideal.Value.run m' g')
    exact (funext (Cert.Reference10Ideal.Product.product_at _ _)).trans (congrArg₂ value (hargs c).1 (hargs c).2)

end Cert.Kernel10Ideal.Product

end
-- ==== Proof.Conv.lean ====
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Claim

/-! The gradient of the feed-forward's causal convolution: what the kernel's blocks of 128 rows and their halos leave, over exact arithmetic, and that the reference's shifted sums are the same. -/

@[expose] public section

set_option maxRecDepth 16384

noncomputable section

namespace Cert.Reference11Ideal.Product

open Cert.Reference11Ideal Cert.Reference11Ideal.Gen Idealize.ShloMosaic Idealize.ShloMosaic.TcCoe Idealize.SL.Sem

/-- The feature of an entry: column `i 2` of shard `i 0`. -/
def col (i : S8x4096x2752.Idx) : Fin 22016 :=
  (⟨(i 0).val * 2752 + (i 2).val, by have h0 : (i 0).val < 8 := (i 0).isLt; have h2 : (i 2).val < 2752 := (i 2).isLt; omega⟩ : Fin 22016)

/-- The gradient at token `i 1`: the three taps against this token's cotangent and the two after it, as far as the
    sequence of 2048 tokens goes. -/
def value (w : FVec Ideal S1x3x22016 .f32) (d : FVec Ideal S4096x22016 .f32) : FVec Ideal S8x4096x2752 .bf16 := fun i =>
  d (ix2 (i 1) (col i)) * w (ix3 0 2 (col i))
    + (if h : (i 1).val % 2048 + 1 < 2048 then d (ix2 (⟨(i 1).val + 1, by have h1 : (i 1).val < 4096 := (i 1).isLt; omega⟩ : Fin 4096) (col i)) * w (ix3 0 1 (col i)) else 0)
    + (if h : (i 1).val % 2048 + 2 < 2048 then d (ix2 (⟨(i 1).val + 2, by have h1 : (i 1).val < 4096 := (i 1).isLt; omega⟩ : Fin 4096) (col i)) * w (ix3 0 0 (col i)) else 0)

/-- Three summands that agree, and two conditional values that agree. -/
theorem three {a b c a' b' c' : EReal} (h₁ : a = a') (h₂ : b = b') (h₃ : c = c') : a + b + c = a' + b' + c' := by rw [h₁, h₂, h₃]

theorem whenever {P Q : Prop} [Decidable P] [Decidable Q] {f : P → EReal} {g : Q → EReal} (h : P ↔ Q) (e : ∀ p q, f p = g q) :
    (if h : P then f h else 0) = if h : Q then g h else 0 := by
  by_cases p : P
  · rw [dif_pos p, dif_pos (h.1 p)]; exact e p _
  · rw [dif_neg p, dif_neg (fun q => p (h.2 q))]

/-- The same row, named twice. -/
theorem row_eq (d : FVec Ideal S4096x22016 .f32) {r r' : Fin 4096} (n : Fin 22016) (z : EReal) (e : r.val = r'.val) : (d (ix2 r n) : EReal) * z = d (ix2 r' n) * z := by
  rw [Fin.ext e]

/-- An entry of the reference's gradient. -/
theorem product_at (w : FVec Ideal S1x3x22016 .f32) (d : FVec Ideal S4096x22016 .f32) (i : S8x4096x2752.Idx) :
    (truncf .bf16 (transpose S8x4096x2752 [1, 0, 2] (shapeCast _ (extractStridedSlice S2x2048x22016 ![0, 2, 0] (addf (addf (pad S2x2050x22016 ![0, 2, 0] ![0, 0, 0] ![0, 0, 0] (mulf (shapeCast _ d shapeCasts_S4096x22016_S2x2048x22016) (broadcastInDim S2x2048x22016 ![0, 1, 2] bcast_S1x1x22016_S2x2048x22016_0_1_2 (broadcastInDim S1x1x22016 ![2] bcast_S22016_S1x1x22016_2 (shapeCast _ (extractStridedSlice S1x22016 ![2, 0] (shapeCast _ w shapeCasts_S1x3x22016_S3x22016) slices_S3x22016_S1x22016_2_0) shapeCasts_S1x22016_S22016)))) (constant S_ .f32 0x00000000#32) pads_S2x2048x22016_S2x2050x22016_000_200_000 h_S_) (pad S2x2050x22016 ![0, 1, 0] ![0, 1, 0] ![0, 0, 0] (mulf (shapeCast _ d shapeCasts_S4096x22016_S2x2048x22016) (broadcastInDim S2x2048x22016 ![0, 1, 2] bcast_S1x1x22016_S2x2048x22016_0_1_2 (broadcastInDim S1x1x22016 ![2] bcast_S22016_S1x1x22016_2 (shapeCast _ (extractStridedSlice S1x22016 ![1, 0] (shapeCast _ w shapeCasts_S1x3x22016_S3x22016) slices_S3x22016_S1x22016_1_0) shapeCasts_S1x22016_S22016)))) (constant S_ .f32 0x00000000#32) pads_S2x2048x22016_S2x2050x22016_000_110_000 h_S_)) (pad S2x2050x22016 ![0, 0, 0] ![0, 2, 0] ![0, 0, 0] (mulf (shapeCast _ d shapeCasts_S4096x22016_S2x2048x22016) (broadcastInDim S2x2048x22016 ![0, 1, 2] bcast_S1x1x22016_S2x2048x22016_0_1_2 (broadcastInDim S1x1x22016 ![2] bcast_S22016_S1x1x22016_2 (shapeCast _ (extractStridedSlice S1x22016 ![0, 0] (shapeCast _ w shapeCasts_S1x3x22016_S3x22016) slices_S3x22016_S1x22016_0_0) shapeCasts_S1x22016_S22016)))) (constant S_ .f32 0x00000000#32) pads_S2x2048x22016_S2x2050x22016_000_020_000 h_S_)) slices_S2x2050x22016_S2x2048x22016_0_2_0) shapeCasts_S2x2048x22016_S4096x8x2752) transposes_S4096x8x2752_S8x4096x2752_1_0_2) bitsLt_bf16_f32 : FVec Ideal S8x4096x2752 .bf16) i = value w d i := by
  generalize hv : value w d i = v
  have h0 : (i 0).val < 8 := (i 0).isLt
  have h1 : (i 1).val < 4096 := (i 1).isLt
  have h2 : (i 2).val < 2752 := (i 2).isLt
  pointwise
  subst hv
  refine three (dif_pos ⟨by omega, by omega, by omega⟩) (whenever ⟨fun h => by omega, fun h => by omega⟩ fun _ _ => ?_) (whenever ⟨fun h => by omega, fun h => by omega⟩ fun _ _ => ?_)
  · refine row_eq d _ _ ?_
    dsimp only
    omega
  · refine row_eq d _ _ ?_
    dsimp only
    omega

/-- The reference runs, leaves its arguments as they were, and ends with every counter at zero. -/
theorem reference_frame : Cert.quiescent_Reference11Ideal (hReference11Ideal := Cert.Reference11Ideal.Gen.facts) :=
  fun m g _ => (θ_run defs _ _).mono
    (fun r h => ⟨fun c => (h c).2, sem_eq_zero_of_no_sems (by decide) r.2⟩) (Value.run m g)

end Cert.Reference11Ideal.Product

namespace Cert.Kernel11Ideal.Product

open Cert.Kernel11Ideal Cert.Kernel11Ideal.Gen Idealize.ShloMosaic Idealize.ShloMosaic.TcCoe Idealize.SL.Sem

/-- Where a grid point's blocks lie, in blocks. -/
theorem idx0 : ∀ t : Fin cfg0.N, win0_0.index t = ![t.val / 32, t.val % 32, 0] := (by decide +kernel : ∀ t : Fin grid0.N, _)
theorem idx1 : ∀ t : Fin cfg0.N, win0_1.index t = ![t.val / 32, min ((t.val % 32 + 1) * 8) 255, 0] := (by decide +kernel : ∀ t : Fin grid0.N, _)
theorem idx2 : ∀ t : Fin cfg0.N, win0_2.index t = ![t.val / 32, 0, 0] := (by decide +kernel : ∀ t : Fin grid0.N, _)
theorem idx3 : ∀ t : Fin cfg0.N, win0_3.index t = ![t.val / 32, t.val % 32, 0] := (by decide +kernel : ∀ t : Fin grid0.N, _)

theorem coord1 : ∀ t : Fin cfg0.N, (grid0.coords t 1).val = t.val % 32 := (by decide +kernel : ∀ t : Fin grid0.N, _)

/-- An index of one block, by its coordinates. -/
theorem ix3_of (y : S1x128x2752.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

/-- A product with a value that is zero unless `P` is zero unless `P`. -/
theorem dite_mul_zero {P : Prop} [Decidable P] (a : P → EReal) (b : EReal) : (if h : P then a h else 0) * b = if h : P then a h * b else 0 := by
  by_cases h : P
  · rw [dif_pos h, dif_pos h]
  · rw [dif_neg h, dif_neg h, zero_mul]

/-- Whether block `n` of 128 rows is the last of its sequence, as the kernel tests it. -/
def lastBit (n : Nat) : BitVec 1 :=
  let d : BitVec 32 := Scalar.select (Scalar.cmpi .eq 16#32 0#32) 1#32 16#32
  let r : BitVec 32 := Scalar.remsi (Scalar.addi (BitVec.ofNat 32 n) 1#32) d
  Scalar.cmpi .eq (Scalar.select (Scalar.andi (Scalar.xori (Scalar.cmpi .slt r 0#32) (Scalar.cmpi .slt d 0#32)) (Scalar.cmpi .ne r 0#32)) (Scalar.addi r d) r) 0#32

/-- The test says what it is meant to: sixteen blocks make a sequence. -/
theorem lastBit_eq : ∀ n : Fin 32, lastBit n.val = if (n.val + 1) % 16 = 0 then 1#1 else 0#1 := by decide +kernel

/-- A block's rows and the sixteen after them, zeros if the sequence ends here. -/
def rows (b : BitVec 1) (x : Vec Ideal S1x128x2752 .bf16) (h : Vec Ideal S1x16x2752 .bf16) : FVec Ideal S144x2752 .f32 :=
  concatenate S144x2752 0 [⟨S128x2752, k0_pay2 x⟩, ⟨S16x2752, (Scalar.select b (broadcast S16x2752 (Scalar.ofBits .f32 0x00000000#32)) (extf .f32 (shapeCast S16x2752 h shapeCasts_S1x16x2752_S16x2752) bitsLt_bf16_f32) : FVec Ideal S16x2752 .f32)⟩]
    concatenates_S128x2752_S16x2752_S144x2752_d0

/-- The kernel's rows are these. -/
theorem rows_eq (i : grid0.Coords) (x : Vec Ideal S1x128x2752 .bf16) (h : Vec Ideal S1x16x2752 .bf16) : k0_pay3 i x h = rows (lastBit (i 1).val) x h := rfl

/-- What a visit stores: each row against the last tap, and the one and the two after it against the others. -/
theorem block_at (i : grid0.Coords) (x : Vec Ideal S1x128x2752 .bf16) (h : Vec Ideal S1x16x2752 .bf16) (w : Vec Ideal S1x3x2752 .f32) (y : S1x128x2752.Idx) (r₁ r₂ : Fin 144)
    (e₁ : r₁.val = (y 1).val + 1) (e₂ : r₂.val = (y 1).val + 2) :
    k0_pay1 (k0_pay4 i x h) (k0_pay5 i x h (View.ld w r0_2) (View.ld w r0_3)) (View.ld w r0_4) y =
      x y * w (ix3 0 2 (y 2)) + rows (lastBit (i 1).val) x h (ix2 r₁ (y 2)) * w (ix3 0 1 (y 2)) + rows (lastBit (i 1).val) x h (ix2 r₂ (y 2)) * w (ix3 0 0 (y 2)) := by
  unfold k0_pay1 k0_pay4 k0_pay5 k0_pay2
  rw [rows_eq]
  generalize rows (lastBit (i 1).val) x h = R
  pointwise
  have h1 : (y 1).val < 128 := (y 1).isLt
  refine congrArg₂ (· + ·) (congrArg (x y * w (ix3 0 2 (y 2)) + ·) ?_) ?_
  · exact congrArg (fun r : Fin 144 => R (ix2 r (y 2)) * w (ix3 0 1 (y 2))) (Fin.ext (by show ((y 1).val + 144 - 143) % 144 = r₁.val; omega))
  · exact congrArg (fun r : Fin 144 => R (ix2 r (y 2)) * w (ix3 0 0 (y 2))) (Fin.ext (by show ((y 1).val + 144 - 142) % 144 = r₂.val; omega))

/-- A row of the block and its halo. -/
theorem rows_low (b : BitVec 1) (x : Vec Ideal S1x128x2752 .bf16) (h : Vec Ideal S1x16x2752 .bf16) (r : Fin 144) (a : Fin 128) (n : Fin 2752) (hr : r.val = a.val) :
    rows b x h (ix2 r n) = x (ix3 0 a n) := by
  refine Eq.trans (b := if h_1 : r.val < 128 then x (ix3 0 ⟨r.val, h_1⟩ n) else Scalar.select b 0 (h (ix3 0 ⟨r.val - 128, by have := r.isLt; omega⟩ n))) ?_ ?_
  · unfold rows k0_pay2
    pointwise
  · rw [dif_pos (by have := a.isLt; omega)]
    exact congrArg (fun q : Fin 128 => x (ix3 0 q n)) (Fin.ext hr)

theorem rows_high (b : BitVec 1) (x : Vec Ideal S1x128x2752 .bf16) (h : Vec Ideal S1x16x2752 .bf16) (r : Fin 144) (a : Fin 16) (n : Fin 2752) (hr : r.val = 128 + a.val) :
    rows b x h (ix2 r n) = Scalar.select b 0 (h (ix3 0 a n)) := by
  refine Eq.trans (b := if h_1 : r.val < 128 then x (ix3 0 ⟨r.val, h_1⟩ n) else Scalar.select b 0 (h (ix3 0 ⟨r.val - 128, by have := r.isLt; omega⟩ n))) ?_ ?_
  · unfold rows k0_pay2
    pointwise
  · rw [dif_neg (by omega)]
    exact congrArg (fun q : Fin 16 => Scalar.select b 0 (h (ix3 0 q n))) (Fin.ext (by show r.val - 128 = a.val; omega))

variable (m : (ℓ : Loc nD τ sig) → Buf (Elt Ideal) ℓ) (c : Dev nD)

/-- A block's entries are entries of the argument the block was prepared from. -/
theorem rows_at (t : Fin cfg0.N) (a : Fin 128) (n : Fin 2752) (r : Fin 4096) (q : Fin 22016) (hr : r.val = t.val % 32 * 128 + a.val) (hq : q.val = t.val / 32 * 2752 + n.val) :
    iblk m c 0 t (ix3 0 a n) = m ((c : Thread nD τ).loc main_arg1) (ix2 r q) := by
  blk_simp [iblk, idx0 t]
  entry_read
  pointwise
  blk_ext [idx0 t]

/-- The same of the sixteen rows after a block, unless it is the last of all. -/
theorem after_at (t : Fin cfg0.N) (a : Fin 16) (n : Fin 2752) (r : Fin 4096) (q : Fin 22016) (hr : r.val = (t.val % 32 + 1) * 128 + a.val) (hq : q.val = t.val / 32 * 2752 + n.val) :
    iblk m c 1 t (ix3 0 a n) = m ((c : Thread nD τ).loc main_arg1) (ix2 r q) := by
  have hm : min ((t.val % 32 + 1) * 8) 255 = (t.val % 32 + 1) * 8 := by have := r.isLt; omega
  blk_simp [iblk, idx1 t, hm]
  entry_read
  pointwise
  blk_ext [idx1 t, hm]

/-- The same of the taps. -/
theorem taps_at (t : Fin cfg0.N) (k : Fin 3) (n : Fin 2752) (q : Fin 22016) (hq : q.val = t.val / 32 * 2752 + n.val) :
    iblk m c 2 t (ix3 0 k n) = m ((c : Thread nD τ).loc main_arg0) (ix3 0 k q) := by
  blk_simp [iblk, idx2 t]
  entry_read
  pointwise
  blk_ext [idx2 t]

/-- The row `k` after a block's row `a`, as the kernel sees it: the argument's, or zero past the end of the sequence. -/
theorem later_at (t : Fin cfg0.N) (b : BitVec 1) (hb : b = if (t.val % 32 + 1) % 16 = 0 then 1#1 else 0#1) (k : Nat) (hk : 1 ≤ k ∧ k ≤ 16) (a : Fin 128) (n : Fin 2752) (r : Fin 144) (hr : r.val = a.val + k)
    (p : Nat) (hp : p = t.val % 32 * 128 + a.val) (q : Fin 22016) (hq : q.val = t.val / 32 * 2752 + n.val) :
    rows b (iblk m c 0 t) (iblk m c 1 t) (ix2 r n) =
      if h : p % 2048 + k < 2048 then (show EReal from m ((c : Thread nD τ).loc main_arg1) (ix2 (⟨p + k, by have := a.isLt; omega⟩ : Fin 4096) q)) else (0 : EReal) := by
  have ha := a.isLt
  by_cases h : a.val + k < 128
  · rw [dif_pos (by omega)]
    exact (rows_low b _ _ r ⟨a.val + k, h⟩ n hr).trans (rows_at m c t _ n _ q (by show p + k = t.val % 32 * 128 + (a.val + k); omega) hq)
  · refine (rows_high b _ _ r ⟨a.val + k - 128, by omega⟩ n (by show r.val = 128 + (a.val + k - 128); omega)).trans ?_
    by_cases hl : (t.val % 32 + 1) % 16 = 0
    · rw [dif_neg (by omega), hb, if_pos hl]
      rfl
    · rw [dif_pos (by omega), hb, if_neg hl]
      exact after_at m c t _ n _ q (by show p + k = (t.val % 32 + 1) * 128 + (a.val + k - 128); omega) hq

open Cert.Reference11Ideal.Product (value col)

/-- The array the call leaves is the gradient. -/
theorem array_eq : (dats m 0 c).arrAt 3 cfg0.N = value (m ((c : Thread nD τ).loc main_arg0)) (m ((c : Thread nD τ).loc main_arg1)) := by
  refine (dats m 0 c).arrAt_eq_of_covers 3 _ (by decide +kernel) fun t _ y => ?_
  blk_simp
  rw [after0_3]
  frame_out
  have hN := lt_of_lt_of_eq t.isLt N_0
  have hc : (grid0.coords t 1).val = t.val % 32 := coord1 t
  have hb : lastBit (grid0.coords t 1).val = if (t.val % 32 + 1) % 16 = 0 then 1#1 else 0#1 := by
    rw [hc]
    exact lastBit_eq ⟨t.val % 32, by omega⟩
  have e0 : ((((cfg0.win 3).blk t).view.emb y) 0).val = t.val / 32 := by blk_simp [idx3 t]
  have e1 : ((((cfg0.win 3).blk t).view.emb y) 1).val = t.val % 32 * 128 + (y 1).val := by blk_simp [idx3 t]
  have e2 : ((((cfg0.win 3).blk t).view.emb y) 2).val = (y 2).val := by blk_simp [idx3 t]
  have h1 : (y 1).val < 128 := (y 1).isLt
  have hq : (col (((cfg0.win 3).blk t).view.emb y)).val = t.val / 32 * 2752 + (y 2).val := by
    show (((cfg0.win 3).blk t).view.emb y 0).val * 2752 + (((cfg0.win 3).blk t).view.emb y 2).val = t.val / 32 * 2752 + (y 2).val
    omega
  refine (block_at _ _ _ _ y ⟨(y 1).val + 1, by omega⟩ ⟨(y 1).val + 2, by omega⟩ rfl rfl).trans ?_
  unfold value
  refine congrArg₂ (· + ·) (congrArg₂ (· + ·) (congrArg₂ (· * ·) ?_ ?_) ?_) ?_
  · exact (congrArg (iblk m c 0 t) (ix3_of y)).trans (rows_at m c t (y 1) (y 2) _ _ e1 hq)
  · exact taps_at m c t 2 (y 2) _ hq
  · exact (congrArg₂ (· * ·) (later_at m c t _ hb 1 (by omega) (y 1) (y 2) _ rfl _ e1 _ hq) (taps_at m c t 1 (y 2) _ hq)).trans (dite_mul_zero _ _)
  · exact (congrArg₂ (· * ·) (later_at m c t _ hb 2 (by omega) (y 1) (y 2) _ rfl _ e1 _ hq) (taps_at m c t 0 (y 2) _ hq)).trans (dite_mul_zero _ _)

/-- The kernel and the reference end with the same array. -/
theorem same_values : Cert.algebraic_Kernel11Ideal_Reference11Ideal (hKernel11Ideal := Cert.Kernel11Ideal.Gen.facts)
    (hReference11Ideal := Cert.Reference11Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference11Ideal.defs _ _).mono (fun r hr c => ⟨(hr c).1.trans ?_, (hr c).2⟩) (Cert.Reference11Ideal.Value.run m' g')
    exact (funext (Cert.Reference11Ideal.Product.product_at _ _)).trans (congrArg₂ value (hargs c).1 (hargs c).2)

end Cert.Kernel11Ideal.Product

end
-- ==== Proof.Out.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim

/-! The output projection: what the kernel's tiled product leaves, over exact arithmetic, and that the reference's product is the same. -/

@[expose] public section

set_option maxRecDepth 16384

noncomputable section

namespace Cert.Reference12Ideal.Product

open Cert.Reference12Ideal Cert.Reference12Ideal.Gen Idealize.ShloMosaic Idealize.ShloMosaic.TcCoe Idealize.SL.Sem

/-- An entry of the reference's product. -/
theorem product_at (p : FVec Ideal S4096x4096 .f32) (q : FVec Ideal S1x4096x4096 .f32) (i : S4096x4096.Idx) :
    (Host.dotGeneral dot_S4096x4096_S4096x4096_S4096x4096_1_0_0_1_n_n none p (shapeCast _ q shapeCasts_S1x4096x4096_S4096x4096) : FVec Ideal S4096x4096 .f32) i = ∑ k : Fin 4096, p (ix2 (i 0) k) * q (ix3 0 k (i 1)) := by
  pointwise

/-- The reference runs, leaves its arguments as they were, and ends with every counter at zero. -/
theorem reference_frame : Cert.quiescent_Reference12Ideal (hReference12Ideal := Cert.Reference12Ideal.Gen.facts) :=
  fun m g _ => (θ_run defs _ _).mono
    (fun r h => ⟨fun c => (h c).2, sem_eq_zero_of_no_sems (by decide) r.2⟩) (Value.run m g)

end Cert.Reference12Ideal.Product

namespace Cert.Kernel12Ideal.Product

open Cert.Kernel12Ideal Cert.Kernel12Ideal.Gen Idealize.ShloMosaic Idealize.ShloMosaic.TcCoe Idealize.SL.Sem

/-- The product: token `a` against column `b`, summed over the 4096 features. -/
def value (p : FVec Ideal S4096x4096 .f32) (q : FVec Ideal S1x4096x4096 .f32) : FVec Ideal S4096x4096 .f32 := fun i => ∑ k : Fin 4096, p (ix2 (i 0) k) * q (ix3 0 k (i 1))

/-- Where a grid point's blocks lie, in blocks. -/
theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)

/-- A visit stores its sum of products. -/
theorem block_at (x0 : Vec Ideal S1024x4096 .bf16) (x1 : Vec Ideal S4096x512 .bf16) (y : S1024x512.Idx) :
    k0_pay1 (F := Ideal) x0 x1 y = ∑ k : Fin 4096, x0 (ix2 (y 0) k) * x1 (ix2 k (y 1)) := by
  unfold k0_pay1
  pointwise

variable (m : (ℓ : Loc nD τ sig) → Buf (Elt Ideal) ℓ) (c : Dev nD)

/-- A block's entries are entries of the argument the block was prepared from. -/
theorem left_at (t : Fin cfg0.N) (a : Fin 1024) (k : Fin 4096) (r : Fin 4096) (hr : r.val = t.val / 8 * 1024 + a.val) :
    iblk m c 0 t (ix2 a k) = m ((c : Thread nD τ).loc main_arg0) (ix2 r k) := by
  blk_simp [iblk, idx0 t]
  entry_read
  pointwise
  blk_ext [idx0 t]

theorem right_at (t : Fin cfg0.N) (k : Fin 4096) (n : Fin 512) (q : Fin 4096) (hq : q.val = t.val % 8 * 512 + n.val) :
    iblk m c 1 t (ix2 k n) = m ((c : Thread nD τ).loc main_arg1) (ix3 0 k q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t _ y => ?_
  blk_simp
  rw [after0_2]
  frame_out
  have hN := lt_of_lt_of_eq t.isLt N_0
  have e0 : ((((cfg0.win 2).blk t).view.emb y) 0).val = t.val / 8 * 1024 + (y 0).val := by blk_simp [idx2 t]
  have e1 : ((((cfg0.win 2).blk t).view.emb y) 1).val = t.val % 8 * 512 + (y 1).val := by blk_simp [idx2 t]
  refine (block_at _ _ _).trans ?_
  refine Finset.sum_congr rfl fun k _ => congrArg₂ (· * ·) ?_ ?_
  · exact left_at m c _ _ k _ (by show (((cfg0.win 2).blk t).view.emb y 0).val = t.val / 8 * 1024 + (y 0).val; omega)
  · exact right_at m c _ k _ _ (by show (((cfg0.win 2).blk t).view.emb y 1).val = t.val % 8 * 512 + (y 1).val; omega)

/-- The kernel and the reference end with the same array. -/
theorem same_values : Cert.algebraic_Kernel12Ideal_Reference12Ideal (hKernel12Ideal := Cert.Kernel12Ideal.Gen.facts)
    (hReference12Ideal := Cert.Reference12Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference12Ideal.defs _ _).mono (fun r hr c => ⟨(hr c).1.trans ?_, (hr c).2⟩) (Cert.Reference12Ideal.Value.run m' g')
    exact (funext (Cert.Reference12Ideal.Product.product_at _ _)).trans (congrArg₂ value (hargs c).1 (hargs c).2)

end Cert.Kernel12Ideal.Product

end
-- ==== Proof.OutWeight.lean ====
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Claim

/-! The gradient of the output projection's weight: what the kernel's tiled product leaves, over exact arithmetic, and that the reference's product is the same. -/

@[expose] public section

set_option maxRecDepth 16384

noncomputable section

namespace Cert.Reference13Ideal.Product

open Cert.Reference13Ideal Cert.Reference13Ideal.Gen Idealize.ShloMosaic Idealize.ShloMosaic.TcCoe Idealize.SL.Sem

/-- An entry of the reference's product. -/
theorem product_at (p : FVec Ideal S4096x4096 .f32) (q : FVec Ideal S4096x4096 .f32) (i : S4096x4096.Idx) :
    (truncf .bf16 (transpose S4096x4096 [1, 0] (Host.dotGeneral dot_S4096x4096_S4096x4096_S4096x4096_0_0_1_1_n_n none q p) transposes_S4096x4096_S4096x4096_1_0) bitsLt_bf16_f32 : FVec Ideal S4096x4096 .bf16) i = ∑ t : Fin 4096, p (ix2 t (i 0)) * q (ix2 t (i 1)) := by
  refine Eq.trans (b := ∑ t : Fin 4096, q (ix2 t (i 1)) * p (ix2 t (i 0))) ?_ (Finset.sum_congr rfl fun _ _ => mul_comm _ _)
  pointwise

/-- The reference runs, leaves its arguments as they were, and ends with every counter at zero. -/
theorem reference_frame : Cert.quiescent_Reference13Ideal (hReference13Ideal := Cert.Reference13Ideal.Gen.facts) :=
  fun m g _ => (θ_run defs _ _).mono
    (fun r h => ⟨fun c => (h c).2, sem_eq_zero_of_no_sems (by decide) r.2⟩) (Value.run m g)

end Cert.Reference13Ideal.Product

namespace Cert.Kernel13Ideal.Product

open Cert.Kernel13Ideal Cert.Kernel13Ideal.Gen Idealize.ShloMosaic Idealize.ShloMosaic.TcCoe Idealize.SL.Sem

/-- The product: feature `a` against column `b`, summed over the 4096 tokens. -/
def value (p : FVec Ideal S4096x4096 .f32) (q : FVec Ideal S4096x4096 .f32) : FVec Ideal S4096x4096 .bf16 := fun i => ∑ t : Fin 4096, p (ix2 t (i 0)) * q (ix2 t (i 1))

/-- Where a grid point's blocks lie, in blocks. -/
theorem idx0 : ∀ t : Fin cfg0.N, win0_0.index t = ![0, t.val / 8] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)

/-- A visit stores its sum of products. -/
theorem block_at (x0 : Vec Ideal S4096x512 .bf16) (x1 : Vec Ideal S4096x512 .bf16) (y : S512x512.Idx) :
    k0_pay1 (F := Ideal) x0 x1 y = ∑ k : Fin 4096, x0 (ix2 k (y 0)) * x1 (ix2 k (y 1)) := by
  unfold k0_pay1
  pointwise

variable (m : (ℓ : Loc nD τ sig) → Buf (Elt Ideal) ℓ) (c : Dev nD)

/-- A block's entries are entries of the argument the block was prepared from. -/
theorem left_at (t : Fin cfg0.N) (k : Fin 4096) (n : Fin 512) (q : Fin 4096) (hq : q.val = t.val / 8 * 512 + n.val) :
    iblk m c 0 t (ix2 k n) = m ((c : Thread nD τ).loc main_arg0) (ix2 k q) := by
  blk_simp [iblk, idx0 t]
  entry_read
  pointwise
  blk_ext [idx0 t]

theorem right_at (t : Fin cfg0.N) (k : Fin 4096) (n : Fin 512) (q : Fin 4096) (hq : q.val = t.val % 8 * 512 + n.val) :
    iblk m c 1 t (ix2 k n) = m ((c : Thread nD τ).loc main_arg1) (ix2 k q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t _ y => ?_
  blk_simp
  rw [after0_2]
  frame_out
  have hN := lt_of_lt_of_eq t.isLt N_0
  have e0 : ((((cfg0.win 2).blk t).view.emb y) 0).val = t.val / 8 * 512 + (y 0).val := by blk_simp [idx2 t]
  have e1 : ((((cfg0.win 2).blk t).view.emb y) 1).val = t.val % 8 * 512 + (y 1).val := by blk_simp [idx2 t]
  refine (block_at _ _ _).trans ?_
  refine Finset.sum_congr rfl fun k _ => congrArg₂ (· * ·) ?_ ?_
  · exact left_at m c _ k _ _ (by show (((cfg0.win 2).blk t).view.emb y 0).val = t.val / 8 * 512 + (y 0).val; omega)
  · exact right_at m c _ k _ _ (by show (((cfg0.win 2).blk t).view.emb y 1).val = t.val % 8 * 512 + (y 1).val; omega)

/-- The kernel and the reference end with the same array. -/
theorem same_values : Cert.algebraic_Kernel13Ideal_Reference13Ideal (hKernel13Ideal := Cert.Kernel13Ideal.Gen.facts)
    (hReference13Ideal := Cert.Reference13Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference13Ideal.defs _ _).mono (fun r hr c => ⟨(hr c).1.trans ?_, (hr c).2⟩) (Cert.Reference13Ideal.Value.run m' g')
    exact (funext (Cert.Reference13Ideal.Product.product_at _ _)).trans (congrArg₂ value (hargs c).1 (hargs c).2)

end Cert.Kernel13Ideal.Product

end
-- ==== Proof.BranchWeight.lean ====
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Claim

/-! The gradients of the two branches' weights: what the kernel's two tiled products leave, over exact arithmetic, and that the reference's products are the same. -/

@[expose] public section

set_option maxRecDepth 16384

noncomputable section

namespace Cert.Reference14Ideal.Product

open Cert.Reference14Ideal Cert.Reference14Ideal.Gen Idealize.ShloMosaic Idealize.ShloMosaic.TcCoe Idealize.SL.Sem

/-- An entry of the reference's product. -/
theorem product_at (p : FVec Ideal S4096x2048 .f32) (q : FVec Ideal S4096x4096 .f32) (i : S8x2048x512.Idx) :
    (truncf .bf16 (transpose S8x2048x512 [1, 0, 2] (shapeCast _ (transpose S2048x4096 [1, 0] (Host.dotGeneral dot_S4096x4096_S4096x2048_S4096x2048_0_0_1_1_n_n none q p) transposes_S4096x2048_S2048x4096_1_0) shapeCasts_S2048x4096_S2048x8x512) transposes_S2048x8x512_S8x2048x512_1_0_2) bitsLt_bf16_f32 : FVec Ideal S8x2048x512 .bf16) i = ∑ t : Fin 4096, p (ix2 t (i 1)) * q (ix2 t (⟨(i 0).val * 512 + (i 2).val, by have h0 : (i 0).val < 8 := (i 0).isLt; have h1 : (i 2).val < 512 := (i 2).isLt; omega⟩ : Fin 4096)) := by
  refine Eq.trans (b := ∑ t : Fin 4096, q (ix2 t (⟨(i 0).val * 512 + (i 2).val, by have h0 : (i 0).val < 8 := (i 0).isLt; have h1 : (i 2).val < 512 := (i 2).isLt; omega⟩ : Fin 4096)) * p (ix2 t (i 1))) ?_ (Finset.sum_congr rfl fun _ _ => mul_comm _ _)
  pointwise

/-- The reference runs, leaves its arguments as they were, and ends with every counter at zero. -/
theorem reference_frame : Cert.quiescent_Reference14Ideal (hReference14Ideal := Cert.Reference14Ideal.Gen.facts) :=
  fun m g _ => (θ_run defs _ _).mono
    (fun r h => ⟨fun c => (h c).2.2, sem_eq_zero_of_no_sems (by decide) r.2⟩) (Value.run m g)

end Cert.Reference14Ideal.Product

namespace Cert.Kernel14Ideal.Product

open Cert.Kernel14Ideal Cert.Kernel14Ideal.Gen Idealize.ShloMosaic Idealize.ShloMosaic.TcCoe Idealize.SL.Sem

/-- The product: feature `b` against column `n` of shard `a`, summed over the 4096 tokens. -/
def value (p : FVec Ideal S4096x2048 .f32) (q : FVec Ideal S4096x4096 .f32) : FVec Ideal S8x2048x512 .bf16 := fun i => ∑ t : Fin 4096, p (ix2 t (i 1)) * q (ix2 t (⟨(i 0).val * 512 + (i 2).val, by have h0 : (i 0).val < 8 := (i 0).isLt; have h1 : (i 2).val < 512 := (i 2).isLt; omega⟩ : Fin 4096))

/-- Where a grid point's blocks lie, in blocks. -/
theorem idx0 : ∀ t : Fin cfg0.N, win0_0.index t = ![0, t.val / 8] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![t.val % 8, t.val / 8, 0] := (by decide +kernel : ∀ t : Fin grid0.N, _)
theorem idx5 : ∀ t : Fin cfg0.N, win0_5.index t = ![t.val % 8, t.val / 8, 0] := (by decide +kernel : ∀ t : Fin grid0.N, _)

/-- A visit stores two sums of products. -/
theorem block1_at (x0 : Vec Ideal S4096x512 .bf16) (x1 : Vec Ideal S4096x512 .bf16) (y : S1x512x512.Idx) :
    k0_pay1 (F := Ideal) x0 x1 y = ∑ k : Fin 4096, x0 (ix2 k (y 1)) * x1 (ix2 k (y 2)) := by
  unfold k0_pay1
  pointwise

theorem block2_at (x0 : Vec Ideal S4096x512 .bf16) (x1 : Vec Ideal S4096x512 .bf16) (y : S1x512x512.Idx) :
    k0_pay2 (F := Ideal) x0 x1 y = ∑ k : Fin 4096, x0 (ix2 k (y 1)) * x1 (ix2 k (y 2)) := by
  unfold k0_pay2
  pointwise

variable (m : (ℓ : Loc nD τ sig) → Buf (Elt Ideal) ℓ) (c : Dev nD)

/-- A block's entries are entries of the argument the block was prepared from. -/
theorem left1_at (t : Fin cfg0.N) (k : Fin 4096) (n : Fin 512) (q : Fin 2048) (hq : q.val = t.val / 8 * 512 + n.val) :
    iblk m c 0 t (ix2 k n) = m ((c : Thread nD τ).loc main_arg0) (ix2 k q) := by
  blk_simp [iblk, idx0 t]
  entry_read
  pointwise
  blk_ext [idx0 t]

theorem right1_at (t : Fin cfg0.N) (k : Fin 4096) (n : Fin 512) (q : Fin 4096) (hq : q.val = t.val % 8 * 512 + n.val) :
    iblk m c 1 t (ix2 k n) = m ((c : Thread nD τ).loc main_arg2) (ix2 k q) := by
  blk_simp [iblk, idx1 t]
  entry_read
  pointwise
  blk_ext [idx1 t]

theorem left2_at (t : Fin cfg0.N) (k : Fin 4096) (n : Fin 512) (q : Fin 2048) (hq : q.val = t.val / 8 * 512 + n.val) :
    iblk m c 2 t (ix2 k n) = m ((c : Thread nD τ).loc main_arg1) (ix2 k q) := by
  blk_simp [iblk, idx2 t]
  entry_read
  pointwise
  blk_ext [idx2 t]

theorem right2_at (t : Fin cfg0.N) (k : Fin 4096) (n : Fin 512) (q : Fin 4096) (hq : q.val = t.val % 8 * 512 + n.val) :
    iblk m c 3 t (ix2 k n) = m ((c : Thread nD τ).loc main_arg3) (ix2 k q) := by
  blk_simp [iblk, idx3 t]
  entry_read
  pointwise
  blk_ext [idx3 t]

/-- The arrays the call leaves are the products. -/
theorem array1_eq : (dats m 0 c).arrAt 4 cfg0.N = value (m ((c : Thread nD τ).loc main_arg0)) (m ((c : Thread nD τ).loc main_arg2)) := by
  refine (dats m 0 c).arrAt_eq_of_covers 4 _ (by decide +kernel) fun t _ y => ?_
  blk_simp
  rw [after0_4]
  frame_out
  have hN := lt_of_lt_of_eq t.isLt N_0
  have e0 : ((((cfg0.win 4).blk t).view.emb y) 0).val = t.val % 8 := by blk_simp [idx4 t]
  have e1 : ((((cfg0.win 4).blk t).view.emb y) 1).val = t.val / 8 * 512 + (y 1).val := by blk_simp [idx4 t]
  have e2 : ((((cfg0.win 4).blk t).view.emb y) 2).val = (y 2).val := by blk_simp [idx4 t]
  refine (block1_at _ _ _).trans ?_
  refine Finset.sum_congr rfl fun k _ => congrArg₂ (· * ·) ?_ ?_
  · exact left1_at m c _ k _ _ (by show (((cfg0.win 4).blk t).view.emb y 1).val = t.val / 8 * 512 + (y 1).val; omega)
  · exact right1_at m c _ k _ _ (by show (((cfg0.win 4).blk t).view.emb y 0).val * 512 + (((cfg0.win 4).blk t).view.emb y 2).val = t.val % 8 * 512 + (y 2).val; omega)

theorem array2_eq : (dats m 0 c).arrAt 5 cfg0.N = value (m ((c : Thread nD τ).loc main_arg1)) (m ((c : Thread nD τ).loc main_arg3)) := by
  refine (dats m 0 c).arrAt_eq_of_covers 5 _ (by decide +kernel) fun t _ y => ?_
  blk_simp
  rw [after0_5]
  frame_out
  have hN := lt_of_lt_of_eq t.isLt N_0
  have e0 : ((((cfg0.win 5).blk t).view.emb y) 0).val = t.val % 8 := by blk_simp [idx5 t]
  have e1 : ((((cfg0.win 5).blk t).view.emb y) 1).val = t.val / 8 * 512 + (y 1).val := by blk_simp [idx5 t]
  have e2 : ((((cfg0.win 5).blk t).view.emb y) 2).val = (y 2).val := by blk_simp [idx5 t]
  refine (block2_at _ _ _).trans ?_
  refine Finset.sum_congr rfl fun k _ => congrArg₂ (· * ·) ?_ ?_
  · exact left2_at m c _ k _ _ (by show (((cfg0.win 5).blk t).view.emb y 1).val = t.val / 8 * 512 + (y 1).val; omega)
  · exact right2_at m c _ k _ _ (by show (((cfg0.win 5).blk t).view.emb y 0).val * 512 + (((cfg0.win 5).blk t).view.emb y 2).val = t.val % 8 * 512 + (y 2).val; omega)

/-- The kernel and the reference end with the same two arrays. -/
theorem same_values : Cert.algebraic_Kernel14Ideal_Reference14Ideal (hKernel14Ideal := Cert.Kernel14Ideal.Gen.facts)
    (hReference14Ideal := Cert.Reference14Ideal.Gen.facts) := by
  intro m g m' g' _ hargs
  refine ⟨fun c => value (m ((c : Thread nD τ).loc main_arg0)) (m ((c : Thread nD τ).loc main_arg2)),
    fun c => value (m ((c : Thread nD τ).loc main_arg1)) (m ((c : Thread nD τ).loc main_arg3)), ?_, ?_⟩
  · exact (θ_run defs _ _).mono (fun r hr c => ⟨(hr c).1.trans (array1_eq m c), (hr c).2.1.trans (array2_eq m c), (hr c).2.2⟩) (Value.run_blocks m g)
  · refine (θ_run Cert.Reference14Ideal.defs _ _).mono (fun r hr c => ⟨(hr c).1.trans ?_, (hr c).2.1.trans ?_, (hr c).2.2⟩) (Cert.Reference14Ideal.Value.run m' g')
    · exact (funext (Cert.Reference14Ideal.Product.product_at _ _)).trans (congrArg₂ value (hargs c).1 (hargs c).2.2.1)
    · exact (funext (Cert.Reference14Ideal.Product.product_at _ _)).trans (congrArg₂ value (hargs c).2.1 (hargs c).2.2.2)

end Cert.Kernel14Ideal.Product

end
-- ==== Proof.GluWeight.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim

/-! The gradient of the state-space gate's weight: what the kernel's tiled product leaves, over exact arithmetic, and that the reference's product is the same. -/

@[expose] public section

set_option maxRecDepth 16384

noncomputable section

namespace Cert.Reference15Ideal.Product

open Cert.Reference15Ideal Cert.Reference15Ideal.Gen Idealize.ShloMosaic Idealize.ShloMosaic.TcCoe Idealize.SL.Sem

/-- An entry of the reference's product. -/
theorem product_at (p : FVec Ideal S4096x2048 .f32) (q : FVec Ideal S4096x2048 .f32) (i : S2048x2048.Idx) :
    (truncf .bf16 (transpose S2048x2048 [1, 0] (Host.dotGeneral dot_S4096x2048_S4096x2048_S2048x2048_0_0_1_1_n_n none q p) transposes_S2048x2048_S2048x2048_1_0) bitsLt_bf16_f32 : FVec Ideal S2048x2048 .bf16) i = ∑ t : Fin 4096, p (ix2 t (i 0)) * q (ix2 t (i 1)) := by
  refine Eq.trans (b := ∑ t : Fin 4096, q (ix2 t (i 1)) * p (ix2 t (i 0))) ?_ (Finset.sum_congr rfl fun _ _ => mul_comm _ _)
  pointwise

/-- The reference runs, leaves its arguments as they were, and ends with every counter at zero. -/
theorem reference_frame : Cert.quiescent_Reference15Ideal (hReference15Ideal := Cert.Reference15Ideal.Gen.facts) :=
  fun m g _ => (θ_run defs _ _).mono
    (fun r h => ⟨fun c => (h c).2, sem_eq_zero_of_no_sems (by decide) r.2⟩) (Value.run m g)

end Cert.Reference15Ideal.Product

namespace Cert.Kernel15Ideal.Product

open Cert.Kernel15Ideal Cert.Kernel15Ideal.Gen Idealize.ShloMosaic Idealize.ShloMosaic.TcCoe Idealize.SL.Sem

/-- The product: feature `a` against column `b`, summed over the 4096 tokens. -/
def value (p : FVec Ideal S4096x2048 .f32) (q : FVec Ideal S4096x2048 .f32) : FVec Ideal S2048x2048 .bf16 := fun i => ∑ t : Fin 4096, p (ix2 t (i 0)) * q (ix2 t (i 1))

/-- Where a grid point's blocks lie, in blocks. -/
theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- A visit stores its sum of products. -/
theorem block_at (x0 : Vec Ideal S4096x512 .bf16) (x1 : Vec Ideal S4096x512 .bf16) (y : S512x512.Idx) :
    k0_pay1 (F := Ideal) x0 x1 y = ∑ k : Fin 4096, x0 (ix2 k (y 0)) * x1 (ix2 k (y 1)) := by
  unfold k0_pay1
  pointwise

variable (m : (ℓ : Loc nD τ sig) → Buf (Elt Ideal) ℓ) (c : Dev nD)

/-- A block's entries are entries of the argument the block was prepared from. -/
theorem left_at (t : Fin cfg0.N) (k : Fin 4096) (n : Fin 512) (q : Fin 2048) (hq : q.val = t.val / 4 * 512 + n.val) :
    iblk m c 0 t (ix2 k n) = m ((c : Thread nD τ).loc main_arg0) (ix2 k q) := by
  blk_simp [iblk, idx0 t]
  entry_read
  pointwise
  blk_ext [idx0 t]

theorem right_at (t : Fin cfg0.N) (k : Fin 4096) (n : Fin 512) (q : Fin 2048) (hq : q.val = t.val % 4 * 512 + n.val) :
    iblk m c 1 t (ix2 k n) = m ((c : Thread nD τ).loc main_arg1) (ix2 k q) := by
  blk_simp [iblk, idx1 t]
  entry_read
  pointwise
  blk_ext [idx1 t]

/-- The array the call leaves is the product. -/
theorem array_eq : (dats m 0 c).arrAt 2 cfg0.N = value (m ((c : Thread nD τ).loc main_arg0)) (m ((c : Thread nD τ).loc main_arg1)) := by
  refine (dats m 0 c).arrAt_eq_of_covers 2 _ (by decide +kernel) fun t _ y => ?_
  blk_simp
  rw [after0_2]
  frame_out
  have hN := lt_of_lt_of_eq t.isLt N_0
  have e0 : ((((cfg0.win 2).blk t).view.emb y) 0).val = t.val / 4 * 512 + (y 0).val := by blk_simp [idx2 t]
  have e1 : ((((cfg0.win 2).blk t).view.emb y) 1).val = t.val % 4 * 512 + (y 1).val := by blk_simp [idx2 t]
  refine (block_at _ _ _).trans ?_
  refine Finset.sum_congr rfl fun k _ => congrArg₂ (· * ·) ?_ ?_
  · exact left_at m c _ k _ _ (by show (((cfg0.win 2).blk t).view.emb y 0).val = t.val / 4 * 512 + (y 0).val; omega)
  · exact right_at m c _ k _ _ (by show (((cfg0.win 2).blk t).view.emb y 1).val = t.val % 4 * 512 + (y 1).val; omega)

/-- The kernel and the reference end with the same array. -/
theorem same_values : Cert.algebraic_Kernel15Ideal_Reference15Ideal (hKernel15Ideal := Cert.Kernel15Ideal.Gen.facts)
    (hReference15Ideal := Cert.Reference15Ideal.Gen.facts) := by
  intro m g m' g' _ hargs
  refine ⟨fun c => value (m ((c : Thread nD τ).loc main_arg0)) (m ((c : Thread nD τ).loc main_arg1)), ?_, ?_⟩
  · exact (θ_run defs _ _).mono (fun r hr c => ⟨(hr c).1.trans (array_eq m c), (hr c).2⟩) (Value.run_blocks m g)
  · refine (θ_run Cert.Reference15Ideal.defs _ _).mono (fun r hr c => ⟨(hr c).1.trans ?_, (hr c).2⟩) (Cert.Reference15Ideal.Value.run m' g')
    exact (funext (Cert.Reference15Ideal.Product.product_at _ _)).trans (congrArg₂ value (hargs c).1 (hargs c).2)

end Cert.Kernel15Ideal.Product

end
-- ==== Proof.lean ====
/- The proof of the claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.RefFrame
public import proofs.«01_k».proof.Proof.Same
public import proofs.«01_k».proof.Proof.UpInput
public import proofs.«01_k».proof.Proof.UpWeight
public import proofs.«01_k».proof.Proof.DownInput
public import proofs.«01_k».proof.Proof.DownWeight
public import proofs.«01_k».proof.Proof.InInput
public import proofs.«01_k».proof.Proof.InWeight
public import proofs.«01_k».proof.Proof.Up
public import proofs.«01_k».proof.Proof.Down
public import proofs.«01_k».proof.Proof.In
public import proofs.«01_k».proof.Proof.Conv
public import proofs.«01_k».proof.Proof.Out
public import proofs.«01_k».proof.Proof.OutWeight
public import proofs.«01_k».proof.Proof.BranchWeight
public import proofs.«01_k».proof.Proof.GluWeight
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts, Cert.Pre_finite.isFacts,
  fun m ρ _ => Cert.Kernel.Gen.frame m ρ,
  fun m ρ _ => Cert.KernelIdeal.Gen.frame m ρ, fun m ρ _ => Cert.KernelIdeal.Gen.frame m ρ,
  fun m ρ _ => Cert.ReferenceIdeal.Ops.run_args m ρ, fun m ρ _ => Cert.ReferenceIdeal.Ops.run_args m ρ,
  fun m ρ _ => Cert.Kernel2.Gen.frame m ρ, fun m ρ _ => Cert.Kernel2Ideal.Gen.frame m ρ, Cert.Reference2Ideal.Product.reference_frame,
  fun m ρ _ => Cert.Kernel3.Gen.frame m ρ, fun m ρ _ => Cert.Kernel3Ideal.Gen.frame m ρ, Cert.Reference3Ideal.Product.reference_frame,
  fun m ρ _ => Cert.Kernel4.Gen.frame m ρ, fun m ρ _ => Cert.Kernel4Ideal.Gen.frame m ρ, Cert.Reference4Ideal.Product.reference_frame,
  fun m ρ _ => Cert.Kernel5.Gen.frame m ρ, fun m ρ _ => Cert.Kernel5Ideal.Gen.frame m ρ, Cert.Reference5Ideal.Product.reference_frame,
  fun m ρ _ => Cert.Kernel6.Gen.frame m ρ, fun m ρ _ => Cert.Kernel6Ideal.Gen.frame m ρ, Cert.Reference6Ideal.Product.reference_frame,
  fun m ρ _ => Cert.Kernel7.Gen.frame m ρ, fun m ρ _ => Cert.Kernel7Ideal.Gen.frame m ρ, Cert.Reference7Ideal.Product.reference_frame,
  fun m ρ _ => Cert.Kernel8.Gen.frame m ρ, fun m ρ _ => Cert.Kernel8Ideal.Gen.frame m ρ, Cert.Reference8Ideal.Product.reference_frame,
  fun m ρ _ => Cert.Kernel9.Gen.frame m ρ, fun m ρ _ => Cert.Kernel9Ideal.Gen.frame m ρ, Cert.Reference9Ideal.Product.reference_frame,
  fun m ρ _ => Cert.Kernel10.Gen.frame m ρ, fun m ρ _ => Cert.Kernel10Ideal.Gen.frame m ρ, Cert.Reference10Ideal.Product.reference_frame,
  fun m ρ _ => Cert.Kernel11.Gen.frame m ρ, fun m ρ _ => Cert.Kernel11Ideal.Gen.frame m ρ, Cert.Reference11Ideal.Product.reference_frame,
  fun m ρ _ => Cert.Kernel12.Gen.frame m ρ, fun m ρ _ => Cert.Kernel12Ideal.Gen.frame m ρ, Cert.Reference12Ideal.Product.reference_frame,
  fun m ρ _ => Cert.Kernel13.Gen.frame m ρ, fun m ρ _ => Cert.Kernel13Ideal.Gen.frame m ρ, Cert.Reference13Ideal.Product.reference_frame,
  fun m ρ _ => Cert.Kernel14.Gen.frame m ρ, fun m ρ _ => Cert.Kernel14Ideal.Gen.frame m ρ, Cert.Reference14Ideal.Product.reference_frame,
  fun m ρ _ => Cert.Kernel15.Gen.frame m ρ, fun m ρ _ => Cert.Kernel15Ideal.Gen.frame m ρ, Cert.Reference15Ideal.Product.reference_frame,
  trivial, same_values,
  trivial, Cert.Kernel2Ideal.Product.same_values,
  trivial, Cert.Kernel3Ideal.Product.same_values,
  trivial, Cert.Kernel4Ideal.Product.same_values,
  trivial, Cert.Kernel5Ideal.Product.same_values,
  trivial, Cert.Kernel6Ideal.Product.same_values,
  trivial, Cert.Kernel7Ideal.Product.same_values,
  trivial, Cert.Kernel8Ideal.Product.same_values,
  trivial, Cert.Kernel9Ideal.Product.same_values,
  trivial, Cert.Kernel10Ideal.Product.same_values,
  trivial, Cert.Kernel11Ideal.Product.same_values,
  trivial, Cert.Kernel12Ideal.Product.same_values,
  trivial, Cert.Kernel13Ideal.Product.same_values,
  trivial, Cert.Kernel14Ideal.Product.same_values,
  trivial, Cert.Kernel15Ideal.Product.same_values⟩

end Cert.Proof

end
